-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S200x1x7168 : Shape := ⟨3, ![200, 1, 7168]⟩
abbrev S7168x3072 : Shape := ⟨2, ![7168, 3072]⟩
abbrev S_ : Shape := ⟨0, ![]⟩

class Facts : Prop where
  bcast_S_S200x1x7168 : S_.BroadcastsInDim S200x1x7168 (![] : Fin 0 → Fin S200x1x7168.rank)
  reducesTo_S200x1x7168_S_d0_1_2 : S200x1x7168.ReducesTo [0, 1, 2] S_
  h_S_ : 0 < S_.numel
  bcast_S_S7168x3072 : S_.BroadcastsInDim S7168x3072 (![] : Fin 0 → Fin S7168x3072.rank)
  reducesTo_S7168x3072_S_d0_1 : S7168x3072.ReducesTo [0, 1] S_

variable [Facts]

def fn {F : FTy → Type} [FloatOps F] (main_arg0 : FVec F S200x1x7168 .bf16) (main_arg1 : FVec F S7168x3072 .bf16) : IVec S_ 1 :=
  let main_v0 : FVec F S200x1x7168 .bf16 := Host.absf main_arg0
  let main_cst : FVec F S_ .bf16 := constant S_ .bf16 0x7F7F#16
  let main_v1 : FVec F S200x1x7168 .bf16 := broadcastInDim S200x1x7168 ![] bcast_S_S200x1x7168 main_cst
  let main_v2 : IVec S200x1x7168 1 := cmpf .ole main_v0 main_v1
  let main_c : IVec S_ 1 := constantI S_ 1 1#1
  let main_v3 : IVec S_ 1 := (fun x v => Host.reduce IntOp.andi x v reducesTo_S200x1x7168_S_d0_1_2 h_S_) main_v2 main_c
  let main_v4 : FVec F S7168x3072 .bf16 := Host.absf main_arg1
  let main_cst_0 : FVec F S_ .bf16 := constant S_ .bf16 0x7F7F#16
  let main_v5 : FVec F S7168x3072 .bf16 := broadcastInDim S7168x3072 ![] bcast_S_S7168x3072 main_cst_0
  let main_v6 : IVec S7168x3072 1 := cmpf .ole main_v4 main_v5
  let main_c_1 : IVec S_ 1 := constantI S_ 1 1#1
  let main_v7 : IVec S_ 1 := (fun x v => Host.reduce IntOp.andi x v reducesTo_S7168x3072_S_d0_1 h_S_) main_v6 main_c_1
  let main_v8 : IVec S_ 1 := andi main_v3 main_v7
  main_v8
-- ==== Kernel.lean ====
abbrev S200x1x7168 : Shape := ⟨3, ![200, 1, 7168]⟩
abbrev S7168x3072 : Shape := ⟨2, ![7168, 3072]⟩
abbrev S200x7168 : Shape := ⟨2, ![200, 7168]⟩
abbrev S200x3072 : Shape := ⟨2, ![200, 3072]⟩
abbrev S56x200 : Shape := ⟨2, ![56, 200]⟩
abbrev S24x56 : Shape := ⟨2, ![24, 56]⟩
abbrev S14x208x512 : Shape := ⟨3, ![14, 208, 512]⟩
abbrev S256x128 : Shape := ⟨2, ![256, 128]⟩
abbrev S4x512x3072 : Shape := ⟨3, ![4, 512, 3072]⟩
abbrev S3x512x3072 : Shape := ⟨3, ![3, 512, 3072]⟩
abbrev S208x3072 : Shape := ⟨2, ![208, 3072]⟩
abbrev S4x216x128 : Shape := ⟨3, ![4, 216, 128]⟩
abbrev S4x24x128 : Shape := ⟨3, ![4, 24, 128]⟩
abbrev S24x128 : Shape := ⟨2, ![24, 128]⟩
abbrev S_ : Shape := ⟨0, ![]⟩
abbrev S4 : Shape := ⟨1, ![4]⟩
abbrev S3 : Shape := ⟨1, ![3]⟩
abbrev S1 : Shape := ⟨1, ![1]⟩
abbrev S1x512x3072 : Shape := ⟨3, ![1, 512, 3072]⟩
abbrev S512x3072 : Shape := ⟨2, ![512, 3072]⟩
abbrev S14x8x512 : Shape := ⟨3, ![14, 8, 512]⟩
abbrev S200x128 : Shape := ⟨2, ![200, 128]⟩
abbrev S200 : Shape := ⟨1, ![200]⟩
abbrev S200x1 : Shape := ⟨2, ![200, 1]⟩
abbrev S1x200x128 : Shape := ⟨3, ![1, 200, 128]⟩
abbrev S128x128 : Shape := ⟨2, ![128, 128]⟩
abbrev S8x16x128 : Shape := ⟨3, ![8, 16, 128]⟩
abbrev S16x128 : Shape := ⟨2, ![16, 128]⟩
abbrev S8x128 : Shape := ⟨2, ![8, 128]⟩
abbrev S1x8x128 : Shape := ⟨3, ![1, 8, 128]⟩
abbrev S1x24x128 : Shape := ⟨3, ![1, 24, 128]⟩
abbrev S24 : Shape := ⟨1, ![24]⟩
abbrev S24x1 : Shape := ⟨2, ![24, 1]⟩
abbrev S1x208x512 : Shape := ⟨3, ![1, 208, 512]⟩
abbrev S208x512 : Shape := ⟨2, ![208, 512]⟩
abbrev S1x1x128 : Shape := ⟨3, ![1, 1, 128]⟩
abbrev S1x128 : Shape := ⟨2, ![1, 128]⟩
abbrev S1x16x128 : Shape := ⟨3, ![1, 16, 128]⟩
abbrev S1x128x128 : Shape := ⟨3, ![1, 128, 128]⟩
abbrev S512x128 : Shape := ⟨2, ![512, 128]⟩
abbrev S512x256 : Shape := ⟨2, ![512, 256]⟩
abbrev S208x256 : Shape := ⟨2, ![208, 256]⟩
abbrev S128x256 : Shape := ⟨2, ![128, 256]⟩

abbrev nBuf : Space → Nat
  | .hbm => 8
  | .vmem => 14
  | .smem => 0
  | _ => 0

abbrev bufTy : (tb : Table) → Fin (tcTables nBuf tb) → BufTy
  | .hbm, ⟨0, _⟩ => ⟨S200x1x7168, .bf16⟩
  | .hbm, ⟨1, _⟩ => ⟨S7168x3072, .bf16⟩
  | .hbm, ⟨2, _⟩ => ⟨S200x7168, .bf16⟩
  | .hbm, ⟨3, _⟩ => ⟨S200x3072, .bf16⟩
  | .hbm, ⟨4, _⟩ => ⟨S200x7168, .fp8e4m3⟩
  | .hbm, ⟨5, _⟩ => ⟨S56x200, .i8⟩
  | .hbm, ⟨6, _⟩ => ⟨S7168x3072, .fp8e4m3⟩
  | .hbm, ⟨7, _⟩ => ⟨S24x56, .i8⟩
  | .local _ .vmem, ⟨0, _⟩ => ⟨S56x200, .i8⟩
  | .local _ .vmem, ⟨1, _⟩ => ⟨S24x56, .i8⟩
  | .local _ .vmem, ⟨2, _⟩ => ⟨S200x7168, .bf16⟩
  | .local _ .vmem, ⟨3, _⟩ => ⟨S200x7168, .fp8e4m3⟩
  | .local _ .vmem, ⟨4, _⟩ => ⟨S14x208x512, .bf16⟩
  | .local _ .vmem, ⟨5, _⟩ => ⟨S256x128, .i32⟩
  | .local _ .vmem, ⟨6, _⟩ => ⟨S4x512x3072, .bf16⟩
  | .local _ .vmem, ⟨7, _⟩ => ⟨S3x512x3072, .fp8e4m3⟩
  | .local _ .vmem, ⟨8, _⟩ => ⟨S208x3072, .f32⟩
  | .local _ .vmem, ⟨9, _⟩ => ⟨S200x3072, .bf16⟩
  | .local _ .vmem, ⟨10, _⟩ => ⟨S4x216x128, .f32⟩
  | .local _ .vmem, ⟨11, _⟩ => ⟨S4x24x128, .i32⟩
  | .local _ .vmem, ⟨12, _⟩ => ⟨S4x24x128, .i32⟩
  | .local _ .vmem, ⟨13, _⟩ => ⟨S24x128, .i32⟩
  | _, _ => ⟨S200x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 (c0_i32 : BitVec 32) : Fin 1 → Nat :=
  let c4_i32 : BitVec 32 := 4#32
  let v0 : BitVec 32 := Scalar.remsi c0_i32 c4_i32
  ![v0.toNat]
def k0_off2 (c0_i32 : BitVec 32) : Fin 3 → Nat :=
  let c4_i32 : BitVec 32 := 4#32
  let v0 : BitVec 32 := Scalar.remsi c0_i32 c4_i32
  let c0_i32_0 : BitVec 32 := 0#32
  let c0_i32_1 : BitVec 32 := 0#32
  ![v0.toNat, 0, 0]
@[reducible] def k0_t1_loop : Scf.Loop 32 :=
  let c0_i32_26 : BitVec 32 := 0#32
  let c14_i32 : BitVec 32 := 14#32
  let v41 : BitVec 32 := Scalar.addi c0_i32_26 c14_i32
  let c1_i32_27 : BitVec 32 := 1#32
  ⟨c0_i32_26, v41, c1_i32_27⟩
def k0_mult1 (k0_t1 : Fin k0_t1_loop.trips) : BitVec 32 :=
  let c0_i32_26 : BitVec 32 := 0#32
  let c1_i32_27 : BitVec 32 := 1#32
  let arg24 : BitVec 32 := Scf.iv c0_i32_26 c1_i32_27 k0_t1
  let c512_i32_57 : BitVec 32 := 512#32
  let v75 : BitVec 32 := Scalar.muli arg24 c512_i32_57
  let c0_i32_58 : BitVec 32 := 0#32
  let v76 : BitVec 32 := Scalar.addi v75 c0_i32_58
  v76
def k0_off3 (k0_t1 : Fin k0_t1_loop.trips) (c0_i32_58 : BitVec 32) : Fin 2 → Nat :=
  let c0_59 : Index := 0#32
  let c0_i32_26 : BitVec 32 := 0#32
  let c1_i32_27 : BitVec 32 := 1#32
  let arg24 : BitVec 32 := Scf.iv c0_i32_26 c1_i32_27 k0_t1
  let c512_i32_57 : BitVec 32 := 512#32
  let v75 : BitVec 32 := Scalar.muli arg24 c512_i32_57
  let v76 : BitVec 32 := Scalar.addi v75 c0_i32_58
  let v77 : BitVec 32 := v76
  let v78 : Index := Scalar.indexCast v77
  ![0, v78.toNat]
def k0_off4 (k0_t1 : Fin k0_t1_loop.trips) : Fin 3 → Nat :=
  let c0_i32_26 : BitVec 32 := 0#32
  let c1_i32_27 : BitVec 32 := 1#32
  let arg24 : BitVec 32 := Scf.iv c0_i32_26 c1_i32_27 k0_t1
  let v175 : Index := Scalar.indexCast arg24
  let c0_80 : Index := 0#32
  let c0_81 : Index := 0#32
  ![v175.toNat, 0, 0]
def k0_mult2 (k0_t1 : Fin k0_t1_loop.trips) : BitVec 32 :=
  let c0_i32_26 : BitVec 32 := 0#32
  let c1_i32_27 : BitVec 32 := 1#32
  let arg24 : BitVec 32 := Scf.iv c0_i32_26 c1_i32_27 k0_t1
  let c512_i32_89 : BitVec 32 := 512#32
  let v190 : BitVec 32 := Scalar.muli arg24 c512_i32_89
  let c128_i32_90 : BitVec 32 := 128#32
  let v191 : BitVec 32 := Scalar.addi v190 c128_i32_90
  v191
def k0_off5 (k0_t1 : Fin k0_t1_loop.trips) : Fin 3 → Nat :=
  let c0_i32_26 : BitVec 32 := 0#32
  let c1_i32_27 : BitVec 32 := 1#32
  let arg24 : BitVec 32 := Scf.iv c0_i32_26 c1_i32_27 k0_t1
  let v290 : Index := Scalar.indexCast arg24
  let c0_121 : Index := 0#32
  let c128 : Index := 128#32
  ![v290.toNat, 0, 128]
def k0_mult3 (k0_t1 : Fin k0_t1_loop.trips) : BitVec 32 :=
  let c0_i32_26 : BitVec 32 := 0#32
  let c1_i32_27 : BitVec 32 := 1#32
  let arg24 : BitVec 32 := Scf.iv c0_i32_26 c1_i32_27 k0_t1
  let c512_i32_129 : BitVec 32 := 512#32
  let v305 : BitVec 32 := Scalar.muli arg24 c512_i32_129
  let c256_i32 : BitVec 32 := 256#32
  let v306 : BitVec 32 := Scalar.addi v305 c256_i32
  v306
def k0_off6 (k0_t1 : Fin k0_t1_loop.trips) : Fin 3 → Nat :=
  let c0_i32_26 : BitVec 32 := 0#32
  let c1_i32_27 : BitVec 32 := 1#32
  let arg24 : BitVec 32 := Scf.iv c0_i32_26 c1_i32_27 k0_t1
  let v405 : Index := Scalar.indexCast arg24
  let c0_160 : Index := 0#32
  let c256 : Index := 256#32
  ![v405.toNat, 0, 256]
def k0_mult4 (k0_t1 : Fin k0_t1_loop.trips) : BitVec 32 :=
  let c0_i32_26 : BitVec 32 := 0#32
  let c1_i32_27 : BitVec 32 := 1#32
  let arg24 : BitVec 32 := Scf.iv c0_i32_26 c1_i32_27 k0_t1
  let c512_i32_168 : BitVec 32 := 512#32
  let v420 : BitVec 32 := Scalar.muli arg24 c512_i32_168
  let c384_i32 : BitVec 32 := 384#32
  let v421 : BitVec 32 := Scalar.addi v420 c384_i32
  v421
def k0_off7 (k0_t1 : Fin k0_t1_loop.trips) : Fin 3 → Nat :=
  let c0_i32_26 : BitVec 32 := 0#32
  let c1_i32_27 : BitVec 32 := 1#32
  let arg24 : BitVec 32 := Scf.iv c0_i32_26 c1_i32_27 k0_t1
  let v520 : Index := Scalar.indexCast arg24
  let c0_199 : Index := 0#32
  let c384 : Index := 384#32
  ![v520.toNat, 0, 384]
@[reducible] def k0_t2_loop : Scf.Loop 32 :=
  let c0_i32_29 : BitVec 32 := 0#32
  let c14_i32_30 : BitVec 32 := 14#32
  let v43 : BitVec 32 := Scalar.addi c0_i32_29 c14_i32_30
  let c1_i32_31 : BitVec 32 := 1#32
  ⟨c0_i32_29, v43, c1_i32_31⟩
def k0_off8 (k0_t2 : Fin k0_t2_loop.trips) : Fin 1 → Nat :=
  let c0_i32_29 : BitVec 32 := 0#32
  let c1_i32_31 : BitVec 32 := 1#32
  let arg24 : BitVec 32 := Scf.iv c0_i32_29 c1_i32_31 k0_t2
  let c4_i32_57 : BitVec 32 := 4#32
  let v75 : BitVec 32 := Scalar.remsi arg24 c4_i32_57
  ![v75.toNat]
def k0_off9 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c4_i32_57 : BitVec 32 := 4#32
  let v75 : BitVec 32 := Scalar.remsi arg24 c4_i32_57
  let c0_i32_59 : BitVec 32 := 0#32
  let c0_i32_60 : BitVec 32 := 0#32
  ![v75.toNat, 0, 0]
def k0_off10 (k0_t2 : Fin k0_t2_loop.trips) : Fin 2 → Nat :=
  let c0_i32_29 : BitVec 32 := 0#32
  let c1_i32_31 : BitVec 32 := 1#32
  let arg24 : BitVec 32 := Scf.iv c0_i32_29 c1_i32_31 k0_t2
  let c512_i32_58 : BitVec 32 := 512#32
  let v76 : BitVec 32 := Scalar.muli arg24 c512_i32_58
  let c0_i32_61 : BitVec 32 := 0#32
  ![v76.toNat, 0]
def k0_cond1 (k0_t2 : Fin k0_t2_loop.trips) : BitVec 1 :=
  let c0_i32_29 : BitVec 32 := 0#32
  let c1_i32_31 : BitVec 32 := 1#32
  let arg24 : BitVec 32 := Scf.iv c0_i32_29 c1_i32_31 k0_t2
  let c3_i32_62 : BitVec 32 := 3#32
  let v82 : BitVec 1 := Scalar.cmpi .sge arg24 c3_i32_62
  let v83 : BitVec 32 := Scalar.extui v82
  let c0_i32_63 : BitVec 32 := 0#32
  let v84 : BitVec 1 := Scalar.cmpi .ne v83 c0_i32_63
  v84

def k0_off11 (k0_t2 : Fin k0_t2_loop.trips) : Fin 1 → Nat :=
  let c0_i32_29 : BitVec 32 := 0#32
  let c1_i32_31 : BitVec 32 := 1#32
  let arg24 : BitVec 32 := Scf.iv c0_i32_29 c1_i32_31 k0_t2
  let c3_i32_2623 : BitVec 32 := 3#32
  let v5217 : BitVec 32 := Scalar.subi arg24 c3_i32_2623
  let c3_i32_2624 : BitVec 32 := 3#32
  let v5218 : BitVec 32 := Scalar.remsi v5217 c3_i32_2624
  ![v5218.toNat]
def k0_off12 (k0_t2 : Fin k0_t2_loop.trips) : Fin 2 → Nat :=
  let c0_i32_29 : BitVec 32 := 0#32
  let c1_i32_31 : BitVec 32 := 1#32
  let arg24 : BitVec 32 := Scf.iv c0_i32_29 c1_i32_31 k0_t2
  let c3_i32_2623 : BitVec 32 := 3#32
  let v5217 : BitVec 32 := Scalar.subi arg24 c3_i32_2623
  let c512_i32_2625 : BitVec 32 := 512#32
  let v5219 : BitVec 32 := Scalar.muli v5217 c512_i32_2625
  let c0_i32_2626 : BitVec 32 := 0#32
  ![v5219.toNat, 0]
def k0_off13 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_2623 : BitVec 32 := 3#32
  let v5217 : BitVec 32 := Scalar.subi arg24 c3_i32_2623
  let c3_i32_2624 : BitVec 32 := 3#32
  let v5218 : BitVec 32 := Scalar.remsi v5217 c3_i32_2624
  let c0_i32_2627 : BitVec 32 := 0#32
  let c0_i32_2628 : BitVec 32 := 0#32
  ![v5218.toNat, 0, 0]
def k0_off14 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let v1831 : Index := Scalar.indexCast arg24
  let c0_1031 : Index := 0#32
  let c0_1032 : Index := 0#32
  ![v1831.toNat, 0, 0]
def k0_off15 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1045 : BitVec 32 := 0#32
  let c0_i32_1046 : BitVec 32 := 0#32
  ![v86.toNat, 0, 0]
def k0_off16 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1045 : BitVec 32 := 0#32
  let c0_i32_1046 : BitVec 32 := 0#32
  ![v86.toNat, 0, 0]
def k0_off17 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1062 : BitVec 32 := 0#32
  ![v86.toNat, 128, 0]
def k0_off18 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1078 : BitVec 32 := 0#32
  ![v86.toNat, 256, 0]
def k0_off19 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1094 : BitVec 32 := 0#32
  ![v86.toNat, 384, 0]
def k0_off20 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1109 : BitVec 32 := 0#32
  ![v86.toNat, 0, 128]
def k0_off21 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 128]
def k0_off22 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 128]
def k0_off23 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 128]
def k0_off24 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1178 : BitVec 32 := 0#32
  ![v86.toNat, 0, 256]
def k0_off25 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 256]
def k0_off26 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 256]
def k0_off27 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 256]
def k0_off28 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1242 : BitVec 32 := 0#32
  ![v86.toNat, 0, 384]
def k0_off29 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 384]
def k0_off30 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 384]
def k0_off31 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 384]
def k0_off32 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1311 : BitVec 32 := 0#32
  ![v86.toNat, 0, 512]
def k0_off33 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 512]
def k0_off34 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 512]
def k0_off35 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 512]
def k0_off36 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1375 : BitVec 32 := 0#32
  ![v86.toNat, 0, 640]
def k0_off37 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 640]
def k0_off38 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 640]
def k0_off39 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 640]
def k0_off40 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1444 : BitVec 32 := 0#32
  ![v86.toNat, 0, 768]
def k0_off41 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 768]
def k0_off42 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 768]
def k0_off43 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 768]
def k0_off44 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1508 : BitVec 32 := 0#32
  ![v86.toNat, 0, 896]
def k0_off45 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 896]
def k0_off46 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 896]
def k0_off47 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 896]
def k0_off48 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1576 : BitVec 32 := 0#32
  ![v86.toNat, 0, 1024]
def k0_off49 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 1024]
def k0_off50 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 1024]
def k0_off51 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 1024]
def k0_off52 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1640 : BitVec 32 := 0#32
  ![v86.toNat, 0, 1152]
def k0_off53 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 1152]
def k0_off54 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 1152]
def k0_off55 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 1152]
def k0_off56 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1708 : BitVec 32 := 0#32
  ![v86.toNat, 0, 1280]
def k0_off57 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 1280]
def k0_off58 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 1280]
def k0_off59 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 1280]
def k0_off60 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1771 : BitVec 32 := 0#32
  ![v86.toNat, 0, 1408]
def k0_off61 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 1408]
def k0_off62 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 1408]
def k0_off63 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 1408]
def k0_off64 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1839 : BitVec 32 := 0#32
  ![v86.toNat, 0, 1536]
def k0_off65 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 1536]
def k0_off66 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 1536]
def k0_off67 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 1536]
def k0_off68 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1902 : BitVec 32 := 0#32
  ![v86.toNat, 0, 1664]
def k0_off69 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 1664]
def k0_off70 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 1664]
def k0_off71 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 1664]
def k0_off72 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_1970 : BitVec 32 := 0#32
  ![v86.toNat, 0, 1792]
def k0_off73 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 1792]
def k0_off74 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 1792]
def k0_off75 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 1792]
def k0_off76 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_2033 : BitVec 32 := 0#32
  ![v86.toNat, 0, 1920]
def k0_off77 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 1920]
def k0_off78 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 1920]
def k0_off79 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 1920]
def k0_off80 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_2101 : BitVec 32 := 0#32
  ![v86.toNat, 0, 2048]
def k0_off81 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 2048]
def k0_off82 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 2048]
def k0_off83 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 2048]
def k0_off84 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_2164 : BitVec 32 := 0#32
  ![v86.toNat, 0, 2176]
def k0_off85 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 2176]
def k0_off86 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 2176]
def k0_off87 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 2176]
def k0_off88 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_2233 : BitVec 32 := 0#32
  ![v86.toNat, 0, 2304]
def k0_off89 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 2304]
def k0_off90 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 2304]
def k0_off91 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 2304]
def k0_off92 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_2296 : BitVec 32 := 0#32
  ![v86.toNat, 0, 2432]
def k0_off93 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 2432]
def k0_off94 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 2432]
def k0_off95 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 2432]
def k0_off96 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_2364 : BitVec 32 := 0#32
  ![v86.toNat, 0, 2560]
def k0_off97 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 2560]
def k0_off98 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 2560]
def k0_off99 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 2560]
def k0_off100 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_2427 : BitVec 32 := 0#32
  ![v86.toNat, 0, 2688]
def k0_off101 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 2688]
def k0_off102 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 2688]
def k0_off103 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 2688]
def k0_off104 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_2495 : BitVec 32 := 0#32
  ![v86.toNat, 0, 2816]
def k0_off105 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 2816]
def k0_off106 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 2816]
def k0_off107 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 2816]
def k0_off108 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  let c0_i32_2558 : BitVec 32 := 0#32
  ![v86.toNat, 0, 2944]
def k0_off109 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 128, 2944]
def k0_off110 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 256, 2944]
def k0_off111 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c3_i32_65 : BitVec 32 := 3#32
  let v86 : BitVec 32 := Scalar.remsi arg24 c3_i32_65
  ![v86.toNat, 384, 2944]
def k0_off112 (k0_t2 : Fin k0_t2_loop.trips) : Fin 1 → Nat :=
  let c0_i32_29 : BitVec 32 := 0#32
  let c1_i32_31 : BitVec 32 := 1#32
  let arg24 : BitVec 32 := Scf.iv c0_i32_29 c1_i32_31 k0_t2
  let c3_i32_2615 : BitVec 32 := 3#32
  let v5206 : BitVec 32 := Scalar.remsi arg24 c3_i32_2615
  ![v5206.toNat]
def k0_cond2 (k0_t2 : Fin k0_t2_loop.trips) : BitVec 1 :=
  let c0_i32_29 : BitVec 32 := 0#32
  let c1_i32_31 : BitVec 32 := 1#32
  let arg24 : BitVec 32 := Scf.iv c0_i32_29 c1_i32_31 k0_t2
  let c4_i32_2620 : BitVec 32 := 4#32
  let v5213 : BitVec 32 := Scalar.addi arg24 c4_i32_2620
  let c14_i32_2621 : BitVec 32 := 14#32
  let v5214 : BitVec 1 := Scalar.cmpi .slt v5213 c14_i32_2621
  let v5215 : BitVec 32 := Scalar.extui v5214
  let c0_i32_2622 : BitVec 32 := 0#32
  let v5216 : BitVec 1 := Scalar.cmpi .ne v5215 c0_i32_2622
  v5216

def k0_off113 (k0_t2 : Fin k0_t2_loop.trips) : Fin 1 → Nat :=
  let c0_i32_29 : BitVec 32 := 0#32
  let c1_i32_31 : BitVec 32 := 1#32
  let arg24 : BitVec 32 := Scf.iv c0_i32_29 c1_i32_31 k0_t2
  let c4_i32_2623 : BitVec 32 := 4#32
  let v5217 : BitVec 32 := Scalar.addi arg24 c4_i32_2623
  let c4_i32_2624 : BitVec 32 := 4#32
  let v5218 : BitVec 32 := Scalar.remsi v5217 c4_i32_2624
  ![v5218.toNat]
def k0_off114 (k0_t2 : Fin k0_t2_loop.trips) : Fin 3 → Nat :=
  let c0_i32_29 : BitVec 32 := 0#32
  let c1_i32_31 : BitVec 32 := 1#32
  let arg24 : BitVec 32 := Scf.iv c0_i32_29 c1_i32_31 k0_t2
  let c4_i32_2623 : BitVec 32 := 4#32
  let v5217 : BitVec 32 := Scalar.addi arg24 c4_i32_2623
  let c4_i32_2624 : BitVec 32 := 4#32
  let v5218 : BitVec 32 := Scalar.remsi v5217 c4_i32_2624
  let c0_i32_2626 : BitVec 32 := 0#32
  let c0_i32_2627 : BitVec 32 := 0#32
  ![v5218.toNat, 0, 0]
def k0_off115 (k0_t2 : Fin k0_t2_loop.trips) : Fin 2 → Nat :=
  let c0_i32_29 : BitVec 32 := 0#32
  let c1_i32_31 : BitVec 32 := 1#32
  let arg24 : BitVec 32 := Scf.iv c0_i32_29 c1_i32_31 k0_t2
  let c4_i32_2623 : BitVec 32 := 4#32
  let v5217 : BitVec 32 := Scalar.addi arg24 c4_i32_2623
  let c512_i32_2625 : BitVec 32 := 512#32
  let v5219 : BitVec 32 := Scalar.muli v5217 c512_i32_2625
  let c0_i32_2628 : BitVec 32 := 0#32
  ![v5219.toNat, 0]
def k0_off116 (c11_i32 : BitVec 32) : Fin 1 → Nat :=
  let c3_i32_45 : BitVec 32 := 3#32
  let v57 : BitVec 32 := Scalar.remsi c11_i32 c3_i32_45
  ![v57.toNat]
def k0_off117 (c11_i32 : BitVec 32) : Fin 3 → Nat :=
  let c3_i32_45 : BitVec 32 := 3#32
  let v57 : BitVec 32 := Scalar.remsi c11_i32 c3_i32_45
  let c0_i32_47 : BitVec 32 := 0#32
  let c0_i32_48 : BitVec 32 := 0#32
  ![v57.toNat, 0, 0]
abbrev stage0_0 : Fin 1 → Memref sig .tc .vmem S56x200 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x56 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S200x1x7168 : Shape := ⟨3, ![200, 1, 7168]⟩
abbrev S7168x3072 : Shape := ⟨2, ![7168, 3072]⟩
abbrev S200x7168 : Shape := ⟨2, ![200, 7168]⟩
abbrev S200x3072 : Shape := ⟨2, ![200, 3072]⟩
abbrev S56x200 : Shape := ⟨2, ![56, 200]⟩
abbrev S24x56 : Shape := ⟨2, ![24, 56]⟩
abbrev S200x56x128 : Shape := ⟨3, ![200, 56, 128]⟩
abbrev S200x56 : Shape := ⟨2, ![200, 56]⟩
abbrev S200x56x1 : Shape := ⟨3, ![200, 56, 1]⟩
abbrev S56x128x24x128 : Shape := ⟨4, ![56, 128, 24, 128]⟩
abbrev S56x128x24 : Shape := ⟨3, ![56, 128, 24]⟩
abbrev S56x24 : Shape := ⟨2, ![56, 24]⟩
abbrev S56x1x24x1 : Shape := ⟨4, ![56, 1, 24, 1]⟩

abbrev nBuf : Space → Nat
  | .hbm => 8
  | .vmem => 7
  | .smem => 0
  | _ => 0

abbrev bufTy : (tb : Table) → Fin (tcTables nBuf tb) → BufTy
  | .hbm, ⟨0, _⟩ => ⟨S200x1x7168, .bf16⟩
  | .hbm, ⟨1, _⟩ => ⟨S7168x3072, .bf16⟩
  | .hbm, ⟨2, _⟩ => ⟨S200x7168, .bf16⟩
  | .hbm, ⟨3, _⟩ => ⟨S200x3072, .bf16⟩
  | .hbm, ⟨4, _⟩ => ⟨S200x7168, .fp8e4m3⟩
  | .hbm, ⟨5, _⟩ => ⟨S56x200, .i8⟩
  | .hbm, ⟨6, _⟩ => ⟨S7168x3072, .fp8e4m3⟩
  | .hbm, ⟨7, _⟩ => ⟨S24x56, .i8⟩
  | .local _ .vmem, ⟨0, _⟩ => ⟨S200x7168, .bf16⟩
  | .local _ .vmem, ⟨1, _⟩ => ⟨S7168x3072, .bf16⟩
  | .local _ .vmem, ⟨2, _⟩ => ⟨S200x3072, .bf16⟩
  | .local _ .vmem, ⟨3, _⟩ => ⟨S200x7168, .fp8e4m3⟩
  | .local _ .vmem, ⟨4, _⟩ => ⟨S56x200, .i8⟩
  | .local _ .vmem, ⟨5, _⟩ => ⟨S7168x3072, .fp8e4m3⟩
  | .local _ .vmem, ⟨6, _⟩ => ⟨S24x56, .i8⟩
  | _, _ => ⟨S200x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S200x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S200x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S200x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S56x200 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x56 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Trip.lean ====
/- One trip of the kernel's second loop, written as a structured program: the waits, the block maxima and exponents
   of the trip's 512 rows of `w` (by recursion over row blocks and column blocks), the quantised tiles and the
   products with the trip's 512 columns of `x` (by recursion over column groups), and the two copies it starts.
   `body_eq` says that the printed trip is this program. -/
module

public import proofs.«01_k».proof.Proof.Gen.Kernel.Skeleton
public import Idealize.ShloMosaic.Lib.Tactic

@[expose] public section

set_option maxRecDepth 16384

noncomputable section

namespace Cert.Kernel.Tr

open Idealize.ShloMosaic Idealize.SL.Sem Idealize.ShloMosaic.TcCoe Idealize.ShloMosaic.Tactic
open Cert.Kernel
open Facts₀ Facts

variable {F : FTy → Type} [FloatOps F]

/-- Programs of the kernel's core. -/
abbrev PG (F : FTy → Type) : Type → Type _ := Prog (TpuEff nD τ sig (Elt F) Λ₀ .tc)
local notation "Tm" => Fin k0_t2_loop.trips

/-! ## Offsets -/

theorem inb_w (kb : Fin 4) (b : Fin 24) : ∀ a, (![128 * kb.val, 128 * b.val] : Fin 2 → Nat) a + S128x128.size a ≤ S512x3072.size a := by
  revert kb b; decide +kernel
theorem inb_slab (kb : Fin 4) (b : Fin 24) : ∀ a, (![kb.val, 9 * b.val, 0] : Fin 3 → Nat) a + S1x8x128.size a ≤ S4x216x128.size a := by
  revert kb b; decide +kernel
theorem inb_kb (kb : Fin 4) : ∀ a, (![kb.val, 0, 0] : Fin 3 → Nat) a + S1x24x128.size a ≤ S4x24x128.size a := by
  revert kb; decide +kernel
theorem inb_row (kb : Fin 4) (b : Fin 24) : ∀ a, (![kb.val, b.val, 0] : Fin 3 → Nat) a + S1x1x128.size a ≤ S4x24x128.size a := by
  revert kb b; decide +kernel
theorem inb_acc (j : Fin 12) : ∀ a, (![0, 256 * j.val] : Fin 2 → Nat) a + S208x256.size a ≤ S208x3072.size a := by
  revert j; decide +kernel
/-- The offsets of tile `(kb, b)` of the trip's slot of codes. -/
def cOff (t : Tm) (kb : Fin 4) (b : Fin 24) : Fin 3 → Nat := ![k0_off15 t 0, 128 * kb.val, 128 * b.val]
theorem inb_c (t : Tm) (kb : Fin 4) (b : Fin 24) : ∀ a, cOff t kb b a + S1x128x128.size a ≤ S3x512x3072.size a := by
  revert t kb b; decide +kernel
theorem packed_c (t : Tm) (kb : Fin 4) (b : Fin 24) :
    (Rect.unit (s := S3x512x3072) (cOff t kb b) S1x128x128.size (inb_c t kb b)).PackedRows (EltTy.packing .fp8e4m3) := by
  revert t kb b; decide +kernel

/-- The strided rows `s, s + 9, …` of plane `kb` of the slab. -/
def slabRect (kb : Fin 4) (s : Fin 8) : LoadRect S4x216x128 :=
  ⟨![kb.val, s.val, 0], S1x24x128.size, ![1, 9, 1], by revert kb s; decide +kernel⟩

/-! ## Values -/

/-- The 8 row maxima (per lane) of the magnitudes of a 128 × 128 block. -/
def slabVal (v : Vec F S128x128 .bf16) : FVec F S1x8x128 .f32 :=
  let m := extf .f32 (multiReduction .maximumf [0] S16x128 (shapeCast S8x16x128 (absf v) shapeCasts_S128x128_S8x16x128)
    0xFF80#16 reduces_S8x16x128_S16x128 (.inr rfl) rfl) bitsLt_bf16_f32
  shapeCast S1x8x128 (maximumf (extractStridedSlice S8x128 ![0, 0] m slices_S16x128_o0_0_S8x128)
    (extractStridedSlice S8x128 ![8, 0] m slices_S16x128_o8_0_S8x128)) shapeCasts_S8x128_S1x8x128

/-- One step of the search for the exponent: bit `b` is kept when the power of two it makes is at most `q`. -/
def bitStep {s : Shape} (q : FVec F s .f32) (b : BitVec 32) (eb : IVec s 32) : IVec s 32 :=
  let t := ori eb (broadcast s b)
  select (cmpf .oge q (bitcastToFloat .f32 (shli t (broadcast s 23#32)))) t eb

/-- The biased exponent of the next power of two down of `q`, 126 where it is no normal number's. -/
def expo {s : Shape} (q : FVec F s .f32) : IVec s 32 :=
  let eb := bitStep q 1#32 (bitStep q 2#32 (bitStep q 4#32 (bitStep q 8#32 (bitStep q 16#32 (bitStep q 32#32
    (bitStep q 64#32 (bitStep q 128#32 (broadcast s 0#32))))))))
  select (ori (cmpi .eq eb (broadcast s 0#32)) (cmpi .eq eb (broadcast s 255#32))) (broadcast s 126#32) eb

/-- The lane maximum of each of the 24 blocks' slab rows, over 448. -/
def quot (m : FVec F S24x128 .f32) : FVec F S24x128 .f32 :=
  mulf (broadcastTo S24x128 (shapeCast S24x1 (shapeCast S24x1 (multiReduction .maximumf [1] S24 m 0xFF800000#32
    reduces_S24x128_S24 (.inl rfl) rfl) shapeCasts_S24_S24x1) shapeCasts_S24x1_S24x1) broadcasts_S24x1_S24x128)
    (broadcast S24x128 (Scalar.ofBits .f32 0x3B124925#32))

/-- A bf16 half word in both halves of a word. -/
def pairWord (h : IVec S24x128 32) : IVec S24x128 32 := ori h (shli h (broadcast S24x128 16#32))
/-- The words of the reciprocal scales. -/
def invWord (e : IVec S24x128 32) : IVec S24x128 32 := pairWord (shli (subi (broadcast S24x128 253#32) e) (broadcast S24x128 7#32))
/-- The words of the scales. -/
def scaleWord (e : IVec S24x128 32) : IVec S24x128 32 := pairWord (shli (addi e (broadcast S24x128 1#32)) (broadcast S24x128 7#32))
/-- The scale codes with lane `4 i + kb` filled in. -/
def wsSel (lane : IVec S24x128 32) (arg24 : BitVec 32) (kb : Fin 4) (e : IVec S24x128 32) (old : IVec S24x128 32) : IVec S24x128 32 :=
  select (cmpi .eq lane (broadcast S24x128 (Scalar.addi (Scalar.muli arg24 4#32) (BitVec.ofNat 32 kb.val)))) (addi e (broadcast S24x128 1#32)) old

/-- A row of words read as 16 rows of bf16 numbers. -/
def rowF (v : IVec S1x1x128 32) : FVec F S16x128 .bf16 :=
  bitcastToFloat .bf16 (bitcast S16x128 16 (broadcastTo S8x128 (shapeCast S1x128 (shapeCast S1x128 v shapeCasts_S1x1x128_S1x128)
    shapeCasts_S1x128_S1x128) broadcasts_S1x128_S8x128) bitcasts_S8x128_w32_S16x128_w16)
/-- 16 rows repeated to 8 × 16. -/
def rep (v : FVec F S16x128 .bf16) : FVec F S8x16x128 .bf16 :=
  broadcastTo S8x16x128 (shapeCast S1x16x128 v shapeCasts_S16x128_S1x16x128) broadcasts_S1x16x128_S8x16x128
/-- The codes of a block at reciprocal scale `inv`. -/
def codes (v : Vec F S128x128 .bf16) (inv : FVec F S16x128 .bf16) : FVec F S128x128 .fp8e4m3 :=
  truncf .fp8e4m3 (shapeCast S128x128 (minimumf (broadcast S8x16x128 (Scalar.ofBits .bf16 0x43E0#16))
    (maximumf (broadcast S8x16x128 (Scalar.ofBits .bf16 0xC3E0#16)) (mulf (shapeCast S8x16x128 v shapeCasts_S128x128_S8x16x128) (rep inv))))
    shapeCasts_S8x16x128_S128x128) bitsLt_fp8e4m3_bf16
/-- The codes at scale `scale` again. -/
def deq (c : FVec F S128x128 .fp8e4m3) (scale : FVec F S16x128 .bf16) : FVec F S128x128 .bf16 :=
  shapeCast S128x128 (mulf (shapeCast S8x16x128 (extf .bf16 c bitsLt_fp8e4m3_bf16) shapeCasts_S128x128_S8x16x128) (rep scale))
    shapeCasts_S8x16x128_S128x128
/-- Four blocks one below the other. -/
def col4 (d0 d1 d2 d3 : FVec F S128x128 .bf16) : FVec F S512x128 .bf16 :=
  concatenate S512x128 0 [⟨S128x128, d0⟩, ⟨S128x128, d1⟩, ⟨S128x128, d2⟩, ⟨S128x128, d3⟩] concatenates_S128x128_S128x128_S128x128_S128x128_S512x128_d0
/-- Two columns of blocks side by side. -/
def row2 (c0 c1 : FVec F S512x128 .bf16) : FVec F S512x256 .bf16 :=
  concatenate S512x256 1 [⟨S512x128, c0⟩, ⟨S512x128, c1⟩] concatenates_S512x128_S512x128_S512x256_d1
/-- The accumulator's columns plus the product. -/
def accVal (xk : FVec F S208x512 .bf16) (wd : FVec F S512x256 .bf16) (old : FVec F S208x256 .f32) : FVec F S208x256 .f32 :=
  shapeCast S208x256 (addf old (matmul dot_S208x512_S512x256_S208x256_1_0_0_1_n_n none xk wd (constant S208x256 .f32 0x00000000#32))) shapeCasts_S208x256_S208x256

/-! ## The program -/

section Prog

variable (wm : Memref sig .tc .vmem S512x3072 .bf16) (cm : Memref sig .tc .vmem S512x3072 .fp8e4m3)
  (arg9 : Memref sig .tc .vmem S14x208x512 .bf16)
  (arg12 : Memref sig .tc .vmem S3x512x3072 .fp8e4m3) (harg12 : arg12.IsWhole)
  (arg13 : Memref sig .tc .vmem S208x3072 .f32)
  (arg15 : Memref sig .tc .vmem S4x216x128 .f32) (arg16 arg17 : Memref sig .tc .vmem S4x24x128 .i32)
  (arg18 : Memref sig .tc .vmem S24x128 .i32)

/-- Block `(kb, b)`'s row maxima into the slab. -/
def slabTile (kb : Fin 4) (b : Fin 24) : PG F PUnit := do
  let v : Vec F S128x128 .bf16 ← Prog.lift (.load wm (Rect.unit (s := S512x3072) ![128 * kb.val, 128 * b.val] S128x128.size (inb_w kb b)).toLoadRect (View.loadsAt_vmem h_S128x128))
  let _old : Vec F S1x8x128 .f32 ← Prog.lift (.load arg15 (Rect.unit (s := S4x216x128) ![kb.val, 9 * b.val, 0] S1x8x128.size (inb_slab kb b)).toLoadRect (View.loadsAt_vmem h_S1x8x128))
  Prog.lift (.store arg15 (Rect.unit (s := S4x216x128) ![kb.val, 9 * b.val, 0] S1x8x128.size (inb_slab kb b)) (slabVal v) Finset.univ (View.stores_vmem_bits_univ h_S1x8x128 rfl) (.inl rfl))

/-- The first `n` blocks of block row `kb`. -/
def slabRow (kb : Fin 4) : (n : Nat) → n ≤ 24 → PG F PUnit
  | 0, _ => pure ⟨⟩
  | n + 1, h => do
    slabRow kb n (Nat.le_of_succ_le h)
    slabTile wm arg15 kb ⟨n, h⟩

/-- The maximum over the slab's sublanes `0 … n` of plane `kb`. -/
def slabMax (kb : Fin 4) : (n : Nat) → n < 8 → PG F (FVec F S24x128 .f32)
  | 0, h => do
    let v : Vec F S1x24x128 .f32 ← Prog.lift (.load arg15 (slabRect kb ⟨0, h⟩) (View.loadsAt_vmem h_S1x24x128))
    pure (shapeCast S24x128 v shapeCasts_S1x24x128_S24x128)
  | n + 1, h => do
    let m : FVec F S24x128 .f32 ← slabMax kb n (Nat.lt_of_succ_lt h)
    let v : Vec F S1x24x128 .f32 ← Prog.lift (.load arg15 (slabRect kb ⟨n + 1, h⟩) (View.loadsAt_vmem h_S1x24x128))
    pure (maximumf m (shapeCast S24x128 v shapeCasts_S1x24x128_S24x128))

/-- The words of block row `kb`'s 24 scales and their codes. -/
def scales (lane : IVec S24x128 32) (arg24 : BitVec 32) (kb : Fin 4) (e : IVec S24x128 32) : PG F PUnit := do
  let _o1 : Vec F S1x24x128 .i32 ← Prog.lift (.load arg16 (Rect.unit (s := S4x24x128) ![kb.val, 0, 0] S1x24x128.size (inb_kb kb)).toLoadRect (View.loadsAt_vmem h_S1x24x128))
  Prog.lift (.store arg16 (Rect.unit (s := S4x24x128) ![kb.val, 0, 0] S1x24x128.size (inb_kb kb)) (shapeCast S1x24x128 (invWord e) shapeCasts_S24x128_S1x24x128 : Vec F S1x24x128 .i32) Finset.univ (View.stores_vmem_bits_univ h_S1x24x128 rfl) (.inl rfl))
  let _o2 : Vec F S1x24x128 .i32 ← Prog.lift (.load arg17 (Rect.unit (s := S4x24x128) ![kb.val, 0, 0] S1x24x128.size (inb_kb kb)).toLoadRect (View.loadsAt_vmem h_S1x24x128))
  Prog.lift (.store arg17 (Rect.unit (s := S4x24x128) ![kb.val, 0, 0] S1x24x128.size (inb_kb kb)) (shapeCast S1x24x128 (scaleWord e) shapeCasts_S24x128_S1x24x128 : Vec F S1x24x128 .i32) Finset.univ (View.stores_vmem_bits_univ h_S1x24x128 rfl) (.inl rfl))
  let old : Vec F S24x128 .i32 ← Prog.lift (.load arg18 (Rect.unit (s := S24x128) ![0, 0] S24x128.size inb_S24x128_S24x128_0_0).toLoadRect (View.loadsAt_vmem h_S24x128))
  let _o3 : Vec F S24x128 .i32 ← Prog.lift (.load arg18 (Rect.unit (s := S24x128) ![0, 0] S24x128.size inb_S24x128_S24x128_0_0).toLoadRect (View.loadsAt_vmem h_S24x128))
  Prog.lift (.store arg18 (Rect.unit (s := S24x128) ![0, 0] S24x128.size inb_S24x128_S24x128_0_0) (shapeCast S24x128 (wsSel lane arg24 kb e old) shapeCasts_S24x128_S24x128 : Vec F S24x128 .i32) Finset.univ (View.stores_vmem_bits_univ h_S24x128 rfl) (.inl rfl))

/-- The first `n` block rows' scales. -/
def phaseA (lane : IVec S24x128 32) (arg24 : BitVec 32) : (n : Nat) → n ≤ 4 → PG F PUnit
  | 0, _ => pure ⟨⟩
  | n + 1, h => do
    phaseA lane arg24 n (Nat.le_of_succ_le h)
    slabRow wm arg15 ⟨n, h⟩ 24 le_rfl
    let m : FVec F S24x128 .f32 ← slabMax arg15 ⟨n, h⟩ 7 (by decide)
    scales arg16 arg17 arg18 lane arg24 ⟨n, h⟩ (expo (quot m))

/-- Block `(kb, b)` quantised: its codes into the slot, the numbers they stand for as the result. -/
def tile (t : Tm) (b : Fin 24) (kb : Fin 4) : PG F (FVec F S128x128 .bf16) := do
  let i : Vec F S1x1x128 .i32 ← Prog.lift (.load arg16 (Rect.unit (s := S4x24x128) ![kb.val, b.val, 0] S1x1x128.size (inb_row kb b)).toLoadRect (View.loadsAt_vmem h_S1x1x128))
  let s : Vec F S1x1x128 .i32 ← Prog.lift (.load arg17 (Rect.unit (s := S4x24x128) ![kb.val, b.val, 0] S1x1x128.size (inb_row kb b)).toLoadRect (View.loadsAt_vmem h_S1x1x128))
  let v : Vec F S128x128 .bf16 ← Prog.lift (.load wm (Rect.unit (s := S512x3072) ![128 * kb.val, 128 * b.val] S128x128.size (inb_w kb b)).toLoadRect (View.loadsAt_vmem h_S128x128))
  let _o : Vec F S128x128 .fp8e4m3 ← Prog.lift (.load cm (Rect.unit (s := S512x3072) ![128 * kb.val, 128 * b.val] S128x128.size (inb_w kb b)).toLoadRect (View.loadsAt_vmem h_S128x128))
  Prog.lift (.store arg12 (Rect.unit (s := S3x512x3072) (cOff t kb b) S1x128x128.size (inb_c t kb b))
    (shapeCast S1x128x128 (shapeCast S128x128 (codes v (rowF i)) shapeCasts_S128x128_S128x128) shapeCasts_S128x128_S1x128x128) Finset.univ
    (View.stores_vmem h_S1x128x128 (harg12.storeExact_slice rfl _ (packed_c t kb b)) (fun _ => rfl)) (.inl rfl))
  pure (deq (codes v (rowF i)) (rowF s))

/-- Column block `b` quantised. -/
def colTiles (t : Tm) (b : Fin 24) : PG F (FVec F S512x128 .bf16) := do
  let d0 : FVec F S128x128 .bf16 ← tile wm cm arg12 harg12 arg16 arg17 t b 0
  let d1 : FVec F S128x128 .bf16 ← tile wm cm arg12 harg12 arg16 arg17 t b 1
  let d2 : FVec F S128x128 .bf16 ← tile wm cm arg12 harg12 arg16 arg17 t b 2
  let d3 : FVec F S128x128 .bf16 ← tile wm cm arg12 harg12 arg16 arg17 t b 3
  pure (col4 d0 d1 d2 d3)

/-- Column group `j` quantised and multiplied. -/
def group (t : Tm) (xk : FVec F S208x512 .bf16) (j : Fin 12) : PG F PUnit := do
  let c0 : FVec F S512x128 .bf16 ← colTiles wm cm arg12 harg12 arg16 arg17 t ⟨2 * j.val, by omega⟩
  let c1 : FVec F S512x128 .bf16 ← colTiles wm cm arg12 harg12 arg16 arg17 t ⟨2 * j.val + 1, by omega⟩
  let old : Vec F S208x256 .f32 ← Prog.lift (.load arg13 (Rect.unit (s := S208x3072) ![0, 256 * j.val] S208x256.size (inb_acc j)).toLoadRect (View.loadsAt_vmem h_S208x256))
  let _o : Vec F S208x256 .f32 ← Prog.lift (.load arg13 (Rect.unit (s := S208x3072) ![0, 256 * j.val] S208x256.size (inb_acc j)).toLoadRect (View.loadsAt_vmem h_S208x256))
  Prog.lift (.store arg13 (Rect.unit (s := S208x3072) ![0, 256 * j.val] S208x256.size (inb_acc j)) (accVal xk (row2 c0 c1) old) Finset.univ (View.stores_vmem_bits_univ h_S208x256 rfl) (.inl rfl))

/-- The first `n` column groups. -/
def phaseB (t : Tm) (xk : FVec F S208x512 .bf16) : (n : Nat) → n ≤ 12 → PG F PUnit
  | 0, _ => pure ⟨⟩
  | n + 1, h => do
    phaseB t xk n (Nat.le_of_succ_le h)
    group wm cm arg12 harg12 arg13 arg16 arg17 t xk ⟨n, h⟩

/-- What a trip computes, between its waits and its starts. -/
def core (lane : IVec S24x128 32) (t : Tm) : PG F PUnit := do
  phaseA wm arg15 arg16 arg17 arg18 lane (Scf.iv 0#32 1#32 t) 4 le_rfl
  let xk : Vec F S1x208x512 .bf16 ← Prog.lift (.load arg9 (Rect.unit (s := S14x208x512) (k0_off14 t) S1x208x512.size (k0_off14_inb t)).toLoadRect (View.loadsAt_vmem h_S1x208x512))
  phaseB wm cm arg12 harg12 arg13 arg16 arg17 t (shapeCast S208x512 xk shapeCasts_S1x208x512_S208x512) 12 le_rfl

end Prog

section Trip

variable (arg1 : Memref sig .tc .hbm S7168x3072 .bf16) (harg1 : arg1.IsWhole) (arg5 : Memref sig .tc .hbm S7168x3072 .fp8e4m3) (harg5 : arg5.IsWhole)
  (arg9 : Memref sig .tc .vmem S14x208x512 .bf16)
  (arg11 : Memref sig .tc .vmem S4x512x3072 .bf16) (harg11 : arg11.IsWhole)
  (arg12 : Memref sig .tc .vmem S3x512x3072 .fp8e4m3) (harg12 : arg12.IsWhole)
  (arg13 : Memref sig .tc .vmem S208x3072 .f32)
  (arg15 : Memref sig .tc .vmem S4x216x128 .f32) (arg16 arg17 : Memref sig .tc .vmem S4x24x128 .i32)
  (arg18 : Memref sig .tc .vmem S24x128 .i32) (arg21 : DmaSems sig S4) (arg22 : DmaSems sig S3)

/-- The trip's slot of `w`. -/
abbrev wSlot (t : Tm) : Memref sig .tc .vmem S512x3072 .bf16 :=
  (arg11.slice (Rect.unit (s := S4x512x3072) (k0_off9 t) S1x512x3072.size (k0_off9_inb t)) (fun _ => rfl)).squeeze S512x3072 squeezes_S1x512x3072_S512x3072
/-- The trip's slot of codes. -/
abbrev cSlot (t : Tm) : Memref sig .tc .vmem S512x3072 .fp8e4m3 :=
  (arg12.slice (Rect.unit (s := S3x512x3072) (k0_off15 t) S1x512x3072.size (k0_off15_inb t)) (fun _ => rfl)).squeeze S512x3072 squeezes_S1x512x3072_S512x3072

/-- The waits at a trip's start. -/
def pre (t : Tm) : PG F PUnit := do
  Prog.lift (.waitDma2 ((arg21.slice (Rect.unit (s := S4) (k0_off8 t) S1.size (k0_off8_inb t))).squeeze S_ squeezes_S1_S_).sem
    (arg1.slice (Rect.unit (s := S7168x3072) (k0_off10 t) S512x3072.size (k0_off10_inb t)) (fun _ => rfl)) (wSlot arg11 t)
    (harg1.wordExact_slice rfl _ (k0_off10_wordsbf16 t)) ((harg11.wordExact_slice rfl _ (k0_off9_wordsbf16 t)).reshape _ _))
  if h1 : k0_cond1 t = 1#1 then do
    Prog.lift (.waitDma2 ((arg22.slice (Rect.unit (s := S3) (k0_off11 t) S1.size (k0_off11_inb t h1))).squeeze S_ squeezes_S1_S_).sem
      ((arg12.slice (Rect.unit (s := S3x512x3072) (k0_off13 t) S1x512x3072.size (k0_off13_inb t h1)) (fun _ => rfl)).squeeze S512x3072 squeezes_S1x512x3072_S512x3072)
      (arg5.slice (Rect.unit (s := S7168x3072) (k0_off12 t) S512x3072.size (k0_off12_inb t h1)) (fun _ => rfl))
      ((harg12.wordExact_slice rfl _ (k0_off13_wordsfp8e4m3 t h1)).reshape _ _) (harg5.wordExact_slice rfl _ (k0_off12_wordsfp8e4m3 t h1)))
    pure ⟨⟩
  else do
    pure ⟨⟩

/-- The copies a trip starts. -/
def post (t : Tm) : PG F PUnit := do
  Prog.lift (.enqueueDma (cSlot arg12 t) (.here (arg5.slice (Rect.unit (s := S7168x3072) (k0_off10 t) S512x3072.size (k0_off10_inb t)) (fun _ => rfl)))
    (.dma ((arg22.slice (Rect.unit (s := S3) (k0_off112 t) S1.size (k0_off112_inb t))).squeeze S_ squeezes_S1_S_).sem)
    ((harg12.wordExact_slice rfl _ (k0_off15_wordsfp8e4m3 t)).reshape _ _) (harg5.wordExact_slice rfl _ (k0_off10_wordsfp8e4m3 t)) ⟨Or.inl rfl, trivial⟩)
  if h2 : k0_cond2 t = 1#1 then do
    Prog.lift (.enqueueDma (arg1.slice (Rect.unit (s := S7168x3072) (k0_off115 t) S512x3072.size (k0_off115_inb t h2)) (fun _ => rfl))
      (.here ((arg11.slice (Rect.unit (s := S4x512x3072) (k0_off114 t) S1x512x3072.size (k0_off114_inb t h2)) (fun _ => rfl)).squeeze S512x3072 squeezes_S1x512x3072_S512x3072))
      (.dma ((arg21.slice (Rect.unit (s := S4) (k0_off113 t) S1.size (k0_off113_inb t h2))).squeeze S_ squeezes_S1_S_).sem)
      (harg1.wordExact_slice rfl _ (k0_off115_wordsbf16 t h2)) ((harg11.wordExact_slice rfl _ (k0_off114_wordsbf16 t h2)).reshape _ _) ⟨Or.inl rfl, trivial⟩)
    pure ⟨⟩
  else do
    pure ⟨⟩
  pure ⟨⟩

/-- A trip. -/
def trip (lane : IVec S24x128 32) (t : Tm) : PG F PUnit := do
  pre arg1 harg1 arg5 harg5 arg11 harg11 arg12 harg12 arg21 arg22 t
  core (wSlot arg11 t) (cSlot arg12 t) arg9 arg12 harg12 arg13 arg15 arg16 arg17 arg18 lane t
  post arg1 harg1 arg5 harg5 arg11 harg11 arg12 harg12 arg21 arg22 t

end Trip

end Cert.Kernel.Tr

end
-- ==== Proof.Owns.lean ====
/- A memref's elements owned whole, by what the memref reads: loads and stores through it, and a store through a second
   view of the same elements. -/
module

public import Idealize.ShloMosaic.Rules.Step
public import Idealize.ShloMosaic.Lib.Tactic

@[expose] public section

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} {Val : EltTy → Type} {Name : Type} [DecidableEq Name] {U : Type} [URA U] [DecidableEq Ix]
  {Lvl : Type} {Λ : Labels} [Preorder Lvl]
local notation "𝕄" => MT nD τ sig Ix Val Name U Lvl

/-- Contents `g` of shape `s` with rectangle `r` overwritten by `w`. -/
def upd {s : Shape} {α : Type} (r : Rect s) (w : r.shape.Idx → α) (g : s.Idx → α) : s.Idx → α :=
  fun x => match preimage? r.emb x with
    | some j => w j
    | none => g x

theorem upd_emb {s : Shape} {α : Type} (r : Rect s) (w : r.shape.Idx → α) (g : s.Idx → α) (j : r.shape.Idx) :
    upd r w g (r.emb j) = w j := by
  unfold upd; rw [preimage?_emb]

theorem upd_off {s : Shape} {α : Type} (r : Rect s) (w : r.shape.Idx → α) (g : s.Idx → α) {x : s.Idx} (h : ∀ j, r.emb j ≠ x) :
    upd r w g x = g x := by
  unfold upd; rw [preimage?_eq_none h]

variable (c : Thread nD τ)

/-- The memref's elements, held whole, the memref reading `g`. -/
def mown {sp : Space} {s : Shape} {e : EltTy} (m : Memref sig c.2.kind sp s e) (g : s.Idx → Val e) : sProp 𝕄 :=
  iprop(∃ f : Buf Val (m.view.loc c), (m.view.loc c ↦[m.view.set]{fullShare} f) ∗ ⌜m.view.read Val f = g⌝)

variable {defs : Defs nD τ sig Val Λ} (𝒱 : Variants) (bd : Option 𝒱.V) (E : Set Name)

/-- A program that only returns. -/
theorem rt {α : Type} {a : α} {Q : α → sProp 𝕄} :
    Q a ⊢ wp frame (wpE defs 𝒱 c bd) E (pure a : Prog (TpuEff nD τ sig Val Λ c.2) α) Q := by
  change _ ⊢ wp frame (wpE defs 𝒱 c bd) E (Prog.ret a) Q
  rw [wp_ret]
  iintro H
  imodintro
  iexact H

/-- A load reads the logical contents at the rectangle. -/
theorem ld {cs : CoreSpace} {s : Shape} {e : EltTy} {m : Memref sig c.2.kind cs s e} {r : LoadRect s} {hl : m.view.LoadsAt r}
    {g : s.Idx → Val e} {Q : (r.shape.Idx → Val e) → sProp 𝕄} :
    iprop(mown (Ix := Ix) (Name := Name) (U := U) (Lvl := Lvl) c m g ∗ (mown c m g -∗ Q (fun i => g (r.idx i))))
      ⊢ wp frame (wpE defs 𝒱 c bd) E (Prog.lift (.load m r hl) : Prog (TpuEff nD τ sig Val Λ c.2) _) Q := by
  unfold mown
  change _ ⊢ wp frame (wpE defs 𝒱 c bd) E (.op (.load m r hl) .ret) Q
  iintro ⟨⟨%f, Hp, %hf⟩, HQ⟩
  iapply (wp_load 𝒱 c bd E (m.view.setOn_subset_set _)) $$ Hp
  iintro Hp
  have hr : m.view.readAt Val r f = fun i => g (r.idx i) := by
    funext i; rw [View.readAt_apply, hf]
  rw [hr, wp_ret]
  imodintro
  iapply HQ
  iexists f
  isplitl [Hp]; · iexact Hp
  ipureintro; exact hf

/-- A store overwrites the rectangle. -/
theorem st {cs : CoreSpace} {s : Shape} {e : EltTy} {m : Memref sig c.2.kind cs s e} {r : Rect s} {w : r.shape.Idx → Val e}
    {hx : (m.access r).Stores Finset.univ} {hm : (Finset.univ : Finset r.shape.Idx) = Finset.univ ∨ ∀ a, r.stride a = 1}
    {g : s.Idx → Val e} {Q : PUnit → sProp 𝕄} :
    iprop(mown (Ix := Ix) (Name := Name) (U := U) (Lvl := Lvl) c m g ∗ (mown c m (upd r w g) -∗ Q ⟨⟩))
      ⊢ wp frame (wpE defs 𝒱 c bd) E (Prog.lift (.store m r w Finset.univ hx hm) : Prog (TpuEff nD τ sig Val Λ c.2) _) Q := by
  unfold mown
  change _ ⊢ wp frame (wpE defs 𝒱 c bd) E (.op (.store m r w Finset.univ hx hm) .ret) Q
  iintro ⟨⟨%f, Hp, %hf⟩, HQ⟩
  iapply (wp_store 𝒱 c bd E (m := m) (r := r) (S := m.view.set) (m.view.set_slice_subset r)) $$ Hp
  iintro Hp
  rw [wp_ret]
  imodintro
  iapply HQ
  iexists _
  isplitl [Hp]; · iexact Hp
  ipureintro
  funext x
  by_cases h : ∃ j, r.emb j = x
  · obtain ⟨j, rfl⟩ := h
    rw [upd_emb]
    exact View.read_slice_write_emb (v := m.view) r f w (Finset.mem_univ j)
  · have h' : ∀ j, r.emb j ≠ x := fun j hj => h ⟨j, hj⟩
    rw [upd_off r w g h', ← hf]
    exact View.read_slice_write_of_not_mem (v := m.view) r f w Finset.univ (by
      simp only [Finset.mem_map, not_exists]; rintro j ⟨-, hj⟩; exact h' j hj)

/-- A store through the memref a slot was cut from overwrites a rectangle of the slot. -/
theorem st_via {cs : CoreSpace} {s s' : Shape} {e : EltTy} {m' : Memref sig c.2.kind cs s' e} {R : Rect s'} {hR : ∀ a, R.stride a = 1}
    {hq : R.shape.Squeezes s} {r' : Rect s'} {w' : r'.shape.Idx → Val e} (r : Rect s) (φ : r.shape.Idx ≃ r'.shape.Idx)
    {hx : (m'.access r').Stores Finset.univ} {hm : (Finset.univ : Finset r'.shape.Idx) = Finset.univ ∨ ∀ a, r'.stride a = 1}
    (hφ : ∀ j, r'.emb (φ j) = R.emb (Shape.reshapeEquiv hq.numel_eq (r.emb j)))
    {g : s.Idx → Val e} (w : r.shape.Idx → Val e) (hw : ∀ j, w' (φ j) = w j) {Q : PUnit → sProp 𝕄} :
    iprop(mown (Ix := Ix) (Name := Name) (U := U) (Lvl := Lvl) c ((m'.slice R hR).squeeze s hq) g
        ∗ (mown c ((m'.slice R hR).squeeze s hq) (upd r w g) -∗ Q ⟨⟩))
      ⊢ wp frame (wpE defs 𝒱 c bd) E (Prog.lift (.store m' r' w' Finset.univ hx hm) : Prog (TpuEff nD τ sig Val Λ c.2) _) Q := by
  unfold mown
  change _ ⊢ wp frame (wpE defs 𝒱 c bd) E (.op (.store m' r' w' Finset.univ hx hm) .ret) Q
  have hemb : ∀ j, ((m'.slice R hR).squeeze s hq).view.emb (r.emb j) = (m'.access r').emb (φ j) := fun j => by
    show m'.view.emb (R.emb (Shape.reshapeEquiv _ (r.emb j))) = m'.view.emb (r'.emb (φ j))
    rw [hφ]
  have hsub : (m'.access r').set ⊆ ((m'.slice R hR).squeeze s hq).view.set := by
    intro i hi
    obtain ⟨j, -, rfl⟩ := Finset.mem_map.mp hi
    rw [show (m'.access r').emb j = ((m'.slice R hR).squeeze s hq).view.emb (r.emb (φ.symm j)) by rw [hemb, Equiv.apply_symm_apply]]
    exact View.emb_mem_set _ _
  iintro ⟨⟨%f, Hp, %hf⟩, HQ⟩
  iapply (wp_store 𝒱 c bd E (m := m') (r := r') (S := ((m'.slice R hR).squeeze s hq).view.set) hsub) $$ Hp
  iintro Hp
  rw [wp_ret]
  imodintro
  iapply HQ
  iexists _
  isplitl [Hp]; · iexact Hp
  ipureintro
  funext x
  have hrd : ∀ f' : Buf Val (m'.view.loc c), ((m'.slice R hR).squeeze s hq).view.read Val f' x
      = m'.view.read Val f' (R.emb (Shape.reshapeEquiv hq.numel_eq x)) := fun _ => rfl
  rw [← hf, hrd]
  by_cases h : ∃ j, r.emb j = x
  · obtain ⟨j, rfl⟩ := h
    rw [upd_emb, ← hφ, ← hw]
    exact View.read_slice_write_emb (v := m'.view) r' f w' (Finset.mem_univ _)
  · have h' : ∀ j, r.emb j ≠ x := fun j hj => h ⟨j, hj⟩
    rw [upd_off r _ _ h', hrd]
    exact View.read_slice_write_of_not_mem (v := m'.view) r' f w' Finset.univ (by
      simp only [Finset.mem_map, not_exists]; rintro j ⟨-, hj⟩
      refine h' (φ.symm j) ((Shape.reshapeEquiv hq.numel_eq).injective (R.emb.injective ?_))
      rw [← hφ, Equiv.apply_symm_apply, hj])

end Cert.Own

end
-- ==== Proof.Kernel.Core.lean ====
/- What a trip of the second loop does to the buffers it mown between its waits and its starts: each piece of the
   structured program takes the buffers' contents to a stated function of them. -/
module

public import proofs.«01_k».proof.Proof.Kernel.Trip
public import proofs.«01_k».proof.Proof.Owns
public import Idealize.ShloMosaic.Lib.Pipeline.Routed
public import Idealize.ShloMosaic.Lib.Pipeline.Value

@[expose] public section

set_option maxRecDepth 16384

noncomputable section

namespace Cert.Kernel.Tr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Own
open Facts₀ Facts

variable {F : FTy → Type} [FloatOps F]
local notation "Tm" => Fin k0_t2_loop.trips
local notation "𝕄" => MT nD τ sig Unit (Elt F) ℕ (Pipeline.UC sig nD τ) ℕ

/-! ## The rectangles and the contents -/

abbrev wR (kb : Fin 4) (b : Fin 24) : Rect S512x3072 := Rect.unit (s := S512x3072) ![128 * kb.val, 128 * b.val] S128x128.size (inb_w kb b)
abbrev slabR (kb : Fin 4) (b : Fin 24) : Rect S4x216x128 := Rect.unit (s := S4x216x128) ![kb.val, 9 * b.val, 0] S1x8x128.size (inb_slab kb b)
abbrev kbR (kb : Fin 4) : Rect S4x24x128 := Rect.unit (s := S4x24x128) ![kb.val, 0, 0] S1x24x128.size (inb_kb kb)
abbrev rowR (kb : Fin 4) (b : Fin 24) : Rect S4x24x128 := Rect.unit (s := S4x24x128) ![kb.val, b.val, 0] S1x1x128.size (inb_row kb b)
abbrev accR (j : Fin 12) : Rect S208x3072 := Rect.unit (s := S208x3072) ![0, 256 * j.val] S208x256.size (inb_acc j)
abbrev wsR : Rect S24x128 := Rect.unit (s := S24x128) ![0, 0] S24x128.size inb_S24x128_S24x128_0_0
abbrev xdR (t : Tm) : Rect S14x208x512 := Rect.unit (s := S14x208x512) (k0_off14 t) S1x208x512.size (k0_off14_inb t)

/-- Block `(kb, b)` of a chunk of `w`. -/
def blk (g : Vec F S512x3072 .bf16) (kb : Fin 4) (b : Fin 24) : Vec F S128x128 .bf16 := fun i => g ((wR kb b).idx i)

/-- The slab after the first `n` blocks of block row `kb`. -/
def slabAfter (g : Vec F S512x3072 .bf16) (kb : Fin 4) : (n : Nat) → n ≤ 24 → Vec F S4x216x128 .f32 → Vec F S4x216x128 .f32
  | 0, _, sl => sl
  | n + 1, h, sl => upd (slabR kb ⟨n, h⟩) (slabVal (blk g kb ⟨n, h⟩)) (slabAfter g kb n (Nat.le_of_succ_le h) sl)

/-- The maximum of the slab's rows of sublanes `0 … n` of plane `kb`. -/
def smax (sl : Vec F S4x216x128 .f32) (kb : Fin 4) : (n : Nat) → n < 8 → FVec F S24x128 .f32
  | 0, h => shapeCast S24x128 (fun i => sl ((slabRect kb ⟨0, h⟩).idx i) : Vec F S1x24x128 .f32) shapeCasts_S1x24x128_S24x128
  | n + 1, h => maximumf (smax sl kb n (Nat.lt_of_succ_lt h))
      (shapeCast S24x128 (fun i => sl ((slabRect kb ⟨n + 1, h⟩).idx i) : Vec F S1x24x128 .f32) shapeCasts_S1x24x128_S24x128)

/-- The slab, the words of the reciprocal scales, of the scales, and the scale codes. -/
structure StA (F : FTy → Type) [FloatOps F] where
  slab : Vec F S4x216x128 .f32
  inv : Vec F S4x24x128 .i32
  scale : Vec F S4x24x128 .i32
  ws : Vec F S24x128 .i32

/-- Block row `kb`'s exponents. -/
def eOf (g : Vec F S512x3072 .bf16) (kb : Fin 4) (sl : Vec F S4x216x128 .f32) : IVec S24x128 32 :=
  expo (quot (smax (slabAfter g kb 24 le_rfl sl) kb 7 (by decide)))

/-- After the first `n` block rows. -/
def stA (g : Vec F S512x3072 .bf16) (lane : IVec S24x128 32) (arg24 : BitVec 32) : (n : Nat) → n ≤ 4 → StA F → StA F
  | 0, _, s => s
  | n + 1, h, s =>
    let s' := stA g lane arg24 n (Nat.le_of_succ_le h) s
    let e := eOf g ⟨n, h⟩ s'.slab
    { slab := slabAfter g ⟨n, h⟩ 24 le_rfl s'.slab
      inv := upd (kbR ⟨n, h⟩) (shapeCast S1x24x128 (invWord e) shapeCasts_S24x128_S1x24x128 : Vec F S1x24x128 .i32) s'.inv
      scale := upd (kbR ⟨n, h⟩) (shapeCast S1x24x128 (scaleWord e) shapeCasts_S24x128_S1x24x128 : Vec F S1x24x128 .i32) s'.scale
      ws := upd wsR (shapeCast S24x128 (wsSel lane arg24 ⟨n, h⟩ e (fun i => s'.ws (wsR.idx i))) shapeCasts_S24x128_S24x128 : Vec F S24x128 .i32) s'.ws }

/-- A row of words of a buffer of scale words. -/
def rowOf (w : Vec F S4x24x128 .i32) (kb : Fin 4) (b : Fin 24) : FVec F S16x128 .bf16 := rowF (fun i => w ((rowR kb b).idx i))
/-- Block `(kb, b)`'s codes. -/
def tcodes (g : Vec F S512x3072 .bf16) (inv : Vec F S4x24x128 .i32) (b : Fin 24) (kb : Fin 4) : FVec F S128x128 .fp8e4m3 :=
  codes (blk g kb b) (rowOf inv kb b)
/-- The numbers they stand for. -/
def tdeq (g : Vec F S512x3072 .bf16) (inv scale : Vec F S4x24x128 .i32) (b : Fin 24) (kb : Fin 4) : FVec F S128x128 .bf16 :=
  deq (tcodes g inv b kb) (rowOf scale kb b)
/-- Column block `b`'s. -/
def tcol (g : Vec F S512x3072 .bf16) (inv scale : Vec F S4x24x128 .i32) (b : Fin 24) : FVec F S512x128 .bf16 :=
  col4 (tdeq g inv scale b 0) (tdeq g inv scale b 1) (tdeq g inv scale b 2) (tdeq g inv scale b 3)
/-- The slot of codes with column block `b` filled in. -/
def cCol (g : Vec F S512x3072 .bf16) (inv : Vec F S4x24x128 .i32) (b : Fin 24) (cc : Vec F S512x3072 .fp8e4m3) : Vec F S512x3072 .fp8e4m3 :=
  upd (wR 3 b) (tcodes g inv b 3) (upd (wR 2 b) (tcodes g inv b 2) (upd (wR 1 b) (tcodes g inv b 1) (upd (wR 0 b) (tcodes g inv b 0) cc)))

abbrev lo (j : Fin 12) : Fin 24 := ⟨2 * j.val, by omega⟩
abbrev hi (j : Fin 12) : Fin 24 := ⟨2 * j.val + 1, by omega⟩

/-- The slot of codes after the first `n` column groups. -/
def cAfter (g : Vec F S512x3072 .bf16) (inv : Vec F S4x24x128 .i32) : (n : Nat) → n ≤ 12 → Vec F S512x3072 .fp8e4m3 → Vec F S512x3072 .fp8e4m3
  | 0, _, cc => cc
  | n + 1, h, cc => cCol g inv (hi ⟨n, h⟩) (cCol g inv (lo ⟨n, h⟩) (cAfter g inv n (Nat.le_of_succ_le h) cc))
/-- The accumulator after the first `n` column groups. -/
def accAfter (g : Vec F S512x3072 .bf16) (inv scale : Vec F S4x24x128 .i32) (xk : FVec F S208x512 .bf16) : (n : Nat) → n ≤ 12 → Vec F S208x3072 .f32 → Vec F S208x3072 .f32
  | 0, _, a => a
  | n + 1, h, a =>
    let a' := accAfter g inv scale xk n (Nat.le_of_succ_le h) a
    upd (accR ⟨n, h⟩) (accVal xk (row2 (tcol g inv scale (lo ⟨n, h⟩)) (tcol g inv scale (hi ⟨n, h⟩))) (fun i => a' ((accR ⟨n, h⟩).idx i))) a'

/-- The trip's 512 columns of `x`. -/
def xkOf (X : Vec F S14x208x512 .bf16) (t : Tm) : FVec F S208x512 .bf16 :=
  shapeCast S208x512 (fun i => X ((xdR t).idx i) : Vec F S1x208x512 .bf16) shapeCasts_S1x208x512_S208x512

/-! ## The pieces -/

variable (c : Dev nD) {defs : Defs nD τ sig (Elt F) Λ₀} (𝒱 : Variants) (bd : Option 𝒱.V) (E : Set ℕ)

local notation "W" => wp frame (wpE (Ix := Unit) (Name := ℕ) (U := Pipeline.UC sig nD τ) (Lvl := ℕ) defs 𝒱 (c.tc : Thread nD τ) bd) E
local notation "own" => mown (Ix := Unit) (Val := Elt F) (Name := ℕ) (U := Pipeline.UC sig nD τ) (Lvl := ℕ) (c.tc : Thread nD τ)

variable (wm : Memref sig .tc .vmem S512x3072 .bf16)
  (arg9 : Memref sig .tc .vmem S14x208x512 .bf16)
  (arg12 : Memref sig .tc .vmem S3x512x3072 .fp8e4m3) (harg12 : arg12.IsWhole)
  (arg13 : Memref sig .tc .vmem S208x3072 .f32)
  (arg15 : Memref sig .tc .vmem S4x216x128 .f32) (arg16 arg17 : Memref sig .tc .vmem S4x24x128 .i32)
  (arg18 : Memref sig .tc .vmem S24x128 .i32)

theorem wp_slabTile (kb : Fin 4) (b : Fin 24) (g : Vec F S512x3072 .bf16) (sl : Vec F S4x216x128 .f32) (Q : PUnit → sProp 𝕄) :
    iprop(own wm g ∗ own arg15 sl ∗ (own wm g -∗ own arg15 (upd (slabR kb b) (slabVal (blk g kb b)) sl) -∗ Q ⟨⟩))
      ⊢ W (slabTile wm arg15 kb b) Q := by
  unfold slabTile
  simp only [wp_bind]
  iintro ⟨Hw, Hs, HQ⟩
  iapply (ld (c.tc : Thread nD τ) 𝒱 bd E (g := g))
  isplitl [Hw]; · iexact Hw
  iintro Hw
  iapply (ld (c.tc : Thread nD τ) 𝒱 bd E (g := sl))
  isplitl [Hs]; · iexact Hs
  iintro Hs
  iapply (st (c.tc : Thread nD τ) 𝒱 bd E (g := sl))
  isplitl [Hs]; · iexact Hs
  iintro Hs
  iapply HQ $$ Hw
  iexact Hs

theorem wp_slabRow (kb : Fin 4) (g : Vec F S512x3072 .bf16) (sl : Vec F S4x216x128 .f32) :
    ∀ (n : Nat) (h : n ≤ 24) (Q : PUnit → sProp 𝕄),
    iprop(own wm g ∗ own arg15 sl ∗ (own wm g -∗ own arg15 (slabAfter g kb n h sl) -∗ Q ⟨⟩))
      ⊢ W (slabRow wm arg15 kb n h) Q
  | 0, h, Q => by
    unfold slabRow slabAfter
    change _ ⊢ W (Prog.ret PUnit.unit) Q
    rw [wp_ret]
    iintro ⟨Hw, Hs, HQ⟩
    imodintro
    iapply HQ $$ Hw
    iexact Hs
  | n + 1, h, Q => by
    unfold slabRow slabAfter
    simp only [wp_bind]
    iintro ⟨Hw, Hs, HQ⟩
    iapply (wp_slabRow kb g sl n (Nat.le_of_succ_le h))
    isplitl [Hw]; · iexact Hw
    isplitl [Hs]; · iexact Hs
    iintro Hw Hs
    iapply (wp_slabTile c 𝒱 bd E wm arg15 kb ⟨n, h⟩ g)
    isplitl [Hw]; · iexact Hw
    isplitl [Hs]; · iexact Hs
    iexact HQ

theorem wp_slabMax (kb : Fin 4) (sl : Vec F S4x216x128 .f32) :
    ∀ (n : Nat) (h : n < 8) (Q : FVec F S24x128 .f32 → sProp 𝕄),
    iprop(own arg15 sl ∗ (own arg15 sl -∗ Q (smax sl kb n h)))
      ⊢ W (slabMax arg15 kb n h) Q
  | 0, h, Q => by
    unfold slabMax
    simp only [wp_bind]
    iintro ⟨Hs, HQ⟩
    iapply (ld (c.tc : Thread nD τ) 𝒱 bd E (g := sl))
    isplitl [Hs]; · iexact Hs
    iintro Hs
    iapply (rt (c.tc : Thread nD τ) 𝒱 bd E (a := smax sl kb 0 h))
    iapply HQ
    iexact Hs
  | n + 1, h, Q => by
    unfold slabMax
    simp only [wp_bind]
    iintro ⟨Hs, HQ⟩
    iapply (wp_slabMax kb sl n (Nat.lt_of_succ_lt h))
    isplitl [Hs]; · iexact Hs
    iintro Hs
    iapply (ld (c.tc : Thread nD τ) 𝒱 bd E (g := sl))
    isplitl [Hs]; · iexact Hs
    iintro Hs
    iapply (rt (c.tc : Thread nD τ) 𝒱 bd E (a := smax sl kb (n + 1) h))
    iapply HQ
    iexact Hs

theorem wp_scales (lane : IVec S24x128 32) (arg24 : BitVec 32) (kb : Fin 4) (e : IVec S24x128 32)
    (iv sc : Vec F S4x24x128 .i32) (ws : Vec F S24x128 .i32) (Q : PUnit → sProp 𝕄) :
    iprop(own arg16 iv ∗ own arg17 sc ∗ own arg18 ws
        ∗ (own arg16 (upd (kbR kb) (shapeCast S1x24x128 (invWord e) shapeCasts_S24x128_S1x24x128 : Vec F S1x24x128 .i32) iv)
          -∗ own arg17 (upd (kbR kb) (shapeCast S1x24x128 (scaleWord e) shapeCasts_S24x128_S1x24x128 : Vec F S1x24x128 .i32) sc)
          -∗ own arg18 (upd wsR (shapeCast S24x128 (wsSel lane arg24 kb e (fun i => ws (wsR.idx i))) shapeCasts_S24x128_S24x128 : Vec F S24x128 .i32) ws)
          -∗ Q ⟨⟩))
      ⊢ W (scales arg16 arg17 arg18 lane arg24 kb e) Q := by
  unfold scales
  simp only [wp_bind]
  iintro ⟨Hi, Hs, Hw, HQ⟩
  iapply (ld (c.tc : Thread nD τ) 𝒱 bd E (g := iv))
  isplitl [Hi]; · iexact Hi
  iintro Hi
  iapply (st (c.tc : Thread nD τ) 𝒱 bd E (g := iv))
  isplitl [Hi]; · iexact Hi
  iintro Hi
  iapply (ld (c.tc : Thread nD τ) 𝒱 bd E (g := sc))
  isplitl [Hs]; · iexact Hs
  iintro Hs
  iapply (st (c.tc : Thread nD τ) 𝒱 bd E (g := sc))
  isplitl [Hs]; · iexact Hs
  iintro Hs
  iapply (ld (c.tc : Thread nD τ) 𝒱 bd E (g := ws))
  isplitl [Hw]; · iexact Hw
  iintro Hw
  iapply (ld (c.tc : Thread nD τ) 𝒱 bd E (g := ws))
  isplitl [Hw]; · iexact Hw
  iintro Hw
  iapply (st (c.tc : Thread nD τ) 𝒱 bd E (g := ws))
  isplitl [Hw]; · iexact Hw
  iintro Hw
  iapply HQ $$ Hi Hs
  iexact Hw

/-- The buffers of `StA`, owned. -/
def ownA (s : StA F) : sProp 𝕄 :=
  iprop(own arg15 s.slab ∗ own arg16 s.inv ∗ own arg17 s.scale ∗ own arg18 s.ws)

theorem wp_phaseA (lane : IVec S24x128 32) (arg24 : BitVec 32) (g : Vec F S512x3072 .bf16) (s : StA F) :
    ∀ (n : Nat) (h : n ≤ 4) (Q : PUnit → sProp 𝕄),
    iprop(own wm g ∗ ownA c arg15 arg16 arg17 arg18 s
        ∗ (own wm g -∗ ownA c arg15 arg16 arg17 arg18 (stA g lane arg24 n h s) -∗ Q ⟨⟩))
      ⊢ W (phaseA wm arg15 arg16 arg17 arg18 lane arg24 n h) Q
  | 0, h, Q => by
    unfold phaseA stA
    change _ ⊢ W (Prog.ret PUnit.unit) Q
    rw [wp_ret]
    iintro ⟨Hw, Hs, HQ⟩
    imodintro
    iapply HQ $$ Hw
    iexact Hs
  | n + 1, h, Q => by
    unfold phaseA stA
    simp only [wp_bind]
    iintro ⟨Hw, Hs, HQ⟩
    iapply (wp_phaseA lane arg24 g s n (Nat.le_of_succ_le h))
    isplitl [Hw]; · iexact Hw
    isplitl [Hs]; · iexact Hs
    generalize stA g lane arg24 n (Nat.le_of_succ_le h) s = s'
    unfold ownA
    iintro Hw ⟨Hs, Hi, Hc, Hv⟩
    iapply (wp_slabRow c 𝒱 bd E wm arg15 ⟨n, h⟩ g s'.slab)
    isplitl [Hw]; · iexact Hw
    isplitl [Hs]; · iexact Hs
    iintro Hw Hs
    iapply (wp_slabMax c 𝒱 bd E arg15 ⟨n, h⟩)
    isplitl [Hs]; · iexact Hs
    iintro Hs
    iapply (wp_scales c 𝒱 bd E arg16 arg17 arg18 lane arg24 ⟨n, h⟩ _ s'.inv s'.scale s'.ws)
    isplitl [Hi]; · iexact Hi
    isplitl [Hc]; · iexact Hc
    isplitl [Hv]; · iexact Hv
    iintro Hi Hc Hv
    iapply HQ $$ Hw
    isplitl [Hs]; · iexact Hs
    isplitl [Hi]; · iexact Hi
    isplitl [Hc]; · iexact Hc
    iexact Hv

/-- Indices of a 128 × 128 block as indices of a 1 × 128 × 128 one. -/
def tileEquiv : S128x128.Idx ≃ S1x128x128.Idx := Shape.reshapeEquiv (by decide)

theorem shapeCast_tile (v : FVec F S128x128 .fp8e4m3) (j : S128x128.Idx) :
    shapeCast S1x128x128 (shapeCast S128x128 v shapeCasts_S128x128_S128x128) shapeCasts_S128x128_S1x128x128 (tileEquiv j) = v j := by
  rw [shapeCast_self]
  unfold shapeCast tileEquiv
  rw [← Shape.reshapeEquiv_symm, Equiv.symm_apply_apply]
  decide

theorem tile_emb (t : Tm) (kb : Fin 4) (b : Fin 24) (j : S128x128.Idx) :
    (Rect.unit (s := S3x512x3072) (cOff t kb b) S1x128x128.size (inb_c t kb b)).emb (tileEquiv j)
      = (Rect.unit (s := S3x512x3072) (k0_off15 t) S1x512x3072.size (k0_off15_inb t)).emb
          (Shape.reshapeEquiv (Shape.Squeezes.numel_eq squeezes_S1x512x3072_S512x3072) ((wR kb b).emb j)) := by
  have h1 : tileEquiv j = Fin.cons ⟨0, Nat.one_pos⟩ j := Shape.reshapeEquiv_cons_one (n := 2) (d := S128x128.size) _ j
  have h2 : Shape.reshapeEquiv (Shape.Squeezes.numel_eq squeezes_S1x512x3072_S512x3072) ((wR kb b).emb j)
      = Fin.cons ⟨0, Nat.one_pos⟩ ((wR kb b).emb j) := Shape.reshapeEquiv_cons_one (n := 2) (d := S512x3072.size) _ _
  rw [h1, h2]
  funext a
  refine Fin.ext ?_
  have e1 : k0_off15 t 1 = 0 := by revert t; decide +kernel
  have e2 : k0_off15 t 2 = 0 := by revert t; decide +kernel
  match a with
  | ⟨0, _⟩ => rfl
  | ⟨1, _⟩ => show 128 * kb.val + 1 * (j 0).val = k0_off15 t 1 + 1 * (128 * kb.val + 1 * (j 0).val); omega
  | ⟨2, _⟩ => show 128 * b.val + 1 * (j 1).val = k0_off15 t 2 + 1 * (128 * b.val + 1 * (j 1).val); omega

theorem wp_tile (t : Tm) (b : Fin 24) (kb : Fin 4) (g : Vec F S512x3072 .bf16) (cc : Vec F S512x3072 .fp8e4m3)
    (iv sc : Vec F S4x24x128 .i32) (Q : FVec F S128x128 .bf16 → sProp 𝕄) :
    iprop(own wm g ∗ own (cSlot arg12 t) cc ∗ own arg16 iv ∗ own arg17 sc
        ∗ (own wm g -∗ own (cSlot arg12 t) (upd (wR kb b) (tcodes g iv b kb) cc) -∗ own arg16 iv -∗ own arg17 sc -∗ Q (tdeq g iv sc b kb)))
      ⊢ W (tile wm (cSlot arg12 t) arg12 harg12 arg16 arg17 t b kb) Q := by
  unfold tile
  simp only [wp_bind]
  iintro ⟨Hw, Hc, Hi, Hs, HQ⟩
  iapply (ld (c.tc : Thread nD τ) 𝒱 bd E (g := iv))
  isplitl [Hi]; · iexact Hi
  iintro Hi
  iapply (ld (c.tc : Thread nD τ) 𝒱 bd E (g := sc))
  isplitl [Hs]; · iexact Hs
  iintro Hs
  iapply (ld (c.tc : Thread nD τ) 𝒱 bd E (g := g))
  isplitl [Hw]; · iexact Hw
  iintro Hw
  iapply (ld (c.tc : Thread nD τ) 𝒱 bd E (g := cc))
  isplitl [Hc]; · iexact Hc
  iintro Hc
  iapply (st_via (c.tc : Thread nD τ) 𝒱 bd E (m' := arg12) (R := Rect.unit (s := S3x512x3072) (k0_off15 t) S1x512x3072.size (k0_off15_inb t))
    (hq := squeezes_S1x512x3072_S512x3072) (hR := fun _ => rfl)
    (r' := Rect.unit (s := S3x512x3072) (cOff t kb b) S1x128x128.size (inb_c t kb b)) (wR kb b) tileEquiv (tile_emb t kb b) (g := cc)
    (tcodes g iv b kb) (fun j => shapeCast_tile _ j))
  isplitl [Hc]; · iexact Hc
  iintro Hc
  iapply (rt (c.tc : Thread nD τ) 𝒱 bd E (a := tdeq g iv sc b kb))
  iapply HQ $$ Hw Hc Hi
  iexact Hs

theorem wp_colTiles (t : Tm) (b : Fin 24) (g : Vec F S512x3072 .bf16) (cc : Vec F S512x3072 .fp8e4m3)
    (iv sc : Vec F S4x24x128 .i32) (Q : FVec F S512x128 .bf16 → sProp 𝕄) :
    iprop(own wm g ∗ own (cSlot arg12 t) cc ∗ own arg16 iv ∗ own arg17 sc
        ∗ (own wm g -∗ own (cSlot arg12 t) (cCol g iv b cc) -∗ own arg16 iv -∗ own arg17 sc -∗ Q (tcol g iv sc b)))
      ⊢ W (colTiles wm (cSlot arg12 t) arg12 harg12 arg16 arg17 t b) Q := by
  unfold colTiles cCol
  simp only [wp_bind]
  iintro ⟨Hw, Hc, Hi, Hs, HQ⟩
  iapply (wp_tile c 𝒱 bd E wm arg12 harg12 arg16 arg17 t b 0 g cc iv sc)
  isplitl [Hw]; · iexact Hw
  isplitl [Hc]; · iexact Hc
  isplitl [Hi]; · iexact Hi
  isplitl [Hs]; · iexact Hs
  iintro Hw Hc Hi Hs
  iapply (wp_tile c 𝒱 bd E wm arg12 harg12 arg16 arg17 t b 1 g _ iv sc)
  isplitl [Hw]; · iexact Hw
  isplitl [Hc]; · iexact Hc
  isplitl [Hi]; · iexact Hi
  isplitl [Hs]; · iexact Hs
  iintro Hw Hc Hi Hs
  iapply (wp_tile c 𝒱 bd E wm arg12 harg12 arg16 arg17 t b 2 g _ iv sc)
  isplitl [Hw]; · iexact Hw
  isplitl [Hc]; · iexact Hc
  isplitl [Hi]; · iexact Hi
  isplitl [Hs]; · iexact Hs
  iintro Hw Hc Hi Hs
  iapply (wp_tile c 𝒱 bd E wm arg12 harg12 arg16 arg17 t b 3 g _ iv sc)
  isplitl [Hw]; · iexact Hw
  isplitl [Hc]; · iexact Hc
  isplitl [Hi]; · iexact Hi
  isplitl [Hs]; · iexact Hs
  iintro Hw Hc Hi Hs
  iapply (rt (c.tc : Thread nD τ) 𝒱 bd E (a := tcol g iv sc b))
  iapply HQ $$ Hw Hc Hi
  iexact Hs

theorem wp_group (t : Tm) (xk : FVec F S208x512 .bf16) (j : Fin 12) (g : Vec F S512x3072 .bf16) (cc : Vec F S512x3072 .fp8e4m3)
    (iv sc : Vec F S4x24x128 .i32) (a : Vec F S208x3072 .f32) (Q : PUnit → sProp 𝕄) :
    iprop(own wm g ∗ own (cSlot arg12 t) cc ∗ own arg16 iv ∗ own arg17 sc ∗ own arg13 a
        ∗ (own wm g -∗ own (cSlot arg12 t) (cCol g iv (hi j) (cCol g iv (lo j) cc)) -∗ own arg16 iv -∗ own arg17 sc
          -∗ own arg13 (upd (accR j) (accVal xk (row2 (tcol g iv sc (lo j)) (tcol g iv sc (hi j))) (fun i => a ((accR j).idx i))) a) -∗ Q ⟨⟩))
      ⊢ W (group wm (cSlot arg12 t) arg12 harg12 arg13 arg16 arg17 t xk j) Q := by
  unfold group
  simp only [wp_bind]
  iintro ⟨Hw, Hc, Hi, Hs, Ha, HQ⟩
  iapply (wp_colTiles c 𝒱 bd E wm arg12 harg12 arg16 arg17 t _ g cc iv sc)
  isplitl [Hw]; · iexact Hw
  isplitl [Hc]; · iexact Hc
  isplitl [Hi]; · iexact Hi
  isplitl [Hs]; · iexact Hs
  iintro Hw Hc Hi Hs
  iapply (wp_colTiles c 𝒱 bd E wm arg12 harg12 arg16 arg17 t _ g _ iv sc)
  isplitl [Hw]; · iexact Hw
  isplitl [Hc]; · iexact Hc
  isplitl [Hi]; · iexact Hi
  isplitl [Hs]; · iexact Hs
  iintro Hw Hc Hi Hs
  iapply (ld (c.tc : Thread nD τ) 𝒱 bd E (g := a))
  isplitl [Ha]; · iexact Ha
  iintro Ha
  iapply (ld (c.tc : Thread nD τ) 𝒱 bd E (g := a))
  isplitl [Ha]; · iexact Ha
  iintro Ha
  iapply (st (c.tc : Thread nD τ) 𝒱 bd E (g := a))
  isplitl [Ha]; · iexact Ha
  iintro Ha
  iapply HQ $$ Hw Hc Hi Hs
  iexact Ha

theorem wp_phaseB (t : Tm) (xk : FVec F S208x512 .bf16) (g : Vec F S512x3072 .bf16) (cc : Vec F S512x3072 .fp8e4m3)
    (iv sc : Vec F S4x24x128 .i32) (a : Vec F S208x3072 .f32) :
    ∀ (n : Nat) (h : n ≤ 12) (Q : PUnit → sProp 𝕄),
    iprop(own wm g ∗ own (cSlot arg12 t) cc ∗ own arg16 iv ∗ own arg17 sc ∗ own arg13 a
        ∗ (own wm g -∗ own (cSlot arg12 t) (cAfter g iv n h cc) -∗ own arg16 iv -∗ own arg17 sc
          -∗ own arg13 (accAfter g iv sc xk n h a) -∗ Q ⟨⟩))
      ⊢ W (phaseB wm (cSlot arg12 t) arg12 harg12 arg13 arg16 arg17 t xk n h) Q
  | 0, h, Q => by
    unfold phaseB cAfter accAfter
    change _ ⊢ W (Prog.ret PUnit.unit) Q
    rw [wp_ret]
    iintro ⟨Hw, Hc, Hi, Hs, Ha, HQ⟩
    imodintro
    iapply HQ $$ Hw Hc Hi Hs
    iexact Ha
  | n + 1, h, Q => by
    unfold phaseB cAfter accAfter
    simp only [wp_bind]
    iintro ⟨Hw, Hc, Hi, Hs, Ha, HQ⟩
    iapply (wp_phaseB t xk g cc iv sc a n (Nat.le_of_succ_le h))
    isplitl [Hw]; · iexact Hw
    isplitl [Hc]; · iexact Hc
    isplitl [Hi]; · iexact Hi
    isplitl [Hs]; · iexact Hs
    isplitl [Ha]; · iexact Ha
    iintro Hw Hc Hi Hs Ha
    iapply (wp_group c 𝒱 bd E wm arg12 harg12 arg13 arg16 arg17 t xk ⟨n, h⟩ g _ iv sc _)
    isplitl [Hw]; · iexact Hw
    isplitl [Hc]; · iexact Hc
    isplitl [Hi]; · iexact Hi
    isplitl [Hs]; · iexact Hs
    isplitl [Ha]; · iexact Ha
    iexact HQ

attribute [local irreducible]  stA phaseA phaseB cAfter accAfter

/-- After the trip's first phase. -/
def stOf (lane : IVec S24x128 32) (t : Tm) (g : Vec F S512x3072 .bf16) (s : StA F) : StA F :=
  stA g lane (Scf.iv 0#32 1#32 t) 4 le_rfl s

/-- A trip between its waits and its starts. -/
theorem wp_core (lane : IVec S24x128 32) (t : Tm) (g : Vec F S512x3072 .bf16) (cc : Vec F S512x3072 .fp8e4m3)
    (X : Vec F S14x208x512 .bf16) (a : Vec F S208x3072 .f32) (s : StA F) (Q : PUnit → sProp 𝕄) :
    iprop(own wm g ∗ own (cSlot arg12 t) cc ∗ own arg9 X ∗ own arg13 a ∗ ownA c arg15 arg16 arg17 arg18 s
        ∗ (own wm g -∗ own (cSlot arg12 t) (cAfter g (stOf lane t g s).inv 12 le_rfl cc) -∗ own arg9 X
          -∗ own arg13 (accAfter g (stOf lane t g s).inv (stOf lane t g s).scale (xkOf X t) 12 le_rfl a)
          -∗ ownA c arg15 arg16 arg17 arg18 (stOf lane t g s) -∗ Q ⟨⟩))
      ⊢ W (core wm (cSlot arg12 t) arg9 arg12 harg12 arg13 arg15 arg16 arg17 arg18 lane t) Q := by
  unfold core xkOf
  simp only [wp_bind]
  iintro ⟨Hw, Hc, Hx, Ha, Hs, HQ⟩
  iapply (wp_phaseA c 𝒱 bd E wm arg15 arg16 arg17 arg18 lane (Scf.iv 0#32 1#32 t) g s 4 le_rfl)
  isplitl [Hw]; · iexact Hw
  isplitl [Hs]; · iexact Hs
  unfold stOf
  generalize stA g lane (Scf.iv 0#32 1#32 t) 4 le_rfl s = s'
  unfold ownA
  iintro Hw ⟨Hs, Hi, Hc', Hv⟩
  iapply (ld (c.tc : Thread nD τ) 𝒱 bd E (g := X))
  isplitl [Hx]; · iexact Hx
  iintro Hx
  iapply (wp_phaseB c 𝒱 bd E wm arg12 harg12 arg13 arg16 arg17 t _ g cc s'.inv s'.scale a 12 le_rfl)
  isplitl [Hw]; · iexact Hw
  isplitl [Hc]; · iexact Hc
  isplitl [Hi]; · iexact Hi
  isplitl [Hc']; · iexact Hc'
  isplitl [Ha]; · iexact Ha
  iintro Hw Hc Hi Hc' Ha
  iapply HQ $$ Hw Hc Hx [Ha]
  · iexact Ha
  isplitl [Hs]; · iexact Hs
  isplitl [Hi]; · iexact Hi
  isplitl [Hc']; · iexact Hc'
  iexact Hv

/-- `wp_core`, its results named. -/
theorem wp_core' (lane : IVec S24x128 32) (t : Tm) (g : Vec F S512x3072 .bf16) (cc : Vec F S512x3072 .fp8e4m3)
    (X : Vec F S14x208x512 .bf16) (a : Vec F S208x3072 .f32) (s s1 : StA F) (c1 : Vec F S512x3072 .fp8e4m3) (a1 : Vec F S208x3072 .f32)
    (h : stOf lane t g s = s1) (hc : cAfter g s1.inv 12 le_rfl cc = c1) (ha : accAfter g s1.inv s1.scale (xkOf X t) 12 le_rfl a = a1)
    (Q : PUnit → sProp 𝕄) :
    iprop(own wm g ∗ own (cSlot arg12 t) cc ∗ own arg9 X ∗ own arg13 a ∗ ownA c arg15 arg16 arg17 arg18 s
        ∗ (own wm g -∗ own (cSlot arg12 t) c1 -∗ own arg9 X -∗ own arg13 a1 -∗ ownA c arg15 arg16 arg17 arg18 s1 -∗ Q ⟨⟩))
      ⊢ W (core wm (cSlot arg12 t) arg9 arg12 harg12 arg13 arg15 arg16 arg17 arg18 lane t) Q := by
  subst hc ha h
  exact wp_core c 𝒱 bd E wm arg9 arg12 harg12 arg13 arg15 arg16 arg17 arg18 lane t g cc X a s Q

end Cert.Kernel.Tr

end
-- ==== Proof.Dma.lean ====
/- Copies of a memref into another and the waits for them, by what the memrefs read; a memref cut into pieces. -/
module

public import proofs.«01_k».proof.Proof.Owns
public import Idealize.ShloMosaic.Lib.Pipeline.Routed
public import Idealize.ShloMosaic.Lib.Transfers

@[expose] public section

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} [∀ e, Nonempty (Val e)]
local notation "𝕄" => MT nD τ sig Unit Val ℕ (Pipeline.UC sig nD τ) ℕ

variable (c : Thread nD τ) {defs : Defs nD τ sig Val Λ} (𝒱 : Variants) (bd : Option 𝒱.V)

local notation "own" => mown (Ix := Unit) (Val := Val) (Name := ℕ) (U := Pipeline.UC sig nD τ) (Lvl := ℕ) c

/-- The core owes nothing, whatever waits are recorded. -/
def owesNone : sProp 𝕄 := iprop(∃ W : Waits sig Unit, owes c 0 W)

/-- A copy of `amount N` in flight on the semaphore, delivering `D`. -/
def flies (sm : DmaSem sig) (N : ℕ) (D : sProp 𝕄) : sProp 𝕄 :=
  Transfers.Flight (countersEmb (U := Pipeline.UC sig nD τ)) c (.dma sm) () N D

/-- A copy's start: the source and the destination are handed over until the wait. -/
theorem dma {sp sp' : Space} {s : Shape} {e : EltTy} {src : Memref sig c.2.kind sp s e} {dst : Memref sig c.2.kind sp' s e} {sm : DmaSem sig}
    {hsrc : src.view.WordExact} {hdst : dst.view.WordExact} {hsem : DmaTarget.Typed (nD := nD) sp (SemLoc.dma sm) (.here dst)}
    (hs : 0 < s.numel) {g gd : s.Idx → Val e} {Q : PUnit → sProp 𝕄} :
    iprop(own src g ∗ own dst gd ∗ semVal (c, .dma sm) 0
        ∗ (flies c sm dst.view.dmaCredit iprop(own dst g ∗ own src g) -∗ Q ⟨⟩))
      ⊢ wp frame (wpE defs 𝒱 c bd) Set.univ
          (Prog.lift (.enqueueDma src (.here dst) (.dma sm) hsrc hdst hsem) : Prog (TpuEff nD τ sig Val Λ c.2) _) Q := by
  unfold mown flies
  change _ ⊢ wp frame (wpE defs 𝒱 c bd) Set.univ (.op (.enqueueDmaAs src (.here dst) .same (.dma sm) hsrc hdst hsem) .ret) Q
  iintro ⟨⟨%fs, Hs, %hfs⟩, ⟨%fd, Hd, %hfd⟩, Hv, HQ⟩
  iapply (Transfers.wp_dmaLocal (countersEmb (U := Pipeline.UC sig nD τ)) 𝒱 c bd () dst.view.dmaCredit (View.amount_dma _ _)
    (dst.view.dmaCredit_pos hs) (Finset.Subset.refl _)) $$ [Hs Hd Hv]
  · isplitl [Hs]; · iexact Hs
    isplitl [Hd]; · iexact Hd
    iexact Hv
  iintro Hf
  rw [wp_ret]
  imodintro
  iapply HQ
  iapply (Transfers.Flight_mono (countersEmb (U := Pipeline.UC sig nD τ)) (c := c) _) $$ Hf
  iintro ⟨Hd, Hs⟩
  isplitl [Hd]
  · iexists _
    isplitl [Hd]; · iexact Hd
    ipureintro
    rw [View.read_write_univ]
    exact hfs
  · iexists fs
    isplitl [Hs]; · iexact Hs
    ipureintro; exact hfs

/-- The wait for a copy: what it delivers, and the semaphore at zero again. -/
theorem wt {sp sp' : Space} {s s' : Shape} {e e' : EltTy} {src : Memref sig c.2.kind sp' s' e'} {dst : Memref sig c.2.kind sp s e} {sm : DmaSem sig}
    {hsrc : src.view.WordExact} {hdst : dst.view.WordExact} {D : sProp 𝕄} {N : ℕ} (hN : dst.view.dmaCredit = N) {Q : PUnit → sProp 𝕄} :
    iprop(flies c sm N D ∗ owesNone c ∗ (D -∗ semVal (c, .dma sm) 0 -∗ owesNone c -∗ Q ⟨⟩))
      ⊢ wp frame (wpE defs 𝒱 c bd) Set.univ (Prog.lift (.waitDma2 sm src dst hsrc hdst) : Prog (TpuEff nD τ sig Val Λ c.2) _) Q := by
  unfold flies owesNone
  change _ ⊢ wp frame (wpE defs 𝒱 c bd) Set.univ (.op (.waitDma2 sm src dst hsrc hdst) .ret) Q
  iintro ⟨Hf, ⟨%w, Ho⟩, HQ⟩
  iapply (Transfers.wp_waitLocal (countersEmb (U := Pipeline.UC sig nD τ)) 𝒱 c bd () hN) $$ [Hf Ho]
  · isplitl [Hf]; · iexact Hf
    iexact Ho
  iintro ⟨HD, Hv, Ho⟩
  rw [wp_ret]
  imodintro
  iapply HQ $$ HD Hv
  iexists _
  iexact Ho

/-! ## Pieces -/

theorem bigSep_erase' {I : Type} [DecidableEq I] {s : Finset I} {i : I} (h : i ∈ s) {Φ : I → sProp 𝕄} :
    bigSep s Φ = iprop(Φ i ∗ bigSep (s.erase i) Φ) := bigSep_erase h
theorem bigSep_insert' {I : Type} [DecidableEq I] {s : Finset I} {i : I} (h : i ∉ s) {Φ : I → sProp 𝕄} :
    bigSep (insert i s) Φ = iprop(Φ i ∗ bigSep s Φ) := bigSep_insert h

/-- A big star whose terms change at `i` and `j` only. -/
theorem bigSep_swap {I : Type} [DecidableEq I] {s : Finset I} {i j : I} (hi : i ∈ s) (hj : j ∈ s) (hij : i ≠ j) {Φ Ψ : I → sProp 𝕄}
    (h : ∀ x, x ≠ i → x ≠ j → Φ x = Ψ x) :
    bigSep s Φ ⊢ iprop(Φ i ∗ Φ j ∗ (Ψ i -∗ Ψ j -∗ bigSep s Ψ)) := by
  have hj' : j ∈ s.erase i := Finset.mem_erase.2 ⟨hij.symm, hj⟩
  rw [bigSep_erase' hi, bigSep_erase' hj', bigSep_erase' (Φ := Ψ) hi, bigSep_erase' (Φ := Ψ) hj',
    bigSep_congr (Φ := Φ) (Ψ := Ψ) (fun x hx => h x (Finset.ne_of_mem_erase (Finset.mem_of_mem_erase hx)) (Finset.ne_of_mem_erase hx))]
  iintro ⟨Hi, Hj, Hr⟩
  isplitl [Hi]; · iexact Hi
  isplitl [Hj]; · iexact Hj
  iintro Hi Hj
  isplitl [Hi]; · iexact Hi
  isplitl [Hj]; · iexact Hj
  iexact Hr

theorem mown_congr {sp : Space} {s : Shape} {e : EltTy} {m : Memref sig c.2.kind sp s e} {g g' : s.Idx → Val e} (h : g = g') : own m g ⊢ own m g' := by
  subst h; iintro H; iexact H

/-- A memref held whole is its pieces, when the pieces' rectangles partition its indices. -/
theorem own_split {sp : Space} {s : Shape} {e : EltTy} (m : Memref sig c.2.kind sp s e) (r : ℕ → Rect s) (hr : ∀ b a, (r b).stride a = 1) (n : ℕ)
    (hd : ∀ i < n, ∀ j < n, i ≠ j → Disjoint (r i).set (r j).set) (hc : ∀ x : s.Idx, ∃ i < n, x ∈ (r i).set) (g : s.Idx → Val e) :
    own m g ⊢ bigSep (Finset.range n) fun b => own (m.slice (r b) (hr b)) (fun j => g ((r b).emb j)) := by
  have hU : (Finset.range n).biUnion (fun b => (m.view.slice (r b)).set) = m.view.set := by
    ext i
    simp only [Finset.mem_biUnion, Finset.mem_range, View.set_slice, Finset.mem_map]
    constructor
    · rintro ⟨b, -, x, -, rfl⟩
      exact Finset.mem_map.2 ⟨x, Finset.mem_univ _, rfl⟩
    · intro hi
      obtain ⟨x, -, rfl⟩ := Finset.mem_map.1 hi
      obtain ⟨b, hb, hx⟩ := hc x
      exact ⟨b, hb, x, hx, rfl⟩
  have hD : ∀ i ∈ Finset.range n, ∀ j ∈ Finset.range n, i ≠ j → Disjoint (m.view.slice (r i)).set (m.view.slice (r j)).set := by
    intro i hi j hj hij
    rw [View.set_slice, View.set_slice]
    exact (Finset.disjoint_map _).2 (hd i (Finset.mem_range.1 hi) j (Finset.mem_range.1 hj) hij)
  have h1 : ∀ f : Buf Val (m.view.loc c), m.view.read Val f = g → ∀ b,
      iprop(m.view.loc c ↦[(m.view.slice (r b)).set]{fullShare} f) ⊢ own (m.slice (r b) (hr b)) (fun j => g ((r b).emb j)) := by
    intro f hf b
    unfold mown
    iintro H
    iexists f
    isplitl [H]; · iexact H
    ipureintro
    funext j
    rw [← hf]
    rfl
  have h2 : ∀ f : Buf Val (m.view.loc c), m.view.read Val f = g → iprop(m.view.loc c ↦[m.view.set]{fullShare} f)
      ⊢ bigSep (Finset.range n) fun b => own (m.slice (r b) (hr b)) (fun j => g ((r b).emb j)) := by
    intro f hf
    rw [← hU, pointsTo_biUnion _ _ hD]
    exact bigSep_mono fun b _ => h1 f hf b
  conv_lhs => unfold mown
  iintro ⟨%f, Hp, %hf⟩
  iapply (h2 f hf) $$ Hp

/-- The pieces joined: the memref whole, its contents those of the pieces. -/
theorem own_join {sp : Space} {s : Shape} {e : EltTy} (m : Memref sig c.2.kind sp s e) (r : ℕ → Rect s) (hr : ∀ b a, (r b).stride a = 1) (n : ℕ)
    (hd : ∀ i < n, ∀ j < n, i ≠ j → Disjoint (r i).set (r j).set) (hc : ∀ x : s.Idx, ∃ i < n, x ∈ (r i).set) (h : (b : ℕ) → (r b).shape.Idx → Val e)
    (f₀ : Buf Val (m.view.loc c)) :
    (bigSep (Finset.range n) fun b => own (m.slice (r b) (hr b)) (h b))
      ⊢ iprop(∃ g, own m g ∗ ⌜∀ b < n, ∀ j, g ((r b).emb j) = h b j⌝) := by
  classical
  have hU : (Finset.range n).biUnion (fun b => (m.view.slice (r b)).set) = m.view.set := by
    ext i
    simp only [Finset.mem_biUnion, Finset.mem_range, View.set_slice, Finset.mem_map]
    constructor
    · rintro ⟨b, -, x, -, rfl⟩
      exact Finset.mem_map.2 ⟨x, Finset.mem_univ _, rfl⟩
    · intro hi
      obtain ⟨x, -, rfl⟩ := Finset.mem_map.1 hi
      obtain ⟨b, hb, hx⟩ := hc x
      exact ⟨b, hb, x, hx, rfl⟩
  have hD : ∀ i < n, ∀ j < n, i ≠ j → Disjoint (m.view.slice (r i)).set (m.view.slice (r j)).set := by
    intro i hi j hj hij
    rw [View.set_slice, View.set_slice]
    exact (Finset.disjoint_map _).2 (hd i hi j hj hij)
  have key : ∀ k ≤ n, (bigSep (Finset.range k) fun b => own (m.slice (r b) (hr b)) (h b))
      ⊢ iprop(∃ f : Buf Val (m.view.loc c), (m.view.loc c ↦[(Finset.range k).biUnion (fun b => (m.view.slice (r b)).set)]{fullShare} f)
          ∗ ⌜∀ b < k, ∀ j, (m.slice (r b) (hr b)).view.read Val f j = h b j⌝) := by
    intro k
    induction k with
    | zero =>
      intro _
      iintro -
      iexists f₀
      isplitr
      · rw [Finset.range_zero, Finset.biUnion_empty, pointsTo_empty]; iempintro
      · ipureintro; intro b hb; omega
    | succ k ih =>
      intro hk
      rw [Finset.range_add_one, bigSep_insert' Finset.notMem_range_self, Finset.biUnion_insert]
      have hdis : Disjoint (m.view.slice (r k)).set ((Finset.range k).biUnion (fun b => (m.view.slice (r b)).set)) :=
        (Finset.disjoint_biUnion_right _ _ _).2 fun b hb => hD k (by omega) b (by have := Finset.mem_range.1 hb; omega) (by have := Finset.mem_range.1 hb; omega)
      unfold mown at ih ⊢
      iintro ⟨⟨%f1, Hk, %hf1⟩, Hr⟩
      ihave H := (ih (by omega)) $$ Hr
      icases H with ⟨%f2, Hr, %hf2⟩
      iexists ((Finset.range k).biUnion (fun b => (m.view.slice (r b)).set)).piecewise f2 f1
      isplitl [Hk Hr]
      · iapply (pointsTo_join hdis)
        isplitl [Hk]; · iexact Hk
        iexact Hr
      · ipureintro
        intro b hb j
        rcases Nat.lt_succ_iff_lt_or_eq.1 hb with hb | rfl
        · rw [← hf2 b hb j, View.read_apply, View.read_apply]
          have hm : (m.slice (r b) (hr b)).view.emb j ∈ (Finset.range k).biUnion (fun b => (m.view.slice (r b)).set) :=
            Finset.mem_biUnion.2 ⟨b, Finset.mem_range.2 hb, Finset.mem_map.2 ⟨j, Finset.mem_univ _, rfl⟩⟩
          exact congrArg _ (Finset.piecewise_eq_of_mem _ _ _ hm)
        · rw [← hf1, View.read_apply, View.read_apply]
          have hm : (m.slice (r b) (hr b)).view.emb j ∉ (Finset.range b).biUnion (fun b => (m.view.slice (r b)).set) :=
            Finset.disjoint_left.1 hdis (Finset.mem_map.2 ⟨j, Finset.mem_univ _, rfl⟩)
          exact congrArg _ (Finset.piecewise_eq_of_notMem _ _ _ hm)
  refine (key n le_rfl).trans ?_
  unfold mown
  rw [hU]
  iintro ⟨%f, Hp, %hf⟩
  iexists m.view.read Val f
  isplitl [Hp]
  · iexists f
    isplitl [Hp]; · iexact Hp
    ipureintro; rfl
  · ipureintro
    intro b hb j
    exact hf b hb j

/-- Squeezing changes only how indices are written. -/
theorem own_squeeze {sp : Space} {s s' : Shape} {e : EltTy} (m : Memref sig c.2.kind sp s e) (hq : s.Squeezes s') (g : s.Idx → Val e) :
    own m g ⊢ ∃ g', own (m.squeeze s' hq) g' := by
  unfold mown
  iintro ⟨%f, Hp, %hf⟩
  iexists _, f
  isplitl [Hp]
  · rw [show (m.squeeze s' hq).view.set = m.view.set from View.set_reshape _ _]
    iexact Hp
  ipureintro; rfl

theorem own_unsqueeze {sp : Space} {s s' : Shape} {e : EltTy} (m : Memref sig c.2.kind sp s e) (hq : s.Squeezes s') (g : s'.Idx → Val e) :
    own (m.squeeze s' hq) g ⊢ ∃ g', own m g' := by
  unfold mown
  iintro ⟨%f, Hp, %hf⟩
  iexists _, f
  isplitl [Hp]
  · rw [show (m.squeeze s' hq).view.set = m.view.set from View.set_reshape _ _]
    iexact Hp
  ipureintro; rfl

end Cert.Own

end
-- ==== Proof.Kernel.Ring.lean ====
/- The second loop's copies: which block of `w` and of its codes is where before each trip, and a trip's effect on that. -/
module

public import proofs.«01_k».proof.Proof.Kernel.Core
public import proofs.«01_k».proof.Proof.Dma

@[expose] public section

set_option maxRecDepth 16384

noncomputable section

namespace Cert.Kernel.Tr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Own
open Facts₀ Facts

variable {F : FTy → Type} [FloatOps F]
local notation "Tm" => Fin k0_t2_loop.trips
local notation "𝕄" => MT nD τ sig Unit (Elt F) ℕ (Pipeline.UC sig nD τ) ℕ

/-! ## Blocks, slots and semaphores by number -/

theorem inb_rb (b : ℕ) : ∀ a, (![512 * (b % 14), 0] : Fin 2 → Nat) a + S512x3072.size a ≤ S7168x3072.size a := by
  have h : b % 14 < 14 := Nat.mod_lt _ (by decide)
  intro a
  match a with
  | 0 => show 512 * (b % 14) + 512 ≤ 7168; omega
  | 1 => show 0 + 3072 ≤ 3072; omega
theorem inb_ws (i : ℕ) : ∀ a, (![i % 4, 0, 0] : Fin 3 → Nat) a + S1x512x3072.size a ≤ S4x512x3072.size a := by
  have h : i % 4 < 4 := Nat.mod_lt _ (by decide)
  intro a
  match a with
  | 0 => show i % 4 + 1 ≤ 4; omega
  | 1 => show 0 + 512 ≤ 512; omega
  | 2 => show 0 + 3072 ≤ 3072; omega
theorem inb_cs (i : ℕ) : ∀ a, (![i % 3, 0, 0] : Fin 3 → Nat) a + S1x512x3072.size a ≤ S3x512x3072.size a := by
  have h : i % 3 < 3 := Nat.mod_lt _ (by decide)
  intro a
  match a with
  | 0 => show i % 3 + 1 ≤ 3; omega
  | 1 => show 0 + 512 ≤ 512; omega
  | 2 => show 0 + 3072 ≤ 3072; omega
theorem inb_s4 (i : ℕ) : ∀ a, (![i % 4] : Fin 1 → Nat) a + S1.size a ≤ S4.size a := by
  have h : i % 4 < 4 := Nat.mod_lt _ (by decide)
  intro a
  match a with
  | 0 => show i % 4 + 1 ≤ 4; omega
theorem inb_s3 (i : ℕ) : ∀ a, (![i % 3] : Fin 1 → Nat) a + S1.size a ≤ S3.size a := by
  have h : i % 3 < 3 := Nat.mod_lt _ (by decide)
  intro a
  match a with
  | 0 => show i % 3 + 1 ≤ 3; omega

/-- Rows `512 b …` of `w` or of its codes. -/
abbrev rB (b : ℕ) : Rect S7168x3072 := Rect.unit (s := S7168x3072) ![512 * (b % 14), 0] S512x3072.size (inb_rb b)
/-- Slot `i` of the four. -/
abbrev rWs (i : ℕ) : Rect S4x512x3072 := Rect.unit (s := S4x512x3072) ![i % 4, 0, 0] S1x512x3072.size (inb_ws i)
/-- Slot `i` of the three. -/
abbrev rCs (i : ℕ) : Rect S3x512x3072 := Rect.unit (s := S3x512x3072) ![i % 3, 0, 0] S1x512x3072.size (inb_cs i)

section Ring

variable (arg1 : Memref sig .tc .hbm S7168x3072 .bf16) (harg1 : arg1.IsWhole) (arg5 : Memref sig .tc .hbm S7168x3072 .fp8e4m3) (harg5 : arg5.IsWhole)
  (arg9 : Memref sig .tc .vmem S14x208x512 .bf16)
  (arg11 : Memref sig .tc .vmem S4x512x3072 .bf16) (harg11 : arg11.IsWhole) (arg12 : Memref sig .tc .vmem S3x512x3072 .fp8e4m3) (harg12 : arg12.IsWhole)
  (arg13 : Memref sig .tc .vmem S208x3072 .f32)
  (arg15 : Memref sig .tc .vmem S4x216x128 .f32) (arg16 arg17 : Memref sig .tc .vmem S4x24x128 .i32) (arg18 : Memref sig .tc .vmem S24x128 .i32)
  (arg21 : DmaSems sig S4) (arg22 : DmaSems sig S3)

abbrev wB (b : ℕ) : Memref sig .tc .hbm S512x3072 .bf16 := arg1.slice (rB b) (fun _ => rfl)
abbrev cB (b : ℕ) : Memref sig .tc .hbm S512x3072 .fp8e4m3 := arg5.slice (rB b) (fun _ => rfl)
abbrev wS (i : ℕ) : Memref sig .tc .vmem S512x3072 .bf16 := (arg11.slice (rWs i) (fun _ => rfl)).squeeze S512x3072 squeezes_S1x512x3072_S512x3072
abbrev cS (i : ℕ) : Memref sig .tc .vmem S512x3072 .fp8e4m3 := (arg12.slice (rCs i) (fun _ => rfl)).squeeze S512x3072 squeezes_S1x512x3072_S512x3072
abbrev semR (i : ℕ) : DmaSem sig := ((arg21.slice (Rect.unit (s := S4) ![i % 4] S1.size (inb_s4 i))).squeeze S_ squeezes_S1_S_).sem
abbrev semC (i : ℕ) : DmaSem sig := ((arg22.slice (Rect.unit (s := S3) ![i % 3] S1.size (inb_s3 i))).squeeze S_ squeezes_S1_S_).sem

theorem wB_eq {off : Fin 2 → Nat} (b : ℕ) (h : off = ![512 * (b % 14), 0]) (i) :
    (arg1.slice (Rect.unit (s := S7168x3072) off S512x3072.size i) (fun _ => rfl) : Memref sig .tc .hbm S512x3072 .bf16) = wB arg1 b := by subst h; rfl
theorem cB_eq {off : Fin 2 → Nat} (b : ℕ) (h : off = ![512 * (b % 14), 0]) (i) :
    (arg5.slice (Rect.unit (s := S7168x3072) off S512x3072.size i) (fun _ => rfl) : Memref sig .tc .hbm S512x3072 .fp8e4m3) = cB arg5 b := by subst h; rfl
theorem wS_eq {off : Fin 3 → Nat} (k : ℕ) (h : off = ![k % 4, 0, 0]) (i) :
    (arg11.slice (Rect.unit (s := S4x512x3072) off S1x512x3072.size i) (fun _ => rfl)).squeeze S512x3072 squeezes_S1x512x3072_S512x3072 = wS arg11 k := by subst h; rfl
theorem cS_eq {off : Fin 3 → Nat} (k : ℕ) (h : off = ![k % 3, 0, 0]) (i) :
    (arg12.slice (Rect.unit (s := S3x512x3072) off S1x512x3072.size i) (fun _ => rfl)).squeeze S512x3072 squeezes_S1x512x3072_S512x3072 = cS arg12 k := by subst h; rfl
theorem semR_eq {off : Fin 1 → Nat} (k : ℕ) (h : off = ![k % 4]) (i) :
    ((arg21.slice (Rect.unit (s := S4) off S1.size i)).squeeze S_ squeezes_S1_S_).sem = semR arg21 k := by subst h; rfl
theorem semC_eq {off : Fin 1 → Nat} (k : ℕ) (h : off = ![k % 3]) (i) :
    ((arg22.slice (Rect.unit (s := S3) off S1.size i)).squeeze S_ squeezes_S1_S_).sem = semC arg22 k := by subst h; rfl

theorem off8 (t : Tm) : k0_off8 t = ![t.val % 4] := by revert t; decide +kernel
theorem off9 (t : Tm) : k0_off9 t = ![t.val % 4, 0, 0] := by revert t; decide +kernel
theorem off10 (t : Tm) : k0_off10 t = ![512 * (t.val % 14), 0] := by revert t; decide +kernel
theorem off15 (t : Tm) : k0_off15 t = ![t.val % 3, 0, 0] := by revert t; decide +kernel
theorem off112 (t : Tm) : k0_off112 t = ![(t.val + 3) % 3] := by revert t; decide +kernel
theorem off11 (t : Tm) (h : k0_cond1 t = 1#1) : k0_off11 t = ![t.val % 3] := by revert t; decide +kernel
theorem off12 (t : Tm) (h : k0_cond1 t = 1#1) : k0_off12 t = ![512 * ((t.val - 3) % 14), 0] := by revert t; decide +kernel
theorem off113 (t : Tm) (h : k0_cond2 t = 1#1) : k0_off113 t = ![(t.val + 4) % 4] := by revert t; decide +kernel
theorem off114 (t : Tm) (h : k0_cond2 t = 1#1) : k0_off114 t = ![(t.val + 4) % 4, 0, 0] := by revert t; decide +kernel
theorem off115 (t : Tm) (h : k0_cond2 t = 1#1) : k0_off115 t = ![512 * ((t.val + 4) % 14), 0] := by revert t; decide +kernel
theorem cond1 (t : Tm) : k0_cond1 t = 1#1 ↔ 3 ≤ t.val := by revert t; decide +kernel
theorem cond2 (t : Tm) : k0_cond2 t = 1#1 ↔ t.val + 4 < 14 := by revert t; decide +kernel
theorem t_lt (t : Tm) : t.val < 14 := by revert t; decide +kernel

/-! ## Where everything is before trip `k` -/

variable (c : Dev nD)
local notation "own" => mown (Ix := Unit) (Val := Elt F) (Name := ℕ) (U := Pipeline.UC sig nD τ) (Lvl := ℕ) (c.tc : Thread nD τ)

variable (wb : ℕ → Vec F S512x3072 .bf16) (cb : ℕ → Vec F S512x3072 .fp8e4m3)

/-- Block `b` of `w`, not being read. -/
def rdHome (b : ℕ) : sProp 𝕄 := if b < 14 then own (wB arg1 b) (wb b) else iprop(emp)
/-- Block `b` of `w` on its way to its slot; for `b ≥ 14`, the slot idle. -/
def rdFly (b : ℕ) : sProp 𝕄 :=
  if b < 14 then flies (Val := Elt F) (c.tc : Thread nD τ) (semR arg21 b) (wS arg11 b).view.dmaCredit iprop(own (wS arg11 b) (wb b) ∗ own (wB arg1 b) (wb b))
  else iprop((∃ g, own (wS arg11 b) g) ∗ semVal ((c.tc : Thread nD τ), .dma (semR arg21 b)) 0)
/-- The reads before trip `k`: blocks `k … k + 3` are on their way. -/
def RD (k b : ℕ) : sProp 𝕄 :=
  if k ≤ b ∧ b < k + 4 then rdFly arg1 arg11 arg21 c wb b else rdHome arg1 c wb b

/-- Block `v - 3` of the codes, written. -/
def wrDone (v : ℕ) : sProp 𝕄 := if 3 ≤ v then own (cB arg5 (v - 3)) (cb (v - 3)) else iprop(emp)
/-- Block `v - 3` of the codes on its way from its slot; for `v < 3`, the slot idle. -/
def wrFly (v : ℕ) : sProp 𝕄 :=
  if 3 ≤ v then flies (Val := Elt F) (c.tc : Thread nD τ) (semC arg22 v) (cB arg5 (v - 3)).view.dmaCredit iprop(own (cB arg5 (v - 3)) (cb (v - 3)) ∗ own (cS arg12 v) (cb (v - 3)))
  else iprop((∃ g, own (cS arg12 v) g) ∗ semVal ((c.tc : Thread nD τ), .dma (semC arg22 v)) 0)
/-- The writes before trip `k`: blocks `k - 3 … k - 1` are on their way. -/
def WR (k v : ℕ) : sProp 𝕄 :=
  if v < k then wrDone arg5 c cb v else if v < k + 3 then wrFly arg5 arg12 arg22 c cb v else iprop(∃ g, own (cB arg5 (v - 3)) g)

theorem RD_step (k x : ℕ) (h1 : x ≠ k) (h2 : x ≠ k + 4) : RD arg1 arg11 arg21 c wb k x = RD arg1 arg11 arg21 c wb (k + 1) x := by
  unfold RD
  congr 1
  exact propext (by omega)
theorem WR_step (k x : ℕ) (h1 : x ≠ k) (h2 : x ≠ k + 3) : WR arg5 arg12 arg22 c cb k x = WR arg5 arg12 arg22 c cb (k + 1) x := by
  unfold WR
  rcases Nat.lt_trichotomy x k with h | h | h
  · rw [if_pos h, if_pos (by omega)]
  · exact absurd h h1
  · rw [if_neg (show ¬ x < k by omega), if_neg (show ¬ x < k + 1 by omega)]
    by_cases h' : x < k + 3
    · rw [if_pos h', if_pos (by omega)]
    · rw [if_neg h', if_neg (by omega)]

/-- What a trip takes out of the copies' state and what it puts back. -/
theorem ring_take (k : ℕ) (hk : k < 14) :
    iprop(bigSep (Finset.range 18) (RD arg1 arg11 arg21 c wb k) ∗ bigSep (Finset.range 17) (WR arg5 arg12 arg22 c cb k))
      ⊢ iprop(rdFly arg1 arg11 arg21 c wb k ∗ rdHome arg1 c wb (k + 4) ∗ wrFly arg5 arg12 arg22 c cb k ∗ (∃ g, own (cB arg5 k) g)
          ∗ (rdHome arg1 c wb k -∗ rdFly arg1 arg11 arg21 c wb (k + 4) -∗ wrDone arg5 c cb k -∗ wrFly arg5 arg12 arg22 c cb (k + 3)
            -∗ iprop(bigSep (Finset.range 18) (RD arg1 arg11 arg21 c wb (k + 1)) ∗ bigSep (Finset.range 17) (WR arg5 arg12 arg22 c cb (k + 1))))) := by
  have e1 : RD arg1 arg11 arg21 c wb k k = rdFly arg1 arg11 arg21 c wb k := by unfold RD; rw [if_pos ⟨le_rfl, by omega⟩]
  have e2 : RD arg1 arg11 arg21 c wb k (k + 4) = rdHome arg1 c wb (k + 4) := by unfold RD; rw [if_neg (by omega)]
  have e3 : RD arg1 arg11 arg21 c wb (k + 1) k = rdHome arg1 c wb k := by unfold RD; rw [if_neg (by omega)]
  have e4 : RD arg1 arg11 arg21 c wb (k + 1) (k + 4) = rdFly arg1 arg11 arg21 c wb (k + 4) := by unfold RD; rw [if_pos ⟨by omega, by omega⟩]
  have f1 : WR arg5 arg12 arg22 c cb k k = wrFly arg5 arg12 arg22 c cb k := by unfold WR; rw [if_neg (by omega), if_pos (by omega)]
  have f2 : WR arg5 arg12 arg22 c cb k (k + 3) = iprop(∃ g, own (cB arg5 k) g) := by
    unfold WR; rw [if_neg (by omega), if_neg (by omega), Nat.add_sub_cancel]
  have f3 : WR arg5 arg12 arg22 c cb (k + 1) k = wrDone arg5 c cb k := by unfold WR; rw [if_pos (by omega)]
  have f4 : WR arg5 arg12 arg22 c cb (k + 1) (k + 3) = wrFly arg5 arg12 arg22 c cb (k + 3) := by unfold WR; rw [if_neg (by omega), if_pos (by omega)]
  have hR := bigSep_swap (s := Finset.range 18) (Finset.mem_range.2 (show k < 18 by omega)) (Finset.mem_range.2 (show k + 4 < 18 by omega)) (by omega)
    (Φ := RD arg1 arg11 arg21 c wb k) (Ψ := RD arg1 arg11 arg21 c wb (k + 1)) (RD_step arg1 arg11 arg21 c wb k)
  have hW := bigSep_swap (s := Finset.range 17) (Finset.mem_range.2 (show k < 17 by omega)) (Finset.mem_range.2 (show k + 3 < 17 by omega)) (by omega)
    (Φ := WR arg5 arg12 arg22 c cb k) (Ψ := WR arg5 arg12 arg22 c cb (k + 1)) (WR_step arg5 arg12 arg22 c cb k)
  rw [e1, e2, e3, e4] at hR
  rw [f1, f2, f3, f4] at hW
  iintro ⟨HR, HW⟩
  ihave HR' := hR $$ HR
  ihave HW' := hW $$ HW
  icases HR' with ⟨H1, H2, HR⟩
  icases HW' with ⟨H3, H4, HW⟩
  isplitl [H1]; · iexact H1
  isplitl [H2]; · iexact H2
  isplitl [H3]; · iexact H3
  isplitl [H4]; · iexact H4
  iintro G1 G2 G3 G4
  isplitl [HR G1 G2]
  · iapply HR $$ G1 G2
  · iapply HW $$ G3 G4

/-! ## A trip -/

variable {defs : Defs nD τ sig (Elt F) Λ₀} (𝒱 : Variants) (bd : Option 𝒱.V)
local notation "W" => wp frame (wpE (Ix := Unit) (Name := ℕ) (U := Pipeline.UC sig nD τ) (Lvl := ℕ) defs 𝒱 (c.tc : Thread nD τ) bd) Set.univ

/-- The waits at a trip's start: the trip's block of `w` is in its slot, and the slot of codes is free. -/
theorem wp_pre (t : Tm) (Q : PUnit → sProp 𝕄) :
    iprop(rdFly arg1 arg11 arg21 c wb t.val ∗ wrFly arg5 arg12 arg22 c cb t.val ∗ owesNone (c.tc : Thread nD τ)
        ∗ (own (wSlot arg11 t) (wb t.val) -∗ rdHome arg1 c wb t.val -∗ semVal ((c.tc : Thread nD τ), .dma (semR arg21 t.val)) 0
          -∗ wrDone arg5 c cb t.val -∗ (∃ g, own (cSlot arg12 t) g) -∗ semVal ((c.tc : Thread nD τ), .dma (semC arg22 t.val)) 0
          -∗ owesNone (c.tc : Thread nD τ) -∗ Q ⟨⟩))
      ⊢ W (pre arg1 harg1 arg5 harg5 arg11 harg11 arg12 harg12 arg21 arg22 t) Q := by
  have ht := t_lt t
  have eS := wS_eq arg11 t.val (off9 t) (k0_off9_inb t)
  have eC := cS_eq arg12 t.val (off15 t) (k0_off15_inb t)
  have eR := semR_eq arg21 t.val (off8 t) (k0_off8_inb t)
  unfold wSlot cSlot
  rw [eS, eC]
  unfold pre
  simp only [wp_bind]
  rw [show rdFly arg1 arg11 arg21 c wb t.val = flies (Val := Elt F) (c.tc : Thread nD τ) (semR arg21 t.val) (wS arg11 t.val).view.dmaCredit iprop(own (wS arg11 t.val) (wb t.val) ∗ own (wB arg1 t.val) (wb t.val)) from if_pos ht,
    show rdHome arg1 c wb t.val = own (wB arg1 t.val) (wb t.val) from if_pos ht]
  rw [← eR]
  by_cases h1 : k0_cond1 t = 1#1
  · have h3 := (cond1 t).1 h1
    have eC' := semC_eq arg22 t.val (off11 t h1) (k0_off11_inb t h1)
    have eB := cB_eq arg5 (t.val - 3) (off12 t h1) (k0_off12_inb t h1)
    rw [show wrFly arg5 arg12 arg22 c cb t.val = flies (Val := Elt F) (c.tc : Thread nD τ) (semC arg22 t.val) (cB arg5 (t.val - 3)).view.dmaCredit iprop(own (cB arg5 (t.val - 3)) (cb (t.val - 3)) ∗ own (cS arg12 t.val) (cb (t.val - 3))) from if_pos h3,
      show wrDone arg5 c cb t.val = own (cB arg5 (t.val - 3)) (cb (t.val - 3)) from if_pos h3, ← eC']
    simp only [dif_pos h1, wp_bind]
    iintro ⟨HR, HW, Ho, HQ⟩
    iapply (wt (c.tc : Thread nD τ) 𝒱 bd (dst := wSlot arg11 t) (N := (wS arg11 t.val).view.dmaCredit) (by unfold wSlot; rw [eS]))
    isplitl [HR]; · iexact HR
    isplitl [Ho]; · iexact Ho
    iintro ⟨HS, HB⟩ Hv Ho
    iapply (wt (c.tc : Thread nD τ) 𝒱 bd (N := (cB arg5 (t.val - 3)).view.dmaCredit) (by rw [eB]; rfl))
    isplitl [HW]; · iexact HW
    isplitl [Ho]; · iexact Ho
    iintro ⟨HD, HC⟩ Hv' Ho
    iapply (rt (c.tc : Thread nD τ) 𝒱 bd Set.univ (a := PUnit.unit))
    iapply HQ $$ HS HB Hv HD [HC] Hv' Ho
    iexists _
    iexact HC
  · have h3 : ¬ 3 ≤ t.val := fun h => h1 ((cond1 t).2 h)
    rw [show wrFly arg5 arg12 arg22 c cb t.val = iprop((∃ g, own (cS arg12 t.val) g) ∗ semVal ((c.tc : Thread nD τ), .dma (semC arg22 t.val)) 0) from if_neg h3,
      show wrDone arg5 c cb t.val = iprop(emp) from if_neg h3]
    simp only [dif_neg h1]
    iintro ⟨HR, ⟨HC, Hv'⟩, Ho, HQ⟩
    iapply (wt (c.tc : Thread nD τ) 𝒱 bd (dst := wSlot arg11 t) (N := (wS arg11 t.val).view.dmaCredit) (by unfold wSlot; rw [eS]))
    isplitl [HR]; · iexact HR
    isplitl [Ho]; · iexact Ho
    iintro ⟨HS, HB⟩ Hv Ho
    iapply (rt (c.tc : Thread nD τ) 𝒱 bd Set.univ (a := PUnit.unit))
    iapply HQ $$ HS HB Hv [] HC Hv' Ho
    iempintro

/-- The copies a trip starts: its codes to their block, and the block of `w` four ahead to the slot just used. -/
theorem wp_post (t : Tm) (Q : PUnit → sProp 𝕄) :
    iprop((∃ g, own (wSlot arg11 t) g) ∗ rdHome arg1 c wb (t.val + 4) ∗ semVal ((c.tc : Thread nD τ), .dma (semR arg21 t.val)) 0
        ∗ own (cSlot arg12 t) (cb t.val) ∗ (∃ g, own (cB arg5 t.val) g) ∗ semVal ((c.tc : Thread nD τ), .dma (semC arg22 t.val)) 0
        ∗ (rdFly arg1 arg11 arg21 c wb (t.val + 4) -∗ wrFly arg5 arg12 arg22 c cb (t.val + 3) -∗ Q ⟨⟩))
      ⊢ W (post arg1 harg1 arg5 harg5 arg11 harg11 arg12 harg12 arg21 arg22 t) Q := by
  have eS := wS_eq arg11 t.val (off9 t) (k0_off9_inb t)
  have eC := cS_eq arg12 (t.val + 3) (by rw [off15 t, Nat.add_mod_right]) (k0_off15_inb t)
  have eB := cB_eq arg5 t.val (off10 t) (k0_off10_inb t)
  have eC' := semC_eq arg22 (t.val + 3) (off112 t) (k0_off112_inb t)
  have eC0 : semC arg22 t.val = semC arg22 (t.val + 3) := semC_eq arg22 (t.val + 3) (by rw [Nat.add_mod_right]) _
  have eS4 : wS arg11 t.val = wS arg11 (t.val + 4) := wS_eq arg11 (t.val + 4) (by rw [Nat.add_mod_right]) _
  have eR4 : semR arg21 t.val = semR arg21 (t.val + 4) := semR_eq arg21 (t.val + 4) (by rw [Nat.add_mod_right]) _
  rw [show (iprop(∃ g, own (wSlot arg11 t) g) : sProp 𝕄) = iprop(∃ g, own (wS arg11 (t.val + 4)) g) by unfold wSlot; rw [eS, eS4], eR4, eC0]
  unfold post
  simp only [wp_bind]
  rw [show wrFly arg5 arg12 arg22 c cb (t.val + 3) = flies (Val := Elt F) (c.tc : Thread nD τ) (semC arg22 (t.val + 3)) (cB arg5 t.val).view.dmaCredit
      iprop(own (cB arg5 t.val) (cb t.val) ∗ own (cS arg12 (t.val + 3)) (cb t.val)) from if_pos (by omega)]
  rw [← eC', ← eC, ← eB]
  by_cases h2 : k0_cond2 t = 1#1
  · have h3 := (cond2 t).1 h2
    have eB2 := wB_eq arg1 (t.val + 4) (off115 t h2) (k0_off115_inb t h2)
    have eS2 := wS_eq arg11 (t.val + 4) (off114 t h2) (k0_off114_inb t h2)
    have eR2 := semR_eq arg21 (t.val + 4) (off113 t h2) (k0_off113_inb t h2)
    rw [show rdFly arg1 arg11 arg21 c wb (t.val + 4) = flies (Val := Elt F) (c.tc : Thread nD τ) (semR arg21 (t.val + 4)) (wS arg11 (t.val + 4)).view.dmaCredit iprop(own (wS arg11 (t.val + 4)) (wb (t.val + 4)) ∗ own (wB arg1 (t.val + 4)) (wb (t.val + 4))) from if_pos h3,
      show rdHome arg1 c wb (t.val + 4) = own (wB arg1 (t.val + 4)) (wb (t.val + 4)) from if_pos h3, ← eB2, ← eS2, ← eR2]
    simp only [dif_pos h2, wp_bind]
    iintro ⟨⟨%gs, HS⟩, HH, Hv, HC, ⟨%gc, HB⟩, Hv', HQ⟩
    iapply (dma (c.tc : Thread nD τ) 𝒱 bd (src := cSlot arg12 t) (g := cb t.val) (gd := gc) (by decide +kernel))
    isplitl [HC]; · iexact HC
    isplitl [HB]; · iexact HB
    isplitl [Hv']; · iexact Hv'
    iintro Hf
    iapply (dma (c.tc : Thread nD τ) 𝒱 bd (g := wb (t.val + 4)) (gd := gs) (by decide +kernel))
    isplitl [HH]; · iexact HH
    isplitl [HS]; · iexact HS
    isplitl [Hv]; · iexact Hv
    iintro Hg
    iapply (rt (c.tc : Thread nD τ) 𝒱 bd Set.univ (a := PUnit.unit))
    iapply HQ $$ Hg Hf
  · have h3 : ¬ t.val + 4 < 14 := fun h => h2 ((cond2 t).2 h)
    rw [show rdFly arg1 arg11 arg21 c wb (t.val + 4) = iprop((∃ g, own (wS arg11 (t.val + 4)) g) ∗ semVal ((c.tc : Thread nD τ), .dma (semR arg21 (t.val + 4))) 0) from if_neg h3]
    simp only [dif_neg h2]
    iintro ⟨HS, HH, Hv, HC, ⟨%gc, HB⟩, Hv', HQ⟩
    iapply (dma (c.tc : Thread nD τ) 𝒱 bd (src := cSlot arg12 t) (g := cb t.val) (gd := gc) (by decide +kernel))
    isplitl [HC]; · iexact HC
    isplitl [HB]; · iexact HB
    isplitl [Hv']; · iexact Hv'
    iintro Hf
    iapply (rt (c.tc : Thread nD τ) 𝒱 bd Set.univ (a := PUnit.unit))
    iapply HQ $$ [HS Hv] Hf
    isplitl [HS]; · iexact HS
    iexact Hv

end Ring

end Cert.Kernel.Tr

end
-- ==== Proof.Kernel.RingTrip.lean ====
/- A trip of the second loop on the copies' state, the accumulator and the scale codes. -/
module

public import proofs.«01_k».proof.Proof.Kernel.Ring

@[expose] public section

set_option maxRecDepth 16384

noncomputable section

namespace Cert.Kernel.Tr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Own
open Facts₀ Facts

variable {F : FTy → Type} [FloatOps F]
local notation "Tm" => Fin k0_t2_loop.trips
local notation "𝕄" => MT nD τ sig Unit (Elt F) ℕ (Pipeline.UC sig nD τ) ℕ

section Ring

variable (arg1 : Memref sig .tc .hbm S7168x3072 .bf16) (harg1 : arg1.IsWhole) (arg5 : Memref sig .tc .hbm S7168x3072 .fp8e4m3) (harg5 : arg5.IsWhole)
  (arg9 : Memref sig .tc .vmem S14x208x512 .bf16)
  (arg11 : Memref sig .tc .vmem S4x512x3072 .bf16) (harg11 : arg11.IsWhole) (arg12 : Memref sig .tc .vmem S3x512x3072 .fp8e4m3) (harg12 : arg12.IsWhole)
  (arg13 : Memref sig .tc .vmem S208x3072 .f32)
  (arg15 : Memref sig .tc .vmem S4x216x128 .f32) (arg16 arg17 : Memref sig .tc .vmem S4x24x128 .i32) (arg18 : Memref sig .tc .vmem S24x128 .i32)
  (arg21 : DmaSems sig S4) (arg22 : DmaSems sig S3)

variable (c : Dev nD)
local notation "own" => mown (Ix := Unit) (Val := Elt F) (Name := ℕ) (U := Pipeline.UC sig nD τ) (Lvl := ℕ) (c.tc : Thread nD τ)

variable (wb : ℕ → Vec F S512x3072 .bf16) (cb : ℕ → Vec F S512x3072 .fp8e4m3)

variable {defs : Defs nD τ sig (Elt F) Λ₀} (𝒱 : Variants) (bd : Option 𝒱.V)
local notation "W" => wp frame (wpE (Ix := Unit) (Name := ℕ) (U := Pipeline.UC sig nD τ) (Lvl := ℕ) defs 𝒱 (c.tc : Thread nD τ) bd) Set.univ

attribute [local irreducible] core phaseA phaseB stA cAfter accAfter

/-- `wp_trip` from one state of the scales. -/
theorem wp_trip0 (lane : IVec S24x128 32) (t : Tm) (X : Vec F S14x208x512 .bf16) (a a' : Vec F S208x3072 .f32) (s s1 : StA F)
    (h : stOf lane t (wb t.val) s = s1) (hC : ∀ cc, cAfter (wb t.val) s1.inv 12 le_rfl cc = cb t.val)
    (hA : accAfter (wb t.val) s1.inv s1.scale (xkOf X t) 12 le_rfl a = a') (Q : PUnit → sProp 𝕄) :
    iprop(bigSep (Finset.range 18) (RD arg1 arg11 arg21 c wb t.val) ∗ bigSep (Finset.range 17) (WR arg5 arg12 arg22 c cb t.val)
        ∗ owesNone (c.tc : Thread nD τ) ∗ own arg9 X ∗ own arg13 a ∗ ownA c arg15 arg16 arg17 arg18 s
        ∗ (bigSep (Finset.range 18) (RD arg1 arg11 arg21 c wb (t.val + 1)) -∗ bigSep (Finset.range 17) (WR arg5 arg12 arg22 c cb (t.val + 1))
          -∗ owesNone (c.tc : Thread nD τ) -∗ own arg9 X -∗ own arg13 a' -∗ ownA c arg15 arg16 arg17 arg18 s1 -∗ Q ⟨⟩))
      ⊢ W (trip arg1 harg1 arg5 harg5 arg9 arg11 harg11 arg12 harg12 arg13 arg15 arg16 arg17 arg18 arg21 arg22 lane t) Q := by
  unfold trip
  simp only [wp_bind]
  iintro ⟨HR, HW, Ho, HX, Ha, Hs, HQ⟩
  ihave H := (ring_take arg1 arg5 arg11 arg12 arg21 arg22 c wb cb t.val (t_lt t)) $$ [HR HW]
  · isplitl [HR]; · iexact HR
    iexact HW
  icases H with ⟨H1, H2, H3, H4, Hback⟩
  iapply (wp_pre arg1 harg1 arg5 harg5 arg11 harg11 arg12 harg12 arg21 arg22 c wb cb 𝒱 bd t)
  isplitl [H1]; · iexact H1
  isplitl [H3]; · iexact H3
  isplitl [Ho]; · iexact Ho
  iintro HS HB Hv HD ⟨%cc, HC⟩ Hv' Ho
  iapply (wp_core' c 𝒱 bd Set.univ (wSlot arg11 t) arg9 arg12 harg12 arg13 arg15 arg16 arg17 arg18 lane t (wb t.val) cc X a s s1 (cb t.val) a' h (hC cc) hA)
  isplitl [HS]; · iexact HS
  isplitl [HC]; · iexact HC
  isplitl [HX]; · iexact HX
  isplitl [Ha]; · iexact Ha
  isplitl [Hs]; · iexact Hs
  iintro HS HC HX Ha Hs
  iapply (wp_post arg1 harg1 arg5 harg5 arg11 harg11 arg12 harg12 arg21 arg22 c wb cb 𝒱 bd t)
  isplitl [HS]; · iexists _; iexact HS
  isplitl [H2]; · iexact H2
  isplitl [Hv]; · iexact Hv
  isplitl [HC]; · iexact HC
  isplitl [H4]; · iexact H4
  isplitl [Hv']; · iexact Hv'
  iintro G1 G2
  ihave G := Hback $$ HB G1 HD G2
  icases G with ⟨GR, GW⟩
  iapply HQ $$ GR GW Ho HX Ha Hs

/-- A trip: the copies' state moves on by one, the accumulator takes the trip's product, and the scale codes the trip's. -/
theorem wp_trip (lane : IVec S24x128 32) (t : Tm) (X : Vec F S14x208x512 .bf16) (a a' : Vec F S208x3072 .f32) (ws ws' : Vec F S24x128 .i32)
    (hC : ∀ s cc, cAfter (wb t.val) (stOf lane t (wb t.val) s).inv 12 le_rfl cc = cb t.val)
    (hA : ∀ s, accAfter (wb t.val) (stOf lane t (wb t.val) s).inv (stOf lane t (wb t.val) s).scale (xkOf X t) 12 le_rfl a = a')
    (hS : ∀ s : StA F, s.ws = ws → (stOf lane t (wb t.val) s).ws = ws') (Q : PUnit → sProp 𝕄) :
    iprop(bigSep (Finset.range 18) (RD arg1 arg11 arg21 c wb t.val) ∗ bigSep (Finset.range 17) (WR arg5 arg12 arg22 c cb t.val)
        ∗ owesNone (c.tc : Thread nD τ) ∗ own arg9 X ∗ own arg13 a ∗ (∃ s : StA F, ownA c arg15 arg16 arg17 arg18 s ∗ ⌜s.ws = ws⌝)
        ∗ (bigSep (Finset.range 18) (RD arg1 arg11 arg21 c wb (t.val + 1)) -∗ bigSep (Finset.range 17) (WR arg5 arg12 arg22 c cb (t.val + 1))
          -∗ owesNone (c.tc : Thread nD τ) -∗ own arg9 X -∗ own arg13 a' -∗ (∃ s : StA F, ownA c arg15 arg16 arg17 arg18 s ∗ ⌜s.ws = ws'⌝) -∗ Q ⟨⟩))
      ⊢ W (trip arg1 harg1 arg5 harg5 arg9 arg11 harg11 arg12 harg12 arg13 arg15 arg16 arg17 arg18 arg21 arg22 lane t) Q := by
  iintro ⟨HR, HW, Ho, HX, Ha, ⟨%s, Hs, %hs⟩, HQ⟩
  have hc := hC s
  have ha := hA s
  have hw := hS s hs
  obtain ⟨s1, h1⟩ : ∃ s1, stOf lane t (wb t.val) s = s1 := ⟨_, rfl⟩
  simp only [h1] at hc ha hw
  iapply (wp_trip0 arg1 harg1 arg5 harg5 arg9 arg11 harg11 arg12 harg12 arg13 arg15 arg16 arg17 arg18 arg21 arg22 c wb cb 𝒱 bd lane t X a a' s s1 h1 hc ha)
  isplitl [HR]; · iexact HR
  isplitl [HW]; · iexact HW
  isplitl [Ho]; · iexact Ho
  isplitl [HX]; · iexact HX
  isplitl [Ha]; · iexact Ha
  isplitl [Hs]; · iexact Hs
  iintro GR GW Ho HX Ha Hs
  iapply HQ $$ GR GW Ho HX Ha
  iexists s1
  isplitl [Hs]; · iexact Hs
  ipureintro
  exact hw

end Ring

end Cert.Kernel.Tr

end
-- ==== Proof.Kernel.Indep.lean ====
/- What a trip of the second loop computes does not depend on what the buffers it fills held before: the slab, the
   scale words and the slot of codes are overwritten wherever they are read. -/
module

public import proofs.«01_k».proof.Proof.Kernel.Core

@[expose] public section

set_option maxRecDepth 16384

noncomputable section

namespace Cert.Kernel.Tr

open Idealize.ShloMosaic Idealize.ShloMosaic.TcCoe
open Cert.Kernel Cert.Own
open Facts₀ Facts

variable {F : FTy → Type} [FloatOps F]
local notation "Tm" => Fin k0_t2_loop.trips

/-- An entry of a slab plane's band is where the band is stored. -/
theorem slab_ne (kb : Fin 4) {b b' : Fin 24} (h : b ≠ b') (j : (slabR kb b).shape.Idx) (j' : (slabR kb b').shape.Idx) :
    (slabR kb b').emb j' ≠ (slabR kb b).emb j := by
  intro e
  have e1 := congrArg (fun x : S4x216x128.Idx => (x 1).val) e
  have h1 : ((slabR kb b').emb j' 1).val = 9 * b'.val + 1 * (j' 1).val := rfl
  have h2 : ((slabR kb b).emb j 1).val = 9 * b.val + 1 * (j 1).val := rfl
  have l1 : (j' 1).val < 8 := (j' 1).isLt
  have l2 : (j 1).val < 8 := (j 1).isLt
  have : b.val ≠ b'.val := fun e => h (Fin.ext e)
  dsimp only at e1
  omega

/-- The slab holds what each block stored. -/
theorem slabAfter_emb (g : Vec F S512x3072 .bf16) (kb : Fin 4) (sl : Vec F S4x216x128 .f32) : ∀ (n : Nat) (h : n ≤ 24) (b : Fin 24) (_ : b.val < n) (j : (slabR kb b).shape.Idx),
    slabAfter g kb n h sl ((slabR kb b).emb j) = slabVal (blk g kb b) j
  | 0, _, b, hb, _ => absurd hb (Nat.not_lt_zero _)
  | n + 1, h, b, hb, j => by
    unfold slabAfter
    by_cases e : b = ⟨n, h⟩
    · subst e; rw [upd_emb]
    · rw [upd_off _ _ _ (fun j' => slab_ne kb e j j')]
      refine slabAfter_emb g kb sl n _ b ?_ j
      have : b.val ≠ n := fun e' => e (Fin.ext e')
      omega

/-- Row `s` of each block's band. -/
def bandRow (g : Vec F S512x3072 .bf16) (kb : Fin 4) (s : Fin 8) : Vec F S1x24x128 .f32 :=
  fun i => slabVal (blk g kb (i 1)) (fun a => match a with | ⟨0, _⟩ => ⟨0, Nat.one_pos⟩ | ⟨1, _⟩ => s | ⟨2, _⟩ => i 2)

theorem slab_read (g : Vec F S512x3072 .bf16) (kb : Fin 4) (sl : Vec F S4x216x128 .f32) (s : Fin 8) :
    (fun i => slabAfter g kb 24 le_rfl sl ((slabRect kb s).idx i) : Vec F S1x24x128 .f32) = bandRow g kb s := by
  funext i
  have hi : (slabRect kb s).idx i = (slabR kb (i 1)).emb (fun a => match a with | ⟨0, _⟩ => ⟨0, Nat.one_pos⟩ | ⟨1, _⟩ => s | ⟨2, _⟩ => i 2) := by
    funext a
    apply Fin.ext
    match a with
    | ⟨0, _⟩ =>
      have : (i 0).val < 1 := (i 0).isLt
      show kb.val + 1 * (i 0).val = kb.val + 1 * 0
      omega
    | ⟨1, _⟩ =>
      show s.val + 9 * (i 1).val = 9 * (i 1).val + 1 * s.val
      omega
    | ⟨2, _⟩ => rfl
  rw [hi]
  exact slabAfter_emb g kb sl 24 le_rfl (i 1) (i 1).isLt _

/-- The maximum of the bands' rows `0 … n`. -/
def bandMax (g : Vec F S512x3072 .bf16) (kb : Fin 4) : (n : Nat) → n < 8 → FVec F S24x128 .f32
  | 0, h => shapeCast S24x128 (bandRow g kb ⟨0, h⟩) shapeCasts_S1x24x128_S24x128
  | n + 1, h => maximumf (bandMax g kb n (Nat.lt_of_succ_lt h)) (shapeCast S24x128 (bandRow g kb ⟨n + 1, h⟩) shapeCasts_S1x24x128_S24x128)

theorem smax_eq (g : Vec F S512x3072 .bf16) (kb : Fin 4) (sl : Vec F S4x216x128 .f32) : ∀ (n : Nat) (h : n < 8),
    smax (slabAfter g kb 24 le_rfl sl) kb n h = bandMax g kb n h
  | 0, h => by unfold smax bandMax; rw [slab_read]
  | n + 1, h => by unfold smax bandMax; rw [smax_eq g kb sl n, slab_read]

/-- Block row `kb`'s exponents, from the chunk alone. -/
def eV (g : Vec F S512x3072 .bf16) (kb : Fin 4) : IVec S24x128 32 := expo (quot (bandMax g kb 7 (by decide)))

theorem eOf_eq (g : Vec F S512x3072 .bf16) (kb : Fin 4) (sl : Vec F S4x216x128 .f32) : eOf g kb sl = eV g kb := by
  unfold eOf eV; rw [smax_eq]

theorem kb_ne {kb kb' : Fin 4} (h : kb ≠ kb') (j : (kbR kb).shape.Idx) (j' : (kbR kb').shape.Idx) : (kbR kb').emb j' ≠ (kbR kb).emb j := by
  intro e
  have e1 := congrArg (fun x : S4x24x128.Idx => (x 0).val) e
  have h1 : ((kbR kb').emb j' 0).val = kb'.val + 1 * (j' 0).val := rfl
  have h2 : ((kbR kb).emb j 0).val = kb.val + 1 * (j 0).val := rfl
  have l1 : (j' 0).val < 1 := (j' 0).isLt
  have l2 : (j 0).val < 1 := (j 0).isLt
  have : kb.val ≠ kb'.val := fun e => h (Fin.ext e)
  dsimp only at e1
  omega

/-- An index of a buffer of scale words, in its block row. -/
def inRow (i : S4x24x128.Idx) : S1x24x128.Idx := fun a => match a with | ⟨0, _⟩ => ⟨0, Nat.one_pos⟩ | ⟨1, _⟩ => i 1 | ⟨2, _⟩ => i 2

theorem inRow_emb (i : S4x24x128.Idx) : (kbR (i 0)).emb (inRow i) = i := by
  funext a
  apply Fin.ext
  match a with
  | ⟨0, _⟩ => show (i 0).val + 1 * 0 = (i 0).val; omega
  | ⟨1, _⟩ => show 0 + 1 * (i 1).val = (i 1).val; omega
  | ⟨2, _⟩ => show 0 + 1 * (i 2).val = (i 2).val; omega

/-- The words of the reciprocal scales. -/
def INV (g : Vec F S512x3072 .bf16) : Vec F S4x24x128 .i32 := fun i =>
  (shapeCast S1x24x128 (invWord (eV g (i 0))) shapeCasts_S24x128_S1x24x128 : Vec F S1x24x128 .i32) (inRow i)
/-- The words of the scales. -/
def SC (g : Vec F S512x3072 .bf16) : Vec F S4x24x128 .i32 := fun i =>
  (shapeCast S1x24x128 (scaleWord (eV g (i 0))) shapeCasts_S24x128_S1x24x128 : Vec F S1x24x128 .i32) (inRow i)

section

variable (g : Vec F S512x3072 .bf16) (lane : IVec S24x128 32) (arg24 : BitVec 32)

theorem stA_inv (s : StA F) : ∀ (n : Nat) (h : n ≤ 4) (kb : Fin 4) (_ : kb.val < n) (j : (kbR kb).shape.Idx),
    (stA g lane arg24 n h s).inv ((kbR kb).emb j) = (shapeCast S1x24x128 (invWord (eV g kb)) shapeCasts_S24x128_S1x24x128 : Vec F S1x24x128 .i32) j
  | 0, _, kb, hb, _ => absurd hb (Nat.not_lt_zero _)
  | n + 1, h, kb, hb, j => by
    unfold stA
    dsimp only
    rw [eOf_eq]
    by_cases e : kb = ⟨n, h⟩
    · subst e; rw [upd_emb]
    · rw [upd_off _ _ _ (fun j' => kb_ne e j j')]
      refine stA_inv s n _ kb ?_ j
      have : kb.val ≠ n := fun e' => e (Fin.ext e')
      omega

theorem stA_scale (s : StA F) : ∀ (n : Nat) (h : n ≤ 4) (kb : Fin 4) (_ : kb.val < n) (j : (kbR kb).shape.Idx),
    (stA g lane arg24 n h s).scale ((kbR kb).emb j) = (shapeCast S1x24x128 (scaleWord (eV g kb)) shapeCasts_S24x128_S1x24x128 : Vec F S1x24x128 .i32) j
  | 0, _, kb, hb, _ => absurd hb (Nat.not_lt_zero _)
  | n + 1, h, kb, hb, j => by
    unfold stA
    dsimp only
    rw [eOf_eq]
    by_cases e : kb = ⟨n, h⟩
    · subst e; rw [upd_emb]
    · rw [upd_off _ _ _ (fun j' => kb_ne e j j')]
      refine stA_scale s n _ kb ?_ j
      have : kb.val ≠ n := fun e' => e (Fin.ext e')
      omega

theorem wsR_emb (w : Vec F S24x128 .i32) (x : S24x128.Idx) (old : Vec F S24x128 .i32) : upd wsR w old x = w x := by
  have hx : wsR.emb x = x := by
    funext a
    apply Fin.ext
    match a with
    | ⟨0, _⟩ => show 0 + 1 * (x 0).val = (x 0).val; omega
    | ⟨1, _⟩ => show 0 + 1 * (x 1).val = (x 1).val; omega
  conv_lhs => rw [← hx]
  exact upd_emb wsR w old x

/-- The scale codes after the first `n` block rows. -/
def wsV (ws : Vec F S24x128 .i32) : (n : Nat) → n ≤ 4 → Vec F S24x128 .i32
  | 0, _ => ws
  | n + 1, h => upd wsR (shapeCast S24x128 (wsSel lane arg24 ⟨n, h⟩ (eV g ⟨n, h⟩) (fun i => wsV ws n (Nat.le_of_succ_le h) (wsR.idx i))) shapeCasts_S24x128_S24x128 : Vec F S24x128 .i32) (wsV ws n (Nat.le_of_succ_le h))

theorem stA_ws (s : StA F) : ∀ (n : Nat) (h : n ≤ 4), (stA g lane arg24 n h s).ws = wsV g lane arg24 s.ws n h
  | 0, _ => rfl
  | n + 1, h => by
    unfold stA wsV
    dsimp only
    rw [eOf_eq, stA_ws s n]

end

theorem st_inv (lane : IVec S24x128 32) (t : Tm) (g : Vec F S512x3072 .bf16) (s : StA F) : (stOf lane t g s).inv = INV g := by
  funext i
  have h := stA_inv g lane (Scf.iv 0#32 1#32 t) s 4 le_rfl (i 0) (i 0).isLt (inRow i)
  rw [inRow_emb] at h
  exact h

theorem st_scale (lane : IVec S24x128 32) (t : Tm) (g : Vec F S512x3072 .bf16) (s : StA F) : (stOf lane t g s).scale = SC g := by
  funext i
  have h := stA_scale g lane (Scf.iv 0#32 1#32 t) s 4 le_rfl (i 0) (i 0).isLt (inRow i)
  rw [inRow_emb] at h
  exact h

theorem st_ws (lane : IVec S24x128 32) (t : Tm) (g : Vec F S512x3072 .bf16) (s : StA F) :
    (stOf lane t g s).ws = wsV g lane (Scf.iv 0#32 1#32 t) s.ws 4 le_rfl :=
  stA_ws g lane _ s 4 le_rfl

/-! ## The slot of codes -/

theorem w_ne {kb kb' : Fin 4} {b b' : Fin 24} (h : ¬ (kb = kb' ∧ b = b')) (j : (wR kb b).shape.Idx) (j' : (wR kb' b').shape.Idx) :
    (wR kb' b').emb j' ≠ (wR kb b).emb j := by
  intro e
  have e0 := congrArg (fun x : S512x3072.Idx => (x 0).val) e
  have e1 := congrArg (fun x : S512x3072.Idx => (x 1).val) e
  have h1 : ((wR kb' b').emb j' 0).val = 128 * kb'.val + 1 * (j' 0).val := rfl
  have h2 : ((wR kb b).emb j 0).val = 128 * kb.val + 1 * (j 0).val := rfl
  have h3 : ((wR kb' b').emb j' 1).val = 128 * b'.val + 1 * (j' 1).val := rfl
  have h4 : ((wR kb b).emb j 1).val = 128 * b.val + 1 * (j 1).val := rfl
  have l1 : (j' 0).val < 128 := (j' 0).isLt
  have l2 : (j 0).val < 128 := (j 0).isLt
  have l3 : (j' 1).val < 128 := (j' 1).isLt
  have l4 : (j 1).val < 128 := (j 1).isLt
  dsimp only at e0 e1
  exact h ⟨Fin.ext (by omega), Fin.ext (by omega)⟩

theorem cCol_in (g : Vec F S512x3072 .bf16) (inv : Vec F S4x24x128 .i32) (b : Fin 24) (cc : Vec F S512x3072 .fp8e4m3) (kb : Fin 4) (j : (wR kb b).shape.Idx) :
    cCol g inv b cc ((wR kb b).emb j) = tcodes g inv b kb j := by
  unfold cCol
  by_cases h3 : kb = 3
  · subst h3; rw [upd_emb]
  rw [upd_off _ _ _ (fun j' => w_ne (fun e => h3 e.1) j j')]
  by_cases h2 : kb = 2
  · subst h2; rw [upd_emb]
  rw [upd_off _ _ _ (fun j' => w_ne (fun e => h2 e.1) j j')]
  by_cases h1 : kb = 1
  · subst h1; rw [upd_emb]
  rw [upd_off _ _ _ (fun j' => w_ne (fun e => h1 e.1) j j')]
  have h0 : kb = 0 := by omega
  subst h0; rw [upd_emb]

theorem cCol_out (g : Vec F S512x3072 .bf16) (inv : Vec F S4x24x128 .i32) {b b' : Fin 24} (h : b ≠ b') (cc : Vec F S512x3072 .fp8e4m3) (kb : Fin 4) (j : (wR kb b).shape.Idx) :
    cCol g inv b' cc ((wR kb b).emb j) = cc ((wR kb b).emb j) := by
  unfold cCol
  rw [upd_off _ _ _ (fun j' => w_ne (fun e => h e.2) j j'), upd_off _ _ _ (fun j' => w_ne (fun e => h e.2) j j'),
    upd_off _ _ _ (fun j' => w_ne (fun e => h e.2) j j'), upd_off _ _ _ (fun j' => w_ne (fun e => h e.2) j j')]

theorem cAfter_emb (g : Vec F S512x3072 .bf16) (inv : Vec F S4x24x128 .i32) (cc : Vec F S512x3072 .fp8e4m3) (kb : Fin 4) : ∀ (n : Nat) (h : n ≤ 12) (b : Fin 24) (_ : b.val < 2 * n) (j : (wR kb b).shape.Idx),
    cAfter g inv n h cc ((wR kb b).emb j) = tcodes g inv b kb j
  | 0, _, b, hb, _ => absurd hb (Nat.not_lt_zero _)
  | n + 1, h, b, hb, j => by
    unfold cAfter
    by_cases e : b = hi ⟨n, h⟩
    · subst e; exact cCol_in g inv _ _ kb j
    rw [cCol_out g inv e]
    by_cases e' : b = lo ⟨n, h⟩
    · subst e'; exact cCol_in g inv _ _ kb j
    rw [cCol_out g inv e']
    refine cAfter_emb g inv cc kb n _ b ?_ j
    have h1 : b.val ≠ 2 * n + 1 := fun e1 => e (Fin.ext e1)
    have h2 : b.val ≠ 2 * n := fun e1 => e' (Fin.ext e1)
    omega

/-- The block row and block column of an index of a chunk, and the index within the block. -/
def rowB (i : S512x3072.Idx) : Fin 4 := ⟨(i 0).val / 128, by have : (i 0).val < 512 := (i 0).isLt; omega⟩
def colB (i : S512x3072.Idx) : Fin 24 := ⟨(i 1).val / 128, by have : (i 1).val < 3072 := (i 1).isLt; omega⟩
def inB (i : S512x3072.Idx) : S128x128.Idx := fun a => match a with | ⟨0, _⟩ => ⟨(i 0).val % 128, Nat.mod_lt _ (by decide)⟩ | ⟨1, _⟩ => ⟨(i 1).val % 128, Nat.mod_lt _ (by decide)⟩

theorem inB_emb (i : S512x3072.Idx) : (wR (rowB i) (colB i)).emb (inB i) = i := by
  funext a
  apply Fin.ext
  match a with
  | ⟨0, _⟩ => show 128 * ((i 0).val / 128) + 1 * ((i 0).val % 128) = (i 0).val; omega
  | ⟨1, _⟩ => show 128 * ((i 1).val / 128) + 1 * ((i 1).val % 128) = (i 1).val; omega

/-- A chunk's codes. -/
def CW (g : Vec F S512x3072 .bf16) : Vec F S512x3072 .fp8e4m3 := fun i => tcodes g (INV g) (colB i) (rowB i) (inB i)

theorem cAfter_eq (g : Vec F S512x3072 .bf16) (cc : Vec F S512x3072 .fp8e4m3) : cAfter g (INV g) 12 le_rfl cc = CW g := by
  funext i
  have h := cAfter_emb g (INV g) cc (rowB i) 12 le_rfl (colB i) (colB i).isLt (inB i)
  rw [inB_emb] at h
  exact h

end Cert.Kernel.Tr

end
-- ==== Proof.Kernel.XTrip.lean ====
/- One trip of the kernel's first loop, written as a structured program: four column blocks of `x`, each read, scaled,
   clipped, and written as codes, as the numbers they stand for and as scale codes. `x_eq` says that the printed trip
   is this program; `wp_xTrip` takes the buffers' contents to a stated function of them. -/
module

public import proofs.«01_k».proof.Proof.Kernel.Core

@[expose] public section

set_option maxRecDepth 16384

noncomputable section

namespace Cert.Kernel.Tr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Own
open Facts₀ Facts

variable {F : FTy → Type} [FloatOps F]
local notation "Tx" => Fin k0_t1_loop.trips
local notation "𝕄" => MT nD τ sig Unit (Elt F) ℕ (Pipeline.UC sig nD τ) ℕ

/-! ## Offsets and values -/

/-- Column block `s` of trip `t`'s plane. -/
def xOff (t : Tx) (s : Fin 4) : Fin 3 → Nat := ![k0_off4 t 0, 0, 128 * s.val]
theorem inb_x (t : Tx) (s : Fin 4) : ∀ a, xOff t s a + S1x200x128.size a ≤ S14x208x512.size a := by
  revert t s; decide +kernel
theorem packed_x (t : Tx) (s : Fin 4) :
    (Rect.unit (s := S14x208x512) (xOff t s) S1x200x128.size (inb_x t s)).PackedRows (EltTy.packing .bf16) := by
  revert t s; decide +kernel

abbrev xR (t : Tx) (s : Fin 4) : Rect S200x7168 :=
  Rect.unit (s := S200x7168) (k0_off3 t (BitVec.ofNat 32 (128 * s.val))) S200x128.size (k0_off3_inb t s)
abbrev xdR' (t : Tx) (s : Fin 4) : Rect S14x208x512 := Rect.unit (s := S14x208x512) (xOff t s) S1x200x128.size (inb_x t s)
abbrev xsR : Rect S256x128 := Rect.unit (s := S256x128) ![0, 0] S200x128.size inb_S256x128_S200x128_0_0

/-- The lane numbers. -/
abbrev xLane : IVec S200x128 32 := iota .tc S200x128 32 [1] iota_S200x128_d1_w32
/-- Each row's maximum magnitude over 448. -/
def xQuot (v : FVec F S200x128 .f32) : FVec F S200x128 .f32 :=
  mulf (broadcastTo S200x128 (shapeCast S200x1 (shapeCast S200x1 (multiReduction .maximumf [1] S200 (absf v) 0xFF800000#32
    reduces_S200x128_S200 (.inl rfl) rfl) shapeCasts_S200_S200x1) shapeCasts_S200x1_S200x1) broadcasts_S200x1_S200x128)
    (broadcast S200x128 (Scalar.ofBits .f32 0x3B124925#32))
/-- Its exponent. -/
def xExpo (v : FVec F S200x128 .f32) : IVec S200x128 32 := expo (xQuot v)
/-- The codes. -/
def xCodes (v : FVec F S200x128 .f32) : FVec F S200x128 .fp8e4m3 :=
  truncf .fp8e4m3 (minimumf (broadcast S200x128 (Scalar.ofBits .f32 0x43E00000#32)) (maximumf (broadcast S200x128 (Scalar.ofBits .f32 0xC3E00000#32))
    (mulf v (bitcastToFloat .f32 (shli (subi (broadcast S200x128 253#32) (xExpo v)) (broadcast S200x128 23#32)))))) bitsLt_fp8e4m3_f32
/-- The numbers they stand for. -/
def xDeq (v : FVec F S200x128 .f32) : FVec F S200x128 .bf16 :=
  truncf .bf16 (mulf (extf .f32 (xCodes v) bitsLt_fp8e4m3_f32)
    (bitcastToFloat .f32 (shli (addi (xExpo v) (broadcast S200x128 1#32)) (broadcast S200x128 23#32)))) bitsLt_bf16_f32
/-- The scale codes with lane `4 t + s` filled in. -/
def xsSel (lane : IVec S200x128 32) (t : Tx) (s : Fin 4) (v : FVec F S200x128 .f32) (old : IVec S200x128 32) : IVec S200x128 32 :=
  select (cmpi .eq lane (broadcast S200x128 (Scalar.addi (Scalar.muli (Scf.iv 0#32 1#32 t) 4#32) (BitVec.ofNat 32 s.val))))
    (addi (xExpo v) (broadcast S200x128 1#32)) old

/-! ## The program -/

section Prog

variable (arg7 : Memref sig .tc .vmem S200x7168 .bf16) (arg8 : Memref sig .tc .vmem S200x7168 .fp8e4m3) (harg8 : arg8.IsWhole)
  (arg9 : Memref sig .tc .vmem S14x208x512 .bf16) (harg9 : arg9.IsWhole) (arg10 : Memref sig .tc .vmem S256x128 .i32)

/-- Column block `s` of trip `t`. -/
def xTile (lane : IVec S200x128 32) (t : Tx) (s : Fin 4) : PG F PUnit := do
  let v : Vec F S200x128 .bf16 ← Prog.lift (.load arg7 (xR t s).toLoadRect (View.loadsAt_vmem h_S200x128))
  let _o1 : Vec F S200x128 .fp8e4m3 ← Prog.lift (.load arg8 (xR t s).toLoadRect (View.loadsAt_vmem h_S200x128))
  Prog.lift (.store arg8 (xR t s) (shapeCast S200x128 (xCodes (extf .f32 v bitsLt_bf16_f32)) shapeCasts_S200x128_S200x128) Finset.univ
    (View.stores_vmem h_S200x128 (harg8.storeExact_slice rfl _ (k0_off3_packedfp8e4m3 t s)) (fun _ => rfl)) (.inl rfl))
  let _o2 : Vec F S1x200x128 .bf16 ← Prog.lift (.load arg9 (xdR' t s).toLoadRect (View.loadsAt_vmem h_S1x200x128))
  Prog.lift (.store arg9 (xdR' t s) (shapeCast S1x200x128 (xDeq (extf .f32 v bitsLt_bf16_f32)) shapeCasts_S200x128_S1x200x128) Finset.univ
    (View.stores_vmem h_S1x200x128 (harg9.storeExact_slice rfl _ (packed_x t s)) (fun _ => rfl)) (.inl rfl))
  let old : Vec F S200x128 .i32 ← Prog.lift (.load arg10 xsR.toLoadRect (View.loadsAt_vmem h_S200x128))
  let _o3 : Vec F S200x128 .i32 ← Prog.lift (.load arg10 xsR.toLoadRect (View.loadsAt_vmem h_S200x128))
  Prog.lift (.store arg10 xsR (shapeCast S200x128 (xsSel lane t s (extf .f32 v bitsLt_bf16_f32) old) shapeCasts_S200x128_S200x128 : Vec F S200x128 .i32) Finset.univ
    (View.stores_vmem_bits_univ h_S200x128 rfl) (.inl rfl))

/-- A trip. -/
def xTrip (lane : IVec S200x128 32) (t : Tx) : PG F PUnit := do
  xTile arg7 arg8 harg8 arg9 harg9 arg10 lane t 0
  xTile arg7 arg8 harg8 arg9 harg9 arg10 lane t 1
  xTile arg7 arg8 harg8 arg9 harg9 arg10 lane t 2
  xTile arg7 arg8 harg8 arg9 harg9 arg10 lane t 3
  pure ⟨⟩

end Prog

set_option maxHeartbeats 4000000 in
theorem x_eq (arg0 : Memref sig .tc .hbm S200x7168 .bf16) (harg0 : arg0.IsWhole) (arg1 : Memref sig .tc .hbm S7168x3072 .bf16) (harg1 : arg1.IsWhole)
    (arg2 : Memref sig .tc .hbm S200x3072 .bf16) (harg2 : arg2.IsWhole) (arg3 : Memref sig .tc .hbm S200x7168 .fp8e4m3) (harg3 : arg3.IsWhole)
    (arg4 : Memref sig .tc .vmem S56x200 .i8) (harg4 : arg4.IsWhole) (arg5 : Memref sig .tc .hbm S7168x3072 .fp8e4m3) (harg5 : arg5.IsWhole)
    (arg6 : Memref sig .tc .vmem S24x56 .i8) (harg6 : arg6.IsWhole) (arg7 : Memref sig .tc .vmem S200x7168 .bf16) (harg7 : arg7.IsWhole)
    (arg8 : Memref sig .tc .vmem S200x7168 .fp8e4m3) (harg8 : arg8.IsWhole) (arg9 : Memref sig .tc .vmem S14x208x512 .bf16) (harg9 : arg9.IsWhole)
    (arg10 : Memref sig .tc .vmem S256x128 .i32) (harg10 : arg10.IsWhole) (arg11 : Memref sig .tc .vmem S4x512x3072 .bf16) (harg11 : arg11.IsWhole)
    (arg12 : Memref sig .tc .vmem S3x512x3072 .fp8e4m3) (harg12 : arg12.IsWhole) (arg13 : Memref sig .tc .vmem S208x3072 .f32) (harg13 : arg13.IsWhole)
    (arg14 : Memref sig .tc .vmem S200x3072 .bf16) (harg14 : arg14.IsWhole) (arg15 : Memref sig .tc .vmem S4x216x128 .f32) (harg15 : arg15.IsWhole)
    (arg16 : Memref sig .tc .vmem S4x24x128 .i32) (harg16 : arg16.IsWhole) (arg17 : Memref sig .tc .vmem S4x24x128 .i32) (harg17 : arg17.IsWhole)
    (arg18 : Memref sig .tc .vmem S24x128 .i32) (harg18 : arg18.IsWhole) (arg19 arg20 : DmaSems sig S_) (arg21 : DmaSems sig S4) (arg22 : DmaSems sig S3) (arg23 : DmaSems sig S_)
    (v27 : FVec F S208x3072 .f32) (t : Tx) (u : Unit) :
    Gen.k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 v27 xLane t u
      = xTrip arg7 arg8 harg8 arg9 harg9 arg10 xLane t := by
  sl_kernel_rfl

/-! ## What it does -/

/-- A block of `x` in f32. -/
def xBlk (x : Vec F S200x7168 .bf16) (t : Tx) (s : Fin 4) : FVec F S200x128 .f32 :=
  extf .f32 (fun i => x ((xR t s).idx i) : Vec F S200x128 .bf16) bitsLt_bf16_f32

/-- The codes, the numbers they stand for, the scale codes. -/
structure StX (F : FTy → Type) [FloatOps F] where
  xc : Vec F S200x7168 .fp8e4m3
  xd : Vec F S14x208x512 .bf16
  xs : Vec F S256x128 .i32

/-- After column block `s` of trip `t`. -/
def xStep (x : Vec F S200x7168 .bf16) (lane : IVec S200x128 32) (t : Tx) (s : Fin 4) (st : StX F) : StX F where
  xc := upd (xR t s) (shapeCast S200x128 (xCodes (xBlk x t s)) shapeCasts_S200x128_S200x128) st.xc
  xd := upd (xdR' t s) (shapeCast S1x200x128 (xDeq (xBlk x t s)) shapeCasts_S200x128_S1x200x128) st.xd
  xs := upd xsR (shapeCast S200x128 (xsSel lane t s (xBlk x t s) (fun i => st.xs (xsR.idx i))) shapeCasts_S200x128_S200x128 : Vec F S200x128 .i32) st.xs

/-- After trip `t`. -/
def xNext (x : Vec F S200x7168 .bf16) (lane : IVec S200x128 32) (t : Tx) (st : StX F) : StX F :=
  xStep x lane t 3 (xStep x lane t 2 (xStep x lane t 1 (xStep x lane t 0 st)))

variable (c : Dev nD) {defs : Defs nD τ sig (Elt F) Λ₀} (𝒱 : Variants) (bd : Option 𝒱.V) (E : Set ℕ)

local notation "W" => wp frame (wpE (Ix := Unit) (Name := ℕ) (U := Pipeline.UC sig nD τ) (Lvl := ℕ) defs 𝒱 (c.tc : Thread nD τ) bd) E
local notation "own" => mown (Ix := Unit) (Val := Elt F) (Name := ℕ) (U := Pipeline.UC sig nD τ) (Lvl := ℕ) (c.tc : Thread nD τ)

variable (arg7 : Memref sig .tc .vmem S200x7168 .bf16) (arg8 : Memref sig .tc .vmem S200x7168 .fp8e4m3) (harg8 : arg8.IsWhole)
  (arg9 : Memref sig .tc .vmem S14x208x512 .bf16) (harg9 : arg9.IsWhole) (arg10 : Memref sig .tc .vmem S256x128 .i32)

/-- The buffers of `StX`, owned. -/
def ownX (st : StX F) : sProp 𝕄 := iprop(own arg8 st.xc ∗ own arg9 st.xd ∗ own arg10 st.xs)

theorem wp_xTile (lane : IVec S200x128 32) (t : Tx) (s : Fin 4) (x : Vec F S200x7168 .bf16) (st' : StX F) (Q : PUnit → sProp 𝕄) :
    iprop(own arg7 x ∗ ownX c arg8 arg9 arg10 st' ∗ (own arg7 x -∗ ownX c arg8 arg9 arg10 (xStep x lane t s st') -∗ Q ⟨⟩))
      ⊢ W (xTile arg7 arg8 harg8 arg9 harg9 arg10 lane t s) Q := by
  unfold xTile ownX
  simp only [wp_bind]
  iintro ⟨Hx, ⟨Hc, Hd, Hs⟩, HQ⟩
  iapply (ld (c.tc : Thread nD τ) 𝒱 bd E (g := x))
  isplitl [Hx]; · iexact Hx
  iintro Hx
  iapply (ld (c.tc : Thread nD τ) 𝒱 bd E (g := st'.xc))
  isplitl [Hc]; · iexact Hc
  iintro Hc
  iapply (st (c.tc : Thread nD τ) 𝒱 bd E (g := st'.xc))
  isplitl [Hc]; · iexact Hc
  iintro Hc
  iapply (ld (c.tc : Thread nD τ) 𝒱 bd E (g := st'.xd))
  isplitl [Hd]; · iexact Hd
  iintro Hd
  iapply (st (c.tc : Thread nD τ) 𝒱 bd E (g := st'.xd))
  isplitl [Hd]; · iexact Hd
  iintro Hd
  iapply (ld (c.tc : Thread nD τ) 𝒱 bd E (g := st'.xs))
  isplitl [Hs]; · iexact Hs
  iintro Hs
  iapply (ld (c.tc : Thread nD τ) 𝒱 bd E (g := st'.xs))
  isplitl [Hs]; · iexact Hs
  iintro Hs
  iapply (st (c.tc : Thread nD τ) 𝒱 bd E (g := st'.xs))
  isplitl [Hs]; · iexact Hs
  iintro Hs
  iapply HQ $$ Hx
  isplitl [Hc]; · iexact Hc
  isplitl [Hd]; · iexact Hd
  iexact Hs

theorem wp_xTrip (lane : IVec S200x128 32) (t : Tx) (x : Vec F S200x7168 .bf16) (st' : StX F) (Q : PUnit → sProp 𝕄) :
    iprop(own arg7 x ∗ ownX c arg8 arg9 arg10 st' ∗ (own arg7 x -∗ ownX c arg8 arg9 arg10 (xNext x lane t st') -∗ Q ⟨⟩))
      ⊢ W (xTrip arg7 arg8 harg8 arg9 harg9 arg10 lane t) Q := by
  unfold xTrip xNext
  simp only [wp_bind]
  iintro ⟨Hx, Hs, HQ⟩
  iapply (wp_xTile c 𝒱 bd E arg7 arg8 harg8 arg9 harg9 arg10 lane t 0 x st')
  isplitl [Hx]; · iexact Hx
  isplitl [Hs]; · iexact Hs
  iintro Hx Hs
  iapply (wp_xTile c 𝒱 bd E arg7 arg8 harg8 arg9 harg9 arg10 lane t 1 x _)
  isplitl [Hx]; · iexact Hx
  isplitl [Hs]; · iexact Hs
  iintro Hx Hs
  iapply (wp_xTile c 𝒱 bd E arg7 arg8 harg8 arg9 harg9 arg10 lane t 2 x _)
  isplitl [Hx]; · iexact Hx
  isplitl [Hs]; · iexact Hs
  iintro Hx Hs
  iapply (wp_xTile c 𝒱 bd E arg7 arg8 harg8 arg9 harg9 arg10 lane t 3 x _)
  isplitl [Hx]; · iexact Hx
  isplitl [Hs]; · iexact Hs
  iintro Hx Hs
  iapply (rt (c.tc : Thread nD τ) 𝒱 bd E (a := PUnit.unit))
  iapply HQ $$ Hx
  iexact Hs

end Cert.Kernel.Tr

end
-- ==== Proof.Kernel.XIndep.lean ====
/- What the first loop leaves: the codes of `x`, the numbers they stand for and the scale codes, whatever the buffers
   held before. -/
module

public import proofs.«01_k».proof.Proof.Kernel.XTrip

@[expose] public section

set_option maxRecDepth 16384

noncomputable section

namespace Cert.Kernel.Tr

open Idealize.ShloMosaic Idealize.ShloMosaic.TcCoe
open Cert.Kernel Cert.Own
open Facts₀ Facts

variable {F : FTy → Type} [FloatOps F]
local notation "Tx" => Fin k0_t1_loop.trips

theorem xoff3 (t : Tx) (s : Fin 4) : k0_off3 t (BitVec.ofNat 32 (128 * s.val)) = ![0, 512 * t.val + 128 * s.val] := by
  revert t s; decide +kernel
theorem xoff (t : Tx) (s : Fin 4) : xOff t s = ![t.val, 0, 128 * s.val] := by revert t s; decide +kernel
theorem tx_trips : k0_t1_loop.trips = 14 := by decide

theorem xR_0 (t : Tx) (s : Fin 4) (j : (xR t s).shape.Idx) : ((xR t s).emb j 0).val = (j 0).val := by
  have h : ((xR t s).emb j 0).val = k0_off3 t (BitVec.ofNat 32 (128 * s.val)) 0 + 1 * (j 0).val := rfl
  rw [h, xoff3]; show 0 + 1 * (j 0).val = (j 0).val; omega
theorem xR_1 (t : Tx) (s : Fin 4) (j : (xR t s).shape.Idx) : ((xR t s).emb j 1).val = 512 * t.val + 128 * s.val + (j 1).val := by
  have h : ((xR t s).emb j 1).val = k0_off3 t (BitVec.ofNat 32 (128 * s.val)) 1 + 1 * (j 1).val := rfl
  rw [h, xoff3]; show 512 * t.val + 128 * s.val + 1 * (j 1).val = _; omega
theorem xdR_0 (t : Tx) (s : Fin 4) (j : (xdR' t s).shape.Idx) : ((xdR' t s).emb j 0).val = t.val := by
  have h : ((xdR' t s).emb j 0).val = xOff t s 0 + 1 * (j 0).val := rfl
  have h0 : (j 0).val < 1 := (j 0).isLt
  rw [h, xoff]; show t.val + 1 * (j 0).val = t.val; omega
theorem xdR_1 (t : Tx) (s : Fin 4) (j : (xdR' t s).shape.Idx) : ((xdR' t s).emb j 1).val = (j 1).val := by
  have h : ((xdR' t s).emb j 1).val = xOff t s 1 + 1 * (j 1).val := rfl
  rw [h, xoff]; show 0 + 1 * (j 1).val = (j 1).val; omega
theorem xdR_2 (t : Tx) (s : Fin 4) (j : (xdR' t s).shape.Idx) : ((xdR' t s).emb j 2).val = 128 * s.val + (j 2).val := by
  have h : ((xdR' t s).emb j 2).val = xOff t s 2 + 1 * (j 2).val := rfl
  rw [h, xoff]; show 128 * s.val + 1 * (j 2).val = _; omega

theorem xR_ne {t t' : Tx} {s s' : Fin 4} (h : ¬ (t = t' ∧ s = s')) (j : (xR t s).shape.Idx) (j' : (xR t' s').shape.Idx) :
    (xR t' s').emb j' ≠ (xR t s).emb j := by
  intro e
  have e1 := congrArg (fun x : S200x7168.Idx => (x 1).val) e
  dsimp only at e1
  rw [xR_1, xR_1] at e1
  have l1 : (j' 1).val < 128 := (j' 1).isLt
  have l2 : (j 1).val < 128 := (j 1).isLt
  exact h ⟨Fin.ext (by omega), Fin.ext (by omega)⟩

theorem xdR_ne {t t' : Tx} {s s' : Fin 4} (h : ¬ (t = t' ∧ s = s')) (j : (xdR' t s).shape.Idx) (j' : (xdR' t' s').shape.Idx) :
    (xdR' t' s').emb j' ≠ (xdR' t s).emb j := by
  intro e
  have e0 := congrArg (fun x : S14x208x512.Idx => (x 0).val) e
  have e2 := congrArg (fun x : S14x208x512.Idx => (x 2).val) e
  dsimp only at e0 e2
  rw [xdR_0, xdR_0] at e0
  rw [xdR_2, xdR_2] at e2
  have l1 : (j' 2).val < 128 := (j' 2).isLt
  have l2 : (j 2).val < 128 := (j 2).isLt
  exact h ⟨Fin.ext (by omega), Fin.ext (by omega)⟩

theorem xdR_pad (t : Tx) (s : Fin 4) (j : (xdR' t s).shape.Idx) (p : S14x208x512.Idx) (hp : 200 ≤ (p 1).val) : (xdR' t s).emb j ≠ p := by
  intro e
  have e1 := congrArg (fun x : S14x208x512.Idx => (x 1).val) e
  dsimp only at e1
  rw [xdR_1] at e1
  have l1 : (j 1).val < 200 := (j 1).isLt
  omega

variable (x : Vec F S200x7168 .bf16) (lane : IVec S200x128 32)

/-! ## One trip -/

theorem xNext_xc_in (t : Tx) (st : StX F) (s : Fin 4) (j : (xR t s).shape.Idx) :
    (xNext x lane t st).xc ((xR t s).emb j) = shapeCast S200x128 (xCodes (xBlk x t s)) shapeCasts_S200x128_S200x128 j := by
  unfold xNext xStep
  dsimp only
  by_cases h3 : s = 3
  · subst h3; rw [upd_emb]
  rw [upd_off _ _ _ (fun j' => xR_ne (fun e => h3 e.2) j j')]
  by_cases h2 : s = 2
  · subst h2; rw [upd_emb]
  rw [upd_off _ _ _ (fun j' => xR_ne (fun e => h2 e.2) j j')]
  by_cases h1 : s = 1
  · subst h1; rw [upd_emb]
  rw [upd_off _ _ _ (fun j' => xR_ne (fun e => h1 e.2) j j')]
  have h0 : s = 0 := by omega
  subst h0; rw [upd_emb]

theorem xNext_xc_out {t t' : Tx} (h : t ≠ t') (st : StX F) (s : Fin 4) (j : (xR t s).shape.Idx) :
    (xNext x lane t' st).xc ((xR t s).emb j) = st.xc ((xR t s).emb j) := by
  unfold xNext xStep
  dsimp only
  rw [upd_off _ _ _ (fun j' => xR_ne (fun e => h e.1) j j'), upd_off _ _ _ (fun j' => xR_ne (fun e => h e.1) j j'),
    upd_off _ _ _ (fun j' => xR_ne (fun e => h e.1) j j'), upd_off _ _ _ (fun j' => xR_ne (fun e => h e.1) j j')]

theorem xNext_xd_in (t : Tx) (st : StX F) (s : Fin 4) (j : (xdR' t s).shape.Idx) :
    (xNext x lane t st).xd ((xdR' t s).emb j) = shapeCast S1x200x128 (xDeq (xBlk x t s)) shapeCasts_S200x128_S1x200x128 j := by
  unfold xNext xStep
  dsimp only
  by_cases h3 : s = 3
  · subst h3; rw [upd_emb]
  rw [upd_off _ _ _ (fun j' => xdR_ne (fun e => h3 e.2) j j')]
  by_cases h2 : s = 2
  · subst h2; rw [upd_emb]
  rw [upd_off _ _ _ (fun j' => xdR_ne (fun e => h2 e.2) j j')]
  by_cases h1 : s = 1
  · subst h1; rw [upd_emb]
  rw [upd_off _ _ _ (fun j' => xdR_ne (fun e => h1 e.2) j j')]
  have h0 : s = 0 := by omega
  subst h0; rw [upd_emb]

theorem xNext_xd_out {t t' : Tx} (h : t ≠ t') (st : StX F) (s : Fin 4) (j : (xdR' t s).shape.Idx) :
    (xNext x lane t' st).xd ((xdR' t s).emb j) = st.xd ((xdR' t s).emb j) := by
  unfold xNext xStep
  dsimp only
  rw [upd_off _ _ _ (fun j' => xdR_ne (fun e => h e.1) j j'), upd_off _ _ _ (fun j' => xdR_ne (fun e => h e.1) j j'),
    upd_off _ _ _ (fun j' => xdR_ne (fun e => h e.1) j j'), upd_off _ _ _ (fun j' => xdR_ne (fun e => h e.1) j j')]

theorem xNext_xd_pad (t : Tx) (st : StX F) (p : S14x208x512.Idx) (hp : 200 ≤ (p 1).val) : (xNext x lane t st).xd p = st.xd p := by
  unfold xNext xStep
  dsimp only
  rw [upd_off _ _ _ (fun j' => xdR_pad t _ j' p hp), upd_off _ _ _ (fun j' => xdR_pad t _ j' p hp),
    upd_off _ _ _ (fun j' => xdR_pad t _ j' p hp), upd_off _ _ _ (fun j' => xdR_pad t _ j' p hp)]

/-- The scale codes after column block `s` of trip `t`. -/
def xsStep (t : Tx) (s : Fin 4) (xs : Vec F S256x128 .i32) : Vec F S256x128 .i32 :=
  upd xsR (shapeCast S200x128 (xsSel lane t s (xBlk x t s) (fun i => xs (xsR.idx i))) shapeCasts_S200x128_S200x128 : Vec F S200x128 .i32) xs
/-- The scale codes after trip `t`. -/
def xsNext (t : Tx) (xs : Vec F S256x128 .i32) : Vec F S256x128 .i32 :=
  xsStep x lane t 3 (xsStep x lane t 2 (xsStep x lane t 1 (xsStep x lane t 0 xs)))

theorem xNext_xs (t : Tx) (st : StX F) : (xNext x lane t st).xs = xsNext x lane t st.xs := rfl

/-! ## All trips -/

/-- The state after `n` trips. -/
def xIter : ℕ → StX F → StX F
  | 0, st => st
  | n + 1, st => if h : n < k0_t1_loop.trips then xNext x lane ⟨n, h⟩ (xIter n st) else xIter n st
/-- The scale codes after `n` trips. -/
def xsIter : ℕ → Vec F S256x128 .i32 → Vec F S256x128 .i32
  | 0, xs => xs
  | n + 1, xs => if h : n < k0_t1_loop.trips then xsNext x lane ⟨n, h⟩ (xsIter n xs) else xsIter n xs

theorem xIter_succ (t : Tx) (st : StX F) : xIter x lane (t.val + 1) st = xNext x lane t (xIter x lane t.val st) := by
  conv_lhs => unfold xIter
  rw [dif_pos t.isLt]

theorem xIter_xs (st : StX F) : ∀ n, (xIter x lane n st).xs = xsIter x lane n st.xs
  | 0 => rfl
  | n + 1 => by
    unfold xIter xsIter
    by_cases h : n < k0_t1_loop.trips
    · rw [dif_pos h, dif_pos h, xNext_xs, xIter_xs st n]
    · rw [dif_neg h, dif_neg h, xIter_xs st n]

theorem xIter_xc (st : StX F) (t : Tx) (s : Fin 4) (j : (xR t s).shape.Idx) : ∀ n, t.val < n → (xIter x lane n st).xc ((xR t s).emb j) = shapeCast S200x128 (xCodes (xBlk x t s)) shapeCasts_S200x128_S200x128 j
  | 0, h => absurd h (Nat.not_lt_zero _)
  | n + 1, h => by
    unfold xIter
    by_cases hn : n < k0_t1_loop.trips
    · rw [dif_pos hn]
      by_cases e : t = ⟨n, hn⟩
      · subst e; exact xNext_xc_in x lane _ _ s j
      · rw [xNext_xc_out x lane e]
        refine xIter_xc st t s j n ?_
        have : t.val ≠ n := fun e' => e (Fin.ext e')
        omega
    · rw [dif_neg hn]
      exact xIter_xc st t s j n (by have := t.isLt; omega)

theorem xIter_xd (st : StX F) (t : Tx) (s : Fin 4) (j : (xdR' t s).shape.Idx) : ∀ n, t.val < n → (xIter x lane n st).xd ((xdR' t s).emb j) = shapeCast S1x200x128 (xDeq (xBlk x t s)) shapeCasts_S200x128_S1x200x128 j
  | 0, h => absurd h (Nat.not_lt_zero _)
  | n + 1, h => by
    unfold xIter
    by_cases hn : n < k0_t1_loop.trips
    · rw [dif_pos hn]
      by_cases e : t = ⟨n, hn⟩
      · subst e; exact xNext_xd_in x lane _ _ s j
      · rw [xNext_xd_out x lane e]
        refine xIter_xd st t s j n ?_
        have : t.val ≠ n := fun e' => e (Fin.ext e')
        omega
    · rw [dif_neg hn]
      exact xIter_xd st t s j n (by have := t.isLt; omega)

theorem xIter_pad (st : StX F) (p : S14x208x512.Idx) (hp : 200 ≤ (p 1).val) : ∀ n, (xIter x lane n st).xd p = st.xd p
  | 0 => rfl
  | n + 1 => by
    unfold xIter
    by_cases h : n < k0_t1_loop.trips
    · rw [dif_pos h, xNext_xd_pad x lane _ _ p hp, xIter_pad st p hp n]
    · rw [dif_neg h, xIter_pad st p hp n]

/-! ## Where an index lies -/

def tC (i : S200x7168.Idx) : Tx := ⟨(i 1).val / 512, by have : (i 1).val < 7168 := (i 1).isLt; rw [tx_trips]; omega⟩
def sC (i : S200x7168.Idx) : Fin 4 := ⟨(i 1).val % 512 / 128, by omega⟩
def jC (i : S200x7168.Idx) : S200x128.Idx := fun a => match a with | ⟨0, _⟩ => i 0 | ⟨1, _⟩ => ⟨(i 1).val % 128, Nat.mod_lt _ (by decide)⟩
theorem jC_emb (i : S200x7168.Idx) : (xR (tC i) (sC i)).emb (jC i) = i := by
  funext a
  apply Fin.ext
  match a with
  | ⟨0, _⟩ => exact xR_0 _ _ _
  | ⟨1, _⟩ =>
    refine (xR_1 _ _ _).trans ?_
    show 512 * ((i 1).val / 512) + 128 * ((i 1).val % 512 / 128) + (i 1).val % 128 = (i 1).val
    omega

def tD (p : S14x208x512.Idx) : Tx := ⟨(p 0).val, by have : (p 0).val < 14 := (p 0).isLt; rw [tx_trips]; exact this⟩
def sD (p : S14x208x512.Idx) : Fin 4 := ⟨(p 2).val / 128, by have : (p 2).val < 512 := (p 2).isLt; omega⟩
def jD (p : S14x208x512.Idx) (hp : (p 1).val < 200) : S1x200x128.Idx :=
  fun a => match a with | ⟨0, _⟩ => ⟨0, Nat.one_pos⟩ | ⟨1, _⟩ => ⟨(p 1).val, hp⟩ | ⟨2, _⟩ => ⟨(p 2).val % 128, Nat.mod_lt _ (by decide)⟩
theorem jD_emb (p : S14x208x512.Idx) (hp : (p 1).val < 200) : (xdR' (tD p) (sD p)).emb (jD p hp) = p := by
  funext a
  apply Fin.ext
  match a with
  | ⟨0, _⟩ => exact xdR_0 _ _ _
  | ⟨1, _⟩ => exact xdR_1 _ _ _
  | ⟨2, _⟩ =>
    refine (xdR_2 _ _ _).trans ?_
    show 128 * ((p 2).val / 128) + (p 2).val % 128 = (p 2).val
    omega

/-- The rows of padding. -/
abbrev padR : Rect S14x208x512 := Rect.unit (s := S14x208x512) ![0, 200, 0] S14x8x512.size inb_S14x208x512_S14x8x512_0_200_0
def jP (p : S14x208x512.Idx) (hp : ¬ (p 1).val < 200) : S14x8x512.Idx :=
  fun a => match a with | ⟨0, _⟩ => p 0 | ⟨1, _⟩ => ⟨(p 1).val - 200, by have : (p 1).val < 208 := (p 1).isLt; show (p 1).val - 200 < 8; omega⟩ | ⟨2, _⟩ => p 2
theorem jP_emb (p : S14x208x512.Idx) (hp : ¬ (p 1).val < 200) : padR.emb (jP p hp) = p := by
  funext a
  apply Fin.ext
  match a with
  | ⟨0, _⟩ => show 0 + 1 * (p 0).val = (p 0).val; omega
  | ⟨1, _⟩ => show 200 + 1 * ((p 1).val - 200) = (p 1).val; omega
  | ⟨2, _⟩ => show 0 + 1 * (p 2).val = (p 2).val; omega

/-! ## The results -/

/-- The codes of `x`. -/
def XC : Vec F S200x7168 .fp8e4m3 := fun i => shapeCast S200x128 (xCodes (xBlk x (tC i) (sC i))) shapeCasts_S200x128_S200x128 (jC i)
/-- The numbers they stand for, in planes of 512 columns, padded with `z`. -/
def XD (z : Vec F S14x8x512 .bf16) : Vec F S14x208x512 .bf16 := fun p =>
  if hp : (p 1).val < 200 then shapeCast S1x200x128 (xDeq (xBlk x (tD p) (sD p))) shapeCasts_S200x128_S1x200x128 (jD p hp) else z (jP p hp)

theorem xIter_XC (st : StX F) : (xIter x lane k0_t1_loop.trips st).xc = XC x := by
  funext i
  have h := xIter_xc x lane st (tC i) (sC i) (jC i) k0_t1_loop.trips (tC i).isLt
  rw [jC_emb] at h
  exact h

theorem xIter_XD (st : StX F) (z : Vec F S14x8x512 .bf16) (g : Vec F S14x208x512 .bf16) (hst : st.xd = upd padR z g) :
    (xIter x lane k0_t1_loop.trips st).xd = XD x z := by
  funext p
  unfold XD
  by_cases hp : (p 1).val < 200
  · rw [dif_pos hp]
    have h := xIter_xd x lane st (tD p) (sD p) (jD p hp) k0_t1_loop.trips (tD p).isLt
    rw [jD_emb] at h
    exact h
  · rw [dif_neg hp, xIter_pad x lane st p (by omega), hst]
    conv_lhs => rw [← jP_emb p hp]
    exact upd_emb padR z g (jP p hp)

end Cert.Kernel.Tr

end
-- ==== Proof.Kernel.TripEq.lean ====
/- The printed trip of the second loop is the structured one (`trip`): checked by unfolding both. -/
module

public import proofs.«01_k».proof.Proof.Kernel.Trip

@[expose] public section

noncomputable section

namespace Cert.Kernel.Tr

open Idealize.ShloMosaic Idealize.SL.Sem Idealize.ShloMosaic.TcCoe Idealize.ShloMosaic.Tactic
open Cert.Kernel
open Facts₀ Facts

variable {F : FTy → Type} [FloatOps F]
local notation "Tm" => Fin k0_t2_loop.trips

set_option maxHeartbeats 0 in
set_option maxRecDepth 1000000 in
/-- The printed trip is `trip`. -/
theorem body_eq (arg0 : Memref sig .tc .hbm S200x7168 .bf16) (harg0 : arg0.IsWhole) (arg1 : Memref sig .tc .hbm S7168x3072 .bf16) (harg1 : arg1.IsWhole) (arg2 : Memref sig .tc .hbm S200x3072 .bf16) (harg2 : arg2.IsWhole) (arg3 : Memref sig .tc .hbm S200x7168 .fp8e4m3) (harg3 : arg3.IsWhole) (arg4 : Memref sig .tc .vmem S56x200 .i8) (harg4 : arg4.IsWhole) (arg5 : Memref sig .tc .hbm S7168x3072 .fp8e4m3) (harg5 : arg5.IsWhole) (arg6 : Memref sig .tc .vmem S24x56 .i8) (harg6 : arg6.IsWhole) (arg7 : Memref sig .tc .vmem S200x7168 .bf16) (harg7 : arg7.IsWhole) (arg8 : Memref sig .tc .vmem S200x7168 .fp8e4m3) (harg8 : arg8.IsWhole) (arg9 : Memref sig .tc .vmem S14x208x512 .bf16) (harg9 : arg9.IsWhole) (arg10 : Memref sig .tc .vmem S256x128 .i32) (harg10 : arg10.IsWhole) (arg11 : Memref sig .tc .vmem S4x512x3072 .bf16) (harg11 : arg11.IsWhole) (arg12 : Memref sig .tc .vmem S3x512x3072 .fp8e4m3) (harg12 : arg12.IsWhole) (arg13 : Memref sig .tc .vmem S208x3072 .f32) (harg13 : arg13.IsWhole) (arg14 : Memref sig .tc .vmem S200x3072 .bf16) (harg14 : arg14.IsWhole) (arg15 : Memref sig .tc .vmem S4x216x128 .f32) (harg15 : arg15.IsWhole) (arg16 : Memref sig .tc .vmem S4x24x128 .i32) (harg16 : arg16.IsWhole) (arg17 : Memref sig .tc .vmem S4x24x128 .i32) (harg17 : arg17.IsWhole) (arg18 : Memref sig .tc .vmem S24x128 .i32) (harg18 : arg18.IsWhole) (arg19 : DmaSems sig S_) (arg20 : DmaSems sig S_) (arg21 : DmaSems sig S4) (arg22 : DmaSems sig S3) (arg23 : DmaSems sig S_) (v27 : FVec F S208x3072 .f32) (v42 : IVec S24x128 32) (t : Tm) (u : Unit) :
    Gen.k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 v27 v42 t u
      = trip arg1 harg1 arg5 harg5 arg9 arg11 harg11 arg12 harg12 arg13 arg15 arg16 arg17 arg18 arg21 arg22 v42 t := by
  have hn : k0_t2_loop.trips = 14 := by decide
  obtain ⟨i, hi⟩ := t
  rcases i with _ | _ | _ | _ | _ | _ | _ | _ | _ | _ | _ | _ | _ | _ | i
  on_goal 15 => exact absurd hi (by omega)
  all_goals sl_kernel_rfl

end Cert.Kernel.Tr

end
-- ==== Proof.Kernel.LoopsWp.lean ====
/- The two loops, and the copies started before them and awaited after them. -/
module

public import proofs.«01_k».proof.Proof.Kernel.RingTrip
public import proofs.«01_k».proof.Proof.Kernel.Indep
public import proofs.«01_k».proof.Proof.Kernel.XIndep
public import proofs.«01_k».proof.Proof.Kernel.TripEq
public import Idealize.ShloMosaic.Lib.Scf
public import Idealize.ShloMosaic.Lib.VecWindow

@[expose] public section

set_option maxRecDepth 16384

noncomputable section

namespace Cert.Kernel.Tr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Own
open Facts₀ Facts

variable {F : FTy → Type} [FloatOps F]
local notation "Tx" => Fin k0_t1_loop.trips
local notation "Tm" => Fin k0_t2_loop.trips
local notation "𝕄" => MT nD τ sig Unit (Elt F) ℕ (Pipeline.UC sig nD τ) ℕ

/-! ## Whole rectangles -/

theorem upd_full {s : Shape} {α : Type} {off : Fin s.rank → ℕ} (inb : ∀ a, off a + s.size a ≤ s.size a) (w g : s.Idx → α) :
    upd (Rect.unit off s.size inb) w g = w := by
  funext x
  have hx : (Rect.unit off s.size inb).emb x = x := Rect.emb_unit_full inb x
  conv_lhs => rw [← hx]
  exact upd_emb (Rect.unit off s.size inb) w g x
theorem read_full {s : Shape} {α : Type} {off : Fin s.rank → ℕ} (inb : ∀ a, off a + s.size a ≤ s.size a) (g : s.Idx → α) :
    (fun i => g ((Rect.unit off s.size inb).toLoadRect.idx i)) = g := by
  funext x
  have hx : (Rect.unit off s.size inb).emb x = x := Rect.emb_unit_full inb x
  exact congrArg g hx

/-! ## The contents -/

/-- Block `b` of `w`. -/
def wbOf (w : Vec F S7168x3072 .bf16) (b : ℕ) : Vec F S512x3072 .bf16 := fun j => w ((rB b).emb j)
/-- The codes of block `b` of `w`. -/
def cbOf (w : Vec F S7168x3072 .bf16) (b : ℕ) : Vec F S512x3072 .fp8e4m3 := CW (wbOf w b)
/-- The lane numbers. -/
abbrev wLane : IVec S24x128 32 := iota .tc S24x128 32 [1] iota_S24x128_d1_w32
/-- The scale codes of `w` after `n` trips. -/
def WS (w : Vec F S7168x3072 .bf16) : ℕ → Vec F S24x128 .i32
  | 0 => Gen.k0_pay628
  | n + 1 => if h : n < k0_t2_loop.trips then wsV (wbOf w n) wLane (Scf.iv 0#32 1#32 (⟨n, h⟩ : Tm)) (WS w n) 4 le_rfl else WS w n
/-- The accumulator after `n` trips. -/
def ACC (X : Vec F S14x208x512 .bf16) (w : Vec F S7168x3072 .bf16) : ℕ → Vec F S208x3072 .f32
  | 0 => Gen.k0_pay626
  | n + 1 => if h : n < k0_t2_loop.trips then accAfter (wbOf w n) (INV (wbOf w n)) (SC (wbOf w n)) (xkOf X ⟨n, h⟩) 12 le_rfl (ACC X w n) else ACC X w n

theorem WS_succ (w : Vec F S7168x3072 .bf16) (t : Tm) : WS w (t.val + 1) = wsV (wbOf w t.val) wLane (Scf.iv 0#32 1#32 t) (WS w t.val) 4 le_rfl := by
  conv_lhs => unfold WS
  rw [dif_pos t.isLt]
theorem ACC_succ (X : Vec F S14x208x512 .bf16) (w : Vec F S7168x3072 .bf16) (t : Tm) :
    ACC X w (t.val + 1) = accAfter (wbOf w t.val) (INV (wbOf w t.val)) (SC (wbOf w t.val)) (xkOf X t) 12 le_rfl (ACC X w t.val) := by
  conv_lhs => unfold ACC
  rw [dif_pos t.isLt]

variable
  (arg0 : Memref sig .tc .hbm S200x7168 .bf16) (harg0 : arg0.IsWhole) (arg1 : Memref sig .tc .hbm S7168x3072 .bf16) (harg1 : arg1.IsWhole)
  (arg2 : Memref sig .tc .hbm S200x3072 .bf16) (harg2 : arg2.IsWhole) (arg3 : Memref sig .tc .hbm S200x7168 .fp8e4m3) (harg3 : arg3.IsWhole)
  (arg4 : Memref sig .tc .vmem S56x200 .i8) (harg4 : arg4.IsWhole) (arg5 : Memref sig .tc .hbm S7168x3072 .fp8e4m3) (harg5 : arg5.IsWhole)
  (arg6 : Memref sig .tc .vmem S24x56 .i8) (harg6 : arg6.IsWhole) (arg7 : Memref sig .tc .vmem S200x7168 .bf16) (harg7 : arg7.IsWhole)
  (arg8 : Memref sig .tc .vmem S200x7168 .fp8e4m3) (harg8 : arg8.IsWhole) (arg9 : Memref sig .tc .vmem S14x208x512 .bf16) (harg9 : arg9.IsWhole)
  (arg10 : Memref sig .tc .vmem S256x128 .i32) (harg10 : arg10.IsWhole) (arg11 : Memref sig .tc .vmem S4x512x3072 .bf16) (harg11 : arg11.IsWhole)
  (arg12 : Memref sig .tc .vmem S3x512x3072 .fp8e4m3) (harg12 : arg12.IsWhole) (arg13 : Memref sig .tc .vmem S208x3072 .f32) (harg13 : arg13.IsWhole)
  (arg14 : Memref sig .tc .vmem S200x3072 .bf16) (harg14 : arg14.IsWhole) (arg15 : Memref sig .tc .vmem S4x216x128 .f32) (harg15 : arg15.IsWhole)
  (arg16 : Memref sig .tc .vmem S4x24x128 .i32) (harg16 : arg16.IsWhole) (arg17 : Memref sig .tc .vmem S4x24x128 .i32) (harg17 : arg17.IsWhole)
  (arg18 : Memref sig .tc .vmem S24x128 .i32) (harg18 : arg18.IsWhole) (arg19 arg20 : DmaSems sig S_) (arg21 : DmaSems sig S4) (arg22 : DmaSems sig S3) (arg23 : DmaSems sig S_)
variable (c : Dev nD)
local notation "own" => mown (Ix := Unit) (Val := Elt F) (Name := ℕ) (U := Pipeline.UC sig nD τ) (Lvl := ℕ) (c.tc : Thread nD τ)
variable {defs : Defs nD τ sig (Elt F) Λ₀} (𝒱 : Variants) (bd : Option 𝒱.V)
local notation "W" => wp frame (wpE (Ix := Unit) (Name := ℕ) (U := Pipeline.UC sig nD τ) (Lvl := ℕ) defs 𝒱 (c.tc : Thread nD τ) bd) Set.univ

/-! ## The copies started before the loops and awaited after them -/

theorem wp_start (wb : ℕ → Vec F S512x3072 .bf16) (b : ℕ) (hb : b < 14) {o1 : Fin 1 → ℕ} {o2 : Fin 3 → ℕ} {o3 : Fin 2 → ℕ}
    (h1 : o1 = ![b % 4]) (h2 : o2 = ![b % 4, 0, 0]) (h3 : o3 = ![512 * (b % 14), 0]) (i1) (i2) (i3) {hsrc} {hdst} {hsem} (Q : PUnit → sProp 𝕄) :
    iprop(own (wB arg1 b) (wb b) ∗ (∃ g, own (wS arg11 b) g) ∗ semVal ((c.tc : Thread nD τ), .dma (semR arg21 b)) 0
        ∗ (rdFly arg1 arg11 arg21 c wb b -∗ Q ⟨⟩))
      ⊢ W (Prog.lift (.enqueueDma (arg1.slice (Rect.unit (s := S7168x3072) o3 S512x3072.size i3) (fun _ => rfl) : Memref sig .tc .hbm S512x3072 .bf16)
          (.here ((arg11.slice (Rect.unit (s := S4x512x3072) o2 S1x512x3072.size i2) (fun _ => rfl)).squeeze S512x3072 squeezes_S1x512x3072_S512x3072))
          (.dma ((arg21.slice (Rect.unit (s := S4) o1 S1.size i1)).squeeze S_ squeezes_S1_S_).sem) hsrc hdst hsem)) Q := by
  subst h1 h2 h3
  rw [show rdFly arg1 arg11 arg21 c wb b = flies (Val := Elt F) (c.tc : Thread nD τ) (semR arg21 b) (wS arg11 b).view.dmaCredit iprop(own (wS arg11 b) (wb b) ∗ own (wB arg1 b) (wb b)) from if_pos hb]
  iintro ⟨HB, ⟨%g, HS⟩, Hv, HQ⟩
  iapply (dma (c.tc : Thread nD τ) 𝒱 bd (src := wB arg1 b) (dst := wS arg11 b) (g := wb b) (gd := g) (by decide +kernel))
  isplitl [HB]; · iexact HB
  isplitl [HS]; · iexact HS
  isplitl [Hv]; · iexact Hv
  iintro Hf
  iapply HQ $$ Hf

theorem wp_finish (cb : ℕ → Vec F S512x3072 .fp8e4m3) (v : ℕ) (hv : 3 ≤ v) {o1 : Fin 1 → ℕ} {o2 : Fin 3 → ℕ} {o3 : Fin 2 → ℕ}
    (h1 : o1 = ![v % 3]) (h3 : o3 = ![512 * ((v - 3) % 14), 0]) (i1) (i2) (i3) {hsrc} {hdst} (Q : PUnit → sProp 𝕄) :
    iprop(wrFly arg5 arg12 arg22 c cb v ∗ owesNone (c.tc : Thread nD τ)
        ∗ (wrDone arg5 c cb v -∗ (∃ g, own (cS arg12 v) g) -∗ semVal ((c.tc : Thread nD τ), .dma (semC arg22 v)) 0 -∗ owesNone (c.tc : Thread nD τ) -∗ Q ⟨⟩))
      ⊢ W (Prog.lift (.waitDma2 ((arg22.slice (Rect.unit (s := S3) o1 S1.size i1)).squeeze S_ squeezes_S1_S_).sem
          ((arg12.slice (Rect.unit (s := S3x512x3072) o2 S1x512x3072.size i2) (fun _ => rfl)).squeeze S512x3072 squeezes_S1x512x3072_S512x3072)
          (arg5.slice (Rect.unit (s := S7168x3072) o3 S512x3072.size i3) (fun _ => rfl) : Memref sig .tc .hbm S512x3072 .fp8e4m3) hsrc hdst)) Q := by
  subst h1 h3
  rw [show wrFly arg5 arg12 arg22 c cb v = flies (Val := Elt F) (c.tc : Thread nD τ) (semC arg22 v) (cB arg5 (v - 3)).view.dmaCredit iprop(own (cB arg5 (v - 3)) (cb (v - 3)) ∗ own (cS arg12 v) (cb (v - 3))) from if_pos hv,
    show wrDone arg5 c cb v = own (cB arg5 (v - 3)) (cb (v - 3)) from if_pos hv]
  iintro ⟨HF, Ho, HQ⟩
  iapply (wt (c.tc : Thread nD τ) 𝒱 bd (dst := cB arg5 (v - 3)) (N := (cB arg5 (v - 3)).view.dmaCredit) rfl)
  isplitl [HF]; · iexact HF
  isplitl [Ho]; · iexact Ho
  iintro ⟨HD, HC⟩ Hv Ho
  iapply HQ $$ HD [HC] Hv Ho
  iexists _
  iexact HC

/-! ## The loops -/

theorem wp_loop1 (v27 : FVec F S208x3072 .f32) (x : Vec F S200x7168 .bf16) (st0 : StX F) (Q : PUnit → sProp 𝕄) :
    iprop(own arg7 x ∗ ownX c arg8 arg9 arg10 st0 ∗ (own arg7 x -∗ ownX c arg8 arg9 arg10 (xIter x xLane k0_t1_loop.trips st0) -∗ Q ⟨⟩))
      ⊢ W (Scf.Loop.for k0_t1_loop k0_t1_ok ⟨⟩ (Gen.k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 v27 xLane)) Q := by
  have hb : ∀ (k : Tx) (acc : Unit), iprop(own arg7 x ∗ ownX c arg8 arg9 arg10 (xIter x xLane k.val st0))
      ⊢ W (Gen.k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 v27 xLane k acc) (fun _ => iprop(own arg7 x ∗ ownX c arg8 arg9 arg10 (xIter x xLane (k.val + 1) st0))) := by
    intro k acc
    rw [x_eq, xIter_succ]
    iintro ⟨Hx, Hs⟩
    iapply (wp_xTrip c 𝒱 bd Set.univ arg7 arg8 harg8 arg9 harg9 arg10 xLane k x (xIter x xLane k.val st0))
    isplitl [Hx]; · iexact Hx
    isplitl [Hs]; · iexact Hs
    iintro Hx Hs
    isplitl [Hx]; · iexact Hx
    iexact Hs
  have hl := Scf.wp_for frame (wpE (Ix := Unit) (Name := ℕ) (U := Pipeline.UC sig nD τ) (Lvl := ℕ) defs 𝒱 (c.tc : Thread nD τ) bd) Set.univ _ _ _ k0_t1_ok ⟨⟩
    (Gen.k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 v27 xLane)
    (fun n _ => iprop(own arg7 x ∗ ownX c arg8 arg9 arg10 (xIter x xLane n st0))) hb (Q := Q)
  iintro ⟨Hx, Hs, HQ⟩
  iapply hl
  isplitl [Hx Hs]
  · isplitl [Hx]; · iexact Hx
    iexact Hs
  iintro %acc ⟨Hx, Hs⟩
  iapply HQ $$ Hx Hs

theorem wp_loop2 (v27 : FVec F S208x3072 .f32) (w : Vec F S7168x3072 .bf16) (X : Vec F S14x208x512 .bf16) (Q : PUnit → sProp 𝕄) :
    iprop(bigSep (Finset.range 18) (RD arg1 arg11 arg21 c (wbOf w) 0) ∗ bigSep (Finset.range 17) (WR arg5 arg12 arg22 c (cbOf w) 0)
        ∗ owesNone (c.tc : Thread nD τ) ∗ own arg9 X ∗ own arg13 (ACC X w 0) ∗ (∃ s : StA F, ownA c arg15 arg16 arg17 arg18 s ∗ ⌜s.ws = WS w 0⌝)
        ∗ (bigSep (Finset.range 18) (RD arg1 arg11 arg21 c (wbOf w) k0_t2_loop.trips) -∗ bigSep (Finset.range 17) (WR arg5 arg12 arg22 c (cbOf w) k0_t2_loop.trips)
          -∗ owesNone (c.tc : Thread nD τ) -∗ own arg9 X -∗ own arg13 (ACC X w k0_t2_loop.trips)
          -∗ (∃ s : StA F, ownA c arg15 arg16 arg17 arg18 s ∗ ⌜s.ws = WS w k0_t2_loop.trips⌝) -∗ Q ⟨⟩))
      ⊢ W (Scf.Loop.for k0_t2_loop k0_t2_ok ⟨⟩ (Gen.k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 v27 wLane)) Q := by
  have hb : ∀ (k : Tm) (acc : Unit), iprop(bigSep (Finset.range 18) (RD arg1 arg11 arg21 c (wbOf w) k.val) ∗ bigSep (Finset.range 17) (WR arg5 arg12 arg22 c (cbOf w) k.val)
        ∗ owesNone (c.tc : Thread nD τ) ∗ own arg9 X ∗ own arg13 (ACC X w k.val) ∗ (∃ s : StA F, ownA c arg15 arg16 arg17 arg18 s ∗ ⌜s.ws = WS w k.val⌝))
      ⊢ W (Gen.k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 v27 wLane k acc)
        (fun _ => iprop(bigSep (Finset.range 18) (RD arg1 arg11 arg21 c (wbOf w) (k.val + 1)) ∗ bigSep (Finset.range 17) (WR arg5 arg12 arg22 c (cbOf w) (k.val + 1))
        ∗ owesNone (c.tc : Thread nD τ) ∗ own arg9 X ∗ own arg13 (ACC X w (k.val + 1)) ∗ (∃ s : StA F, ownA c arg15 arg16 arg17 arg18 s ∗ ⌜s.ws = WS w (k.val + 1)⌝))) := by
    intro k acc
    rw [body_eq]
    have hC : ∀ s cc, cAfter (wbOf w k.val) (stOf wLane k (wbOf w k.val) s).inv 12 le_rfl cc = cbOf w k.val := fun s cc => by rw [st_inv]; exact cAfter_eq _ cc
    have hA : ∀ s, accAfter (wbOf w k.val) (stOf wLane k (wbOf w k.val) s).inv (stOf wLane k (wbOf w k.val) s).scale (xkOf X k) 12 le_rfl (ACC X w k.val) = ACC X w (k.val + 1) :=
      fun s => by rw [st_inv, st_scale, ACC_succ]
    have hS : ∀ s : StA F, s.ws = WS w k.val → (stOf wLane k (wbOf w k.val) s).ws = WS w (k.val + 1) := fun s hs => by rw [st_ws, hs, WS_succ]
    iintro ⟨HR, HW, Ho, HX, Ha, Hs⟩
    iapply (wp_trip arg1 harg1 arg5 harg5 arg9 arg11 harg11 arg12 harg12 arg13 arg15 arg16 arg17 arg18 arg21 arg22 c (wbOf w) (cbOf w) 𝒱 bd wLane k X (ACC X w k.val) (ACC X w (k.val + 1)) (WS w k.val) (WS w (k.val + 1)) hC hA hS)
    isplitl [HR]; · iexact HR
    isplitl [HW]; · iexact HW
    isplitl [Ho]; · iexact Ho
    isplitl [HX]; · iexact HX
    isplitl [Ha]; · iexact Ha
    isplitl [Hs]; · iexact Hs
    iintro HR HW Ho HX Ha Hs
    isplitl [HR]; · iexact HR
    isplitl [HW]; · iexact HW
    isplitl [Ho]; · iexact Ho
    isplitl [HX]; · iexact HX
    isplitl [Ha]; · iexact Ha
    iexact Hs
  have hl := Scf.wp_for frame (wpE (Ix := Unit) (Name := ℕ) (U := Pipeline.UC sig nD τ) (Lvl := ℕ) defs 𝒱 (c.tc : Thread nD τ) bd) Set.univ _ _ _ k0_t2_ok ⟨⟩
    (Gen.k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 v27 wLane)
    (fun n _ => iprop(bigSep (Finset.range 18) (RD arg1 arg11 arg21 c (wbOf w) n) ∗ bigSep (Finset.range 17) (WR arg5 arg12 arg22 c (cbOf w) n)
        ∗ owesNone (c.tc : Thread nD τ) ∗ own arg9 X ∗ own arg13 (ACC X w n) ∗ (∃ s : StA F, ownA c arg15 arg16 arg17 arg18 s ∗ ⌜s.ws = WS w n⌝))) hb (Q := Q)
  iintro ⟨HR, HW, Ho, HX, Ha, Hs, HQ⟩
  iapply hl
  isplitl [HR HW Ho HX Ha Hs]
  · isplitl [HR]; · iexact HR
    isplitl [HW]; · iexact HW
    isplitl [Ho]; · iexact Ho
    isplitl [HX]; · iexact HX
    isplitl [Ha]; · iexact Ha
    iexact Hs
  iintro %acc ⟨HR, HW, Ho, HX, Ha, Hs⟩
  iapply HQ $$ HR HW Ho HX Ha Hs

end Cert.Kernel.Tr

end
-- ==== Proof.Kernel.RingEnds.lean ====
/- The ring of copies before the first trip, after the last, and its buffers as they lie in memory. -/
module

public import proofs.«01_k».proof.Proof.Kernel.LoopsWp
public import Idealize.SL.BI.BigOpNat

@[expose] public section

set_option maxRecDepth 16384

noncomputable section

namespace Cert.Kernel.Tr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Own
open Facts₀ Facts

variable {F : FTy → Type} [FloatOps F]
local notation "Tx" => Fin k0_t1_loop.trips
local notation "Tm" => Fin k0_t2_loop.trips
local notation "𝕄" => MT nD τ sig Unit (Elt F) ℕ (Pipeline.UC sig nD τ) ℕ

section Star

variable {M : Type*} [URA M]

theorem bs0 (Φ : ℕ → sProp M) : bigSep (Finset.range 0) Φ = iprop(emp) := by rw [Finset.range_zero, bigSep_empty]; rfl
theorem bsTop (n : ℕ) (Φ : ℕ → sProp M) : bigSep (Finset.range (n + 1)) Φ = iprop(Φ n ∗ bigSep (Finset.range n) Φ) := by
  rw [Finset.range_add_one, bigSep_insert Finset.notMem_range_self]; rfl
theorem bsBot : ∀ (n : ℕ) (Φ : ℕ → sProp M), bigSep (Finset.range (n + 1)) Φ = iprop(Φ 0 ∗ bigSep (Finset.range n) (fun k => Φ (k + 1)))
  | 0, Φ => by rw [bsTop, bs0, bs0]
  | n + 1, Φ => by
    rw [bsTop, bsBot n, bsTop n (fun k => Φ (k + 1))]
    have swap : ∀ P Q R : sProp M, iprop(P ∗ Q ∗ R) ⊢ iprop(Q ∗ P ∗ R) := fun P Q R => by
      iintro ⟨A, B, C⟩
      isplitl [B]; · iexact B
      isplitl [A]; · iexact A
      iexact C
    exact equiv_iff.mp ⟨swap _ _ _, swap _ _ _⟩

end Star

section Ends

variable (arg1 : Memref sig .tc .hbm S7168x3072 .bf16) (arg5 : Memref sig .tc .hbm S7168x3072 .fp8e4m3)
  (arg11 : Memref sig .tc .vmem S4x512x3072 .bf16) (arg12 : Memref sig .tc .vmem S3x512x3072 .fp8e4m3)
  (arg21 : DmaSems sig S4) (arg22 : DmaSems sig S3)

variable (c : Dev nD)
local notation "own" => mown (Ix := Unit) (Val := Elt F) (Name := ℕ) (U := Pipeline.UC sig nD τ) (Lvl := ℕ) (c.tc : Thread nD τ)

/-! ## The rectangles partition their buffers -/

theorem rB_disj : ∀ i < 14, ∀ j < 14, i ≠ j → Disjoint (rB i).set (rB j).set := by
  intro i hi j hj h
  refine Rect.unit_disjoint 0 ?_
  show 512 * (i % 14) + 512 ≤ 512 * (j % 14) ∨ 512 * (j % 14) + 512 ≤ 512 * (i % 14)
  omega
theorem rB_cover (x : S7168x3072.Idx) : ∃ i < 14, x ∈ (rB i).set := by
  have h0 : (x 0).val < 7168 := (x 0).isLt
  have h1 : (x 1).val < 3072 := (x 1).isLt
  refine ⟨(x 0).val / 512, by omega, Rect.mem_set_unit.2 ?_⟩
  intro a
  match a with
  | ⟨0, _⟩ => show 512 * ((x 0).val / 512 % 14) ≤ (x 0).val ∧ (x 0).val < 512 * ((x 0).val / 512 % 14) + 512; omega
  | ⟨1, _⟩ => show 0 ≤ (x 1).val ∧ (x 1).val < 0 + 3072; omega

theorem rWs_disj : ∀ i < 4, ∀ j < 4, i ≠ j → Disjoint (rWs i).set (rWs j).set := by
  intro i hi j hj h
  refine Rect.unit_disjoint 0 ?_
  show i % 4 + 1 ≤ j % 4 ∨ j % 4 + 1 ≤ i % 4
  omega
theorem rWs_cover (x : S4x512x3072.Idx) : ∃ i < 4, x ∈ (rWs i).set := by
  have h0 : (x 0).val < 4 := (x 0).isLt
  have h1 : (x 1).val < 512 := (x 1).isLt
  have h2 : (x 2).val < 3072 := (x 2).isLt
  refine ⟨(x 0).val, h0, Rect.mem_set_unit.2 ?_⟩
  intro a
  match a with
  | ⟨0, _⟩ => show (x 0).val % 4 ≤ (x 0).val ∧ (x 0).val < (x 0).val % 4 + 1; omega
  | ⟨1, _⟩ => show 0 ≤ (x 1).val ∧ (x 1).val < 0 + 512; omega
  | ⟨2, _⟩ => show 0 ≤ (x 2).val ∧ (x 2).val < 0 + 3072; omega

theorem rCs_disj : ∀ i < 3, ∀ j < 3, i ≠ j → Disjoint (rCs i).set (rCs j).set := by
  intro i hi j hj h
  refine Rect.unit_disjoint 0 ?_
  show i % 3 + 1 ≤ j % 3 ∨ j % 3 + 1 ≤ i % 3
  omega
theorem rCs_cover (x : S3x512x3072.Idx) : ∃ i < 3, x ∈ (rCs i).set := by
  have h0 : (x 0).val < 3 := (x 0).isLt
  have h1 : (x 1).val < 512 := (x 1).isLt
  have h2 : (x 2).val < 3072 := (x 2).isLt
  refine ⟨(x 0).val, h0, Rect.mem_set_unit.2 ?_⟩
  intro a
  match a with
  | ⟨0, _⟩ => show (x 0).val % 3 ≤ (x 0).val ∧ (x 0).val < (x 0).val % 3 + 1; omega
  | ⟨1, _⟩ => show 0 ≤ (x 1).val ∧ (x 1).val < 0 + 512; omega
  | ⟨2, _⟩ => show 0 ≤ (x 2).val ∧ (x 2).val < 0 + 3072; omega

/-- A memref held whole, and some contents of its buffer. -/
theorem own_buf {sp : Space} {s : Shape} {e : EltTy} (m : Memref sig .tc sp s e) (g : s.Idx → Elt F e) :
    own m g ⊢ ∃ _f : Buf (Elt F) (m.view.loc (c.tc : Thread nD τ)), own m g := by
  unfold mown
  iintro ⟨%f, Hp, %hf⟩
  iexists f, f
  isplitl [Hp]; · iexact Hp
  ipureintro; exact hf

/-! ## The slots -/

theorem ws_split (g : Vec F S4x512x3072 .bf16) :
    own arg11 g ⊢ iprop((∃ g, own (wS arg11 0) g) ∗ (∃ g, own (wS arg11 1) g) ∗ (∃ g, own (wS arg11 2) g) ∗ (∃ g, own (wS arg11 3) g)) := by
  have h := own_split (Val := Elt F) (c.tc : Thread nD τ) arg11 rWs (fun _ _ => rfl) 4 rWs_disj rWs_cover g
  rw [bsTop, bsTop, bsTop, bsTop, bs0] at h
  iintro H
  ihave H' := h $$ H
  icases H' with ⟨H3, H2, H1, H0, -⟩
  isplitl [H0]; · iapply (own_squeeze (c.tc : Thread nD τ) (arg11.slice (rWs 0) (fun _ => rfl)) squeezes_S1x512x3072_S512x3072 _); iexact H0
  isplitl [H1]; · iapply (own_squeeze (c.tc : Thread nD τ) (arg11.slice (rWs 1) (fun _ => rfl)) squeezes_S1x512x3072_S512x3072 _); iexact H1
  isplitl [H2]; · iapply (own_squeeze (c.tc : Thread nD τ) (arg11.slice (rWs 2) (fun _ => rfl)) squeezes_S1x512x3072_S512x3072 _); iexact H2
  iapply (own_squeeze (c.tc : Thread nD τ) (arg11.slice (rWs 3) (fun _ => rfl)) squeezes_S1x512x3072_S512x3072 _); iexact H3

theorem ws_join (f₀ : Buf (Elt F) (arg11.view.loc (c.tc : Thread nD τ))) :
    iprop((∃ g, own (wS arg11 0) g) ∗ (∃ g, own (wS arg11 1) g) ∗ (∃ g, own (wS arg11 2) g) ∗ (∃ g, own (wS arg11 3) g)) ⊢ iprop(∃ g, own arg11 g) := by
  iintro ⟨⟨%g0, H0⟩, ⟨%g1, H1⟩, ⟨%g2, H2⟩, ⟨%g3, H3⟩⟩
  ihave G0 := (own_unsqueeze (c.tc : Thread nD τ) (arg11.slice (rWs 0) (fun _ => rfl)) squeezes_S1x512x3072_S512x3072 g0) $$ H0
  ihave G1 := (own_unsqueeze (c.tc : Thread nD τ) (arg11.slice (rWs 1) (fun _ => rfl)) squeezes_S1x512x3072_S512x3072 g1) $$ H1
  ihave G2 := (own_unsqueeze (c.tc : Thread nD τ) (arg11.slice (rWs 2) (fun _ => rfl)) squeezes_S1x512x3072_S512x3072 g2) $$ H2
  ihave G3 := (own_unsqueeze (c.tc : Thread nD τ) (arg11.slice (rWs 3) (fun _ => rfl)) squeezes_S1x512x3072_S512x3072 g3) $$ H3
  icases G0 with ⟨%h0, G0⟩
  icases G1 with ⟨%h1, G1⟩
  icases G2 with ⟨%h2, G2⟩
  icases G3 with ⟨%h3, G3⟩
  have hj := own_join (Val := Elt F) (c.tc : Thread nD τ) arg11 rWs (fun _ _ => rfl) 4 rWs_disj rWs_cover
    (fun b => if b = 0 then h0 else if b = 1 then h1 else if b = 2 then h2 else h3) f₀
  rw [bsTop, bsTop, bsTop, bsTop, bs0] at hj
  ihave HJ := hj $$ [G0 G1 G2 G3]
  · isplitl [G3]; · iexact G3
    isplitl [G2]; · iexact G2
    isplitl [G1]; · iexact G1
    isplitl [G0]; · iexact G0
    iempintro
  icases HJ with ⟨%g, HJ, -⟩
  iexists g
  iexact HJ

theorem cs_split (g : Vec F S3x512x3072 .fp8e4m3) :
    own arg12 g ⊢ iprop((∃ g, own (cS arg12 0) g) ∗ (∃ g, own (cS arg12 1) g) ∗ (∃ g, own (cS arg12 2) g)) := by
  have h := own_split (Val := Elt F) (c.tc : Thread nD τ) arg12 rCs (fun _ _ => rfl) 3 rCs_disj rCs_cover g
  rw [bsTop, bsTop, bsTop, bs0] at h
  iintro H
  ihave H' := h $$ H
  icases H' with ⟨H2, H1, H0, -⟩
  isplitl [H0]; · iapply (own_squeeze (c.tc : Thread nD τ) (arg12.slice (rCs 0) (fun _ => rfl)) squeezes_S1x512x3072_S512x3072 _); iexact H0
  isplitl [H1]; · iapply (own_squeeze (c.tc : Thread nD τ) (arg12.slice (rCs 1) (fun _ => rfl)) squeezes_S1x512x3072_S512x3072 _); iexact H1
  iapply (own_squeeze (c.tc : Thread nD τ) (arg12.slice (rCs 2) (fun _ => rfl)) squeezes_S1x512x3072_S512x3072 _); iexact H2

theorem cs_join (f₀ : Buf (Elt F) (arg12.view.loc (c.tc : Thread nD τ))) :
    iprop((∃ g, own (cS arg12 0) g) ∗ (∃ g, own (cS arg12 1) g) ∗ (∃ g, own (cS arg12 2) g)) ⊢ iprop(∃ g, own arg12 g) := by
  iintro ⟨⟨%g0, H0⟩, ⟨%g1, H1⟩, ⟨%g2, H2⟩⟩
  ihave G0 := (own_unsqueeze (c.tc : Thread nD τ) (arg12.slice (rCs 0) (fun _ => rfl)) squeezes_S1x512x3072_S512x3072 g0) $$ H0
  ihave G1 := (own_unsqueeze (c.tc : Thread nD τ) (arg12.slice (rCs 1) (fun _ => rfl)) squeezes_S1x512x3072_S512x3072 g1) $$ H1
  ihave G2 := (own_unsqueeze (c.tc : Thread nD τ) (arg12.slice (rCs 2) (fun _ => rfl)) squeezes_S1x512x3072_S512x3072 g2) $$ H2
  icases G0 with ⟨%h0, G0⟩
  icases G1 with ⟨%h1, G1⟩
  icases G2 with ⟨%h2, G2⟩
  have hj := own_join (Val := Elt F) (c.tc : Thread nD τ) arg12 rCs (fun _ _ => rfl) 3 rCs_disj rCs_cover
    (fun b => if b = 0 then h0 else if b = 1 then h1 else h2) f₀
  rw [bsTop, bsTop, bsTop, bs0] at hj
  ihave HJ := hj $$ [G0 G1 G2]
  · isplitl [G2]; · iexact G2
    isplitl [G1]; · iexact G1
    isplitl [G0]; · iexact G0
    iempintro
  icases HJ with ⟨%g, HJ, -⟩
  iexists g
  iexact HJ

/-! ## The reads -/

variable (w : Vec F S7168x3072 .bf16)

theorem rd_begin : own arg1 w ⊢ iprop(own (wB arg1 0) (wbOf w 0) ∗ own (wB arg1 1) (wbOf w 1) ∗ own (wB arg1 2) (wbOf w 2) ∗ own (wB arg1 3) (wbOf w 3)
      ∗ (rdFly arg1 arg11 arg21 c (wbOf w) 0 -∗ rdFly arg1 arg11 arg21 c (wbOf w) 1 -∗ rdFly arg1 arg11 arg21 c (wbOf w) 2 -∗ rdFly arg1 arg11 arg21 c (wbOf w) 3
        -∗ bigSep (Finset.range 18) (RD arg1 arg11 arg21 c (wbOf w) 0))) := by
  have h := own_split (Val := Elt F) (c.tc : Thread nD τ) arg1 rB (fun _ _ => rfl) 14 rB_disj rB_cover w
  rw [bsBot, bsBot, bsBot, bsBot] at h
  have e : ∀ b, b < 4 → RD arg1 arg11 arg21 c (wbOf w) 0 b = rdFly arg1 arg11 arg21 c (wbOf w) b := fun b hb => by
    unfold RD; rw [if_pos ⟨Nat.zero_le _, by omega⟩]
  have e' : ∀ b, 14 ≤ b → RD arg1 arg11 arg21 c (wbOf w) 0 b = iprop(emp) := fun b hb => by
    unfold RD; rw [if_neg (by omega)]; unfold rdHome; rw [if_neg (by omega)]
  have hm : (bigSep (Finset.range 10) fun k => own (wB arg1 (k + 1 + 1 + 1 + 1)) (wbOf w (k + 1 + 1 + 1 + 1)))
      = bigSep (Finset.range 10) fun k => RD arg1 arg11 arg21 c (wbOf w) 0 (k + 1 + 1 + 1 + 1) := bigSep_congr fun k hk => by
    have := Finset.mem_range.1 hk
    unfold RD; rw [if_neg (by omega)]; unfold rdHome; rw [if_pos (by omega)]
  rw [bsBot, bsBot, bsBot, bsBot, bsTop 13, bsTop 12, bsTop 11, bsTop 10, ← hm, e' (13 + 1 + 1 + 1 + 1) (by decide), e' (12 + 1 + 1 + 1 + 1) (by decide), e' (11 + 1 + 1 + 1 + 1) (by decide), e' (10 + 1 + 1 + 1 + 1) (by decide),
    e 0 (by decide), e (0 + 1) (by decide), e (0 + 1 + 1) (by decide), e (0 + 1 + 1 + 1) (by decide)]
  iintro H
  ihave H' := h $$ H
  icases H' with ⟨H0, H1, H2, H3, Hr⟩
  isplitl [H0]; · iexact H0
  isplitl [H1]; · iexact H1
  isplitl [H2]; · iexact H2
  isplitl [H3]; · iexact H3
  iintro G0 G1 G2 G3
  isplitl [G0]; · iexact G0
  isplitl [G1]; · iexact G1
  isplitl [G2]; · iexact G2
  isplitl [G3]; · iexact G3
  isplitl []; · iempintro
  isplitl []; · iempintro
  isplitl []; · iempintro
  isplitl []; · iempintro
  iexact Hr

theorem rd_end (f₁ : Buf (Elt F) (arg1.view.loc (c.tc : Thread nD τ))) (f₀ : Buf (Elt F) (arg11.view.loc (c.tc : Thread nD τ))) :
    bigSep (Finset.range 18) (RD arg1 arg11 arg21 c (wbOf w) 14) ⊢ iprop(own arg1 w ∗ (∃ g, own arg11 g)
      ∗ semVal ((c.tc : Thread nD τ), .dma (semR arg21 0)) 0 ∗ semVal ((c.tc : Thread nD τ), .dma (semR arg21 1)) 0
      ∗ semVal ((c.tc : Thread nD τ), .dma (semR arg21 2)) 0 ∗ semVal ((c.tc : Thread nD τ), .dma (semR arg21 3)) 0) := by
  have e : ∀ b i, 14 ≤ b → b < 18 → b % 4 = i % 4 → RD arg1 arg11 arg21 c (wbOf w) 14 b = iprop((∃ g, own (wS arg11 i) g) ∗ semVal ((c.tc : Thread nD τ), .dma (semR arg21 i)) 0) := fun b i hb hb' hi => by
    unfold RD; rw [if_pos ⟨hb, hb'⟩]; unfold rdFly; rw [if_neg (by omega)]
    rw [show wS arg11 b = wS arg11 i from wS_eq arg11 i (by rw [hi]) _, show semR arg21 b = semR arg21 i from semR_eq arg21 i (by rw [hi]) _]
  have hm : (bigSep (Finset.range 14) (RD arg1 arg11 arg21 c (wbOf w) 14)) = bigSep (Finset.range 14) fun k => own (wB arg1 k) (wbOf w k) := bigSep_congr fun k hk => by
    have := Finset.mem_range.1 hk
    unfold RD; rw [if_neg (by omega)]; unfold rdHome; rw [if_pos (by omega)]
  have hj := own_join (Val := Elt F) (c.tc : Thread nD τ) arg1 rB (fun _ _ => rfl) 14 rB_disj rB_cover (wbOf w) f₁
  have hs := ws_join arg11 c f₀
  rw [bsTop 17, bsTop 16, bsTop 15, bsTop 14, hm, e 17 1 (by decide) (by decide) rfl, e 16 0 (by decide) (by decide) rfl, e 15 3 (by decide) (by decide) rfl, e 14 2 (by decide) (by decide) rfl]
  iintro ⟨⟨S1, V1⟩, ⟨S0, V0⟩, ⟨S3, V3⟩, ⟨S2, V2⟩, H⟩
  ihave HJ := hj $$ H
  icases HJ with ⟨%g, HJ, %hg⟩
  isplitl [HJ]
  · have hgw : g = w := by
      funext x
      obtain ⟨b, hb, hx⟩ := rB_cover x
      rw [← Rect.map_emb_univ, Finset.mem_map] at hx
      obtain ⟨j, -, rfl⟩ := hx
      exact hg b hb j
    iapply (mown_congr (c.tc : Thread nD τ) hgw)
    iexact HJ
  isplitl [S0 S1 S2 S3]
  · iapply hs
    isplitl [S0]; · iexact S0
    isplitl [S1]; · iexact S1
    isplitl [S2]; · iexact S2
    iexact S3
  isplitl [V0]; · iexact V0
  isplitl [V1]; · iexact V1
  isplitl [V2]; · iexact V2
  iexact V3

/-! ## The writes -/

theorem wr_begin (cb : ℕ → Vec F S512x3072 .fp8e4m3) (g : Vec F S7168x3072 .fp8e4m3) :
    iprop(own arg5 g ∗ ((∃ g, own (cS arg12 0) g) ∗ (∃ g, own (cS arg12 1) g) ∗ (∃ g, own (cS arg12 2) g))
      ∗ semVal ((c.tc : Thread nD τ), .dma (semC arg22 0)) 0 ∗ semVal ((c.tc : Thread nD τ), .dma (semC arg22 1)) 0 ∗ semVal ((c.tc : Thread nD τ), .dma (semC arg22 2)) 0)
      ⊢ bigSep (Finset.range 17) (WR arg5 arg12 arg22 c cb 0) := by
  have h := own_split (Val := Elt F) (c.tc : Thread nD τ) arg5 rB (fun _ _ => rfl) 14 rB_disj rB_cover g
  have hk : ∀ k, iprop(own (cB arg5 k) (fun j => g ((rB k).emb j))) ⊢ iprop(∃ g, own (cB arg5 k) g) := fun k => by
    iintro H; iexists _; iexact H
  have h' : (bigSep (Finset.range 14) fun k => own (cB arg5 k) (fun j => g ((rB k).emb j))) ⊢ bigSep (Finset.range 14) fun k => iprop(∃ g, own (cB arg5 k) g) :=
    bigSep_mono fun k _ => hk k
  have e : ∀ v, v < 3 → WR arg5 arg12 arg22 c cb 0 v = iprop((∃ g, own (cS arg12 v) g) ∗ semVal ((c.tc : Thread nD τ), .dma (semC arg22 v)) 0) := fun v hv => by
    unfold WR; rw [if_neg (by omega), if_pos (by omega)]; unfold wrFly; rw [if_neg (by omega)]
  have hm : (bigSep (Finset.range 14) fun k => WR arg5 arg12 arg22 c cb 0 (k + 1 + 1 + 1)) = bigSep (Finset.range 14) fun k => iprop(∃ g, own (cB arg5 k) g) := bigSep_congr fun k hk => by
    unfold WR; rw [if_neg (by omega), if_neg (by omega), show k + 1 + 1 + 1 - 3 = k by omega]
  rw [bsBot, bsBot, bsBot, hm, e 0 (by decide), e (0 + 1) (by decide), e (0 + 1 + 1) (by decide)]
  iintro ⟨H, ⟨S0, S1, S2⟩, V0, V1, V2⟩
  isplitl [S0 V0]
  · isplitl [S0]; · iexact S0
    iexact V0
  isplitl [S1 V1]
  · isplitl [S1]; · iexact S1
    iexact V1
  isplitl [S2 V2]
  · isplitl [S2]; · iexact S2
    iexact V2
  iapply h'
  iapply h
  iexact H

/-- The codes of `w`. -/
def WC : Vec F S7168x3072 .fp8e4m3 := fun i =>
  cbOf w ((i 0).val / 512) (fun a => match a with | ⟨0, _⟩ => ⟨(i 0).val % 512, Nat.mod_lt _ (by decide)⟩ | ⟨1, _⟩ => i 1)

theorem WC_emb (b : ℕ) (hb : b < 14) (j : S512x3072.Idx) : WC w ((rB b).emb j) = cbOf w b j := by
  have h0 : ((rB b).emb j 0).val = 512 * (b % 14) + 1 * (j 0).val := rfl
  have h1 : ((rB b).emb j 1).val = 0 + 1 * (j 1).val := rfl
  have l0 : (j 0).val < 512 := (j 0).isLt
  unfold WC
  rw [show ((rB b).emb j 0).val / 512 = b by rw [h0]; omega]
  congr 1
  funext a
  apply Fin.ext
  match a with
  | ⟨0, _⟩ => show ((rB b).emb j 0).val % 512 = (j 0).val; rw [h0]; omega
  | ⟨1, _⟩ => show ((rB b).emb j 1).val = (j 1).val; rw [h1]; omega

theorem wr_end (f₅ : Buf (Elt F) (arg5.view.loc (c.tc : Thread nD τ))) (f₀ : Buf (Elt F) (arg12.view.loc (c.tc : Thread nD τ))) :
    bigSep (Finset.range 17) (WR arg5 arg12 arg22 c (cbOf w) 14) ⊢ iprop(wrFly arg5 arg12 arg22 c (cbOf w) 14 ∗ wrFly arg5 arg12 arg22 c (cbOf w) 15 ∗ wrFly arg5 arg12 arg22 c (cbOf w) 16
      ∗ (wrDone arg5 c (cbOf w) 14 -∗ wrDone arg5 c (cbOf w) 15 -∗ wrDone arg5 c (cbOf w) 16
        -∗ (∃ g, own (cS arg12 14) g) -∗ (∃ g, own (cS arg12 15) g) -∗ (∃ g, own (cS arg12 16) g)
        -∗ iprop(own arg5 (WC w) ∗ ∃ g, own arg12 g))) := by
  have e : ∀ v, 14 ≤ v → v < 17 → WR arg5 arg12 arg22 c (cbOf w) 14 v = wrFly arg5 arg12 arg22 c (cbOf w) v := fun v hv hv' => by
    unfold WR; rw [if_neg (by omega), if_pos (by omega)]
  have e' : ∀ v, v < 3 → WR arg5 arg12 arg22 c (cbOf w) 14 v = iprop(emp) := fun v hv => by
    unfold WR; rw [if_pos (by omega)]; unfold wrDone; rw [if_neg (by omega)]
  have hm : (bigSep (Finset.range 11) fun k => WR arg5 arg12 arg22 c (cbOf w) 14 (k + 1 + 1 + 1)) = bigSep (Finset.range 11) fun k => own (cB arg5 k) (cbOf w k) := bigSep_congr fun k hk => by
    have := Finset.mem_range.1 hk
    unfold WR; rw [if_pos (by omega)]; unfold wrDone; rw [if_pos (by omega), show k + 1 + 1 + 1 - 3 = k by omega]
  have hd : ∀ v b, v = b + 3 → wrDone arg5 c (cbOf w) v = own (cB arg5 b) (cbOf w b) := fun v b hv => by
    subst hv; unfold wrDone; rw [if_pos (by omega), Nat.add_sub_cancel]
  have hj := own_join (Val := Elt F) (c.tc : Thread nD τ) arg5 rB (fun _ _ => rfl) 14 rB_disj rB_cover (cbOf w) f₅
  rw [bsTop 13, bsTop 12, bsTop 11] at hj
  have hs := cs_join arg12 c f₀
  rw [show cS arg12 0 = cS arg12 15 from cS_eq arg12 15 rfl _, show cS arg12 1 = cS arg12 16 from cS_eq arg12 16 rfl _, show cS arg12 2 = cS arg12 14 from cS_eq arg12 14 rfl _] at hs
  rw [bsTop 16, bsTop 15, bsTop 14, bsBot 13, bsBot 12, bsBot 11, hm, e 16 (by decide) (by decide), e 15 (by decide) (by decide), e 14 (by decide) (by decide),
    e' 0 (by decide), e' (0 + 1) (by decide), e' (0 + 1 + 1) (by decide), hd 14 11 rfl, hd 15 12 rfl, hd 16 13 rfl]
  iintro ⟨F16, F15, F14, -, -, -, H⟩
  isplitl [F14]; · iexact F14
  isplitl [F15]; · iexact F15
  isplitl [F16]; · iexact F16
  iintro D11 D12 D13 S2 S0 S1
  ihave HJ := hj $$ [H D11 D12 D13]
  · isplitl [D13]; · iexact D13
    isplitl [D12]; · iexact D12
    isplitl [D11]; · iexact D11
    iexact H
  icases HJ with ⟨%g, HJ, %hg⟩
  isplitl [HJ]
  · have hgw : g = WC w := by
      funext x
      obtain ⟨b, hb, hx⟩ := rB_cover x
      rw [← Rect.map_emb_univ, Finset.mem_map] at hx
      obtain ⟨j, -, rfl⟩ := hx
      rw [hg b hb j, WC_emb w b hb]
    iapply (mown_congr (c.tc : Thread nD τ) hgw)
    iexact HJ
  iapply hs
  isplitl [S0]; · iexact S0
  isplitl [S1]; · iexact S1
  iexact S2

end Ends

end Cert.Kernel.Tr

end
-- ==== Proof.Kernel.Body.lean ====
/- The kernel's body on the contents of its buffers. -/
module

public import proofs.«01_k».proof.Proof.Kernel.RingEnds

@[expose] public section

set_option maxRecDepth 16384

noncomputable section

namespace Cert.Kernel.Tr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Own
open Facts₀ Facts

variable {F : FTy → Type} [FloatOps F]
local notation "Tx" => Fin k0_t1_loop.trips
local notation "Tm" => Fin k0_t2_loop.trips
local notation "𝕄" => MT nD τ sig Unit (Elt F) ℕ (Pipeline.UC sig nD τ) ℕ

/-! ## The results -/

/-- The first result. -/
def YV (x : Vec F S200x7168 .bf16) (w : Vec F S7168x3072 .bf16) : Vec F S200x3072 .bf16 :=
  Gen.k0_pay634 (fun i => ACC (XD x (Gen.k0_pay629 (F := F))) w 14 ((Rect.unit (s := S208x3072) ![0, 0] S200x3072.size inb_S208x3072_S200x3072_0_0).toLoadRect.idx i))
/-- The scale codes of `x`, before they are turned. -/
def XSC (x : Vec F S200x7168 .bf16) : Vec F S256x128 .i32 := xsIter x xLane k0_t1_loop.trips Gen.k0_pay627
/-- The scale codes of `x`. -/
def XSV (x : Vec F S200x7168 .bf16) : Vec F S56x200 .i8 := Gen.k0_pay635 (F := F) (XSC x)
/-- The scale codes of `w`. -/
def WSV (w : Vec F S7168x3072 .bf16) : Vec F S24x56 .i8 :=
  Gen.k0_pay1 (F := F) (fun i => WS w 14 ((Rect.unit (s := S24x128) ![0, 0] S24x56.size inb_S24x128_S24x56_0_0).toLoadRect.idx i))

theorem tm_trips : k0_t2_loop.trips = 14 := by decide

variable
  (arg0 : Memref sig .tc .hbm S200x7168 .bf16) (harg0 : arg0.IsWhole) (arg1 : Memref sig .tc .hbm S7168x3072 .bf16) (harg1 : arg1.IsWhole)
  (arg2 : Memref sig .tc .hbm S200x3072 .bf16) (harg2 : arg2.IsWhole) (arg3 : Memref sig .tc .hbm S200x7168 .fp8e4m3) (harg3 : arg3.IsWhole)
  (arg4 : Memref sig .tc .vmem S56x200 .i8) (harg4 : arg4.IsWhole) (arg5 : Memref sig .tc .hbm S7168x3072 .fp8e4m3) (harg5 : arg5.IsWhole)
  (arg6 : Memref sig .tc .vmem S24x56 .i8) (harg6 : arg6.IsWhole) (arg7 : Memref sig .tc .vmem S200x7168 .bf16) (harg7 : arg7.IsWhole)
  (arg8 : Memref sig .tc .vmem S200x7168 .fp8e4m3) (harg8 : arg8.IsWhole) (arg9 : Memref sig .tc .vmem S14x208x512 .bf16) (harg9 : arg9.IsWhole)
  (arg10 : Memref sig .tc .vmem S256x128 .i32) (harg10 : arg10.IsWhole) (arg11 : Memref sig .tc .vmem S4x512x3072 .bf16) (harg11 : arg11.IsWhole)
  (arg12 : Memref sig .tc .vmem S3x512x3072 .fp8e4m3) (harg12 : arg12.IsWhole) (arg13 : Memref sig .tc .vmem S208x3072 .f32) (harg13 : arg13.IsWhole)
  (arg14 : Memref sig .tc .vmem S200x3072 .bf16) (harg14 : arg14.IsWhole) (arg15 : Memref sig .tc .vmem S4x216x128 .f32) (harg15 : arg15.IsWhole)
  (arg16 : Memref sig .tc .vmem S4x24x128 .i32) (harg16 : arg16.IsWhole) (arg17 : Memref sig .tc .vmem S4x24x128 .i32) (harg17 : arg17.IsWhole)
  (arg18 : Memref sig .tc .vmem S24x128 .i32) (harg18 : arg18.IsWhole) (arg19 arg20 : DmaSems sig S_) (arg21 : DmaSems sig S4) (arg22 : DmaSems sig S3) (arg23 : DmaSems sig S_)
variable (c : Dev nD)
local notation "own" => mown (Ix := Unit) (Val := Elt F) (Name := ℕ) (U := Pipeline.UC sig nD τ) (Lvl := ℕ) (c.tc : Thread nD τ)
variable {defs : Defs nD τ sig (Elt F) Λ₀} (𝒱 : Variants) (bd : Option 𝒱.V)
local notation "W" => wp frame (wpE (Ix := Unit) (Name := ℕ) (U := Pipeline.UC sig nD τ) (Lvl := ℕ) defs 𝒱 (c.tc : Thread nD τ) bd) Set.univ

/-! ## Whole loads and stores -/

theorem st_full {sp : CoreSpace} {s : Shape} {e : EltTy} {m : Memref sig .tc sp s e} {off : Fin s.rank → ℕ} {inb : ∀ a, off a + s.size a ≤ s.size a} {v : s.Idx → Elt F e}
    {hx : (m.access (Rect.unit off s.size inb)).Stores Finset.univ}
    {hm : (Finset.univ : Finset (Rect.unit off s.size inb).shape.Idx) = Finset.univ ∨ ∀ a, (Rect.unit off s.size inb).stride a = 1} (Q : PUnit → sProp 𝕄) :
    iprop((∃ g, own m g) ∗ (own m v -∗ Q ⟨⟩)) ⊢ W (Prog.lift (.store m (Rect.unit off s.size inb) v Finset.univ hx hm)) Q := by
  iintro ⟨⟨%g, H⟩, HQ⟩
  iapply (st (c.tc : Thread nD τ) 𝒱 bd Set.univ (g := g))
  isplitl [H]; · iexact H
  iintro H
  iapply HQ
  iapply (mown_congr (c.tc : Thread nD τ) (upd_full inb v g))
  iexact H

/-- A load whose value is not used. -/
theorem ld_any {sp : CoreSpace} {s : Shape} {e : EltTy} {m : Memref sig .tc sp s e} {r : LoadRect s} {hl : m.view.LoadsAt r} {Q : (r.shape.Idx → Elt F e) → sProp 𝕄} :
    iprop((∃ g, own m g) ∗ (∀ v, (∃ g, own m g) -∗ Q v)) ⊢ W (Prog.lift (.load m r hl)) Q := by
  iintro ⟨⟨%g, H⟩, HQ⟩
  iapply (ld (c.tc : Thread nD τ) 𝒱 bd Set.univ (g := g))
  isplitl [H]; · iexact H
  iintro H
  iapply HQ
  iexists g
  iexact H

/-! ## The second loop, to its end -/

theorem wp_loop2' (n : ℕ) (hn : k0_t2_loop.trips = n) (v27 : FVec F S208x3072 .f32) (w : Vec F S7168x3072 .bf16) (X : Vec F S14x208x512 .bf16) (Q : PUnit → sProp 𝕄) :
    iprop(bigSep (Finset.range 18) (RD arg1 arg11 arg21 c (wbOf w) 0) ∗ bigSep (Finset.range 17) (WR arg5 arg12 arg22 c (cbOf w) 0)
        ∗ owesNone (c.tc : Thread nD τ) ∗ own arg9 X ∗ own arg13 (ACC X w 0) ∗ (∃ s : StA F, ownA c arg15 arg16 arg17 arg18 s ∗ ⌜s.ws = WS w 0⌝)
        ∗ (bigSep (Finset.range 18) (RD arg1 arg11 arg21 c (wbOf w) n) -∗ bigSep (Finset.range 17) (WR arg5 arg12 arg22 c (cbOf w) n)
          -∗ owesNone (c.tc : Thread nD τ) -∗ own arg9 X -∗ own arg13 (ACC X w n)
          -∗ (∃ s : StA F, ownA c arg15 arg16 arg17 arg18 s ∗ ⌜s.ws = WS w n⌝) -∗ Q ⟨⟩))
      ⊢ W (Scf.Loop.for k0_t2_loop k0_t2_ok ⟨⟩ (Gen.k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 v27 wLane)) Q := by
  subst hn
  exact wp_loop2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 c 𝒱 bd v27 w X Q

/-! ## The parts of the body -/

theorem wp_148 (x : Vec F S200x7168 .bf16) (w : Vec F S7168x3072 .bf16) (Q : FVec F S208x3072 .f32 → sProp 𝕄) :
    iprop(own arg0 x ∗ (∃ g, own arg7 g) ∗ semVal ((c.tc : Thread nD τ), .dma arg19.sem) 0
        ∗ own (wB arg1 0) (wbOf w 0) ∗ own (wB arg1 1) (wbOf w 1) ∗ own (wB arg1 2) (wbOf w 2) ∗ own (wB arg1 3) (wbOf w 3)
        ∗ (∃ g, own (wS arg11 0) g) ∗ (∃ g, own (wS arg11 1) g) ∗ (∃ g, own (wS arg11 2) g) ∗ (∃ g, own (wS arg11 3) g)
        ∗ semVal ((c.tc : Thread nD τ), .dma (semR arg21 0)) 0 ∗ semVal ((c.tc : Thread nD τ), .dma (semR arg21 1)) 0
        ∗ semVal ((c.tc : Thread nD τ), .dma (semR arg21 2)) 0 ∗ semVal ((c.tc : Thread nD τ), .dma (semR arg21 3)) 0
        ∗ (∃ g, own arg13 g)
        ∗ (flies (Val := Elt F) (c.tc : Thread nD τ) arg19.sem arg7.view.dmaCredit iprop(own arg7 x ∗ own arg0 x)
          -∗ rdFly arg1 arg11 arg21 c (wbOf w) 0 -∗ rdFly arg1 arg11 arg21 c (wbOf w) 1 -∗ rdFly arg1 arg11 arg21 c (wbOf w) 2 -∗ rdFly arg1 arg11 arg21 c (wbOf w) 3
          -∗ (∃ g, own arg13 g) -∗ Q Gen.k0_pay626))
      ⊢ W (k0_part148 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23) Q := by
  rw [Gen.k0_part148_eq_skeleton]
  unfold Gen.k0_part148_skel
  simp only [wp_bind]
  iintro ⟨Hx, ⟨%g7, H7⟩, Hv, B0, B1, B2, B3, S0, S1, S2, S3, V0, V1, V2, V3, H13, HQ⟩
  iapply (dma (c.tc : Thread nD τ) 𝒱 bd (g := x) (gd := g7) (by decide +kernel))
  isplitl [Hx]; · iexact Hx
  isplitl [H7]; · iexact H7
  isplitl [Hv]; · iexact Hv
  iintro Hf
  iapply (wp_start arg1 arg11 arg21 c 𝒱 bd (wbOf w) 0 (by decide) (o1 := k0_off1 0#32) (o2 := k0_off2 0#32) (o3 := ![0, 0]) (by decide +kernel) (by decide +kernel) (by decide +kernel))
  isplitl [B0]; · iexact B0
  isplitl [S0]; · iexact S0
  isplitl [V0]; · iexact V0
  iintro F0
  iapply (wp_start arg1 arg11 arg21 c 𝒱 bd (wbOf w) 1 (by decide) (o1 := k0_off1 1#32) (o2 := k0_off2 1#32) (o3 := ![512, 0]) (by decide +kernel) (by decide +kernel) (by decide +kernel))
  isplitl [B1]; · iexact B1
  isplitl [S1]; · iexact S1
  isplitl [V1]; · iexact V1
  iintro F1
  iapply (wp_start arg1 arg11 arg21 c 𝒱 bd (wbOf w) 2 (by decide) (o1 := k0_off1 2#32) (o2 := k0_off2 2#32) (o3 := ![1024, 0]) (by decide +kernel) (by decide +kernel) (by decide +kernel))
  isplitl [B2]; · iexact B2
  isplitl [S2]; · iexact S2
  isplitl [V2]; · iexact V2
  iintro F2
  iapply (wp_start arg1 arg11 arg21 c 𝒱 bd (wbOf w) 3 (by decide) (o1 := k0_off1 3#32) (o2 := k0_off2 3#32) (o3 := ![1536, 0]) (by decide +kernel) (by decide +kernel) (by decide +kernel))
  isplitl [B3]; · iexact B3
  isplitl [S3]; · iexact S3
  isplitl [V3]; · iexact V3
  iintro F3
  iapply (ld_any c 𝒱 bd)
  isplitl [H13]; · iexact H13
  iintro %v H13
  iapply (rt (c.tc : Thread nD τ) 𝒱 bd Set.univ (a := Gen.k0_pay626))
  iapply HQ $$ Hf F0 F1 F2 F3 H13

theorem wp_149 (x : Vec F S200x7168 .bf16) (w : Vec F S7168x3072 .bf16) (Q : IVec S56x200 8 → sProp 𝕄) :
    iprop(flies (Val := Elt F) (c.tc : Thread nD τ) arg19.sem arg7.view.dmaCredit iprop(own arg7 x ∗ own arg0 x)
        ∗ bigSep (Finset.range 18) (RD arg1 arg11 arg21 c (wbOf w) 0) ∗ bigSep (Finset.range 17) (WR arg5 arg12 arg22 c (cbOf w) 0)
        ∗ owesNone (c.tc : Thread nD τ)
        ∗ (∃ g, own arg13 g) ∗ (∃ g, own arg10 g) ∗ (∃ g, own arg18 g) ∗ (∃ g, own arg9 g) ∗ (∃ g, own arg8 g) ∗ (∃ g, own arg3 g)
        ∗ (∃ g, own arg15 g) ∗ (∃ g, own arg16 g) ∗ (∃ g, own arg17 g) ∗ (∃ g, own arg14 g) ∗ (∃ g, own arg2 g)
        ∗ semVal ((c.tc : Thread nD τ), .dma arg20.sem) 0 ∗ semVal ((c.tc : Thread nD τ), .dma arg23.sem) 0
        ∗ (own arg7 x -∗ own arg0 x -∗ semVal ((c.tc : Thread nD τ), .dma arg19.sem) 0
          -∗ bigSep (Finset.range 18) (RD arg1 arg11 arg21 c (wbOf w) 14) -∗ bigSep (Finset.range 17) (WR arg5 arg12 arg22 c (cbOf w) 14)
          -∗ owesNone (c.tc : Thread nD τ) -∗ (∃ g, own arg13 g) -∗ (∃ g, own arg10 g) -∗ (∃ g, own arg9 g)
          -∗ (∃ s : StA F, ownA c arg15 arg16 arg17 arg18 s ∗ ⌜s.ws = WS w 14⌝)
          -∗ flies (Val := Elt F) (c.tc : Thread nD τ) arg20.sem arg3.view.dmaCredit iprop(own arg3 (XC x) ∗ own arg8 (XC x))
          -∗ flies (Val := Elt F) (c.tc : Thread nD τ) arg23.sem arg2.view.dmaCredit iprop(own arg2 (YV x w) ∗ own arg14 (YV x w))
          -∗ Q (XSV x)))
      ⊢ W (k0_part149 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 Gen.k0_pay626) Q := by
  rw [Gen.k0_part149_eq_skeleton]
  unfold Gen.k0_part149_skel
  simp only [wp_bind]
  iintro ⟨Hf, HR, HW, Ho, H13, H10, H18, ⟨%g9, H9⟩, ⟨%g8, H8⟩, ⟨%g3, H3⟩, ⟨%g15, H15⟩, ⟨%g16, H16⟩, ⟨%g17, H17⟩, H14, ⟨%g2, H2⟩, V20, V23, HQ⟩
  iapply (st_full c 𝒱 bd)
  isplitl [H13]; · iexact H13
  iintro H13
  iapply (ld_any c 𝒱 bd)
  isplitl [H10]; · iexact H10
  iintro %u1 H10
  iapply (st_full c 𝒱 bd)
  isplitl [H10]; · iexact H10
  iintro H10
  iapply (ld_any c 𝒱 bd)
  isplitl [H18]; · iexact H18
  iintro %u2 H18
  iapply (st_full c 𝒱 bd)
  isplitl [H18]; · iexact H18
  iintro H18
  iapply (ld (c.tc : Thread nD τ) 𝒱 bd Set.univ (g := g9))
  isplitl [H9]; · iexact H9
  iintro H9
  iapply (st (c.tc : Thread nD τ) 𝒱 bd Set.univ (g := g9))
  isplitl [H9]; · iexact H9
  iintro H9
  iapply (wt (c.tc : Thread nD τ) 𝒱 bd (N := arg7.view.dmaCredit) rfl)
  isplitl [Hf]; · iexact Hf
  isplitl [Ho]; · iexact Ho
  iintro ⟨H7, H0⟩ V19 Ho
  iapply (wp_loop1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 c 𝒱 bd Gen.k0_pay626 x ⟨g8, upd padR (Gen.k0_pay629 (F := F)) g9, Gen.k0_pay627⟩)
  isplitl [H7]; · iexact H7
  isplitl [H8 H9 H10]
  · unfold ownX
    isplitl [H8]; · iexact H8
    isplitl [H9]; · iexact H9
    iexact H10
  unfold ownX
  iintro H7 ⟨H8, H9, H10⟩
  ihave H8 := (mown_congr (c.tc : Thread nD τ) (xIter_XC x xLane ⟨g8, upd padR (Gen.k0_pay629 (F := F)) g9, Gen.k0_pay627⟩)) $$ H8
  ihave H9 := (mown_congr (c.tc : Thread nD τ) (xIter_XD x xLane ⟨g8, upd padR (Gen.k0_pay629 (F := F)) g9, Gen.k0_pay627⟩ (Gen.k0_pay629 (F := F)) g9 rfl)) $$ H9
  ihave H10 := (mown_congr (c.tc : Thread nD τ) (xIter_xs x xLane ⟨g8, upd padR (Gen.k0_pay629 (F := F)) g9, Gen.k0_pay627⟩ k0_t1_loop.trips)) $$ H10
  iapply (dma (c.tc : Thread nD τ) 𝒱 bd (g := XC x) (gd := g3) (by decide +kernel))
  isplitl [H8]; · iexact H8
  isplitl [H3]; · iexact H3
  isplitl [V20]; · iexact V20
  iintro F20
  iapply (wp_loop2' arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 c 𝒱 bd 14 tm_trips Gen.k0_pay626 w (XD x (Gen.k0_pay629 (F := F))))
  isplitl [HR]; · iexact HR
  isplitl [HW]; · iexact HW
  isplitl [Ho]; · iexact Ho
  isplitl [H9]; · iexact H9
  isplitl [H13]; · iexact H13
  isplitl [H15 H16 H17 H18]
  · iexists (⟨g15, g16, g17, Gen.k0_pay628⟩ : StA F)
    unfold ownA
    isplitl
    · isplitl [H15]; · iexact H15
      isplitl [H16]; · iexact H16
      isplitl [H17]; · iexact H17
      iexact H18
    ipureintro
    rfl
  iintro HR HW Ho H9 H13 HA
  iapply (ld (c.tc : Thread nD τ) 𝒱 bd Set.univ (g := ACC (XD x (Gen.k0_pay629 (F := F))) w 14))
  isplitl [H13]; · iexact H13
  iintro H13
  iapply (ld_any c 𝒱 bd)
  isplitl [H14]; · iexact H14
  iintro %u3 H14
  iapply (st_full c 𝒱 bd)
  isplitl [H14]; · iexact H14
  iintro H14
  iapply (dma (c.tc : Thread nD τ) 𝒱 bd (g := YV x w) (gd := g2) (by decide +kernel))
  isplitl [H14]; · iexact H14
  isplitl [H2]; · iexact H2
  isplitl [V23]; · iexact V23
  iintro F23
  iapply (ld (c.tc : Thread nD τ) 𝒱 bd Set.univ (g := XSC x))
  isplitl [H10]; · iexact H10
  iintro H10
  iapply (rt (c.tc : Thread nD τ) 𝒱 bd Set.univ)
  rw [show (fun i => XSC x ((Rect.unit (s := S256x128) ![0, 0] S256x128.size inb_S256x128_S256x128_0_0).toLoadRect.idx i)) = XSC x from read_full _ _,
    show Gen.k0_pay635 (F := F) (XSC x) = XSV x from rfl]
  iapply HQ $$ H7 H0 V19 HR HW Ho [H13] [H10] [H9] HA F20 F23
  · iexists _; iexact H13
  · iexists _; iexact H10
  · iexists _; iexact H9

/-- THE BODY: from the two arguments at `x` and `w` and every other buffer at any contents, it runs to its end
    without fault, the arguments unchanged, the five results as stated and every semaphore back at zero. -/
theorem wp_body (x : Vec F S200x7168 .bf16) (w : Vec F S7168x3072 .bf16) (Q : PUnit → sProp 𝕄) :
    iprop(own arg0 x ∗ own arg1 w ∗ (∃ g, own arg2 g) ∗ (∃ g, own arg3 g) ∗ (∃ g, own arg4 g) ∗ (∃ g, own arg5 g) ∗ (∃ g, own arg6 g)
        ∗ (∃ g, own arg7 g) ∗ (∃ g, own arg8 g) ∗ (∃ g, own arg9 g) ∗ (∃ g, own arg10 g) ∗ (∃ g, own arg11 g) ∗ (∃ g, own arg12 g)
        ∗ (∃ g, own arg13 g) ∗ (∃ g, own arg14 g) ∗ (∃ g, own arg15 g) ∗ (∃ g, own arg16 g) ∗ (∃ g, own arg17 g) ∗ (∃ g, own arg18 g)
        ∗ semVal ((c.tc : Thread nD τ), .dma arg19.sem) 0 ∗ semVal ((c.tc : Thread nD τ), .dma arg20.sem) 0 ∗ semVal ((c.tc : Thread nD τ), .dma arg23.sem) 0
        ∗ semVal ((c.tc : Thread nD τ), .dma (semR arg21 0)) 0 ∗ semVal ((c.tc : Thread nD τ), .dma (semR arg21 1)) 0
        ∗ semVal ((c.tc : Thread nD τ), .dma (semR arg21 2)) 0 ∗ semVal ((c.tc : Thread nD τ), .dma (semR arg21 3)) 0
        ∗ semVal ((c.tc : Thread nD τ), .dma (semC arg22 0)) 0 ∗ semVal ((c.tc : Thread nD τ), .dma (semC arg22 1)) 0 ∗ semVal ((c.tc : Thread nD τ), .dma (semC arg22 2)) 0
        ∗ owesNone (c.tc : Thread nD τ)
        ∗ (own arg0 x -∗ own arg1 w -∗ own arg2 (YV x w) -∗ own arg3 (XC x) -∗ own arg4 (XSV x) -∗ own arg5 (WC w) -∗ own arg6 (WSV w)
          -∗ (∃ g, own arg7 g) -∗ (∃ g, own arg8 g) -∗ (∃ g, own arg9 g) -∗ (∃ g, own arg10 g) -∗ (∃ g, own arg11 g) -∗ (∃ g, own arg12 g)
          -∗ (∃ g, own arg13 g) -∗ (∃ g, own arg14 g) -∗ (∃ g, own arg15 g) -∗ (∃ g, own arg16 g) -∗ (∃ g, own arg17 g) -∗ (∃ g, own arg18 g)
          -∗ semVal ((c.tc : Thread nD τ), .dma arg19.sem) 0 -∗ semVal ((c.tc : Thread nD τ), .dma arg20.sem) 0 -∗ semVal ((c.tc : Thread nD τ), .dma arg23.sem) 0
          -∗ semVal ((c.tc : Thread nD τ), .dma (semR arg21 0)) 0 -∗ semVal ((c.tc : Thread nD τ), .dma (semR arg21 1)) 0
          -∗ semVal ((c.tc : Thread nD τ), .dma (semR arg21 2)) 0 -∗ semVal ((c.tc : Thread nD τ), .dma (semR arg21 3)) 0
          -∗ semVal ((c.tc : Thread nD τ), .dma (semC arg22 0)) 0 -∗ semVal ((c.tc : Thread nD τ), .dma (semC arg22 1)) 0 -∗ semVal ((c.tc : Thread nD τ), .dma (semC arg22 2)) 0
          -∗ owesNone (c.tc : Thread nD τ) -∗ Q ⟨⟩))
      ⊢ W (cc0_rollout_linear arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23) Q := by
  have s14 : semC arg22 14 = semC arg22 2 := semC_eq arg22 2 (by decide) _
  have s15 : semC arg22 15 = semC arg22 0 := semC_eq arg22 0 (by decide) _
  have s16 : semC arg22 16 = semC arg22 1 := semC_eq arg22 1 (by decide) _
  rw [Gen.cc0_rollout_linear_eq_skeleton]
  unfold Gen.cc0_rollout_linear_skel
  simp only [wp_bind]
  iintro ⟨H0, H1, H2, H3, H4, ⟨%g5, H5⟩, H6, H7, H8, H9, H10, ⟨%g11, H11⟩, ⟨%g12, H12⟩, H13, H14, H15, H16, H17, H18, V19, V20, V23, R0, R1, R2, R3, C0, C1, C2, Ho, HQ⟩
  ihave H1 := (own_buf c arg1 w) $$ H1
  icases H1 with ⟨%f1, H1⟩
  ihave H5 := (own_buf c arg5 g5) $$ H5
  icases H5 with ⟨%f5, H5⟩
  ihave H11 := (own_buf c arg11 g11) $$ H11
  icases H11 with ⟨%f11, H11⟩
  ihave H12 := (own_buf c arg12 g12) $$ H12
  icases H12 with ⟨%f12, H12⟩
  ihave HS := (ws_split arg11 c g11) $$ H11
  icases HS with ⟨S0, S1, S2, S3⟩
  ihave HC := (cs_split arg12 c g12) $$ H12
  ihave HB := (rd_begin arg1 arg11 arg21 c w) $$ H1
  icases HB with ⟨B0, B1, B2, B3, HR⟩
  iapply (wp_148 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 c 𝒱 bd x w)
  isplitl [H0]; · iexact H0
  isplitl [H7]; · iexact H7
  isplitl [V19]; · iexact V19
  isplitl [B0]; · iexact B0
  isplitl [B1]; · iexact B1
  isplitl [B2]; · iexact B2
  isplitl [B3]; · iexact B3
  isplitl [S0]; · iexact S0
  isplitl [S1]; · iexact S1
  isplitl [S2]; · iexact S2
  isplitl [S3]; · iexact S3
  isplitl [R0]; · iexact R0
  isplitl [R1]; · iexact R1
  isplitl [R2]; · iexact R2
  isplitl [R3]; · iexact R3
  isplitl [H13]; · iexact H13
  iintro Hf F0 F1 F2 F3 H13
  iapply (wp_149 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 c 𝒱 bd x w)
  isplitl [Hf]; · iexact Hf
  isplitl [HR F0 F1 F2 F3]; · iapply HR $$ F0 F1 F2 F3
  isplitl [H5 HC C0 C1 C2]
  · iapply (wr_begin arg5 arg12 arg22 c (cbOf w) g5)
    isplitl [H5]; · iexact H5
    isplitl [HC]; · iexact HC
    isplitl [C0]; · iexact C0
    isplitl [C1]; · iexact C1
    iexact C2
  isplitl [Ho]; · iexact Ho
  isplitl [H13]; · iexact H13
  isplitl [H10]; · iexact H10
  isplitl [H18]; · iexact H18
  isplitl [H9]; · iexact H9
  isplitl [H8]; · iexact H8
  isplitl [H3]; · iexact H3
  isplitl [H15]; · iexact H15
  isplitl [H16]; · iexact H16
  isplitl [H17]; · iexact H17
  isplitl [H14]; · iexact H14
  isplitl [H2]; · iexact H2
  isplitl [V20]; · iexact V20
  isplitl [V23]; · iexact V23
  iintro H7 H0 V19 HR HW Ho H13 H10 H9 ⟨%s, HA, %hs⟩ F20 F23
  unfold ownA
  icases HA with ⟨H15, H16, H17, H18⟩
  ihave H18 := (mown_congr (c.tc : Thread nD τ) hs) $$ H18
  ihave HE := (rd_end arg1 arg11 arg21 c w f1 f11) $$ HR
  icases HE with ⟨H1, H11, R0, R1, R2, R3⟩
  ihave HE := (wr_end arg5 arg12 arg22 c w f5 f12) $$ HW
  icases HE with ⟨W0, W1, W2, HE⟩
  iapply (ld_any c 𝒱 bd)
  isplitl [H4]; · iexact H4
  iintro %u1 H4
  iapply (st_full c 𝒱 bd)
  isplitl [H4]; · iexact H4
  iintro H4
  iapply (ld (c.tc : Thread nD τ) 𝒱 bd Set.univ (g := WS w 14))
  isplitl [H18]; · iexact H18
  iintro H18
  iapply (ld_any c 𝒱 bd)
  isplitl [H6]; · iexact H6
  iintro %u2 H6
  iapply (st_full c 𝒱 bd (v := WSV w))
  isplitl [H6]; · iexact H6
  iintro H6
  iapply (wp_finish arg5 arg12 arg22 c 𝒱 bd (cbOf w) 14 (by decide) (o1 := k0_off116 11#32) (o2 := k0_off117 11#32) (o3 := ![5632, 0]) (by decide +kernel) (by decide +kernel))
  isplitl [W0]; · iexact W0
  isplitl [Ho]; · iexact Ho
  iintro D0 X0 C2 Ho
  iapply (wp_finish arg5 arg12 arg22 c 𝒱 bd (cbOf w) 15 (by decide) (o1 := k0_off116 12#32) (o2 := k0_off117 12#32) (o3 := ![6144, 0]) (by decide +kernel) (by decide +kernel))
  isplitl [W1]; · iexact W1
  isplitl [Ho]; · iexact Ho
  iintro D1 X1 C0 Ho
  iapply (wp_finish arg5 arg12 arg22 c 𝒱 bd (cbOf w) 16 (by decide) (o1 := k0_off116 13#32) (o2 := k0_off117 13#32) (o3 := ![6656, 0]) (by decide +kernel) (by decide +kernel))
  isplitl [W2]; · iexact W2
  isplitl [Ho]; · iexact Ho
  iintro D2 X2 C1 Ho
  ihave HE := HE $$ D0 D1 D2 X0 X1 X2
  icases HE with ⟨H5, H12⟩
  iapply (wt (c.tc : Thread nD τ) 𝒱 bd (N := arg3.view.dmaCredit) rfl)
  isplitl [F20]; · iexact F20
  isplitl [Ho]; · iexact Ho
  iintro ⟨H3, H8⟩ V20 Ho
  iapply (wt (c.tc : Thread nD τ) 𝒱 bd (N := arg2.view.dmaCredit) rfl)
  isplitl [F23]; · iexact F23
  isplitl [Ho]; · iexact Ho
  iintro ⟨H2, H14⟩ V23 Ho
  iapply (rt (c.tc : Thread nD τ) 𝒱 bd Set.univ (a := PUnit.unit))
  rw [s14, s15, s16]
  iapply HQ $$ H0 H1 H2 H3 H4 H5 H6 [H7] [H8] H9 H10 H11 H12 H13 [H14] [H15] [H16] [H17] [H18] V19 V20 V23 R0 R1 R2 R3 C0 C1 C2 Ho
  · iexists _; iexact H7
  · iexists _; iexact H8
  · iexists _; iexact H14
  · iexists _; iexact H15
  · iexists _; iexact H16
  · iexists _; iexact H17
  · iexists _; iexact H18

end Cert.Kernel.Tr

end
-- ==== Proof.Kernel.Launch.lean ====
/- The launch: the whole program runs to its end, leaves its arguments unchanged, every semaphore at zero, and its
   results hold what the body's run states. -/
module

public import proofs.«01_k».proof.Proof.Kernel.Body
public import proofs.«01_k».proof.Proof.Gen.Kernel.Frame
public import Idealize.ShloMosaic.Lib.Pipeline.Routed
public import Idealize.ShloMosaic.Lib.Pipeline.Value

@[expose] public section

set_option maxRecDepth 16384

noncomputable section

namespace Cert.Kernel.Tr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Own
open Facts₀ Facts
open Idealize.ShloMosaic.Pipeline (Dat Cfg Window BodyObligation cellOf)

attribute [local irreducible] core phaseA phaseB stA cAfter accAfter YV XSC XSV WSV XC WC

variable {F : FTy → Type} [FloatOps F]
local notation "𝕄" => MT nD τ sig Unit (Elt F) ℕ (Pipeline.UC sig nD τ) ℕ

variable (m : (ℓ : Loc nD τ sig) → Buf (Elt F) ℓ) (ρ : Dev nD → PrngReg)

abbrev 𝒱₀ : Variants := Variants.none

/-! ## Whole buffers -/

theorem own_of_pt (c : Dev nD) (b : Ref sig .tc) (f : Buf (Elt F) ((c.tc : Thread nD τ).loc b)) :
    (((c.tc : Thread nD τ).loc b) ↦{fullShare} f : sProp 𝕄) ⊢ mown (c.tc : Thread nD τ) (Memref.whole b) f := by
  unfold mown; simp only [Memref.view_whole, View.read_whole, View.set_whole]
  iintro H; iexists f
  isplitl [H]; · iexact H
  ipureintro; trivial

theorem pt_of_own (c : Dev nD) (b : Ref sig .tc) (f : Buf (Elt F) ((c.tc : Thread nD τ).loc b)) :
    (mown (c.tc : Thread nD τ) (Memref.whole b) f : sProp 𝕄) ⊢ ((c.tc : Thread nD τ).loc b) ↦{fullShare} f := by
  unfold mown; simp only [Memref.view_whole, View.read_whole, View.set_whole]
  iintro ⟨%g, H, %h⟩
  subst h
  iexact H

theorem own_of_ptE (c : Dev nD) (b : Ref sig .tc) :
    iprop(∃ f : Buf (Elt F) ((c.tc : Thread nD τ).loc b), ((c.tc : Thread nD τ).loc b) ↦{fullShare} f) ⊢ (iprop(∃ f, mown (c.tc : Thread nD τ) (Memref.whole b) f) : sProp 𝕄) := by
  iintro ⟨%f, H⟩; iexists f; iapply (own_of_pt c b f); iexact H

theorem ptE_of_own (c : Dev nD) (b : Ref sig .tc) :
    (iprop(∃ f, mown (c.tc : Thread nD τ) (Memref.whole b) f) : sProp 𝕄) ⊢ iprop(∃ f : Buf (Elt F) ((c.tc : Thread nD τ).loc b), ((c.tc : Thread nD τ).loc b) ↦{fullShare} f) := by
  iintro ⟨%f, H⟩; iexists f; iapply (pt_of_own c b f); iexact H

theorem own_of_owns (c : Dev nD) {sp : CoreSpace} {s : Shape} {e : EltTy} (b : Memref sig .tc sp s e) (X : s.Idx → Elt F e) :
    (owns (c.tc : Thread nD τ) b fullShare X : sProp 𝕄) ⊢ mown (c.tc : Thread nD τ) b X := by
  unfold owns mown
  iintro ⟨%f, %h, H⟩; iexists f
  isplitl [H]; · iexact H
  ipureintro; exact h

theorem owns_of_own (c : Dev nD) {sp : CoreSpace} {s : Shape} {e : EltTy} (b : Memref sig .tc sp s e) (X : s.Idx → Elt F e) :
    (mown (c.tc : Thread nD τ) b X : sProp 𝕄) ⊢ owns (c.tc : Thread nD τ) b fullShare X := by
  unfold owns mown
  iintro ⟨%f, H, %h⟩; iexists f
  isplitr [H]; · ipureintro; exact h
  iexact H

/-! ## The proof data -/

/-- `x` as the region finds it. -/
def xAt (c : Dev nD) : Vec F S200x7168 .bf16 := Gen.V m c main_v0
/-- `w` as the region finds it. -/
def wAt (c : Dev nD) : Vec F S7168x3072 .bf16 := Gen.V m c main_arg1

/-- The kernel's own semaphores. -/
def osem : Fin 10 → SemLoc sig := fun k =>
  if k = 0 then .dma cc0_scratch12.sem else if k = 1 then .dma cc0_scratch13.sem else if k = 2 then .dma cc0_scratch16.sem
  else if k.val < 7 then .dma (semR cc0_scratch14 (k.val - 3)) else .dma (semC cc0_scratch15 (k.val - 7))

theorem ownSemFacts : Pipeline.OwnSemFacts cfg0.spec osem := by decide +kernel

/-- The buffers left in the main memory that the body reaches by its own copies. -/
def R : Finset (Ref sig .tc) := {main_v0, main_arg1, main_v1_0, main_v1_1, main_v1_3}

/-- What they hold after the region. -/
def Y (c : Dev nD) : (b : Ref sig .tc) → Buf (Elt F) ((c.tc : Thread nD τ).loc b) :=
  Function.update (Function.update (Function.update (Gen.V m c) main_v1_0 (YV (xAt m c) (wAt m c))) main_v1_1 (XC (xAt m c))) main_v1_3 (WC (wAt m c))

theorem Y_v0 (c : Dev nD) : Y m c main_v0 = xAt m c := by
  unfold Y; rw [Function.update_of_ne (by decide), Function.update_of_ne (by decide), Function.update_of_ne (by decide)]; rfl
theorem Y_arg1 (c : Dev nD) : Y m c main_arg1 = wAt m c := by
  unfold Y; rw [Function.update_of_ne (by decide), Function.update_of_ne (by decide), Function.update_of_ne (by decide)]; rfl
theorem Y_v1_0 (c : Dev nD) : Y m c main_v1_0 = YV (xAt m c) (wAt m c) := by
  unfold Y; rw [Function.update_of_ne (by decide), Function.update_of_ne (by decide), Function.update_self]
theorem Y_v1_1 (c : Dev nD) : Y m c main_v1_1 = XC (xAt m c) := by
  unfold Y; rw [Function.update_of_ne (by decide), Function.update_self]
theorem Y_v1_3 (c : Dev nD) : Y m c main_v1_3 = WC (wAt m c) := by
  unfold Y; rw [Function.update_self]

abbrev E (c : Dev nD) (W : (b : Ref sig .tc) → Buf (Elt F) ((c.tc : Thread nD τ).loc b)) : sProp 𝕄 := Pipeline.Ends cfg0.spec osem R c W

def dats (_ : Fin 1) (c : Dev nD) : Dat τ (Elt F) Unit ℕ (Pipeline.UC sig nD τ) ℕ cfg0 c where
  A w := Gen.V m c (Pipeline.arrRef spec0 w)
  after w _ := match w with
    | ⟨0, _⟩ => XSV (xAt m c)
    | ⟨1, _⟩ => WSV (wAt m c)
  Φ t := E c (if t.val = 0 then Gen.V m c else Y m c)
  q _ := fullShare
  owed _ := 0

/-- The end's parts, one by one. -/
theorem E_eq (c : Dev nD) (W : (b : Ref sig .tc) → Buf (Elt F) ((c.tc : Thread nD τ).loc b)) :
    E c W = iprop(((((c.tc : Thread nD τ).loc main_v0) ↦{fullShare} W main_v0) ∗ (((c.tc : Thread nD τ).loc main_arg1) ↦{fullShare} W main_arg1)
        ∗ (((c.tc : Thread nD τ).loc main_v1_0) ↦{fullShare} W main_v1_0) ∗ (((c.tc : Thread nD τ).loc main_v1_1) ↦{fullShare} W main_v1_1)
        ∗ (((c.tc : Thread nD τ).loc main_v1_3) ↦{fullShare} W main_v1_3))
      ∗ (semVal ((c.tc : Thread nD τ), .dma cc0_scratch12.sem) 0 ∗ semVal ((c.tc : Thread nD τ), .dma cc0_scratch13.sem) 0 ∗ semVal ((c.tc : Thread nD τ), .dma cc0_scratch16.sem) 0
        ∗ semVal ((c.tc : Thread nD τ), .dma (semR cc0_scratch14 0)) 0 ∗ semVal ((c.tc : Thread nD τ), .dma (semR cc0_scratch14 1)) 0
        ∗ semVal ((c.tc : Thread nD τ), .dma (semR cc0_scratch14 2)) 0 ∗ semVal ((c.tc : Thread nD τ), .dma (semR cc0_scratch14 3)) 0
        ∗ semVal ((c.tc : Thread nD τ), .dma (semC cc0_scratch15 0)) 0 ∗ semVal ((c.tc : Thread nD τ), .dma (semC cc0_scratch15 1)) 0 ∗ semVal ((c.tc : Thread nD τ), .dma (semC cc0_scratch15 2)) 0)
      ∗ Pipeline.scopedRest (Ix := Unit) (Name := ℕ) (U := Pipeline.UC sig nD τ) (Lvl := ℕ) (Val := Elt F) spec0 c ∗ ∃ r, prngReg c r) := by
  unfold E Pipeline.Ends Pipeline.routed
  rw [bigSep_eq_bigSepL_of_eq [main_v0, main_arg1, main_v1_0, main_v1_1, main_v1_3] (by decide) (by decide),
    Pipeline.ownSems0_eq_of_list c osem [0, 1, 2, 3, 4, 5, 6, 7, 8, 9] (by decide) (by decide)]
  rfl

theorem owes_in (c : Dev nD) (t : Fin (cfg0.N + 1)) : (dats m 0 c).owesAt () t ⊢ (owesNone (c.tc : Thread nD τ) : sProp 𝕄) := by
  unfold Dat.owesAt Pipeline.owesWithin owesNone
  iintro ⟨%W, -, H⟩; iexists W; iexact H

theorem owes_out (c : Dev nD) (t : Fin (cfg0.N + 1)) : (owesNone (c.tc : Thread nD τ) : sProp 𝕄) ⊢ (dats m 0 c).owesAt () t := by
  unfold Dat.owesAt Pipeline.owesWithin owesNone
  iintro ⟨%W, H⟩; iexists W
  isplitr [H]
  · ipureintro; intro a _; exact Or.inl trivial
  iexact H

theorem body_obligation (c : Dev nD) : BodyObligation (dats m 0 c) (defs₀ (F := F)) 𝒱₀ () Set.univ := fun t => by
  obtain rfl := Gen.fin_N0 t
  rw [Gen.bigSep_W0, Gen.bigSep_W0,
    show (dats m 0 c).Φ Gen.t0_0.castSucc = E c (Gen.V m c) from rfl, show (dats m 0 c).Φ Gen.t0_0.succ = E c (Y m c) from rfl,
    E_eq, E_eq, Gen.scopedRest0_eq, Y_v0, Y_arg1, Y_v1_0, Y_v1_1, Y_v1_3]
  change _ ⊢ wp frame (wpE (defs₀ (F := F)) 𝒱₀ c none) Set.univ (Gen.bodyAt0 Gen.t0_0) _
  iintro ⟨⟨⟨H0, H1, H2, H3, H5⟩, ⟨V19, V20, V23, R0, R1, R2, R3, C0, C1, C2⟩, ⟨H7, H8, H9, H10, H11, H12, H13, H14, H15, H16, H17, H18⟩, Hg⟩, Ho,
    ⟨%d4, H4⟩, ⟨%d6, H6⟩⟩
  iapply (wp_body _ _ _ _ _ _ _ _ _ _ _ _ _ _ _ _ _ _ _ _ _ _ _ _ _ _ _ _ _ _ _ _ _ _ _ _ _ _ _ _ _ _ _ c 𝒱₀ none (xAt m c) (wAt m c))
  isplitl [H0]; · iapply (own_of_pt c main_v0 (xAt m c)); iexact H0
  isplitl [H1]; · iapply (own_of_pt c main_arg1 (wAt m c)); iexact H1
  isplitl [H2]; · iexists _; iapply (own_of_pt c main_v1_0 _); iexact H2
  isplitl [H3]; · iexists _; iapply (own_of_pt c main_v1_1 _); iexact H3
  isplitl [H4]; · iexists _; iapply (own_of_owns c _ _); iexact H4
  isplitl [H5]; · iexists _; iapply (own_of_pt c main_v1_3 _); iexact H5
  isplitl [H6]; · iexists _; iapply (own_of_owns c _ _); iexact H6
  isplitl [H7]; · iapply (own_of_ptE c cc0_scratch0); iexact H7
  isplitl [H8]; · iapply (own_of_ptE c cc0_scratch1); iexact H8
  isplitl [H9]; · iapply (own_of_ptE c cc0_scratch2); iexact H9
  isplitl [H10]; · iapply (own_of_ptE c cc0_scratch3); iexact H10
  isplitl [H11]; · iapply (own_of_ptE c cc0_scratch4); iexact H11
  isplitl [H12]; · iapply (own_of_ptE c cc0_scratch5); iexact H12
  isplitl [H13]; · iapply (own_of_ptE c cc0_scratch6); iexact H13
  isplitl [H14]; · iapply (own_of_ptE c cc0_scratch7); iexact H14
  isplitl [H15]; · iapply (own_of_ptE c cc0_scratch8); iexact H15
  isplitl [H16]; · iapply (own_of_ptE c cc0_scratch9); iexact H16
  isplitl [H17]; · iapply (own_of_ptE c cc0_scratch10); iexact H17
  isplitl [H18]; · iapply (own_of_ptE c cc0_scratch11); iexact H18
  isplitl [V19]; · iexact V19
  isplitl [V20]; · iexact V20
  isplitl [V23]; · iexact V23
  isplitl [R0]; · iexact R0
  isplitl [R1]; · iexact R1
  isplitl [R2]; · iexact R2
  isplitl [R3]; · iexact R3
  isplitl [C0]; · iexact C0
  isplitl [C1]; · iexact C1
  isplitl [C2]; · iexact C2
  isplitl [Ho]; · iapply (owes_in m c _); iexact Ho
  iintro H0 H1 H2 H3 H4 H5 H6 H7 H8 H9 H10 H11 H12 H13 H14 H15 H16 H17 H18 V19 V20 V23 R0 R1 R2 R3 C0 C1 C2 Ho
  isplitr [Ho H4 H6]
  · isplitl [H0 H1 H2 H3 H5]
    · isplitl [H0]; · iapply (pt_of_own c main_v0 _); iexact H0
      isplitl [H1]; · iapply (pt_of_own c main_arg1 _); iexact H1
      isplitl [H2]; · iapply (pt_of_own c main_v1_0 _); iexact H2
      isplitl [H3]; · iapply (pt_of_own c main_v1_1 _); iexact H3
      iapply (pt_of_own c main_v1_3 _); iexact H5
    isplitl [V19 V20 V23 R0 R1 R2 R3 C0 C1 C2]
    · isplitl [V19]; · iexact V19
      isplitl [V20]; · iexact V20
      isplitl [V23]; · iexact V23
      isplitl [R0]; · iexact R0
      isplitl [R1]; · iexact R1
      isplitl [R2]; · iexact R2
      isplitl [R3]; · iexact R3
      isplitl [C0]; · iexact C0
      isplitl [C1]; · iexact C1
      iexact C2
    isplitr [Hg]
    · isplitl [H7]; · iapply (ptE_of_own c cc0_scratch0); iexact H7
      isplitl [H8]; · iapply (ptE_of_own c cc0_scratch1); iexact H8
      isplitl [H9]; · iapply (ptE_of_own c cc0_scratch2); iexact H9
      isplitl [H10]; · iapply (ptE_of_own c cc0_scratch3); iexact H10
      isplitl [H11]; · iapply (ptE_of_own c cc0_scratch4); iexact H11
      isplitl [H12]; · iapply (ptE_of_own c cc0_scratch5); iexact H12
      isplitl [H13]; · iapply (ptE_of_own c cc0_scratch6); iexact H13
      isplitl [H14]; · iapply (ptE_of_own c cc0_scratch7); iexact H14
      isplitl [H15]; · iapply (ptE_of_own c cc0_scratch8); iexact H15
      isplitl [H16]; · iapply (ptE_of_own c cc0_scratch9); iexact H16
      isplitl [H17]; · iapply (ptE_of_own c cc0_scratch10); iexact H17
      iapply (ptE_of_own c cc0_scratch11); iexact H18
    iexact Hg
  isplitl [Ho]; · iapply (owes_out m c _); iexact Ho
  isplitl [H4]; · iapply (owns_of_own c (Gen.st0_0 Gen.t0_0) (XSV (xAt m c))); iexact H4
  iapply (owns_of_own c (Gen.st0_1 Gen.t0_0) (WSV (wAt m c))); iexact H6

/-! ## The launch -/

set_option maxHeartbeats 800000 in
theorem hmain : Pipeline.HMain (Ix := Unit) (Name := ℕ) (U := Pipeline.UC sig nD τ) (Lvl := ℕ) cfgs 0 defs₀ 𝒱₀ m (main (F := F)) (Gen.V m) :=
  Pipeline.hmain_prefix cfgs 0 defs₀ 𝒱₀ m main Gen.hostOps0 Gen.hostOps0_sub Gen.hostOps0_fresh Gen.main_chain

theorem R_sub : R ⊆ Pipeline.restRefs sig cfg0.spec := by decide

theorem run : θ_run (defs (F := F)) (onTc (τ := τ) (main (F := F))) (s₀ m ρ)
    (fun r => Pipeline.RoutedPost cfgs (dats m) 0 R (Gen.V m) (Y m) r ∧ r.2.sem = fun _ => 0) :=
  Pipeline.θ_run_frame_routed cfgs (dats m) 0 Gen.launch0 ownSemFacts defs₀ 𝒱₀ m ρ main
    (fun c => (body_obligation m c).loose) (fun c w => Dat.share_full _ (fun _ => rfl) w) (fun _ _ => rfl)
    (Gen.V m) (hmain m) (fun _ _ => rfl) R R_sub (Y m) (fun _ => .rfl) (fun _ => .rfl) (Q' := _) (hQ' := fun _ h => h)

/-- The program runs to its end without fault, its arguments unchanged and every semaphore at zero. -/
theorem quiescent : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((h.1 c).2.2 main_arg0 (by decide)).trans (Gen.V_main_arg0 m c),
     ((h.1 c).2.1 main_arg1 (by decide)).trans ((Y_arg1 m c).trans (Gen.V_main_arg1 m c))⟩, h.2⟩) (run m ρ)

end Cert.Kernel.Tr

end
-- ==== Proof.KernelIdeal.Trip.lean ====
/- One trip of the kernel's second loop, written as a structured program: the waits, the block maxima and exponents
   of the trip's 512 rows of `w` (by recursion over row blocks and column blocks), the quantised tiles and the
   products with the trip's 512 columns of `x` (by recursion over column groups), and the two copies it starts.
   `body_eq` says that the printed trip is this program. -/
module

public import proofs.«01_k».proof.Proof.Gen.KernelIdeal.Skeleton
public import Idealize.ShloMosaic.Lib.Tactic

@[expose] public section

set_option maxRecDepth 16384

noncomputable section

namespace Cert.KernelIdeal.Tr

open Idealize.ShloMosaic Idealize.SL.Sem Idealize.ShloMosaic.TcCoe Idealize.ShloMosaic.Tactic
open Cert.KernelIdeal
open Facts₀ Facts

variable {F : FTy → Type} [FloatOps F]

/-- Programs of the kernel's core. -/
abbrev PG (F : FTy → Type) : Type → Type _ := Prog (TpuEff nD τ sig (Elt F) Λ₀ .tc)
local notation "Tm" => Fin k0_t2_loop.trips

/-! ## Offsets -/

theorem inb_w (kb : Fin 4) (b : Fin 24) : ∀ a, (![128 * kb.val, 128 * b.val] : Fin 2 → Nat) a + S128x128.size a ≤ S512x3072.size a := by
  revert kb b; decide +kernel
theorem inb_slab (kb : Fin 4) (b : Fin 24) : ∀ a, (![kb.val, 9 * b.val, 0] : Fin 3 → Nat) a + S1x8x128.size a ≤ S4x216x128.size a := by
  revert kb b; decide +kernel
theorem inb_kb (kb : Fin 4) : ∀ a, (![kb.val, 0, 0] : Fin 3 → Nat) a + S1x24x128.size a ≤ S4x24x128.size a := by
  revert kb; decide +kernel
theorem inb_row (kb : Fin 4) (b : Fin 24) : ∀ a, (![kb.val, b.val, 0] : Fin 3 → Nat) a + S1x1x128.size a ≤ S4x24x128.size a := by
  revert kb b; decide +kernel
theorem inb_acc (j : Fin 12) : ∀ a, (![0, 256 * j.val] : Fin 2 → Nat) a + S208x256.size a ≤ S208x3072.size a := by
  revert j; decide +kernel
/-- The offsets of tile `(kb, b)` of the trip's slot of codes. -/
def cOff (t : Tm) (kb : Fin 4) (b : Fin 24) : Fin 3 → Nat := ![k0_off15 t 0, 128 * kb.val, 128 * b.val]
theorem inb_c (t : Tm) (kb : Fin 4) (b : Fin 24) : ∀ a, cOff t kb b a + S1x128x128.size a ≤ S3x512x3072.size a := by
  revert t kb b; decide +kernel
theorem packed_c (t : Tm) (kb : Fin 4) (b : Fin 24) :
    (Rect.unit (s := S3x512x3072) (cOff t kb b) S1x128x128.size (inb_c t kb b)).PackedRows (EltTy.packing .fp8e4m3) := by
  revert t kb b; decide +kernel

/-- The strided rows `s, s + 9, …` of plane `kb` of the slab. -/
def slabRect (kb : Fin 4) (s : Fin 8) : LoadRect S4x216x128 :=
  ⟨![kb.val, s.val, 0], S1x24x128.size, ![1, 9, 1], by revert kb s; decide +kernel⟩

/-! ## Values -/

/-- The 8 row maxima (per lane) of the magnitudes of a 128 × 128 block. -/
def slabVal (v : Vec F S128x128 .bf16) : FVec F S1x8x128 .f32 :=
  let m := extf .f32 (multiReduction .maximumf [0] S16x128 (shapeCast S8x16x128 (absf v) shapeCasts_S128x128_S8x16x128)
    0xFF80#16 reduces_S8x16x128_S16x128 (.inr rfl) rfl) bitsLt_bf16_f32
  shapeCast S1x8x128 (maximumf (extractStridedSlice S8x128 ![0, 0] m slices_S16x128_o0_0_S8x128)
    (extractStridedSlice S8x128 ![8, 0] m slices_S16x128_o8_0_S8x128)) shapeCasts_S8x128_S1x8x128

/-- One step of the search for the exponent: bit `b` is kept when the power of two it makes is at most `q`. -/
def bitStep {s : Shape} (q : FVec F s .f32) (b : BitVec 32) (eb : IVec s 32) : IVec s 32 :=
  let t := ori eb (broadcast s b)
  select (cmpf .oge q (bitcastToFloat .f32 (shli t (broadcast s 23#32)))) t eb

/-- The biased exponent of the next power of two down of `q`, 126 where it is no normal number's. -/
def expo {s : Shape} (q : FVec F s .f32) : IVec s 32 :=
  let eb := bitStep q 1#32 (bitStep q 2#32 (bitStep q 4#32 (bitStep q 8#32 (bitStep q 16#32 (bitStep q 32#32
    (bitStep q 64#32 (bitStep q 128#32 (broadcast s 0#32))))))))
  select (ori (cmpi .eq eb (broadcast s 0#32)) (cmpi .eq eb (broadcast s 255#32))) (broadcast s 126#32) eb

/-- The lane maximum of each of the 24 blocks' slab rows, over 448. -/
def quot (m : FVec F S24x128 .f32) : FVec F S24x128 .f32 :=
  mulf (broadcastTo S24x128 (shapeCast S24x1 (shapeCast S24x1 (multiReduction .maximumf [1] S24 m 0xFF800000#32
    reduces_S24x128_S24 (.inl rfl) rfl) shapeCasts_S24_S24x1) shapeCasts_S24x1_S24x1) broadcasts_S24x1_S24x128)
    (broadcast S24x128 (Scalar.ofBits .f32 0x3B124925#32))

/-- A bf16 half word in both halves of a word. -/
def pairWord (h : IVec S24x128 32) : IVec S24x128 32 := ori h (shli h (broadcast S24x128 16#32))
/-- The words of the reciprocal scales. -/
def invWord (e : IVec S24x128 32) : IVec S24x128 32 := pairWord (shli (subi (broadcast S24x128 253#32) e) (broadcast S24x128 7#32))
/-- The words of the scales. -/
def scaleWord (e : IVec S24x128 32) : IVec S24x128 32 := pairWord (shli (addi e (broadcast S24x128 1#32)) (broadcast S24x128 7#32))
/-- The scale codes with lane `4 i + kb` filled in. -/
def wsSel (lane : IVec S24x128 32) (arg24 : BitVec 32) (kb : Fin 4) (e : IVec S24x128 32) (old : IVec S24x128 32) : IVec S24x128 32 :=
  select (cmpi .eq lane (broadcast S24x128 (Scalar.addi (Scalar.muli arg24 4#32) (BitVec.ofNat 32 kb.val)))) (addi e (broadcast S24x128 1#32)) old

/-- A row of words read as 16 rows of bf16 numbers. -/
def rowF (v : IVec S1x1x128 32) : FVec F S16x128 .bf16 :=
  bitcastToFloat .bf16 (bitcast S16x128 16 (broadcastTo S8x128 (shapeCast S1x128 (shapeCast S1x128 v shapeCasts_S1x1x128_S1x128)
    shapeCasts_S1x128_S1x128) broadcasts_S1x128_S8x128) bitcasts_S8x128_w32_S16x128_w16)
/-- 16 rows repeated to 8 × 16. -/
def rep (v : FVec F S16x128 .bf16) : FVec F S8x16x128 .bf16 :=
  broadcastTo S8x16x128 (shapeCast S1x16x128 v shapeCasts_S16x128_S1x16x128) broadcasts_S1x16x128_S8x16x128
/-- The codes of a block at reciprocal scale `inv`. -/
def codes (v : Vec F S128x128 .bf16) (inv : FVec F S16x128 .bf16) : FVec F S128x128 .fp8e4m3 :=
  truncf .fp8e4m3 (shapeCast S128x128 (minimumf (broadcast S8x16x128 (Scalar.ofBits .bf16 0x43E0#16))
    (maximumf (broadcast S8x16x128 (Scalar.ofBits .bf16 0xC3E0#16)) (mulf (shapeCast S8x16x128 v shapeCasts_S128x128_S8x16x128) (rep inv))))
    shapeCasts_S8x16x128_S128x128) bitsLt_fp8e4m3_bf16
/-- The codes at scale `scale` again. -/
def deq (c : FVec F S128x128 .fp8e4m3) (scale : FVec F S16x128 .bf16) : FVec F S128x128 .bf16 :=
  shapeCast S128x128 (mulf (shapeCast S8x16x128 (extf .bf16 c bitsLt_fp8e4m3_bf16) shapeCasts_S128x128_S8x16x128) (rep scale))
    shapeCasts_S8x16x128_S128x128
/-- Four blocks one below the other. -/
def col4 (d0 d1 d2 d3 : FVec F S128x128 .bf16) : FVec F S512x128 .bf16 :=
  concatenate S512x128 0 [⟨S128x128, d0⟩, ⟨S128x128, d1⟩, ⟨S128x128, d2⟩, ⟨S128x128, d3⟩] concatenates_S128x128_S128x128_S128x128_S128x128_S512x128_d0
/-- Two columns of blocks side by side. -/
def row2 (c0 c1 : FVec F S512x128 .bf16) : FVec F S512x256 .bf16 :=
  concatenate S512x256 1 [⟨S512x128, c0⟩, ⟨S512x128, c1⟩] concatenates_S512x128_S512x128_S512x256_d1
/-- The accumulator's columns plus the product. -/
def accVal (xk : FVec F S208x512 .bf16) (wd : FVec F S512x256 .bf16) (old : FVec F S208x256 .f32) : FVec F S208x256 .f32 :=
  shapeCast S208x256 (addf old (matmul dot_S208x512_S512x256_S208x256_1_0_0_1_n_n none xk wd (constant S208x256 .f32 0x00000000#32))) shapeCasts_S208x256_S208x256

/-! ## The program -/

section Prog

variable (wm : Memref sig .tc .vmem S512x3072 .bf16) (cm : Memref sig .tc .vmem S512x3072 .fp8e4m3)
  (arg9 : Memref sig .tc .vmem S14x208x512 .bf16)
  (arg12 : Memref sig .tc .vmem S3x512x3072 .fp8e4m3) (harg12 : arg12.IsWhole)
  (arg13 : Memref sig .tc .vmem S208x3072 .f32)
  (arg15 : Memref sig .tc .vmem S4x216x128 .f32) (arg16 arg17 : Memref sig .tc .vmem S4x24x128 .i32)
  (arg18 : Memref sig .tc .vmem S24x128 .i32)

/-- Block `(kb, b)`'s row maxima into the slab. -/
def slabTile (kb : Fin 4) (b : Fin 24) : PG F PUnit := do
  let v : Vec F S128x128 .bf16 ← Prog.lift (.load wm (Rect.unit (s := S512x3072) ![128 * kb.val, 128 * b.val] S128x128.size (inb_w kb b)).toLoadRect (View.loadsAt_vmem h_S128x128))
  let _old : Vec F S1x8x128 .f32 ← Prog.lift (.load arg15 (Rect.unit (s := S4x216x128) ![kb.val, 9 * b.val, 0] S1x8x128.size (inb_slab kb b)).toLoadRect (View.loadsAt_vmem h_S1x8x128))
  Prog.lift (.store arg15 (Rect.unit (s := S4x216x128) ![kb.val, 9 * b.val, 0] S1x8x128.size (inb_slab kb b)) (slabVal v) Finset.univ (View.stores_vmem_bits_univ h_S1x8x128 rfl) (.inl rfl))

/-- The first `n` blocks of block row `kb`. -/
def slabRow (kb : Fin 4) : (n : Nat) → n ≤ 24 → PG F PUnit
  | 0, _ => pure ⟨⟩
  | n + 1, h => do
    slabRow kb n (Nat.le_of_succ_le h)
    slabTile wm arg15 kb ⟨n, h⟩

/-- The maximum over the slab's sublanes `0 … n` of plane `kb`. -/
def slabMax (kb : Fin 4) : (n : Nat) → n < 8 → PG F (FVec F S24x128 .f32)
  | 0, h => do
    let v : Vec F S1x24x128 .f32 ← Prog.lift (.load arg15 (slabRect kb ⟨0, h⟩) (View.loadsAt_vmem h_S1x24x128))
    pure (shapeCast S24x128 v shapeCasts_S1x24x128_S24x128)
  | n + 1, h => do
    let m : FVec F S24x128 .f32 ← slabMax kb n (Nat.lt_of_succ_lt h)
    let v : Vec F S1x24x128 .f32 ← Prog.lift (.load arg15 (slabRect kb ⟨n + 1, h⟩) (View.loadsAt_vmem h_S1x24x128))
    pure (maximumf m (shapeCast S24x128 v shapeCasts_S1x24x128_S24x128))

/-- The words of block row `kb`'s 24 scales and their codes. -/
def scales (lane : IVec S24x128 32) (arg24 : BitVec 32) (kb : Fin 4) (e : IVec S24x128 32) : PG F PUnit := do
  let _o1 : Vec F S1x24x128 .i32 ← Prog.lift (.load arg16 (Rect.unit (s := S4x24x128) ![kb.val, 0, 0] S1x24x128.size (inb_kb kb)).toLoadRect (View.loadsAt_vmem h_S1x24x128))
  Prog.lift (.store arg16 (Rect.unit (s := S4x24x128) ![kb.val, 0, 0] S1x24x128.size (inb_kb kb)) (shapeCast S1x24x128 (invWord e) shapeCasts_S24x128_S1x24x128 : Vec F S1x24x128 .i32) Finset.univ (View.stores_vmem_bits_univ h_S1x24x128 rfl) (.inl rfl))
  let _o2 : Vec F S1x24x128 .i32 ← Prog.lift (.load arg17 (Rect.unit (s := S4x24x128) ![kb.val, 0, 0] S1x24x128.size (inb_kb kb)).toLoadRect (View.loadsAt_vmem h_S1x24x128))
  Prog.lift (.store arg17 (Rect.unit (s := S4x24x128) ![kb.val, 0, 0] S1x24x128.size (inb_kb kb)) (shapeCast S1x24x128 (scaleWord e) shapeCasts_S24x128_S1x24x128 : Vec F S1x24x128 .i32) Finset.univ (View.stores_vmem_bits_univ h_S1x24x128 rfl) (.inl rfl))
  let old : Vec F S24x128 .i32 ← Prog.lift (.load arg18 (Rect.unit (s := S24x128) ![0, 0] S24x128.size inb_S24x128_S24x128_0_0).toLoadRect (View.loadsAt_vmem h_S24x128))
  let _o3 : Vec F S24x128 .i32 ← Prog.lift (.load arg18 (Rect.unit (s := S24x128) ![0, 0] S24x128.size inb_S24x128_S24x128_0_0).toLoadRect (View.loadsAt_vmem h_S24x128))
  Prog.lift (.store arg18 (Rect.unit (s := S24x128) ![0, 0] S24x128.size inb_S24x128_S24x128_0_0) (shapeCast S24x128 (wsSel lane arg24 kb e old) shapeCasts_S24x128_S24x128 : Vec F S24x128 .i32) Finset.univ (View.stores_vmem_bits_univ h_S24x128 rfl) (.inl rfl))

/-- The first `n` block rows' scales. -/
def phaseA (lane : IVec S24x128 32) (arg24 : BitVec 32) : (n : Nat) → n ≤ 4 → PG F PUnit
  | 0, _ => pure ⟨⟩
  | n + 1, h => do
    phaseA lane arg24 n (Nat.le_of_succ_le h)
    slabRow wm arg15 ⟨n, h⟩ 24 le_rfl
    let m : FVec F S24x128 .f32 ← slabMax arg15 ⟨n, h⟩ 7 (by decide)
    scales arg16 arg17 arg18 lane arg24 ⟨n, h⟩ (expo (quot m))

/-- Block `(kb, b)` quantised: its codes into the slot, the numbers they stand for as the result. -/
def tile (t : Tm) (b : Fin 24) (kb : Fin 4) : PG F (FVec F S128x128 .bf16) := do
  let i : Vec F S1x1x128 .i32 ← Prog.lift (.load arg16 (Rect.unit (s := S4x24x128) ![kb.val, b.val, 0] S1x1x128.size (inb_row kb b)).toLoadRect (View.loadsAt_vmem h_S1x1x128))
  let s : Vec F S1x1x128 .i32 ← Prog.lift (.load arg17 (Rect.unit (s := S4x24x128) ![kb.val, b.val, 0] S1x1x128.size (inb_row kb b)).toLoadRect (View.loadsAt_vmem h_S1x1x128))
  let v : Vec F S128x128 .bf16 ← Prog.lift (.load wm (Rect.unit (s := S512x3072) ![128 * kb.val, 128 * b.val] S128x128.size (inb_w kb b)).toLoadRect (View.loadsAt_vmem h_S128x128))
  let _o : Vec F S128x128 .fp8e4m3 ← Prog.lift (.load cm (Rect.unit (s := S512x3072) ![128 * kb.val, 128 * b.val] S128x128.size (inb_w kb b)).toLoadRect (View.loadsAt_vmem h_S128x128))
  Prog.lift (.store arg12 (Rect.unit (s := S3x512x3072) (cOff t kb b) S1x128x128.size (inb_c t kb b))
    (shapeCast S1x128x128 (shapeCast S128x128 (codes v (rowF i)) shapeCasts_S128x128_S128x128) shapeCasts_S128x128_S1x128x128) Finset.univ
    (View.stores_vmem h_S1x128x128 (harg12.storeExact_slice rfl _ (packed_c t kb b)) (fun _ => rfl)) (.inl rfl))
  pure (deq (codes v (rowF i)) (rowF s))

/-- Column block `b` quantised. -/
def colTiles (t : Tm) (b : Fin 24) : PG F (FVec F S512x128 .bf16) := do
  let d0 : FVec F S128x128 .bf16 ← tile wm cm arg12 harg12 arg16 arg17 t b 0
  let d1 : FVec F S128x128 .bf16 ← tile wm cm arg12 harg12 arg16 arg17 t b 1
  let d2 : FVec F S128x128 .bf16 ← tile wm cm arg12 harg12 arg16 arg17 t b 2
  let d3 : FVec F S128x128 .bf16 ← tile wm cm arg12 harg12 arg16 arg17 t b 3
  pure (col4 d0 d1 d2 d3)

/-- Column group `j` quantised and multiplied. -/
def group (t : Tm) (xk : FVec F S208x512 .bf16) (j : Fin 12) : PG F PUnit := do
  let c0 : FVec F S512x128 .bf16 ← colTiles wm cm arg12 harg12 arg16 arg17 t ⟨2 * j.val, by omega⟩
  let c1 : FVec F S512x128 .bf16 ← colTiles wm cm arg12 harg12 arg16 arg17 t ⟨2 * j.val + 1, by omega⟩
  let old : Vec F S208x256 .f32 ← Prog.lift (.load arg13 (Rect.unit (s := S208x3072) ![0, 256 * j.val] S208x256.size (inb_acc j)).toLoadRect (View.loadsAt_vmem h_S208x256))
  let _o : Vec F S208x256 .f32 ← Prog.lift (.load arg13 (Rect.unit (s := S208x3072) ![0, 256 * j.val] S208x256.size (inb_acc j)).toLoadRect (View.loadsAt_vmem h_S208x256))
  Prog.lift (.store arg13 (Rect.unit (s := S208x3072) ![0, 256 * j.val] S208x256.size (inb_acc j)) (accVal xk (row2 c0 c1) old) Finset.univ (View.stores_vmem_bits_univ h_S208x256 rfl) (.inl rfl))

/-- The first `n` column groups. -/
def phaseB (t : Tm) (xk : FVec F S208x512 .bf16) : (n : Nat) → n ≤ 12 → PG F PUnit
  | 0, _ => pure ⟨⟩
  | n + 1, h => do
    phaseB t xk n (Nat.le_of_succ_le h)
    group wm cm arg12 harg12 arg13 arg16 arg17 t xk ⟨n, h⟩

/-- What a trip computes, between its waits and its starts. -/
def core (lane : IVec S24x128 32) (t : Tm) : PG F PUnit := do
  phaseA wm arg15 arg16 arg17 arg18 lane (Scf.iv 0#32 1#32 t) 4 le_rfl
  let xk : Vec F S1x208x512 .bf16 ← Prog.lift (.load arg9 (Rect.unit (s := S14x208x512) (k0_off14 t) S1x208x512.size (k0_off14_inb t)).toLoadRect (View.loadsAt_vmem h_S1x208x512))
  phaseB wm cm arg12 harg12 arg13 arg16 arg17 t (shapeCast S208x512 xk shapeCasts_S1x208x512_S208x512) 12 le_rfl

end Prog

section Trip

variable (arg1 : Memref sig .tc .hbm S7168x3072 .bf16) (harg1 : arg1.IsWhole) (arg5 : Memref sig .tc .hbm S7168x3072 .fp8e4m3) (harg5 : arg5.IsWhole)
  (arg9 : Memref sig .tc .vmem S14x208x512 .bf16)
  (arg11 : Memref sig .tc .vmem S4x512x3072 .bf16) (harg11 : arg11.IsWhole)
  (arg12 : Memref sig .tc .vmem S3x512x3072 .fp8e4m3) (harg12 : arg12.IsWhole)
  (arg13 : Memref sig .tc .vmem S208x3072 .f32)
  (arg15 : Memref sig .tc .vmem S4x216x128 .f32) (arg16 arg17 : Memref sig .tc .vmem S4x24x128 .i32)
  (arg18 : Memref sig .tc .vmem S24x128 .i32) (arg21 : DmaSems sig S4) (arg22 : DmaSems sig S3)

/-- The trip's slot of `w`. -/
abbrev wSlot (t : Tm) : Memref sig .tc .vmem S512x3072 .bf16 :=
  (arg11.slice (Rect.unit (s := S4x512x3072) (k0_off9 t) S1x512x3072.size (k0_off9_inb t)) (fun _ => rfl)).squeeze S512x3072 squeezes_S1x512x3072_S512x3072
/-- The trip's slot of codes. -/
abbrev cSlot (t : Tm) : Memref sig .tc .vmem S512x3072 .fp8e4m3 :=
  (arg12.slice (Rect.unit (s := S3x512x3072) (k0_off15 t) S1x512x3072.size (k0_off15_inb t)) (fun _ => rfl)).squeeze S512x3072 squeezes_S1x512x3072_S512x3072

/-- The waits at a trip's start. -/
def pre (t : Tm) : PG F PUnit := do
  Prog.lift (.waitDma2 ((arg21.slice (Rect.unit (s := S4) (k0_off8 t) S1.size (k0_off8_inb t))).squeeze S_ squeezes_S1_S_).sem
    (arg1.slice (Rect.unit (s := S7168x3072) (k0_off10 t) S512x3072.size (k0_off10_inb t)) (fun _ => rfl)) (wSlot arg11 t)
    (harg1.wordExact_slice rfl _ (k0_off10_wordsbf16 t)) ((harg11.wordExact_slice rfl _ (k0_off9_wordsbf16 t)).reshape _ _))
  if h1 : k0_cond1 t = 1#1 then do
    Prog.lift (.waitDma2 ((arg22.slice (Rect.unit (s := S3) (k0_off11 t) S1.size (k0_off11_inb t h1))).squeeze S_ squeezes_S1_S_).sem
      ((arg12.slice (Rect.unit (s := S3x512x3072) (k0_off13 t) S1x512x3072.size (k0_off13_inb t h1)) (fun _ => rfl)).squeeze S512x3072 squeezes_S1x512x3072_S512x3072)
      (arg5.slice (Rect.unit (s := S7168x3072) (k0_off12 t) S512x3072.size (k0_off12_inb t h1)) (fun _ => rfl))
      ((harg12.wordExact_slice rfl _ (k0_off13_wordsfp8e4m3 t h1)).reshape _ _) (harg5.wordExact_slice rfl _ (k0_off12_wordsfp8e4m3 t h1)))
    pure ⟨⟩
  else do
    pure ⟨⟩

/-- The copies a trip starts. -/
def post (t : Tm) : PG F PUnit := do
  Prog.lift (.enqueueDma (cSlot arg12 t) (.here (arg5.slice (Rect.unit (s := S7168x3072) (k0_off10 t) S512x3072.size (k0_off10_inb t)) (fun _ => rfl)))
    (.dma ((arg22.slice (Rect.unit (s := S3) (k0_off112 t) S1.size (k0_off112_inb t))).squeeze S_ squeezes_S1_S_).sem)
    ((harg12.wordExact_slice rfl _ (k0_off15_wordsfp8e4m3 t)).reshape _ _) (harg5.wordExact_slice rfl _ (k0_off10_wordsfp8e4m3 t)) ⟨Or.inl rfl, trivial⟩)
  if h2 : k0_cond2 t = 1#1 then do
    Prog.lift (.enqueueDma (arg1.slice (Rect.unit (s := S7168x3072) (k0_off115 t) S512x3072.size (k0_off115_inb t h2)) (fun _ => rfl))
      (.here ((arg11.slice (Rect.unit (s := S4x512x3072) (k0_off114 t) S1x512x3072.size (k0_off114_inb t h2)) (fun _ => rfl)).squeeze S512x3072 squeezes_S1x512x3072_S512x3072))
      (.dma ((arg21.slice (Rect.unit (s := S4) (k0_off113 t) S1.size (k0_off113_inb t h2))).squeeze S_ squeezes_S1_S_).sem)
      (harg1.wordExact_slice rfl _ (k0_off115_wordsbf16 t h2)) ((harg11.wordExact_slice rfl _ (k0_off114_wordsbf16 t h2)).reshape _ _) ⟨Or.inl rfl, trivial⟩)
    pure ⟨⟩
  else do
    pure ⟨⟩
  pure ⟨⟩

/-- A trip. -/
def trip (lane : IVec S24x128 32) (t : Tm) : PG F PUnit := do
  pre arg1 harg1 arg5 harg5 arg11 harg11 arg12 harg12 arg21 arg22 t
  core (wSlot arg11 t) (cSlot arg12 t) arg9 arg12 harg12 arg13 arg15 arg16 arg17 arg18 lane t
  post arg1 harg1 arg5 harg5 arg11 harg11 arg12 harg12 arg21 arg22 t

end Trip

end Cert.KernelIdeal.Tr

end
-- ==== Proof.KernelIdeal.Core.lean ====
/- What a trip of the second loop does to the buffers it mown between its waits and its starts: each piece of the
   structured program takes the buffers' contents to a stated function of them. -/
module

public import proofs.«01_k».proof.Proof.KernelIdeal.Trip
public import proofs.«01_k».proof.Proof.Owns
public import Idealize.ShloMosaic.Lib.Pipeline.Routed
public import Idealize.ShloMosaic.Lib.Pipeline.Value

@[expose] public section

set_option maxRecDepth 16384

noncomputable section

namespace Cert.KernelIdeal.Tr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.Own
open Facts₀ Facts

variable {F : FTy → Type} [FloatOps F]
local notation "Tm" => Fin k0_t2_loop.trips
local notation "𝕄" => MT nD τ sig Unit (Elt F) ℕ (Pipeline.UC sig nD τ) ℕ

/-! ## The rectangles and the contents -/

abbrev wR (kb : Fin 4) (b : Fin 24) : Rect S512x3072 := Rect.unit (s := S512x3072) ![128 * kb.val, 128 * b.val] S128x128.size (inb_w kb b)
abbrev slabR (kb : Fin 4) (b : Fin 24) : Rect S4x216x128 := Rect.unit (s := S4x216x128) ![kb.val, 9 * b.val, 0] S1x8x128.size (inb_slab kb b)
abbrev kbR (kb : Fin 4) : Rect S4x24x128 := Rect.unit (s := S4x24x128) ![kb.val, 0, 0] S1x24x128.size (inb_kb kb)
abbrev rowR (kb : Fin 4) (b : Fin 24) : Rect S4x24x128 := Rect.unit (s := S4x24x128) ![kb.val, b.val, 0] S1x1x128.size (inb_row kb b)
abbrev accR (j : Fin 12) : Rect S208x3072 := Rect.unit (s := S208x3072) ![0, 256 * j.val] S208x256.size (inb_acc j)
abbrev wsR : Rect S24x128 := Rect.unit (s := S24x128) ![0, 0] S24x128.size inb_S24x128_S24x128_0_0
abbrev xdR (t : Tm) : Rect S14x208x512 := Rect.unit (s := S14x208x512) (k0_off14 t) S1x208x512.size (k0_off14_inb t)

/-- Block `(kb, b)` of a chunk of `w`. -/
def blk (g : Vec F S512x3072 .bf16) (kb : Fin 4) (b : Fin 24) : Vec F S128x128 .bf16 := fun i => g ((wR kb b).idx i)

/-- The slab after the first `n` blocks of block row `kb`. -/
def slabAfter (g : Vec F S512x3072 .bf16) (kb : Fin 4) : (n : Nat) → n ≤ 24 → Vec F S4x216x128 .f32 → Vec F S4x216x128 .f32
  | 0, _, sl => sl
  | n + 1, h, sl => upd (slabR kb ⟨n, h⟩) (slabVal (blk g kb ⟨n, h⟩)) (slabAfter g kb n (Nat.le_of_succ_le h) sl)

/-- The maximum of the slab's rows of sublanes `0 … n` of plane `kb`. -/
def smax (sl : Vec F S4x216x128 .f32) (kb : Fin 4) : (n : Nat) → n < 8 → FVec F S24x128 .f32
  | 0, h => shapeCast S24x128 (fun i => sl ((slabRect kb ⟨0, h⟩).idx i) : Vec F S1x24x128 .f32) shapeCasts_S1x24x128_S24x128
  | n + 1, h => maximumf (smax sl kb n (Nat.lt_of_succ_lt h))
      (shapeCast S24x128 (fun i => sl ((slabRect kb ⟨n + 1, h⟩).idx i) : Vec F S1x24x128 .f32) shapeCasts_S1x24x128_S24x128)

/-- The slab, the words of the reciprocal scales, of the scales, and the scale codes. -/
structure StA (F : FTy → Type) [FloatOps F] where
  slab : Vec F S4x216x128 .f32
  inv : Vec F S4x24x128 .i32
  scale : Vec F S4x24x128 .i32
  ws : Vec F S24x128 .i32

/-- Block row `kb`'s exponents. -/
def eOf (g : Vec F S512x3072 .bf16) (kb : Fin 4) (sl : Vec F S4x216x128 .f32) : IVec S24x128 32 :=
  expo (quot (smax (slabAfter g kb 24 le_rfl sl) kb 7 (by decide)))

/-- After the first `n` block rows. -/
def stA (g : Vec F S512x3072 .bf16) (lane : IVec S24x128 32) (arg24 : BitVec 32) : (n : Nat) → n ≤ 4 → StA F → StA F
  | 0, _, s => s
  | n + 1, h, s =>
    let s' := stA g lane arg24 n (Nat.le_of_succ_le h) s
    let e := eOf g ⟨n, h⟩ s'.slab
    { slab := slabAfter g ⟨n, h⟩ 24 le_rfl s'.slab
      inv := upd (kbR ⟨n, h⟩) (shapeCast S1x24x128 (invWord e) shapeCasts_S24x128_S1x24x128 : Vec F S1x24x128 .i32) s'.inv
      scale := upd (kbR ⟨n, h⟩) (shapeCast S1x24x128 (scaleWord e) shapeCasts_S24x128_S1x24x128 : Vec F S1x24x128 .i32) s'.scale
      ws := upd wsR (shapeCast S24x128 (wsSel lane arg24 ⟨n, h⟩ e (fun i => s'.ws (wsR.idx i))) shapeCasts_S24x128_S24x128 : Vec F S24x128 .i32) s'.ws }

/-- A row of words of a buffer of scale words. -/
def rowOf (w : Vec F S4x24x128 .i32) (kb : Fin 4) (b : Fin 24) : FVec F S16x128 .bf16 := rowF (fun i => w ((rowR kb b).idx i))
/-- Block `(kb, b)`'s codes. -/
def tcodes (g : Vec F S512x3072 .bf16) (inv : Vec F S4x24x128 .i32) (b : Fin 24) (kb : Fin 4) : FVec F S128x128 .fp8e4m3 :=
  codes (blk g kb b) (rowOf inv kb b)
/-- The numbers they stand for. -/
def tdeq (g : Vec F S512x3072 .bf16) (inv scale : Vec F S4x24x128 .i32) (b : Fin 24) (kb : Fin 4) : FVec F S128x128 .bf16 :=
  deq (tcodes g inv b kb) (rowOf scale kb b)
/-- Column block `b`'s. -/
def tcol (g : Vec F S512x3072 .bf16) (inv scale : Vec F S4x24x128 .i32) (b : Fin 24) : FVec F S512x128 .bf16 :=
  col4 (tdeq g inv scale b 0) (tdeq g inv scale b 1) (tdeq g inv scale b 2) (tdeq g inv scale b 3)
/-- The slot of codes with column block `b` filled in. -/
def cCol (g : Vec F S512x3072 .bf16) (inv : Vec F S4x24x128 .i32) (b : Fin 24) (cc : Vec F S512x3072 .fp8e4m3) : Vec F S512x3072 .fp8e4m3 :=
  upd (wR 3 b) (tcodes g inv b 3) (upd (wR 2 b) (tcodes g inv b 2) (upd (wR 1 b) (tcodes g inv b 1) (upd (wR 0 b) (tcodes g inv b 0) cc)))

abbrev lo (j : Fin 12) : Fin 24 := ⟨2 * j.val, by omega⟩
abbrev hi (j : Fin 12) : Fin 24 := ⟨2 * j.val + 1, by omega⟩

/-- The slot of codes after the first `n` column groups. -/
def cAfter (g : Vec F S512x3072 .bf16) (inv : Vec F S4x24x128 .i32) : (n : Nat) → n ≤ 12 → Vec F S512x3072 .fp8e4m3 → Vec F S512x3072 .fp8e4m3
  | 0, _, cc => cc
  | n + 1, h, cc => cCol g inv (hi ⟨n, h⟩) (cCol g inv (lo ⟨n, h⟩) (cAfter g inv n (Nat.le_of_succ_le h) cc))
/-- The accumulator after the first `n` column groups. -/
def accAfter (g : Vec F S512x3072 .bf16) (inv scale : Vec F S4x24x128 .i32) (xk : FVec F S208x512 .bf16) : (n : Nat) → n ≤ 12 → Vec F S208x3072 .f32 → Vec F S208x3072 .f32
  | 0, _, a => a
  | n + 1, h, a =>
    let a' := accAfter g inv scale xk n (Nat.le_of_succ_le h) a
    upd (accR ⟨n, h⟩) (accVal xk (row2 (tcol g inv scale (lo ⟨n, h⟩)) (tcol g inv scale (hi ⟨n, h⟩))) (fun i => a' ((accR ⟨n, h⟩).idx i))) a'

/-- The trip's 512 columns of `x`. -/
def xkOf (X : Vec F S14x208x512 .bf16) (t : Tm) : FVec F S208x512 .bf16 :=
  shapeCast S208x512 (fun i => X ((xdR t).idx i) : Vec F S1x208x512 .bf16) shapeCasts_S1x208x512_S208x512

/-! ## The pieces -/

variable (c : Dev nD) {defs : Defs nD τ sig (Elt F) Λ₀} (𝒱 : Variants) (bd : Option 𝒱.V) (E : Set ℕ)

local notation "W" => wp frame (wpE (Ix := Unit) (Name := ℕ) (U := Pipeline.UC sig nD τ) (Lvl := ℕ) defs 𝒱 (c.tc : Thread nD τ) bd) E
local notation "own" => mown (Ix := Unit) (Val := Elt F) (Name := ℕ) (U := Pipeline.UC sig nD τ) (Lvl := ℕ) (c.tc : Thread nD τ)

variable (wm : Memref sig .tc .vmem S512x3072 .bf16)
  (arg9 : Memref sig .tc .vmem S14x208x512 .bf16)
  (arg12 : Memref sig .tc .vmem S3x512x3072 .fp8e4m3) (harg12 : arg12.IsWhole)
  (arg13 : Memref sig .tc .vmem S208x3072 .f32)
  (arg15 : Memref sig .tc .vmem S4x216x128 .f32) (arg16 arg17 : Memref sig .tc .vmem S4x24x128 .i32)
  (arg18 : Memref sig .tc .vmem S24x128 .i32)

theorem wp_slabTile (kb : Fin 4) (b : Fin 24) (g : Vec F S512x3072 .bf16) (sl : Vec F S4x216x128 .f32) (Q : PUnit → sProp 𝕄) :
    iprop(own wm g ∗ own arg15 sl ∗ (own wm g -∗ own arg15 (upd (slabR kb b) (slabVal (blk g kb b)) sl) -∗ Q ⟨⟩))
      ⊢ W (slabTile wm arg15 kb b) Q := by
  unfold slabTile
  simp only [wp_bind]
  iintro ⟨Hw, Hs, HQ⟩
  iapply (ld (c.tc : Thread nD τ) 𝒱 bd E (g := g))
  isplitl [Hw]; · iexact Hw
  iintro Hw
  iapply (ld (c.tc : Thread nD τ) 𝒱 bd E (g := sl))
  isplitl [Hs]; · iexact Hs
  iintro Hs
  iapply (st (c.tc : Thread nD τ) 𝒱 bd E (g := sl))
  isplitl [Hs]; · iexact Hs
  iintro Hs
  iapply HQ $$ Hw
  iexact Hs

theorem wp_slabRow (kb : Fin 4) (g : Vec F S512x3072 .bf16) (sl : Vec F S4x216x128 .f32) :
    ∀ (n : Nat) (h : n ≤ 24) (Q : PUnit → sProp 𝕄),
    iprop(own wm g ∗ own arg15 sl ∗ (own wm g -∗ own arg15 (slabAfter g kb n h sl) -∗ Q ⟨⟩))
      ⊢ W (slabRow wm arg15 kb n h) Q
  | 0, h, Q => by
    unfold slabRow slabAfter
    change _ ⊢ W (Prog.ret PUnit.unit) Q
    rw [wp_ret]
    iintro ⟨Hw, Hs, HQ⟩
    imodintro
    iapply HQ $$ Hw
    iexact Hs
  | n + 1, h, Q => by
    unfold slabRow slabAfter
    simp only [wp_bind]
    iintro ⟨Hw, Hs, HQ⟩
    iapply (wp_slabRow kb g sl n (Nat.le_of_succ_le h))
    isplitl [Hw]; · iexact Hw
    isplitl [Hs]; · iexact Hs
    iintro Hw Hs
    iapply (wp_slabTile c 𝒱 bd E wm arg15 kb ⟨n, h⟩ g)
    isplitl [Hw]; · iexact Hw
    isplitl [Hs]; · iexact Hs
    iexact HQ

theorem wp_slabMax (kb : Fin 4) (sl : Vec F S4x216x128 .f32) :
    ∀ (n : Nat) (h : n < 8) (Q : FVec F S24x128 .f32 → sProp 𝕄),
    iprop(own arg15 sl ∗ (own arg15 sl -∗ Q (smax sl kb n h)))
      ⊢ W (slabMax arg15 kb n h) Q
  | 0, h, Q => by
    unfold slabMax
    simp only [wp_bind]
    iintro ⟨Hs, HQ⟩
    iapply (ld (c.tc : Thread nD τ) 𝒱 bd E (g := sl))
    isplitl [Hs]; · iexact Hs
    iintro Hs
    iapply (rt (c.tc : Thread nD τ) 𝒱 bd E (a := smax sl kb 0 h))
    iapply HQ
    iexact Hs
  | n + 1, h, Q => by
    unfold slabMax
    simp only [wp_bind]
    iintro ⟨Hs, HQ⟩
    iapply (wp_slabMax kb sl n (Nat.lt_of_succ_lt h))
    isplitl [Hs]; · iexact Hs
    iintro Hs
    iapply (ld (c.tc : Thread nD τ) 𝒱 bd E (g := sl))
    isplitl [Hs]; · iexact Hs
    iintro Hs
    iapply (rt (c.tc : Thread nD τ) 𝒱 bd E (a := smax sl kb (n + 1) h))
    iapply HQ
    iexact Hs

theorem wp_scales (lane : IVec S24x128 32) (arg24 : BitVec 32) (kb : Fin 4) (e : IVec S24x128 32)
    (iv sc : Vec F S4x24x128 .i32) (ws : Vec F S24x128 .i32) (Q : PUnit → sProp 𝕄) :
    iprop(own arg16 iv ∗ own arg17 sc ∗ own arg18 ws
        ∗ (own arg16 (upd (kbR kb) (shapeCast S1x24x128 (invWord e) shapeCasts_S24x128_S1x24x128 : Vec F S1x24x128 .i32) iv)
          -∗ own arg17 (upd (kbR kb) (shapeCast S1x24x128 (scaleWord e) shapeCasts_S24x128_S1x24x128 : Vec F S1x24x128 .i32) sc)
          -∗ own arg18 (upd wsR (shapeCast S24x128 (wsSel lane arg24 kb e (fun i => ws (wsR.idx i))) shapeCasts_S24x128_S24x128 : Vec F S24x128 .i32) ws)
          -∗ Q ⟨⟩))
      ⊢ W (scales arg16 arg17 arg18 lane arg24 kb e) Q := by
  unfold scales
  simp only [wp_bind]
  iintro ⟨Hi, Hs, Hw, HQ⟩
  iapply (ld (c.tc : Thread nD τ) 𝒱 bd E (g := iv))
  isplitl [Hi]; · iexact Hi
  iintro Hi
  iapply (st (c.tc : Thread nD τ) 𝒱 bd E (g := iv))
  isplitl [Hi]; · iexact Hi
  iintro Hi
  iapply (ld (c.tc : Thread nD τ) 𝒱 bd E (g := sc))
  isplitl [Hs]; · iexact Hs
  iintro Hs
  iapply (st (c.tc : Thread nD τ) 𝒱 bd E (g := sc))
  isplitl [Hs]; · iexact Hs
  iintro Hs
  iapply (ld (c.tc : Thread nD τ) 𝒱 bd E (g := ws))
  isplitl [Hw]; · iexact Hw
  iintro Hw
  iapply (ld (c.tc : Thread nD τ) 𝒱 bd E (g := ws))
  isplitl [Hw]; · iexact Hw
  iintro Hw
  iapply (st (c.tc : Thread nD τ) 𝒱 bd E (g := ws))
  isplitl [Hw]; · iexact Hw
  iintro Hw
  iapply HQ $$ Hi Hs
  iexact Hw

/-- The buffers of `StA`, owned. -/
def ownA (s : StA F) : sProp 𝕄 :=
  iprop(own arg15 s.slab ∗ own arg16 s.inv ∗ own arg17 s.scale ∗ own arg18 s.ws)

theorem wp_phaseA (lane : IVec S24x128 32) (arg24 : BitVec 32) (g : Vec F S512x3072 .bf16) (s : StA F) :
    ∀ (n : Nat) (h : n ≤ 4) (Q : PUnit → sProp 𝕄),
    iprop(own wm g ∗ ownA c arg15 arg16 arg17 arg18 s
        ∗ (own wm g -∗ ownA c arg15 arg16 arg17 arg18 (stA g lane arg24 n h s) -∗ Q ⟨⟩))
      ⊢ W (phaseA wm arg15 arg16 arg17 arg18 lane arg24 n h) Q
  | 0, h, Q => by
    unfold phaseA stA
    change _ ⊢ W (Prog.ret PUnit.unit) Q
    rw [wp_ret]
    iintro ⟨Hw, Hs, HQ⟩
    imodintro
    iapply HQ $$ Hw
    iexact Hs
  | n + 1, h, Q => by
    unfold phaseA stA
    simp only [wp_bind]
    iintro ⟨Hw, Hs, HQ⟩
    iapply (wp_phaseA lane arg24 g s n (Nat.le_of_succ_le h))
    isplitl [Hw]; · iexact Hw
    isplitl [Hs]; · iexact Hs
    generalize stA g lane arg24 n (Nat.le_of_succ_le h) s = s'
    unfold ownA
    iintro Hw ⟨Hs, Hi, Hc, Hv⟩
    iapply (wp_slabRow c 𝒱 bd E wm arg15 ⟨n, h⟩ g s'.slab)
    isplitl [Hw]; · iexact Hw
    isplitl [Hs]; · iexact Hs
    iintro Hw Hs
    iapply (wp_slabMax c 𝒱 bd E arg15 ⟨n, h⟩)
    isplitl [Hs]; · iexact Hs
    iintro Hs
    iapply (wp_scales c 𝒱 bd E arg16 arg17 arg18 lane arg24 ⟨n, h⟩ _ s'.inv s'.scale s'.ws)
    isplitl [Hi]; · iexact Hi
    isplitl [Hc]; · iexact Hc
    isplitl [Hv]; · iexact Hv
    iintro Hi Hc Hv
    iapply HQ $$ Hw
    isplitl [Hs]; · iexact Hs
    isplitl [Hi]; · iexact Hi
    isplitl [Hc]; · iexact Hc
    iexact Hv

/-- Indices of a 128 × 128 block as indices of a 1 × 128 × 128 one. -/
def tileEquiv : S128x128.Idx ≃ S1x128x128.Idx := Shape.reshapeEquiv (by decide)

theorem shapeCast_tile (v : FVec F S128x128 .fp8e4m3) (j : S128x128.Idx) :
    shapeCast S1x128x128 (shapeCast S128x128 v shapeCasts_S128x128_S128x128) shapeCasts_S128x128_S1x128x128 (tileEquiv j) = v j := by
  rw [shapeCast_self]
  unfold shapeCast tileEquiv
  rw [← Shape.reshapeEquiv_symm, Equiv.symm_apply_apply]
  decide

theorem tile_emb (t : Tm) (kb : Fin 4) (b : Fin 24) (j : S128x128.Idx) :
    (Rect.unit (s := S3x512x3072) (cOff t kb b) S1x128x128.size (inb_c t kb b)).emb (tileEquiv j)
      = (Rect.unit (s := S3x512x3072) (k0_off15 t) S1x512x3072.size (k0_off15_inb t)).emb
          (Shape.reshapeEquiv (Shape.Squeezes.numel_eq squeezes_S1x512x3072_S512x3072) ((wR kb b).emb j)) := by
  have h1 : tileEquiv j = Fin.cons ⟨0, Nat.one_pos⟩ j := Shape.reshapeEquiv_cons_one (n := 2) (d := S128x128.size) _ j
  have h2 : Shape.reshapeEquiv (Shape.Squeezes.numel_eq squeezes_S1x512x3072_S512x3072) ((wR kb b).emb j)
      = Fin.cons ⟨0, Nat.one_pos⟩ ((wR kb b).emb j) := Shape.reshapeEquiv_cons_one (n := 2) (d := S512x3072.size) _ _
  rw [h1, h2]
  funext a
  refine Fin.ext ?_
  have e1 : k0_off15 t 1 = 0 := by revert t; decide +kernel
  have e2 : k0_off15 t 2 = 0 := by revert t; decide +kernel
  match a with
  | ⟨0, _⟩ => rfl
  | ⟨1, _⟩ => show 128 * kb.val + 1 * (j 0).val = k0_off15 t 1 + 1 * (128 * kb.val + 1 * (j 0).val); omega
  | ⟨2, _⟩ => show 128 * b.val + 1 * (j 1).val = k0_off15 t 2 + 1 * (128 * b.val + 1 * (j 1).val); omega

theorem wp_tile (t : Tm) (b : Fin 24) (kb : Fin 4) (g : Vec F S512x3072 .bf16) (cc : Vec F S512x3072 .fp8e4m3)
    (iv sc : Vec F S4x24x128 .i32) (Q : FVec F S128x128 .bf16 → sProp 𝕄) :
    iprop(own wm g ∗ own (cSlot arg12 t) cc ∗ own arg16 iv ∗ own arg17 sc
        ∗ (own wm g -∗ own (cSlot arg12 t) (upd (wR kb b) (tcodes g iv b kb) cc) -∗ own arg16 iv -∗ own arg17 sc -∗ Q (tdeq g iv sc b kb)))
      ⊢ W (tile wm (cSlot arg12 t) arg12 harg12 arg16 arg17 t b kb) Q := by
  unfold tile
  simp only [wp_bind]
  iintro ⟨Hw, Hc, Hi, Hs, HQ⟩
  iapply (ld (c.tc : Thread nD τ) 𝒱 bd E (g := iv))
  isplitl [Hi]; · iexact Hi
  iintro Hi
  iapply (ld (c.tc : Thread nD τ) 𝒱 bd E (g := sc))
  isplitl [Hs]; · iexact Hs
  iintro Hs
  iapply (ld (c.tc : Thread nD τ) 𝒱 bd E (g := g))
  isplitl [Hw]; · iexact Hw
  iintro Hw
  iapply (ld (c.tc : Thread nD τ) 𝒱 bd E (g := cc))
  isplitl [Hc]; · iexact Hc
  iintro Hc
  iapply (st_via (c.tc : Thread nD τ) 𝒱 bd E (m' := arg12) (R := Rect.unit (s := S3x512x3072) (k0_off15 t) S1x512x3072.size (k0_off15_inb t))
    (hq := squeezes_S1x512x3072_S512x3072) (hR := fun _ => rfl)
    (r' := Rect.unit (s := S3x512x3072) (cOff t kb b) S1x128x128.size (inb_c t kb b)) (wR kb b) tileEquiv (tile_emb t kb b) (g := cc)
    (tcodes g iv b kb) (fun j => shapeCast_tile _ j))
  isplitl [Hc]; · iexact Hc
  iintro Hc
  iapply (rt (c.tc : Thread nD τ) 𝒱 bd E (a := tdeq g iv sc b kb))
  iapply HQ $$ Hw Hc Hi
  iexact Hs

theorem wp_colTiles (t : Tm) (b : Fin 24) (g : Vec F S512x3072 .bf16) (cc : Vec F S512x3072 .fp8e4m3)
    (iv sc : Vec F S4x24x128 .i32) (Q : FVec F S512x128 .bf16 → sProp 𝕄) :
    iprop(own wm g ∗ own (cSlot arg12 t) cc ∗ own arg16 iv ∗ own arg17 sc
        ∗ (own wm g -∗ own (cSlot arg12 t) (cCol g iv b cc) -∗ own arg16 iv -∗ own arg17 sc -∗ Q (tcol g iv sc b)))
      ⊢ W (colTiles wm (cSlot arg12 t) arg12 harg12 arg16 arg17 t b) Q := by
  unfold colTiles cCol
  simp only [wp_bind]
  iintro ⟨Hw, Hc, Hi, Hs, HQ⟩
  iapply (wp_tile c 𝒱 bd E wm arg12 harg12 arg16 arg17 t b 0 g cc iv sc)
  isplitl [Hw]; · iexact Hw
  isplitl [Hc]; · iexact Hc
  isplitl [Hi]; · iexact Hi
  isplitl [Hs]; · iexact Hs
  iintro Hw Hc Hi Hs
  iapply (wp_tile c 𝒱 bd E wm arg12 harg12 arg16 arg17 t b 1 g _ iv sc)
  isplitl [Hw]; · iexact Hw
  isplitl [Hc]; · iexact Hc
  isplitl [Hi]; · iexact Hi
  isplitl [Hs]; · iexact Hs
  iintro Hw Hc Hi Hs
  iapply (wp_tile c 𝒱 bd E wm arg12 harg12 arg16 arg17 t b 2 g _ iv sc)
  isplitl [Hw]; · iexact Hw
  isplitl [Hc]; · iexact Hc
  isplitl [Hi]; · iexact Hi
  isplitl [Hs]; · iexact Hs
  iintro Hw Hc Hi Hs
  iapply (wp_tile c 𝒱 bd E wm arg12 harg12 arg16 arg17 t b 3 g _ iv sc)
  isplitl [Hw]; · iexact Hw
  isplitl [Hc]; · iexact Hc
  isplitl [Hi]; · iexact Hi
  isplitl [Hs]; · iexact Hs
  iintro Hw Hc Hi Hs
  iapply (rt (c.tc : Thread nD τ) 𝒱 bd E (a := tcol g iv sc b))
  iapply HQ $$ Hw Hc Hi
  iexact Hs

theorem wp_group (t : Tm) (xk : FVec F S208x512 .bf16) (j : Fin 12) (g : Vec F S512x3072 .bf16) (cc : Vec F S512x3072 .fp8e4m3)
    (iv sc : Vec F S4x24x128 .i32) (a : Vec F S208x3072 .f32) (Q : PUnit → sProp 𝕄) :
    iprop(own wm g ∗ own (cSlot arg12 t) cc ∗ own arg16 iv ∗ own arg17 sc ∗ own arg13 a
        ∗ (own wm g -∗ own (cSlot arg12 t) (cCol g iv (hi j) (cCol g iv (lo j) cc)) -∗ own arg16 iv -∗ own arg17 sc
          -∗ own arg13 (upd (accR j) (accVal xk (row2 (tcol g iv sc (lo j)) (tcol g iv sc (hi j))) (fun i => a ((accR j).idx i))) a) -∗ Q ⟨⟩))
      ⊢ W (group wm (cSlot arg12 t) arg12 harg12 arg13 arg16 arg17 t xk j) Q := by
  unfold group
  simp only [wp_bind]
  iintro ⟨Hw, Hc, Hi, Hs, Ha, HQ⟩
  iapply (wp_colTiles c 𝒱 bd E wm arg12 harg12 arg16 arg17 t _ g cc iv sc)
  isplitl [Hw]; · iexact Hw
  isplitl [Hc]; · iexact Hc
  isplitl [Hi]; · iexact Hi
  isplitl [Hs]; · iexact Hs
  iintro Hw Hc Hi Hs
  iapply (wp_colTiles c 𝒱 bd E wm arg12 harg12 arg16 arg17 t _ g _ iv sc)
  isplitl [Hw]; · iexact Hw
  isplitl [Hc]; · iexact Hc
  isplitl [Hi]; · iexact Hi
  isplitl [Hs]; · iexact Hs
  iintro Hw Hc Hi Hs
  iapply (ld (c.tc : Thread nD τ) 𝒱 bd E (g := a))
  isplitl [Ha]; · iexact Ha
  iintro Ha
  iapply (ld (c.tc : Thread nD τ) 𝒱 bd E (g := a))
  isplitl [Ha]; · iexact Ha
  iintro Ha
  iapply (st (c.tc : Thread nD τ) 𝒱 bd E (g := a))
  isplitl [Ha]; · iexact Ha
  iintro Ha
  iapply HQ $$ Hw Hc Hi Hs
  iexact Ha

theorem wp_phaseB (t : Tm) (xk : FVec F S208x512 .bf16) (g : Vec F S512x3072 .bf16) (cc : Vec F S512x3072 .fp8e4m3)
    (iv sc : Vec F S4x24x128 .i32) (a : Vec F S208x3072 .f32) :
    ∀ (n : Nat) (h : n ≤ 12) (Q : PUnit → sProp 𝕄),
    iprop(own wm g ∗ own (cSlot arg12 t) cc ∗ own arg16 iv ∗ own arg17 sc ∗ own arg13 a
        ∗ (own wm g -∗ own (cSlot arg12 t) (cAfter g iv n h cc) -∗ own arg16 iv -∗ own arg17 sc
          -∗ own arg13 (accAfter g iv sc xk n h a) -∗ Q ⟨⟩))
      ⊢ W (phaseB wm (cSlot arg12 t) arg12 harg12 arg13 arg16 arg17 t xk n h) Q
  | 0, h, Q => by
    unfold phaseB cAfter accAfter
    change _ ⊢ W (Prog.ret PUnit.unit) Q
    rw [wp_ret]
    iintro ⟨Hw, Hc, Hi, Hs, Ha, HQ⟩
    imodintro
    iapply HQ $$ Hw Hc Hi Hs
    iexact Ha
  | n + 1, h, Q => by
    unfold phaseB cAfter accAfter
    simp only [wp_bind]
    iintro ⟨Hw, Hc, Hi, Hs, Ha, HQ⟩
    iapply (wp_phaseB t xk g cc iv sc a n (Nat.le_of_succ_le h))
    isplitl [Hw]; · iexact Hw
    isplitl [Hc]; · iexact Hc
    isplitl [Hi]; · iexact Hi
    isplitl [Hs]; · iexact Hs
    isplitl [Ha]; · iexact Ha
    iintro Hw Hc Hi Hs Ha
    iapply (wp_group c 𝒱 bd E wm arg12 harg12 arg13 arg16 arg17 t xk ⟨n, h⟩ g _ iv sc _)
    isplitl [Hw]; · iexact Hw
    isplitl [Hc]; · iexact Hc
    isplitl [Hi]; · iexact Hi
    isplitl [Hs]; · iexact Hs
    isplitl [Ha]; · iexact Ha
    iexact HQ

attribute [local irreducible]  stA phaseA phaseB cAfter accAfter

/-- After the trip's first phase. -/
def stOf (lane : IVec S24x128 32) (t : Tm) (g : Vec F S512x3072 .bf16) (s : StA F) : StA F :=
  stA g lane (Scf.iv 0#32 1#32 t) 4 le_rfl s

/-- A trip between its waits and its starts. -/
theorem wp_core (lane : IVec S24x128 32) (t : Tm) (g : Vec F S512x3072 .bf16) (cc : Vec F S512x3072 .fp8e4m3)
    (X : Vec F S14x208x512 .bf16) (a : Vec F S208x3072 .f32) (s : StA F) (Q : PUnit → sProp 𝕄) :
    iprop(own wm g ∗ own (cSlot arg12 t) cc ∗ own arg9 X ∗ own arg13 a ∗ ownA c arg15 arg16 arg17 arg18 s
        ∗ (own wm g -∗ own (cSlot arg12 t) (cAfter g (stOf lane t g s).inv 12 le_rfl cc) -∗ own arg9 X
          -∗ own arg13 (accAfter g (stOf lane t g s).inv (stOf lane t g s).scale (xkOf X t) 12 le_rfl a)
          -∗ ownA c arg15 arg16 arg17 arg18 (stOf lane t g s) -∗ Q ⟨⟩))
      ⊢ W (core wm (cSlot arg12 t) arg9 arg12 harg12 arg13 arg15 arg16 arg17 arg18 lane t) Q := by
  unfold core xkOf
  simp only [wp_bind]
  iintro ⟨Hw, Hc, Hx, Ha, Hs, HQ⟩
  iapply (wp_phaseA c 𝒱 bd E wm arg15 arg16 arg17 arg18 lane (Scf.iv 0#32 1#32 t) g s 4 le_rfl)
  isplitl [Hw]; · iexact Hw
  isplitl [Hs]; · iexact Hs
  unfold stOf
  generalize stA g lane (Scf.iv 0#32 1#32 t) 4 le_rfl s = s'
  unfold ownA
  iintro Hw ⟨Hs, Hi, Hc', Hv⟩
  iapply (ld (c.tc : Thread nD τ) 𝒱 bd E (g := X))
  isplitl [Hx]; · iexact Hx
  iintro Hx
  iapply (wp_phaseB c 𝒱 bd E wm arg12 harg12 arg13 arg16 arg17 t _ g cc s'.inv s'.scale a 12 le_rfl)
  isplitl [Hw]; · iexact Hw
  isplitl [Hc]; · iexact Hc
  isplitl [Hi]; · iexact Hi
  isplitl [Hc']; · iexact Hc'
  isplitl [Ha]; · iexact Ha
  iintro Hw Hc Hi Hc' Ha
  iapply HQ $$ Hw Hc Hx [Ha]
  · iexact Ha
  isplitl [Hs]; · iexact Hs
  isplitl [Hi]; · iexact Hi
  isplitl [Hc']; · iexact Hc'
  iexact Hv

/-- `wp_core`, its results named. -/
theorem wp_core' (lane : IVec S24x128 32) (t : Tm) (g : Vec F S512x3072 .bf16) (cc : Vec F S512x3072 .fp8e4m3)
    (X : Vec F S14x208x512 .bf16) (a : Vec F S208x3072 .f32) (s s1 : StA F) (c1 : Vec F S512x3072 .fp8e4m3) (a1 : Vec F S208x3072 .f32)
    (h : stOf lane t g s = s1) (hc : cAfter g s1.inv 12 le_rfl cc = c1) (ha : accAfter g s1.inv s1.scale (xkOf X t) 12 le_rfl a = a1)
    (Q : PUnit → sProp 𝕄) :
    iprop(own wm g ∗ own (cSlot arg12 t) cc ∗ own arg9 X ∗ own arg13 a ∗ ownA c arg15 arg16 arg17 arg18 s
        ∗ (own wm g -∗ own (cSlot arg12 t) c1 -∗ own arg9 X -∗ own arg13 a1 -∗ ownA c arg15 arg16 arg17 arg18 s1 -∗ Q ⟨⟩))
      ⊢ W (core wm (cSlot arg12 t) arg9 arg12 harg12 arg13 arg15 arg16 arg17 arg18 lane t) Q := by
  subst hc ha h
  exact wp_core c 𝒱 bd E wm arg9 arg12 harg12 arg13 arg15 arg16 arg17 arg18 lane t g cc X a s Q

end Cert.KernelIdeal.Tr

end
-- ==== Proof.KernelIdeal.Ring.lean ====
/- The second loop's copies: which block of `w` and of its codes is where before each trip, and a trip's effect on that. -/
module

public import proofs.«01_k».proof.Proof.KernelIdeal.Core
public import proofs.«01_k».proof.Proof.Dma

@[expose] public section

set_option maxRecDepth 16384

noncomputable section

namespace Cert.KernelIdeal.Tr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.Own
open Facts₀ Facts

variable {F : FTy → Type} [FloatOps F]
local notation "Tm" => Fin k0_t2_loop.trips
local notation "𝕄" => MT nD τ sig Unit (Elt F) ℕ (Pipeline.UC sig nD τ) ℕ

/-! ## Blocks, slots and semaphores by number -/

theorem inb_rb (b : ℕ) : ∀ a, (![512 * (b % 14), 0] : Fin 2 → Nat) a + S512x3072.size a ≤ S7168x3072.size a := by
  have h : b % 14 < 14 := Nat.mod_lt _ (by decide)
  intro a
  match a with
  | 0 => show 512 * (b % 14) + 512 ≤ 7168; omega
  | 1 => show 0 + 3072 ≤ 3072; omega
theorem inb_ws (i : ℕ) : ∀ a, (![i % 4, 0, 0] : Fin 3 → Nat) a + S1x512x3072.size a ≤ S4x512x3072.size a := by
  have h : i % 4 < 4 := Nat.mod_lt _ (by decide)
  intro a
  match a with
  | 0 => show i % 4 + 1 ≤ 4; omega
  | 1 => show 0 + 512 ≤ 512; omega
  | 2 => show 0 + 3072 ≤ 3072; omega
theorem inb_cs (i : ℕ) : ∀ a, (![i % 3, 0, 0] : Fin 3 → Nat) a + S1x512x3072.size a ≤ S3x512x3072.size a := by
  have h : i % 3 < 3 := Nat.mod_lt _ (by decide)
  intro a
  match a with
  | 0 => show i % 3 + 1 ≤ 3; omega
  | 1 => show 0 + 512 ≤ 512; omega
  | 2 => show 0 + 3072 ≤ 3072; omega
theorem inb_s4 (i : ℕ) : ∀ a, (![i % 4] : Fin 1 → Nat) a + S1.size a ≤ S4.size a := by
  have h : i % 4 < 4 := Nat.mod_lt _ (by decide)
  intro a
  match a with
  | 0 => show i % 4 + 1 ≤ 4; omega
theorem inb_s3 (i : ℕ) : ∀ a, (![i % 3] : Fin 1 → Nat) a + S1.size a ≤ S3.size a := by
  have h : i % 3 < 3 := Nat.mod_lt _ (by decide)
  intro a
  match a with
  | 0 => show i % 3 + 1 ≤ 3; omega

/-- Rows `512 b …` of `w` or of its codes. -/
abbrev rB (b : ℕ) : Rect S7168x3072 := Rect.unit (s := S7168x3072) ![512 * (b % 14), 0] S512x3072.size (inb_rb b)
/-- Slot `i` of the four. -/
abbrev rWs (i : ℕ) : Rect S4x512x3072 := Rect.unit (s := S4x512x3072) ![i % 4, 0, 0] S1x512x3072.size (inb_ws i)
/-- Slot `i` of the three. -/
abbrev rCs (i : ℕ) : Rect S3x512x3072 := Rect.unit (s := S3x512x3072) ![i % 3, 0, 0] S1x512x3072.size (inb_cs i)

section Ring

variable (arg1 : Memref sig .tc .hbm S7168x3072 .bf16) (harg1 : arg1.IsWhole) (arg5 : Memref sig .tc .hbm S7168x3072 .fp8e4m3) (harg5 : arg5.IsWhole)
  (arg9 : Memref sig .tc .vmem S14x208x512 .bf16)
  (arg11 : Memref sig .tc .vmem S4x512x3072 .bf16) (harg11 : arg11.IsWhole) (arg12 : Memref sig .tc .vmem S3x512x3072 .fp8e4m3) (harg12 : arg12.IsWhole)
  (arg13 : Memref sig .tc .vmem S208x3072 .f32)
  (arg15 : Memref sig .tc .vmem S4x216x128 .f32) (arg16 arg17 : Memref sig .tc .vmem S4x24x128 .i32) (arg18 : Memref sig .tc .vmem S24x128 .i32)
  (arg21 : DmaSems sig S4) (arg22 : DmaSems sig S3)

abbrev wB (b : ℕ) : Memref sig .tc .hbm S512x3072 .bf16 := arg1.slice (rB b) (fun _ => rfl)
abbrev cB (b : ℕ) : Memref sig .tc .hbm S512x3072 .fp8e4m3 := arg5.slice (rB b) (fun _ => rfl)
abbrev wS (i : ℕ) : Memref sig .tc .vmem S512x3072 .bf16 := (arg11.slice (rWs i) (fun _ => rfl)).squeeze S512x3072 squeezes_S1x512x3072_S512x3072
abbrev cS (i : ℕ) : Memref sig .tc .vmem S512x3072 .fp8e4m3 := (arg12.slice (rCs i) (fun _ => rfl)).squeeze S512x3072 squeezes_S1x512x3072_S512x3072
abbrev semR (i : ℕ) : DmaSem sig := ((arg21.slice (Rect.unit (s := S4) ![i % 4] S1.size (inb_s4 i))).squeeze S_ squeezes_S1_S_).sem
abbrev semC (i : ℕ) : DmaSem sig := ((arg22.slice (Rect.unit (s := S3) ![i % 3] S1.size (inb_s3 i))).squeeze S_ squeezes_S1_S_).sem

theorem wB_eq {off : Fin 2 → Nat} (b : ℕ) (h : off = ![512 * (b % 14), 0]) (i) :
    (arg1.slice (Rect.unit (s := S7168x3072) off S512x3072.size i) (fun _ => rfl) : Memref sig .tc .hbm S512x3072 .bf16) = wB arg1 b := by subst h; rfl
theorem cB_eq {off : Fin 2 → Nat} (b : ℕ) (h : off = ![512 * (b % 14), 0]) (i) :
    (arg5.slice (Rect.unit (s := S7168x3072) off S512x3072.size i) (fun _ => rfl) : Memref sig .tc .hbm S512x3072 .fp8e4m3) = cB arg5 b := by subst h; rfl
theorem wS_eq {off : Fin 3 → Nat} (k : ℕ) (h : off = ![k % 4, 0, 0]) (i) :
    (arg11.slice (Rect.unit (s := S4x512x3072) off S1x512x3072.size i) (fun _ => rfl)).squeeze S512x3072 squeezes_S1x512x3072_S512x3072 = wS arg11 k := by subst h; rfl
theorem cS_eq {off : Fin 3 → Nat} (k : ℕ) (h : off = ![k % 3, 0, 0]) (i) :
    (arg12.slice (Rect.unit (s := S3x512x3072) off S1x512x3072.size i) (fun _ => rfl)).squeeze S512x3072 squeezes_S1x512x3072_S512x3072 = cS arg12 k := by subst h; rfl
theorem semR_eq {off : Fin 1 → Nat} (k : ℕ) (h : off = ![k % 4]) (i) :
    ((arg21.slice (Rect.unit (s := S4) off S1.size i)).squeeze S_ squeezes_S1_S_).sem = semR arg21 k := by subst h; rfl
theorem semC_eq {off : Fin 1 → Nat} (k : ℕ) (h : off = ![k % 3]) (i) :
    ((arg22.slice (Rect.unit (s := S3) off S1.size i)).squeeze S_ squeezes_S1_S_).sem = semC arg22 k := by subst h; rfl

theorem off8 (t : Tm) : k0_off8 t = ![t.val % 4] := by revert t; decide +kernel
theorem off9 (t : Tm) : k0_off9 t = ![t.val % 4, 0, 0] := by revert t; decide +kernel
theorem off10 (t : Tm) : k0_off10 t = ![512 * (t.val % 14), 0] := by revert t; decide +kernel
theorem off15 (t : Tm) : k0_off15 t = ![t.val % 3, 0, 0] := by revert t; decide +kernel
theorem off112 (t : Tm) : k0_off112 t = ![(t.val + 3) % 3] := by revert t; decide +kernel
theorem off11 (t : Tm) (h : k0_cond1 t = 1#1) : k0_off11 t = ![t.val % 3] := by revert t; decide +kernel
theorem off12 (t : Tm) (h : k0_cond1 t = 1#1) : k0_off12 t = ![512 * ((t.val - 3) % 14), 0] := by revert t; decide +kernel
theorem off113 (t : Tm) (h : k0_cond2 t = 1#1) : k0_off113 t = ![(t.val + 4) % 4] := by revert t; decide +kernel
theorem off114 (t : Tm) (h : k0_cond2 t = 1#1) : k0_off114 t = ![(t.val + 4) % 4, 0, 0] := by revert t; decide +kernel
theorem off115 (t : Tm) (h : k0_cond2 t = 1#1) : k0_off115 t = ![512 * ((t.val + 4) % 14), 0] := by revert t; decide +kernel
theorem cond1 (t : Tm) : k0_cond1 t = 1#1 ↔ 3 ≤ t.val := by revert t; decide +kernel
theorem cond2 (t : Tm) : k0_cond2 t = 1#1 ↔ t.val + 4 < 14 := by revert t; decide +kernel
theorem t_lt (t : Tm) : t.val < 14 := by revert t; decide +kernel

/-! ## Where everything is before trip `k` -/

variable (c : Dev nD)
local notation "own" => mown (Ix := Unit) (Val := Elt F) (Name := ℕ) (U := Pipeline.UC sig nD τ) (Lvl := ℕ) (c.tc : Thread nD τ)

variable (wb : ℕ → Vec F S512x3072 .bf16) (cb : ℕ → Vec F S512x3072 .fp8e4m3)

/-- Block `b` of `w`, not being read. -/
def rdHome (b : ℕ) : sProp 𝕄 := if b < 14 then own (wB arg1 b) (wb b) else iprop(emp)
/-- Block `b` of `w` on its way to its slot; for `b ≥ 14`, the slot idle. -/
def rdFly (b : ℕ) : sProp 𝕄 :=
  if b < 14 then flies (Val := Elt F) (c.tc : Thread nD τ) (semR arg21 b) (wS arg11 b).view.dmaCredit iprop(own (wS arg11 b) (wb b) ∗ own (wB arg1 b) (wb b))
  else iprop((∃ g, own (wS arg11 b) g) ∗ semVal ((c.tc : Thread nD τ), .dma (semR arg21 b)) 0)
/-- The reads before trip `k`: blocks `k … k + 3` are on their way. -/
def RD (k b : ℕ) : sProp 𝕄 :=
  if k ≤ b ∧ b < k + 4 then rdFly arg1 arg11 arg21 c wb b else rdHome arg1 c wb b

/-- Block `v - 3` of the codes, written. -/
def wrDone (v : ℕ) : sProp 𝕄 := if 3 ≤ v then own (cB arg5 (v - 3)) (cb (v - 3)) else iprop(emp)
/-- Block `v - 3` of the codes on its way from its slot; for `v < 3`, the slot idle. -/
def wrFly (v : ℕ) : sProp 𝕄 :=
  if 3 ≤ v then flies (Val := Elt F) (c.tc : Thread nD τ) (semC arg22 v) (cB arg5 (v - 3)).view.dmaCredit iprop(own (cB arg5 (v - 3)) (cb (v - 3)) ∗ own (cS arg12 v) (cb (v - 3)))
  else iprop((∃ g, own (cS arg12 v) g) ∗ semVal ((c.tc : Thread nD τ), .dma (semC arg22 v)) 0)
/-- The writes before trip `k`: blocks `k - 3 … k - 1` are on their way. -/
def WR (k v : ℕ) : sProp 𝕄 :=
  if v < k then wrDone arg5 c cb v else if v < k + 3 then wrFly arg5 arg12 arg22 c cb v else iprop(∃ g, own (cB arg5 (v - 3)) g)

theorem RD_step (k x : ℕ) (h1 : x ≠ k) (h2 : x ≠ k + 4) : RD arg1 arg11 arg21 c wb k x = RD arg1 arg11 arg21 c wb (k + 1) x := by
  unfold RD
  congr 1
  exact propext (by omega)
theorem WR_step (k x : ℕ) (h1 : x ≠ k) (h2 : x ≠ k + 3) : WR arg5 arg12 arg22 c cb k x = WR arg5 arg12 arg22 c cb (k + 1) x := by
  unfold WR
  rcases Nat.lt_trichotomy x k with h | h | h
  · rw [if_pos h, if_pos (by omega)]
  · exact absurd h h1
  · rw [if_neg (show ¬ x < k by omega), if_neg (show ¬ x < k + 1 by omega)]
    by_cases h' : x < k + 3
    · rw [if_pos h', if_pos (by omega)]
    · rw [if_neg h', if_neg (by omega)]

/-- What a trip takes out of the copies' state and what it puts back. -/
theorem ring_take (k : ℕ) (hk : k < 14) :
    iprop(bigSep (Finset.range 18) (RD arg1 arg11 arg21 c wb k) ∗ bigSep (Finset.range 17) (WR arg5 arg12 arg22 c cb k))
      ⊢ iprop(rdFly arg1 arg11 arg21 c wb k ∗ rdHome arg1 c wb (k + 4) ∗ wrFly arg5 arg12 arg22 c cb k ∗ (∃ g, own (cB arg5 k) g)
          ∗ (rdHome arg1 c wb k -∗ rdFly arg1 arg11 arg21 c wb (k + 4) -∗ wrDone arg5 c cb k -∗ wrFly arg5 arg12 arg22 c cb (k + 3)
            -∗ iprop(bigSep (Finset.range 18) (RD arg1 arg11 arg21 c wb (k + 1)) ∗ bigSep (Finset.range 17) (WR arg5 arg12 arg22 c cb (k + 1))))) := by
  have e1 : RD arg1 arg11 arg21 c wb k k = rdFly arg1 arg11 arg21 c wb k := by unfold RD; rw [if_pos ⟨le_rfl, by omega⟩]
  have e2 : RD arg1 arg11 arg21 c wb k (k + 4) = rdHome arg1 c wb (k + 4) := by unfold RD; rw [if_neg (by omega)]
  have e3 : RD arg1 arg11 arg21 c wb (k + 1) k = rdHome arg1 c wb k := by unfold RD; rw [if_neg (by omega)]
  have e4 : RD arg1 arg11 arg21 c wb (k + 1) (k + 4) = rdFly arg1 arg11 arg21 c wb (k + 4) := by unfold RD; rw [if_pos ⟨by omega, by omega⟩]
  have f1 : WR arg5 arg12 arg22 c cb k k = wrFly arg5 arg12 arg22 c cb k := by unfold WR; rw [if_neg (by omega), if_pos (by omega)]
  have f2 : WR arg5 arg12 arg22 c cb k (k + 3) = iprop(∃ g, own (cB arg5 k) g) := by
    unfold WR; rw [if_neg (by omega), if_neg (by omega), Nat.add_sub_cancel]
  have f3 : WR arg5 arg12 arg22 c cb (k + 1) k = wrDone arg5 c cb k := by unfold WR; rw [if_pos (by omega)]
  have f4 : WR arg5 arg12 arg22 c cb (k + 1) (k + 3) = wrFly arg5 arg12 arg22 c cb (k + 3) := by unfold WR; rw [if_neg (by omega), if_pos (by omega)]
  have hR := bigSep_swap (s := Finset.range 18) (Finset.mem_range.2 (show k < 18 by omega)) (Finset.mem_range.2 (show k + 4 < 18 by omega)) (by omega)
    (Φ := RD arg1 arg11 arg21 c wb k) (Ψ := RD arg1 arg11 arg21 c wb (k + 1)) (RD_step arg1 arg11 arg21 c wb k)
  have hW := bigSep_swap (s := Finset.range 17) (Finset.mem_range.2 (show k < 17 by omega)) (Finset.mem_range.2 (show k + 3 < 17 by omega)) (by omega)
    (Φ := WR arg5 arg12 arg22 c cb k) (Ψ := WR arg5 arg12 arg22 c cb (k + 1)) (WR_step arg5 arg12 arg22 c cb k)
  rw [e1, e2, e3, e4] at hR
  rw [f1, f2, f3, f4] at hW
  iintro ⟨HR, HW⟩
  ihave HR' := hR $$ HR
  ihave HW' := hW $$ HW
  icases HR' with ⟨H1, H2, HR⟩
  icases HW' with ⟨H3, H4, HW⟩
  isplitl [H1]; · iexact H1
  isplitl [H2]; · iexact H2
  isplitl [H3]; · iexact H3
  isplitl [H4]; · iexact H4
  iintro G1 G2 G3 G4
  isplitl [HR G1 G2]
  · iapply HR $$ G1 G2
  · iapply HW $$ G3 G4

/-! ## A trip -/

variable {defs : Defs nD τ sig (Elt F) Λ₀} (𝒱 : Variants) (bd : Option 𝒱.V)
local notation "W" => wp frame (wpE (Ix := Unit) (Name := ℕ) (U := Pipeline.UC sig nD τ) (Lvl := ℕ) defs 𝒱 (c.tc : Thread nD τ) bd) Set.univ

/-- The waits at a trip's start: the trip's block of `w` is in its slot, and the slot of codes is free. -/
theorem wp_pre (t : Tm) (Q : PUnit → sProp 𝕄) :
    iprop(rdFly arg1 arg11 arg21 c wb t.val ∗ wrFly arg5 arg12 arg22 c cb t.val ∗ owesNone (c.tc : Thread nD τ)
        ∗ (own (wSlot arg11 t) (wb t.val) -∗ rdHome arg1 c wb t.val -∗ semVal ((c.tc : Thread nD τ), .dma (semR arg21 t.val)) 0
          -∗ wrDone arg5 c cb t.val -∗ (∃ g, own (cSlot arg12 t) g) -∗ semVal ((c.tc : Thread nD τ), .dma (semC arg22 t.val)) 0
          -∗ owesNone (c.tc : Thread nD τ) -∗ Q ⟨⟩))
      ⊢ W (pre arg1 harg1 arg5 harg5 arg11 harg11 arg12 harg12 arg21 arg22 t) Q := by
  have ht := t_lt t
  have eS := wS_eq arg11 t.val (off9 t) (k0_off9_inb t)
  have eC := cS_eq arg12 t.val (off15 t) (k0_off15_inb t)
  have eR := semR_eq arg21 t.val (off8 t) (k0_off8_inb t)
  unfold wSlot cSlot
  rw [eS, eC]
  unfold pre
  simp only [wp_bind]
  rw [show rdFly arg1 arg11 arg21 c wb t.val = flies (Val := Elt F) (c.tc : Thread nD τ) (semR arg21 t.val) (wS arg11 t.val).view.dmaCredit iprop(own (wS arg11 t.val) (wb t.val) ∗ own (wB arg1 t.val) (wb t.val)) from if_pos ht,
    show rdHome arg1 c wb t.val = own (wB arg1 t.val) (wb t.val) from if_pos ht]
  rw [← eR]
  by_cases h1 : k0_cond1 t = 1#1
  · have h3 := (cond1 t).1 h1
    have eC' := semC_eq arg22 t.val (off11 t h1) (k0_off11_inb t h1)
    have eB := cB_eq arg5 (t.val - 3) (off12 t h1) (k0_off12_inb t h1)
    rw [show wrFly arg5 arg12 arg22 c cb t.val = flies (Val := Elt F) (c.tc : Thread nD τ) (semC arg22 t.val) (cB arg5 (t.val - 3)).view.dmaCredit iprop(own (cB arg5 (t.val - 3)) (cb (t.val - 3)) ∗ own (cS arg12 t.val) (cb (t.val - 3))) from if_pos h3,
      show wrDone arg5 c cb t.val = own (cB arg5 (t.val - 3)) (cb (t.val - 3)) from if_pos h3, ← eC']
    simp only [dif_pos h1, wp_bind]
    iintro ⟨HR, HW, Ho, HQ⟩
    iapply (wt (c.tc : Thread nD τ) 𝒱 bd (dst := wSlot arg11 t) (N := (wS arg11 t.val).view.dmaCredit) (by unfold wSlot; rw [eS]))
    isplitl [HR]; · iexact HR
    isplitl [Ho]; · iexact Ho
    iintro ⟨HS, HB⟩ Hv Ho
    iapply (wt (c.tc : Thread nD τ) 𝒱 bd (N := (cB arg5 (t.val - 3)).view.dmaCredit) (by rw [eB]; rfl))
    isplitl [HW]; · iexact HW
    isplitl [Ho]; · iexact Ho
    iintro ⟨HD, HC⟩ Hv' Ho
    iapply (rt (c.tc : Thread nD τ) 𝒱 bd Set.univ (a := PUnit.unit))
    iapply HQ $$ HS HB Hv HD [HC] Hv' Ho
    iexists _
    iexact HC
  · have h3 : ¬ 3 ≤ t.val := fun h => h1 ((cond1 t).2 h)
    rw [show wrFly arg5 arg12 arg22 c cb t.val = iprop((∃ g, own (cS arg12 t.val) g) ∗ semVal ((c.tc : Thread nD τ), .dma (semC arg22 t.val)) 0) from if_neg h3,
      show wrDone arg5 c cb t.val = iprop(emp) from if_neg h3]
    simp only [dif_neg h1]
    iintro ⟨HR, ⟨HC, Hv'⟩, Ho, HQ⟩
    iapply (wt (c.tc : Thread nD τ) 𝒱 bd (dst := wSlot arg11 t) (N := (wS arg11 t.val).view.dmaCredit) (by unfold wSlot; rw [eS]))
    isplitl [HR]; · iexact HR
    isplitl [Ho]; · iexact Ho
    iintro ⟨HS, HB⟩ Hv Ho
    iapply (rt (c.tc : Thread nD τ) 𝒱 bd Set.univ (a := PUnit.unit))
    iapply HQ $$ HS HB Hv [] HC Hv' Ho
    iempintro

/-- The copies a trip starts: its codes to their block, and the block of `w` four ahead to the slot just used. -/
theorem wp_post (t : Tm) (Q : PUnit → sProp 𝕄) :
    iprop((∃ g, own (wSlot arg11 t) g) ∗ rdHome arg1 c wb (t.val + 4) ∗ semVal ((c.tc : Thread nD τ), .dma (semR arg21 t.val)) 0
        ∗ own (cSlot arg12 t) (cb t.val) ∗ (∃ g, own (cB arg5 t.val) g) ∗ semVal ((c.tc : Thread nD τ), .dma (semC arg22 t.val)) 0
        ∗ (rdFly arg1 arg11 arg21 c wb (t.val + 4) -∗ wrFly arg5 arg12 arg22 c cb (t.val + 3) -∗ Q ⟨⟩))
      ⊢ W (post arg1 harg1 arg5 harg5 arg11 harg11 arg12 harg12 arg21 arg22 t) Q := by
  have eS := wS_eq arg11 t.val (off9 t) (k0_off9_inb t)
  have eC := cS_eq arg12 (t.val + 3) (by rw [off15 t, Nat.add_mod_right]) (k0_off15_inb t)
  have eB := cB_eq arg5 t.val (off10 t) (k0_off10_inb t)
  have eC' := semC_eq arg22 (t.val + 3) (off112 t) (k0_off112_inb t)
  have eC0 : semC arg22 t.val = semC arg22 (t.val + 3) := semC_eq arg22 (t.val + 3) (by rw [Nat.add_mod_right]) _
  have eS4 : wS arg11 t.val = wS arg11 (t.val + 4) := wS_eq arg11 (t.val + 4) (by rw [Nat.add_mod_right]) _
  have eR4 : semR arg21 t.val = semR arg21 (t.val + 4) := semR_eq arg21 (t.val + 4) (by rw [Nat.add_mod_right]) _
  rw [show (iprop(∃ g, own (wSlot arg11 t) g) : sProp 𝕄) = iprop(∃ g, own (wS arg11 (t.val + 4)) g) by unfold wSlot; rw [eS, eS4], eR4, eC0]
  unfold post
  simp only [wp_bind]
  rw [show wrFly arg5 arg12 arg22 c cb (t.val + 3) = flies (Val := Elt F) (c.tc : Thread nD τ) (semC arg22 (t.val + 3)) (cB arg5 t.val).view.dmaCredit
      iprop(own (cB arg5 t.val) (cb t.val) ∗ own (cS arg12 (t.val + 3)) (cb t.val)) from if_pos (by omega)]
  rw [← eC', ← eC, ← eB]
  by_cases h2 : k0_cond2 t = 1#1
  · have h3 := (cond2 t).1 h2
    have eB2 := wB_eq arg1 (t.val + 4) (off115 t h2) (k0_off115_inb t h2)
    have eS2 := wS_eq arg11 (t.val + 4) (off114 t h2) (k0_off114_inb t h2)
    have eR2 := semR_eq arg21 (t.val + 4) (off113 t h2) (k0_off113_inb t h2)
    rw [show rdFly arg1 arg11 arg21 c wb (t.val + 4) = flies (Val := Elt F) (c.tc : Thread nD τ) (semR arg21 (t.val + 4)) (wS arg11 (t.val + 4)).view.dmaCredit iprop(own (wS arg11 (t.val + 4)) (wb (t.val + 4)) ∗ own (wB arg1 (t.val + 4)) (wb (t.val + 4))) from if_pos h3,
      show rdHome arg1 c wb (t.val + 4) = own (wB arg1 (t.val + 4)) (wb (t.val + 4)) from if_pos h3, ← eB2, ← eS2, ← eR2]
    simp only [dif_pos h2, wp_bind]
    iintro ⟨⟨%gs, HS⟩, HH, Hv, HC, ⟨%gc, HB⟩, Hv', HQ⟩
    iapply (dma (c.tc : Thread nD τ) 𝒱 bd (src := cSlot arg12 t) (g := cb t.val) (gd := gc) (by decide +kernel))
    isplitl [HC]; · iexact HC
    isplitl [HB]; · iexact HB
    isplitl [Hv']; · iexact Hv'
    iintro Hf
    iapply (dma (c.tc : Thread nD τ) 𝒱 bd (g := wb (t.val + 4)) (gd := gs) (by decide +kernel))
    isplitl [HH]; · iexact HH
    isplitl [HS]; · iexact HS
    isplitl [Hv]; · iexact Hv
    iintro Hg
    iapply (rt (c.tc : Thread nD τ) 𝒱 bd Set.univ (a := PUnit.unit))
    iapply HQ $$ Hg Hf
  · have h3 : ¬ t.val + 4 < 14 := fun h => h2 ((cond2 t).2 h)
    rw [show rdFly arg1 arg11 arg21 c wb (t.val + 4) = iprop((∃ g, own (wS arg11 (t.val + 4)) g) ∗ semVal ((c.tc : Thread nD τ), .dma (semR arg21 (t.val + 4))) 0) from if_neg h3]
    simp only [dif_neg h2]
    iintro ⟨HS, HH, Hv, HC, ⟨%gc, HB⟩, Hv', HQ⟩
    iapply (dma (c.tc : Thread nD τ) 𝒱 bd (src := cSlot arg12 t) (g := cb t.val) (gd := gc) (by decide +kernel))
    isplitl [HC]; · iexact HC
    isplitl [HB]; · iexact HB
    isplitl [Hv']; · iexact Hv'
    iintro Hf
    iapply (rt (c.tc : Thread nD τ) 𝒱 bd Set.univ (a := PUnit.unit))
    iapply HQ $$ [HS Hv] Hf
    isplitl [HS]; · iexact HS
    iexact Hv

end Ring

end Cert.KernelIdeal.Tr

end
-- ==== Proof.KernelIdeal.RingTrip.lean ====
/- A trip of the second loop on the copies' state, the accumulator and the scale codes. -/
module

public import proofs.«01_k».proof.Proof.KernelIdeal.Ring

@[expose] public section

set_option maxRecDepth 16384

noncomputable section

namespace Cert.KernelIdeal.Tr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.Own
open Facts₀ Facts

variable {F : FTy → Type} [FloatOps F]
local notation "Tm" => Fin k0_t2_loop.trips
local notation "𝕄" => MT nD τ sig Unit (Elt F) ℕ (Pipeline.UC sig nD τ) ℕ

section Ring

variable (arg1 : Memref sig .tc .hbm S7168x3072 .bf16) (harg1 : arg1.IsWhole) (arg5 : Memref sig .tc .hbm S7168x3072 .fp8e4m3) (harg5 : arg5.IsWhole)
  (arg9 : Memref sig .tc .vmem S14x208x512 .bf16)
  (arg11 : Memref sig .tc .vmem S4x512x3072 .bf16) (harg11 : arg11.IsWhole) (arg12 : Memref sig .tc .vmem S3x512x3072 .fp8e4m3) (harg12 : arg12.IsWhole)
  (arg13 : Memref sig .tc .vmem S208x3072 .f32)
  (arg15 : Memref sig .tc .vmem S4x216x128 .f32) (arg16 arg17 : Memref sig .tc .vmem S4x24x128 .i32) (arg18 : Memref sig .tc .vmem S24x128 .i32)
  (arg21 : DmaSems sig S4) (arg22 : DmaSems sig S3)

variable (c : Dev nD)
local notation "own" => mown (Ix := Unit) (Val := Elt F) (Name := ℕ) (U := Pipeline.UC sig nD τ) (Lvl := ℕ) (c.tc : Thread nD τ)

variable (wb : ℕ → Vec F S512x3072 .bf16) (cb : ℕ → Vec F S512x3072 .fp8e4m3)

variable {defs : Defs nD τ sig (Elt F) Λ₀} (𝒱 : Variants) (bd : Option 𝒱.V)
local notation "W" => wp frame (wpE (Ix := Unit) (Name := ℕ) (U := Pipeline.UC sig nD τ) (Lvl := ℕ) defs 𝒱 (c.tc : Thread nD τ) bd) Set.univ

attribute [local irreducible] core phaseA phaseB stA cAfter accAfter

/-- `wp_trip` from one state of the scales. -/
theorem wp_trip0 (lane : IVec S24x128 32) (t : Tm) (X : Vec F S14x208x512 .bf16) (a a' : Vec F S208x3072 .f32) (s s1 : StA F)
    (h : stOf lane t (wb t.val) s = s1) (hC : ∀ cc, cAfter (wb t.val) s1.inv 12 le_rfl cc = cb t.val)
    (hA : accAfter (wb t.val) s1.inv s1.scale (xkOf X t) 12 le_rfl a = a') (Q : PUnit → sProp 𝕄) :
    iprop(bigSep (Finset.range 18) (RD arg1 arg11 arg21 c wb t.val) ∗ bigSep (Finset.range 17) (WR arg5 arg12 arg22 c cb t.val)
        ∗ owesNone (c.tc : Thread nD τ) ∗ own arg9 X ∗ own arg13 a ∗ ownA c arg15 arg16 arg17 arg18 s
        ∗ (bigSep (Finset.range 18) (RD arg1 arg11 arg21 c wb (t.val + 1)) -∗ bigSep (Finset.range 17) (WR arg5 arg12 arg22 c cb (t.val + 1))
          -∗ owesNone (c.tc : Thread nD τ) -∗ own arg9 X -∗ own arg13 a' -∗ ownA c arg15 arg16 arg17 arg18 s1 -∗ Q ⟨⟩))
      ⊢ W (trip arg1 harg1 arg5 harg5 arg9 arg11 harg11 arg12 harg12 arg13 arg15 arg16 arg17 arg18 arg21 arg22 lane t) Q := by
  unfold trip
  simp only [wp_bind]
  iintro ⟨HR, HW, Ho, HX, Ha, Hs, HQ⟩
  ihave H := (ring_take arg1 arg5 arg11 arg12 arg21 arg22 c wb cb t.val (t_lt t)) $$ [HR HW]
  · isplitl [HR]; · iexact HR
    iexact HW
  icases H with ⟨H1, H2, H3, H4, Hback⟩
  iapply (wp_pre arg1 harg1 arg5 harg5 arg11 harg11 arg12 harg12 arg21 arg22 c wb cb 𝒱 bd t)
  isplitl [H1]; · iexact H1
  isplitl [H3]; · iexact H3
  isplitl [Ho]; · iexact Ho
  iintro HS HB Hv HD ⟨%cc, HC⟩ Hv' Ho
  iapply (wp_core' c 𝒱 bd Set.univ (wSlot arg11 t) arg9 arg12 harg12 arg13 arg15 arg16 arg17 arg18 lane t (wb t.val) cc X a s s1 (cb t.val) a' h (hC cc) hA)
  isplitl [HS]; · iexact HS
  isplitl [HC]; · iexact HC
  isplitl [HX]; · iexact HX
  isplitl [Ha]; · iexact Ha
  isplitl [Hs]; · iexact Hs
  iintro HS HC HX Ha Hs
  iapply (wp_post arg1 harg1 arg5 harg5 arg11 harg11 arg12 harg12 arg21 arg22 c wb cb 𝒱 bd t)
  isplitl [HS]; · iexists _; iexact HS
  isplitl [H2]; · iexact H2
  isplitl [Hv]; · iexact Hv
  isplitl [HC]; · iexact HC
  isplitl [H4]; · iexact H4
  isplitl [Hv']; · iexact Hv'
  iintro G1 G2
  ihave G := Hback $$ HB G1 HD G2
  icases G with ⟨GR, GW⟩
  iapply HQ $$ GR GW Ho HX Ha Hs

/-- A trip: the copies' state moves on by one, the accumulator takes the trip's product, and the scale codes the trip's. -/
theorem wp_trip (lane : IVec S24x128 32) (t : Tm) (X : Vec F S14x208x512 .bf16) (a a' : Vec F S208x3072 .f32) (ws ws' : Vec F S24x128 .i32)
    (hC : ∀ s cc, cAfter (wb t.val) (stOf lane t (wb t.val) s).inv 12 le_rfl cc = cb t.val)
    (hA : ∀ s, accAfter (wb t.val) (stOf lane t (wb t.val) s).inv (stOf lane t (wb t.val) s).scale (xkOf X t) 12 le_rfl a = a')
    (hS : ∀ s : StA F, s.ws = ws → (stOf lane t (wb t.val) s).ws = ws') (Q : PUnit → sProp 𝕄) :
    iprop(bigSep (Finset.range 18) (RD arg1 arg11 arg21 c wb t.val) ∗ bigSep (Finset.range 17) (WR arg5 arg12 arg22 c cb t.val)
        ∗ owesNone (c.tc : Thread nD τ) ∗ own arg9 X ∗ own arg13 a ∗ (∃ s : StA F, ownA c arg15 arg16 arg17 arg18 s ∗ ⌜s.ws = ws⌝)
        ∗ (bigSep (Finset.range 18) (RD arg1 arg11 arg21 c wb (t.val + 1)) -∗ bigSep (Finset.range 17) (WR arg5 arg12 arg22 c cb (t.val + 1))
          -∗ owesNone (c.tc : Thread nD τ) -∗ own arg9 X -∗ own arg13 a' -∗ (∃ s : StA F, ownA c arg15 arg16 arg17 arg18 s ∗ ⌜s.ws = ws'⌝) -∗ Q ⟨⟩))
      ⊢ W (trip arg1 harg1 arg5 harg5 arg9 arg11 harg11 arg12 harg12 arg13 arg15 arg16 arg17 arg18 arg21 arg22 lane t) Q := by
  iintro ⟨HR, HW, Ho, HX, Ha, ⟨%s, Hs, %hs⟩, HQ⟩
  have hc := hC s
  have ha := hA s
  have hw := hS s hs
  obtain ⟨s1, h1⟩ : ∃ s1, stOf lane t (wb t.val) s = s1 := ⟨_, rfl⟩
  simp only [h1] at hc ha hw
  iapply (wp_trip0 arg1 harg1 arg5 harg5 arg9 arg11 harg11 arg12 harg12 arg13 arg15 arg16 arg17 arg18 arg21 arg22 c wb cb 𝒱 bd lane t X a a' s s1 h1 hc ha)
  isplitl [HR]; · iexact HR
  isplitl [HW]; · iexact HW
  isplitl [Ho]; · iexact Ho
  isplitl [HX]; · iexact HX
  isplitl [Ha]; · iexact Ha
  isplitl [Hs]; · iexact Hs
  iintro GR GW Ho HX Ha Hs
  iapply HQ $$ GR GW Ho HX Ha
  iexists s1
  isplitl [Hs]; · iexact Hs
  ipureintro
  exact hw

end Ring

end Cert.KernelIdeal.Tr

end
-- ==== Proof.KernelIdeal.Indep.lean ====
/- What a trip of the second loop computes does not depend on what the buffers it fills held before: the slab, the
   scale words and the slot of codes are overwritten wherever they are read. -/
module

public import proofs.«01_k».proof.Proof.KernelIdeal.Core

@[expose] public section

set_option maxRecDepth 16384

noncomputable section

namespace Cert.KernelIdeal.Tr

open Idealize.ShloMosaic Idealize.ShloMosaic.TcCoe
open Cert.KernelIdeal Cert.Own
open Facts₀ Facts

variable {F : FTy → Type} [FloatOps F]
local notation "Tm" => Fin k0_t2_loop.trips

/-- An entry of a slab plane's band is where the band is stored. -/
theorem slab_ne (kb : Fin 4) {b b' : Fin 24} (h : b ≠ b') (j : (slabR kb b).shape.Idx) (j' : (slabR kb b').shape.Idx) :
    (slabR kb b').emb j' ≠ (slabR kb b).emb j := by
  intro e
  have e1 := congrArg (fun x : S4x216x128.Idx => (x 1).val) e
  have h1 : ((slabR kb b').emb j' 1).val = 9 * b'.val + 1 * (j' 1).val := rfl
  have h2 : ((slabR kb b).emb j 1).val = 9 * b.val + 1 * (j 1).val := rfl
  have l1 : (j' 1).val < 8 := (j' 1).isLt
  have l2 : (j 1).val < 8 := (j 1).isLt
  have : b.val ≠ b'.val := fun e => h (Fin.ext e)
  dsimp only at e1
  omega

/-- The slab holds what each block stored. -/
theorem slabAfter_emb (g : Vec F S512x3072 .bf16) (kb : Fin 4) (sl : Vec F S4x216x128 .f32) : ∀ (n : Nat) (h : n ≤ 24) (b : Fin 24) (_ : b.val < n) (j : (slabR kb b).shape.Idx),
    slabAfter g kb n h sl ((slabR kb b).emb j) = slabVal (blk g kb b) j
  | 0, _, b, hb, _ => absurd hb (Nat.not_lt_zero _)
  | n + 1, h, b, hb, j => by
    unfold slabAfter
    by_cases e : b = ⟨n, h⟩
    · subst e; rw [upd_emb]
    · rw [upd_off _ _ _ (fun j' => slab_ne kb e j j')]
      refine slabAfter_emb g kb sl n _ b ?_ j
      have : b.val ≠ n := fun e' => e (Fin.ext e')
      omega

/-- Row `s` of each block's band. -/
def bandRow (g : Vec F S512x3072 .bf16) (kb : Fin 4) (s : Fin 8) : Vec F S1x24x128 .f32 :=
  fun i => slabVal (blk g kb (i 1)) (fun a => match a with | ⟨0, _⟩ => ⟨0, Nat.one_pos⟩ | ⟨1, _⟩ => s | ⟨2, _⟩ => i 2)

theorem slab_read (g : Vec F S512x3072 .bf16) (kb : Fin 4) (sl : Vec F S4x216x128 .f32) (s : Fin 8) :
    (fun i => slabAfter g kb 24 le_rfl sl ((slabRect kb s).idx i) : Vec F S1x24x128 .f32) = bandRow g kb s := by
  funext i
  have hi : (slabRect kb s).idx i = (slabR kb (i 1)).emb (fun a => match a with | ⟨0, _⟩ => ⟨0, Nat.one_pos⟩ | ⟨1, _⟩ => s | ⟨2, _⟩ => i 2) := by
    funext a
    apply Fin.ext
    match a with
    | ⟨0, _⟩ =>
      have : (i 0).val < 1 := (i 0).isLt
      show kb.val + 1 * (i 0).val = kb.val + 1 * 0
      omega
    | ⟨1, _⟩ =>
      show s.val + 9 * (i 1).val = 9 * (i 1).val + 1 * s.val
      omega
    | ⟨2, _⟩ => rfl
  rw [hi]
  exact slabAfter_emb g kb sl 24 le_rfl (i 1) (i 1).isLt _

/-- The maximum of the bands' rows `0 … n`. -/
def bandMax (g : Vec F S512x3072 .bf16) (kb : Fin 4) : (n : Nat) → n < 8 → FVec F S24x128 .f32
  | 0, h => shapeCast S24x128 (bandRow g kb ⟨0, h⟩) shapeCasts_S1x24x128_S24x128
  | n + 1, h => maximumf (bandMax g kb n (Nat.lt_of_succ_lt h)) (shapeCast S24x128 (bandRow g kb ⟨n + 1, h⟩) shapeCasts_S1x24x128_S24x128)

theorem smax_eq (g : Vec F S512x3072 .bf16) (kb : Fin 4) (sl : Vec F S4x216x128 .f32) : ∀ (n : Nat) (h : n < 8),
    smax (slabAfter g kb 24 le_rfl sl) kb n h = bandMax g kb n h
  | 0, h => by unfold smax bandMax; rw [slab_read]
  | n + 1, h => by unfold smax bandMax; rw [smax_eq g kb sl n, slab_read]

/-- Block row `kb`'s exponents, from the chunk alone. -/
def eV (g : Vec F S512x3072 .bf16) (kb : Fin 4) : IVec S24x128 32 := expo (quot (bandMax g kb 7 (by decide)))

theorem eOf_eq (g : Vec F S512x3072 .bf16) (kb : Fin 4) (sl : Vec F S4x216x128 .f32) : eOf g kb sl = eV g kb := by
  unfold eOf eV; rw [smax_eq]

theorem kb_ne {kb kb' : Fin 4} (h : kb ≠ kb') (j : (kbR kb).shape.Idx) (j' : (kbR kb').shape.Idx) : (kbR kb').emb j' ≠ (kbR kb).emb j := by
  intro e
  have e1 := congrArg (fun x : S4x24x128.Idx => (x 0).val) e
  have h1 : ((kbR kb').emb j' 0).val = kb'.val + 1 * (j' 0).val := rfl
  have h2 : ((kbR kb).emb j 0).val = kb.val + 1 * (j 0).val := rfl
  have l1 : (j' 0).val < 1 := (j' 0).isLt
  have l2 : (j 0).val < 1 := (j 0).isLt
  have : kb.val ≠ kb'.val := fun e => h (Fin.ext e)
  dsimp only at e1
  omega

/-- An index of a buffer of scale words, in its block row. -/
def inRow (i : S4x24x128.Idx) : S1x24x128.Idx := fun a => match a with | ⟨0, _⟩ => ⟨0, Nat.one_pos⟩ | ⟨1, _⟩ => i 1 | ⟨2, _⟩ => i 2

theorem inRow_emb (i : S4x24x128.Idx) : (kbR (i 0)).emb (inRow i) = i := by
  funext a
  apply Fin.ext
  match a with
  | ⟨0, _⟩ => show (i 0).val + 1 * 0 = (i 0).val; omega
  | ⟨1, _⟩ => show 0 + 1 * (i 1).val = (i 1).val; omega
  | ⟨2, _⟩ => show 0 + 1 * (i 2).val = (i 2).val; omega

/-- The words of the reciprocal scales. -/
def INV (g : Vec F S512x3072 .bf16) : Vec F S4x24x128 .i32 := fun i =>
  (shapeCast S1x24x128 (invWord (eV g (i 0))) shapeCasts_S24x128_S1x24x128 : Vec F S1x24x128 .i32) (inRow i)
/-- The words of the scales. -/
def SC (g : Vec F S512x3072 .bf16) : Vec F S4x24x128 .i32 := fun i =>
  (shapeCast S1x24x128 (scaleWord (eV g (i 0))) shapeCasts_S24x128_S1x24x128 : Vec F S1x24x128 .i32) (inRow i)

section

variable (g : Vec F S512x3072 .bf16) (lane : IVec S24x128 32) (arg24 : BitVec 32)

theorem stA_inv (s : StA F) : ∀ (n : Nat) (h : n ≤ 4) (kb : Fin 4) (_ : kb.val < n) (j : (kbR kb).shape.Idx),
    (stA g lane arg24 n h s).inv ((kbR kb).emb j) = (shapeCast S1x24x128 (invWord (eV g kb)) shapeCasts_S24x128_S1x24x128 : Vec F S1x24x128 .i32) j
  | 0, _, kb, hb, _ => absurd hb (Nat.not_lt_zero _)
  | n + 1, h, kb, hb, j => by
    unfold stA
    dsimp only
    rw [eOf_eq]
    by_cases e : kb = ⟨n, h⟩
    · subst e; rw [upd_emb]
    · rw [upd_off _ _ _ (fun j' => kb_ne e j j')]
      refine stA_inv s n _ kb ?_ j
      have : kb.val ≠ n := fun e' => e (Fin.ext e')
      omega

theorem stA_scale (s : StA F) : ∀ (n : Nat) (h : n ≤ 4) (kb : Fin 4) (_ : kb.val < n) (j : (kbR kb).shape.Idx),
    (stA g lane arg24 n h s).scale ((kbR kb).emb j) = (shapeCast S1x24x128 (scaleWord (eV g kb)) shapeCasts_S24x128_S1x24x128 : Vec F S1x24x128 .i32) j
  | 0, _, kb, hb, _ => absurd hb (Nat.not_lt_zero _)
  | n + 1, h, kb, hb, j => by
    unfold stA
    dsimp only
    rw [eOf_eq]
    by_cases e : kb = ⟨n, h⟩
    · subst e; rw [upd_emb]
    · rw [upd_off _ _ _ (fun j' => kb_ne e j j')]
      refine stA_scale s n _ kb ?_ j
      have : kb.val ≠ n := fun e' => e (Fin.ext e')
      omega

theorem wsR_emb (w : Vec F S24x128 .i32) (x : S24x128.Idx) (old : Vec F S24x128 .i32) : upd wsR w old x = w x := by
  have hx : wsR.emb x = x := by
    funext a
    apply Fin.ext
    match a with
    | ⟨0, _⟩ => show 0 + 1 * (x 0).val = (x 0).val; omega
    | ⟨1, _⟩ => show 0 + 1 * (x 1).val = (x 1).val; omega
  conv_lhs => rw [← hx]
  exact upd_emb wsR w old x

/-- The scale codes after the first `n` block rows. -/
def wsV (ws : Vec F S24x128 .i32) : (n : Nat) → n ≤ 4 → Vec F S24x128 .i32
  | 0, _ => ws
  | n + 1, h => upd wsR (shapeCast S24x128 (wsSel lane arg24 ⟨n, h⟩ (eV g ⟨n, h⟩) (fun i => wsV ws n (Nat.le_of_succ_le h) (wsR.idx i))) shapeCasts_S24x128_S24x128 : Vec F S24x128 .i32) (wsV ws n (Nat.le_of_succ_le h))

theorem stA_ws (s : StA F) : ∀ (n : Nat) (h : n ≤ 4), (stA g lane arg24 n h s).ws = wsV g lane arg24 s.ws n h
  | 0, _ => rfl
  | n + 1, h => by
    unfold stA wsV
    dsimp only
    rw [eOf_eq, stA_ws s n]

end

theorem st_inv (lane : IVec S24x128 32) (t : Tm) (g : Vec F S512x3072 .bf16) (s : StA F) : (stOf lane t g s).inv = INV g := by
  funext i
  have h := stA_inv g lane (Scf.iv 0#32 1#32 t) s 4 le_rfl (i 0) (i 0).isLt (inRow i)
  rw [inRow_emb] at h
  exact h

theorem st_scale (lane : IVec S24x128 32) (t : Tm) (g : Vec F S512x3072 .bf16) (s : StA F) : (stOf lane t g s).scale = SC g := by
  funext i
  have h := stA_scale g lane (Scf.iv 0#32 1#32 t) s 4 le_rfl (i 0) (i 0).isLt (inRow i)
  rw [inRow_emb] at h
  exact h

theorem st_ws (lane : IVec S24x128 32) (t : Tm) (g : Vec F S512x3072 .bf16) (s : StA F) :
    (stOf lane t g s).ws = wsV g lane (Scf.iv 0#32 1#32 t) s.ws 4 le_rfl :=
  stA_ws g lane _ s 4 le_rfl

/-! ## The slot of codes -/

theorem w_ne {kb kb' : Fin 4} {b b' : Fin 24} (h : ¬ (kb = kb' ∧ b = b')) (j : (wR kb b).shape.Idx) (j' : (wR kb' b').shape.Idx) :
    (wR kb' b').emb j' ≠ (wR kb b).emb j := by
  intro e
  have e0 := congrArg (fun x : S512x3072.Idx => (x 0).val) e
  have e1 := congrArg (fun x : S512x3072.Idx => (x 1).val) e
  have h1 : ((wR kb' b').emb j' 0).val = 128 * kb'.val + 1 * (j' 0).val := rfl
  have h2 : ((wR kb b).emb j 0).val = 128 * kb.val + 1 * (j 0).val := rfl
  have h3 : ((wR kb' b').emb j' 1).val = 128 * b'.val + 1 * (j' 1).val := rfl
  have h4 : ((wR kb b).emb j 1).val = 128 * b.val + 1 * (j 1).val := rfl
  have l1 : (j' 0).val < 128 := (j' 0).isLt
  have l2 : (j 0).val < 128 := (j 0).isLt
  have l3 : (j' 1).val < 128 := (j' 1).isLt
  have l4 : (j 1).val < 128 := (j 1).isLt
  dsimp only at e0 e1
  exact h ⟨Fin.ext (by omega), Fin.ext (by omega)⟩

theorem cCol_in (g : Vec F S512x3072 .bf16) (inv : Vec F S4x24x128 .i32) (b : Fin 24) (cc : Vec F S512x3072 .fp8e4m3) (kb : Fin 4) (j : (wR kb b).shape.Idx) :
    cCol g inv b cc ((wR kb b).emb j) = tcodes g inv b kb j := by
  unfold cCol
  by_cases h3 : kb = 3
  · subst h3; rw [upd_emb]
  rw [upd_off _ _ _ (fun j' => w_ne (fun e => h3 e.1) j j')]
  by_cases h2 : kb = 2
  · subst h2; rw [upd_emb]
  rw [upd_off _ _ _ (fun j' => w_ne (fun e => h2 e.1) j j')]
  by_cases h1 : kb = 1
  · subst h1; rw [upd_emb]
  rw [upd_off _ _ _ (fun j' => w_ne (fun e => h1 e.1) j j')]
  have h0 : kb = 0 := by omega
  subst h0; rw [upd_emb]

theorem cCol_out (g : Vec F S512x3072 .bf16) (inv : Vec F S4x24x128 .i32) {b b' : Fin 24} (h : b ≠ b') (cc : Vec F S512x3072 .fp8e4m3) (kb : Fin 4) (j : (wR kb b).shape.Idx) :
    cCol g inv b' cc ((wR kb b).emb j) = cc ((wR kb b).emb j) := by
  unfold cCol
  rw [upd_off _ _ _ (fun j' => w_ne (fun e => h e.2) j j'), upd_off _ _ _ (fun j' => w_ne (fun e => h e.2) j j'),
    upd_off _ _ _ (fun j' => w_ne (fun e => h e.2) j j'), upd_off _ _ _ (fun j' => w_ne (fun e => h e.2) j j')]

theorem cAfter_emb (g : Vec F S512x3072 .bf16) (inv : Vec F S4x24x128 .i32) (cc : Vec F S512x3072 .fp8e4m3) (kb : Fin 4) : ∀ (n : Nat) (h : n ≤ 12) (b : Fin 24) (_ : b.val < 2 * n) (j : (wR kb b).shape.Idx),
    cAfter g inv n h cc ((wR kb b).emb j) = tcodes g inv b kb j
  | 0, _, b, hb, _ => absurd hb (Nat.not_lt_zero _)
  | n + 1, h, b, hb, j => by
    unfold cAfter
    by_cases e : b = hi ⟨n, h⟩
    · subst e; exact cCol_in g inv _ _ kb j
    rw [cCol_out g inv e]
    by_cases e' : b = lo ⟨n, h⟩
    · subst e'; exact cCol_in g inv _ _ kb j
    rw [cCol_out g inv e']
    refine cAfter_emb g inv cc kb n _ b ?_ j
    have h1 : b.val ≠ 2 * n + 1 := fun e1 => e (Fin.ext e1)
    have h2 : b.val ≠ 2 * n := fun e1 => e' (Fin.ext e1)
    omega

/-- The block row and block column of an index of a chunk, and the index within the block. -/
def rowB (i : S512x3072.Idx) : Fin 4 := ⟨(i 0).val / 128, by have : (i 0).val < 512 := (i 0).isLt; omega⟩
def colB (i : S512x3072.Idx) : Fin 24 := ⟨(i 1).val / 128, by have : (i 1).val < 3072 := (i 1).isLt; omega⟩
def inB (i : S512x3072.Idx) : S128x128.Idx := fun a => match a with | ⟨0, _⟩ => ⟨(i 0).val % 128, Nat.mod_lt _ (by decide)⟩ | ⟨1, _⟩ => ⟨(i 1).val % 128, Nat.mod_lt _ (by decide)⟩

theorem inB_emb (i : S512x3072.Idx) : (wR (rowB i) (colB i)).emb (inB i) = i := by
  funext a
  apply Fin.ext
  match a with
  | ⟨0, _⟩ => show 128 * ((i 0).val / 128) + 1 * ((i 0).val % 128) = (i 0).val; omega
  | ⟨1, _⟩ => show 128 * ((i 1).val / 128) + 1 * ((i 1).val % 128) = (i 1).val; omega

/-- A chunk's codes. -/
def CW (g : Vec F S512x3072 .bf16) : Vec F S512x3072 .fp8e4m3 := fun i => tcodes g (INV g) (colB i) (rowB i) (inB i)

theorem cAfter_eq (g : Vec F S512x3072 .bf16) (cc : Vec F S512x3072 .fp8e4m3) : cAfter g (INV g) 12 le_rfl cc = CW g := by
  funext i
  have h := cAfter_emb g (INV g) cc (rowB i) 12 le_rfl (colB i) (colB i).isLt (inB i)
  rw [inB_emb] at h
  exact h

end Cert.KernelIdeal.Tr

end
-- ==== Proof.KernelIdeal.XTrip.lean ====
/- One trip of the kernel's first loop, written as a structured program: four column blocks of `x`, each read, scaled,
   clipped, and written as codes, as the numbers they stand for and as scale codes. `x_eq` says that the printed trip
   is this program; `wp_xTrip` takes the buffers' contents to a stated function of them. -/
module

public import proofs.«01_k».proof.Proof.KernelIdeal.Core

@[expose] public section

set_option maxRecDepth 16384

noncomputable section

namespace Cert.KernelIdeal.Tr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.Own
open Facts₀ Facts

variable {F : FTy → Type} [FloatOps F]
local notation "Tx" => Fin k0_t1_loop.trips
local notation "𝕄" => MT nD τ sig Unit (Elt F) ℕ (Pipeline.UC sig nD τ) ℕ

/-! ## Offsets and values -/

/-- Column block `s` of trip `t`'s plane. -/
def xOff (t : Tx) (s : Fin 4) : Fin 3 → Nat := ![k0_off4 t 0, 0, 128 * s.val]
theorem inb_x (t : Tx) (s : Fin 4) : ∀ a, xOff t s a + S1x200x128.size a ≤ S14x208x512.size a := by
  revert t s; decide +kernel
theorem packed_x (t : Tx) (s : Fin 4) :
    (Rect.unit (s := S14x208x512) (xOff t s) S1x200x128.size (inb_x t s)).PackedRows (EltTy.packing .bf16) := by
  revert t s; decide +kernel

abbrev xR (t : Tx) (s : Fin 4) : Rect S200x7168 :=
  Rect.unit (s := S200x7168) (k0_off3 t (BitVec.ofNat 32 (128 * s.val))) S200x128.size (k0_off3_inb t s)
abbrev xdR' (t : Tx) (s : Fin 4) : Rect S14x208x512 := Rect.unit (s := S14x208x512) (xOff t s) S1x200x128.size (inb_x t s)
abbrev xsR : Rect S256x128 := Rect.unit (s := S256x128) ![0, 0] S200x128.size inb_S256x128_S200x128_0_0

/-- The lane numbers. -/
abbrev xLane : IVec S200x128 32 := iota .tc S200x128 32 [1] iota_S200x128_d1_w32
/-- Each row's maximum magnitude over 448. -/
def xQuot (v : FVec F S200x128 .f32) : FVec F S200x128 .f32 :=
  mulf (broadcastTo S200x128 (shapeCast S200x1 (shapeCast S200x1 (multiReduction .maximumf [1] S200 (absf v) 0xFF800000#32
    reduces_S200x128_S200 (.inl rfl) rfl) shapeCasts_S200_S200x1) shapeCasts_S200x1_S200x1) broadcasts_S200x1_S200x128)
    (broadcast S200x128 (Scalar.ofBits .f32 0x3B124925#32))
/-- Its exponent. -/
def xExpo (v : FVec F S200x128 .f32) : IVec S200x128 32 := expo (xQuot v)
/-- The codes. -/
def xCodes (v : FVec F S200x128 .f32) : FVec F S200x128 .fp8e4m3 :=
  truncf .fp8e4m3 (minimumf (broadcast S200x128 (Scalar.ofBits .f32 0x43E00000#32)) (maximumf (broadcast S200x128 (Scalar.ofBits .f32 0xC3E00000#32))
    (mulf v (bitcastToFloat .f32 (shli (subi (broadcast S200x128 253#32) (xExpo v)) (broadcast S200x128 23#32)))))) bitsLt_fp8e4m3_f32
/-- The numbers they stand for. -/
def xDeq (v : FVec F S200x128 .f32) : FVec F S200x128 .bf16 :=
  truncf .bf16 (mulf (extf .f32 (xCodes v) bitsLt_fp8e4m3_f32)
    (bitcastToFloat .f32 (shli (addi (xExpo v) (broadcast S200x128 1#32)) (broadcast S200x128 23#32)))) bitsLt_bf16_f32
/-- The scale codes with lane `4 t + s` filled in. -/
def xsSel (lane : IVec S200x128 32) (t : Tx) (s : Fin 4) (v : FVec F S200x128 .f32) (old : IVec S200x128 32) : IVec S200x128 32 :=
  select (cmpi .eq lane (broadcast S200x128 (Scalar.addi (Scalar.muli (Scf.iv 0#32 1#32 t) 4#32) (BitVec.ofNat 32 s.val))))
    (addi (xExpo v) (broadcast S200x128 1#32)) old

/-! ## The program -/

section Prog

variable (arg7 : Memref sig .tc .vmem S200x7168 .bf16) (arg8 : Memref sig .tc .vmem S200x7168 .fp8e4m3) (harg8 : arg8.IsWhole)
  (arg9 : Memref sig .tc .vmem S14x208x512 .bf16) (harg9 : arg9.IsWhole) (arg10 : Memref sig .tc .vmem S256x128 .i32)

/-- Column block `s` of trip `t`. -/
def xTile (lane : IVec S200x128 32) (t : Tx) (s : Fin 4) : PG F PUnit := do
  let v : Vec F S200x128 .bf16 ← Prog.lift (.load arg7 (xR t s).toLoadRect (View.loadsAt_vmem h_S200x128))
  let _o1 : Vec F S200x128 .fp8e4m3 ← Prog.lift (.load arg8 (xR t s).toLoadRect (View.loadsAt_vmem h_S200x128))
  Prog.lift (.store arg8 (xR t s) (shapeCast S200x128 (xCodes (extf .f32 v bitsLt_bf16_f32)) shapeCasts_S200x128_S200x128) Finset.univ
    (View.stores_vmem h_S200x128 (harg8.storeExact_slice rfl _ (k0_off3_packedfp8e4m3 t s)) (fun _ => rfl)) (.inl rfl))
  let _o2 : Vec F S1x200x128 .bf16 ← Prog.lift (.load arg9 (xdR' t s).toLoadRect (View.loadsAt_vmem h_S1x200x128))
  Prog.lift (.store arg9 (xdR' t s) (shapeCast S1x200x128 (xDeq (extf .f32 v bitsLt_bf16_f32)) shapeCasts_S200x128_S1x200x128) Finset.univ
    (View.stores_vmem h_S1x200x128 (harg9.storeExact_slice rfl _ (packed_x t s)) (fun _ => rfl)) (.inl rfl))
  let old : Vec F S200x128 .i32 ← Prog.lift (.load arg10 xsR.toLoadRect (View.loadsAt_vmem h_S200x128))
  let _o3 : Vec F S200x128 .i32 ← Prog.lift (.load arg10 xsR.toLoadRect (View.loadsAt_vmem h_S200x128))
  Prog.lift (.store arg10 xsR (shapeCast S200x128 (xsSel lane t s (extf .f32 v bitsLt_bf16_f32) old) shapeCasts_S200x128_S200x128 : Vec F S200x128 .i32) Finset.univ
    (View.stores_vmem_bits_univ h_S200x128 rfl) (.inl rfl))

/-- A trip. -/
def xTrip (lane : IVec S200x128 32) (t : Tx) : PG F PUnit := do
  xTile arg7 arg8 harg8 arg9 harg9 arg10 lane t 0
  xTile arg7 arg8 harg8 arg9 harg9 arg10 lane t 1
  xTile arg7 arg8 harg8 arg9 harg9 arg10 lane t 2
  xTile arg7 arg8 harg8 arg9 harg9 arg10 lane t 3
  pure ⟨⟩

end Prog

set_option maxHeartbeats 4000000 in
theorem x_eq (arg0 : Memref sig .tc .hbm S200x7168 .bf16) (harg0 : arg0.IsWhole) (arg1 : Memref sig .tc .hbm S7168x3072 .bf16) (harg1 : arg1.IsWhole)
    (arg2 : Memref sig .tc .hbm S200x3072 .bf16) (harg2 : arg2.IsWhole) (arg3 : Memref sig .tc .hbm S200x7168 .fp8e4m3) (harg3 : arg3.IsWhole)
    (arg4 : Memref sig .tc .vmem S56x200 .i8) (harg4 : arg4.IsWhole) (arg5 : Memref sig .tc .hbm S7168x3072 .fp8e4m3) (harg5 : arg5.IsWhole)
    (arg6 : Memref sig .tc .vmem S24x56 .i8) (harg6 : arg6.IsWhole) (arg7 : Memref sig .tc .vmem S200x7168 .bf16) (harg7 : arg7.IsWhole)
    (arg8 : Memref sig .tc .vmem S200x7168 .fp8e4m3) (harg8 : arg8.IsWhole) (arg9 : Memref sig .tc .vmem S14x208x512 .bf16) (harg9 : arg9.IsWhole)
    (arg10 : Memref sig .tc .vmem S256x128 .i32) (harg10 : arg10.IsWhole) (arg11 : Memref sig .tc .vmem S4x512x3072 .bf16) (harg11 : arg11.IsWhole)
    (arg12 : Memref sig .tc .vmem S3x512x3072 .fp8e4m3) (harg12 : arg12.IsWhole) (arg13 : Memref sig .tc .vmem S208x3072 .f32) (harg13 : arg13.IsWhole)
    (arg14 : Memref sig .tc .vmem S200x3072 .bf16) (harg14 : arg14.IsWhole) (arg15 : Memref sig .tc .vmem S4x216x128 .f32) (harg15 : arg15.IsWhole)
    (arg16 : Memref sig .tc .vmem S4x24x128 .i32) (harg16 : arg16.IsWhole) (arg17 : Memref sig .tc .vmem S4x24x128 .i32) (harg17 : arg17.IsWhole)
    (arg18 : Memref sig .tc .vmem S24x128 .i32) (harg18 : arg18.IsWhole) (arg19 arg20 : DmaSems sig S_) (arg21 : DmaSems sig S4) (arg22 : DmaSems sig S3) (arg23 : DmaSems sig S_)
    (v27 : FVec F S208x3072 .f32) (t : Tx) (u : Unit) :
    Gen.k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 v27 xLane t u
      = xTrip arg7 arg8 harg8 arg9 harg9 arg10 xLane t := by
  sl_kernel_rfl

/-! ## What it does -/

/-- A block of `x` in f32. -/
def xBlk (x : Vec F S200x7168 .bf16) (t : Tx) (s : Fin 4) : FVec F S200x128 .f32 :=
  extf .f32 (fun i => x ((xR t s).idx i) : Vec F S200x128 .bf16) bitsLt_bf16_f32

/-- The codes, the numbers they stand for, the scale codes. -/
structure StX (F : FTy → Type) [FloatOps F] where
  xc : Vec F S200x7168 .fp8e4m3
  xd : Vec F S14x208x512 .bf16
  xs : Vec F S256x128 .i32

/-- After column block `s` of trip `t`. -/
def xStep (x : Vec F S200x7168 .bf16) (lane : IVec S200x128 32) (t : Tx) (s : Fin 4) (st : StX F) : StX F where
  xc := upd (xR t s) (shapeCast S200x128 (xCodes (xBlk x t s)) shapeCasts_S200x128_S200x128) st.xc
  xd := upd (xdR' t s) (shapeCast S1x200x128 (xDeq (xBlk x t s)) shapeCasts_S200x128_S1x200x128) st.xd
  xs := upd xsR (shapeCast S200x128 (xsSel lane t s (xBlk x t s) (fun i => st.xs (xsR.idx i))) shapeCasts_S200x128_S200x128 : Vec F S200x128 .i32) st.xs

/-- After trip `t`. -/
def xNext (x : Vec F S200x7168 .bf16) (lane : IVec S200x128 32) (t : Tx) (st : StX F) : StX F :=
  xStep x lane t 3 (xStep x lane t 2 (xStep x lane t 1 (xStep x lane t 0 st)))

variable (c : Dev nD) {defs : Defs nD τ sig (Elt F) Λ₀} (𝒱 : Variants) (bd : Option 𝒱.V) (E : Set ℕ)

local notation "W" => wp frame (wpE (Ix := Unit) (Name := ℕ) (U := Pipeline.UC sig nD τ) (Lvl := ℕ) defs 𝒱 (c.tc : Thread nD τ) bd) E
local notation "own" => mown (Ix := Unit) (Val := Elt F) (Name := ℕ) (U := Pipeline.UC sig nD τ) (Lvl := ℕ) (c.tc : Thread nD τ)

variable (arg7 : Memref sig .tc .vmem S200x7168 .bf16) (arg8 : Memref sig .tc .vmem S200x7168 .fp8e4m3) (harg8 : arg8.IsWhole)
  (arg9 : Memref sig .tc .vmem S14x208x512 .bf16) (harg9 : arg9.IsWhole) (arg10 : Memref sig .tc .vmem S256x128 .i32)

/-- The buffers of `StX`, owned. -/
def ownX (st : StX F) : sProp 𝕄 := iprop(own arg8 st.xc ∗ own arg9 st.xd ∗ own arg10 st.xs)

theorem wp_xTile (lane : IVec S200x128 32) (t : Tx) (s : Fin 4) (x : Vec F S200x7168 .bf16) (st' : StX F) (Q : PUnit → sProp 𝕄) :
    iprop(own arg7 x ∗ ownX c arg8 arg9 arg10 st' ∗ (own arg7 x -∗ ownX c arg8 arg9 arg10 (xStep x lane t s st') -∗ Q ⟨⟩))
      ⊢ W (xTile arg7 arg8 harg8 arg9 harg9 arg10 lane t s) Q := by
  unfold xTile ownX
  simp only [wp_bind]
  iintro ⟨Hx, ⟨Hc, Hd, Hs⟩, HQ⟩
  iapply (ld (c.tc : Thread nD τ) 𝒱 bd E (g := x))
  isplitl [Hx]; · iexact Hx
  iintro Hx
  iapply (ld (c.tc : Thread nD τ) 𝒱 bd E (g := st'.xc))
  isplitl [Hc]; · iexact Hc
  iintro Hc
  iapply (st (c.tc : Thread nD τ) 𝒱 bd E (g := st'.xc))
  isplitl [Hc]; · iexact Hc
  iintro Hc
  iapply (ld (c.tc : Thread nD τ) 𝒱 bd E (g := st'.xd))
  isplitl [Hd]; · iexact Hd
  iintro Hd
  iapply (st (c.tc : Thread nD τ) 𝒱 bd E (g := st'.xd))
  isplitl [Hd]; · iexact Hd
  iintro Hd
  iapply (ld (c.tc : Thread nD τ) 𝒱 bd E (g := st'.xs))
  isplitl [Hs]; · iexact Hs
  iintro Hs
  iapply (ld (c.tc : Thread nD τ) 𝒱 bd E (g := st'.xs))
  isplitl [Hs]; · iexact Hs
  iintro Hs
  iapply (st (c.tc : Thread nD τ) 𝒱 bd E (g := st'.xs))
  isplitl [Hs]; · iexact Hs
  iintro Hs
  iapply HQ $$ Hx
  isplitl [Hc]; · iexact Hc
  isplitl [Hd]; · iexact Hd
  iexact Hs

theorem wp_xTrip (lane : IVec S200x128 32) (t : Tx) (x : Vec F S200x7168 .bf16) (st' : StX F) (Q : PUnit → sProp 𝕄) :
    iprop(own arg7 x ∗ ownX c arg8 arg9 arg10 st' ∗ (own arg7 x -∗ ownX c arg8 arg9 arg10 (xNext x lane t st') -∗ Q ⟨⟩))
      ⊢ W (xTrip arg7 arg8 harg8 arg9 harg9 arg10 lane t) Q := by
  unfold xTrip xNext
  simp only [wp_bind]
  iintro ⟨Hx, Hs, HQ⟩
  iapply (wp_xTile c 𝒱 bd E arg7 arg8 harg8 arg9 harg9 arg10 lane t 0 x st')
  isplitl [Hx]; · iexact Hx
  isplitl [Hs]; · iexact Hs
  iintro Hx Hs
  iapply (wp_xTile c 𝒱 bd E arg7 arg8 harg8 arg9 harg9 arg10 lane t 1 x _)
  isplitl [Hx]; · iexact Hx
  isplitl [Hs]; · iexact Hs
  iintro Hx Hs
  iapply (wp_xTile c 𝒱 bd E arg7 arg8 harg8 arg9 harg9 arg10 lane t 2 x _)
  isplitl [Hx]; · iexact Hx
  isplitl [Hs]; · iexact Hs
  iintro Hx Hs
  iapply (wp_xTile c 𝒱 bd E arg7 arg8 harg8 arg9 harg9 arg10 lane t 3 x _)
  isplitl [Hx]; · iexact Hx
  isplitl [Hs]; · iexact Hs
  iintro Hx Hs
  iapply (rt (c.tc : Thread nD τ) 𝒱 bd E (a := PUnit.unit))
  iapply HQ $$ Hx
  iexact Hs

end Cert.KernelIdeal.Tr

end
-- ==== Proof.KernelIdeal.XIndep.lean ====
/- What the first loop leaves: the codes of `x`, the numbers they stand for and the scale codes, whatever the buffers
   held before. -/
module

public import proofs.«01_k».proof.Proof.KernelIdeal.XTrip

@[expose] public section

set_option maxRecDepth 16384

noncomputable section

namespace Cert.KernelIdeal.Tr

open Idealize.ShloMosaic Idealize.ShloMosaic.TcCoe
open Cert.KernelIdeal Cert.Own
open Facts₀ Facts

variable {F : FTy → Type} [FloatOps F]
local notation "Tx" => Fin k0_t1_loop.trips

theorem xoff3 (t : Tx) (s : Fin 4) : k0_off3 t (BitVec.ofNat 32 (128 * s.val)) = ![0, 512 * t.val + 128 * s.val] := by
  revert t s; decide +kernel
theorem xoff (t : Tx) (s : Fin 4) : xOff t s = ![t.val, 0, 128 * s.val] := by revert t s; decide +kernel
theorem tx_trips : k0_t1_loop.trips = 14 := by decide

theorem xR_0 (t : Tx) (s : Fin 4) (j : (xR t s).shape.Idx) : ((xR t s).emb j 0).val = (j 0).val := by
  have h : ((xR t s).emb j 0).val = k0_off3 t (BitVec.ofNat 32 (128 * s.val)) 0 + 1 * (j 0).val := rfl
  rw [h, xoff3]; show 0 + 1 * (j 0).val = (j 0).val; omega
theorem xR_1 (t : Tx) (s : Fin 4) (j : (xR t s).shape.Idx) : ((xR t s).emb j 1).val = 512 * t.val + 128 * s.val + (j 1).val := by
  have h : ((xR t s).emb j 1).val = k0_off3 t (BitVec.ofNat 32 (128 * s.val)) 1 + 1 * (j 1).val := rfl
  rw [h, xoff3]; show 512 * t.val + 128 * s.val + 1 * (j 1).val = _; omega
theorem xdR_0 (t : Tx) (s : Fin 4) (j : (xdR' t s).shape.Idx) : ((xdR' t s).emb j 0).val = t.val := by
  have h : ((xdR' t s).emb j 0).val = xOff t s 0 + 1 * (j 0).val := rfl
  have h0 : (j 0).val < 1 := (j 0).isLt
  rw [h, xoff]; show t.val + 1 * (j 0).val = t.val; omega
theorem xdR_1 (t : Tx) (s : Fin 4) (j : (xdR' t s).shape.Idx) : ((xdR' t s).emb j 1).val = (j 1).val := by
  have h : ((xdR' t s).emb j 1).val = xOff t s 1 + 1 * (j 1).val := rfl
  rw [h, xoff]; show 0 + 1 * (j 1).val = (j 1).val; omega
theorem xdR_2 (t : Tx) (s : Fin 4) (j : (xdR' t s).shape.Idx) : ((xdR' t s).emb j 2).val = 128 * s.val + (j 2).val := by
  have h : ((xdR' t s).emb j 2).val = xOff t s 2 + 1 * (j 2).val := rfl
  rw [h, xoff]; show 128 * s.val + 1 * (j 2).val = _; omega

theorem xR_ne {t t' : Tx} {s s' : Fin 4} (h : ¬ (t = t' ∧ s = s')) (j : (xR t s).shape.Idx) (j' : (xR t' s').shape.Idx) :
    (xR t' s').emb j' ≠ (xR t s).emb j := by
  intro e
  have e1 := congrArg (fun x : S200x7168.Idx => (x 1).val) e
  dsimp only at e1
  rw [xR_1, xR_1] at e1
  have l1 : (j' 1).val < 128 := (j' 1).isLt
  have l2 : (j 1).val < 128 := (j 1).isLt
  exact h ⟨Fin.ext (by omega), Fin.ext (by omega)⟩

theorem xdR_ne {t t' : Tx} {s s' : Fin 4} (h : ¬ (t = t' ∧ s = s')) (j : (xdR' t s).shape.Idx) (j' : (xdR' t' s').shape.Idx) :
    (xdR' t' s').emb j' ≠ (xdR' t s).emb j := by
  intro e
  have e0 := congrArg (fun x : S14x208x512.Idx => (x 0).val) e
  have e2 := congrArg (fun x : S14x208x512.Idx => (x 2).val) e
  dsimp only at e0 e2
  rw [xdR_0, xdR_0] at e0
  rw [xdR_2, xdR_2] at e2
  have l1 : (j' 2).val < 128 := (j' 2).isLt
  have l2 : (j 2).val < 128 := (j 2).isLt
  exact h ⟨Fin.ext (by omega), Fin.ext (by omega)⟩

theorem xdR_pad (t : Tx) (s : Fin 4) (j : (xdR' t s).shape.Idx) (p : S14x208x512.Idx) (hp : 200 ≤ (p 1).val) : (xdR' t s).emb j ≠ p := by
  intro e
  have e1 := congrArg (fun x : S14x208x512.Idx => (x 1).val) e
  dsimp only at e1
  rw [xdR_1] at e1
  have l1 : (j 1).val < 200 := (j 1).isLt
  omega

variable (x : Vec F S200x7168 .bf16) (lane : IVec S200x128 32)

/-! ## One trip -/

theorem xNext_xc_in (t : Tx) (st : StX F) (s : Fin 4) (j : (xR t s).shape.Idx) :
    (xNext x lane t st).xc ((xR t s).emb j) = shapeCast S200x128 (xCodes (xBlk x t s)) shapeCasts_S200x128_S200x128 j := by
  unfold xNext xStep
  dsimp only
  by_cases h3 : s = 3
  · subst h3; rw [upd_emb]
  rw [upd_off _ _ _ (fun j' => xR_ne (fun e => h3 e.2) j j')]
  by_cases h2 : s = 2
  · subst h2; rw [upd_emb]
  rw [upd_off _ _ _ (fun j' => xR_ne (fun e => h2 e.2) j j')]
  by_cases h1 : s = 1
  · subst h1; rw [upd_emb]
  rw [upd_off _ _ _ (fun j' => xR_ne (fun e => h1 e.2) j j')]
  have h0 : s = 0 := by omega
  subst h0; rw [upd_emb]

theorem xNext_xc_out {t t' : Tx} (h : t ≠ t') (st : StX F) (s : Fin 4) (j : (xR t s).shape.Idx) :
    (xNext x lane t' st).xc ((xR t s).emb j) = st.xc ((xR t s).emb j) := by
  unfold xNext xStep
  dsimp only
  rw [upd_off _ _ _ (fun j' => xR_ne (fun e => h e.1) j j'), upd_off _ _ _ (fun j' => xR_ne (fun e => h e.1) j j'),
    upd_off _ _ _ (fun j' => xR_ne (fun e => h e.1) j j'), upd_off _ _ _ (fun j' => xR_ne (fun e => h e.1) j j')]

theorem xNext_xd_in (t : Tx) (st : StX F) (s : Fin 4) (j : (xdR' t s).shape.Idx) :
    (xNext x lane t st).xd ((xdR' t s).emb j) = shapeCast S1x200x128 (xDeq (xBlk x t s)) shapeCasts_S200x128_S1x200x128 j := by
  unfold xNext xStep
  dsimp only
  by_cases h3 : s = 3
  · subst h3; rw [upd_emb]
  rw [upd_off _ _ _ (fun j' => xdR_ne (fun e => h3 e.2) j j')]
  by_cases h2 : s = 2
  · subst h2; rw [upd_emb]
  rw [upd_off _ _ _ (fun j' => xdR_ne (fun e => h2 e.2) j j')]
  by_cases h1 : s = 1
  · subst h1; rw [upd_emb]
  rw [upd_off _ _ _ (fun j' => xdR_ne (fun e => h1 e.2) j j')]
  have h0 : s = 0 := by omega
  subst h0; rw [upd_emb]

theorem xNext_xd_out {t t' : Tx} (h : t ≠ t') (st : StX F) (s : Fin 4) (j : (xdR' t s).shape.Idx) :
    (xNext x lane t' st).xd ((xdR' t s).emb j) = st.xd ((xdR' t s).emb j) := by
  unfold xNext xStep
  dsimp only
  rw [upd_off _ _ _ (fun j' => xdR_ne (fun e => h e.1) j j'), upd_off _ _ _ (fun j' => xdR_ne (fun e => h e.1) j j'),
    upd_off _ _ _ (fun j' => xdR_ne (fun e => h e.1) j j'), upd_off _ _ _ (fun j' => xdR_ne (fun e => h e.1) j j')]

theorem xNext_xd_pad (t : Tx) (st : StX F) (p : S14x208x512.Idx) (hp : 200 ≤ (p 1).val) : (xNext x lane t st).xd p = st.xd p := by
  unfold xNext xStep
  dsimp only
  rw [upd_off _ _ _ (fun j' => xdR_pad t _ j' p hp), upd_off _ _ _ (fun j' => xdR_pad t _ j' p hp),
    upd_off _ _ _ (fun j' => xdR_pad t _ j' p hp), upd_off _ _ _ (fun j' => xdR_pad t _ j' p hp)]

/-- The scale codes after column block `s` of trip `t`. -/
def xsStep (t : Tx) (s : Fin 4) (xs : Vec F S256x128 .i32) : Vec F S256x128 .i32 :=
  upd xsR (shapeCast S200x128 (xsSel lane t s (xBlk x t s) (fun i => xs (xsR.idx i))) shapeCasts_S200x128_S200x128 : Vec F S200x128 .i32) xs
/-- The scale codes after trip `t`. -/
def xsNext (t : Tx) (xs : Vec F S256x128 .i32) : Vec F S256x128 .i32 :=
  xsStep x lane t 3 (xsStep x lane t 2 (xsStep x lane t 1 (xsStep x lane t 0 xs)))

theorem xNext_xs (t : Tx) (st : StX F) : (xNext x lane t st).xs = xsNext x lane t st.xs := rfl

/-! ## All trips -/

/-- The state after `n` trips. -/
def xIter : ℕ → StX F → StX F
  | 0, st => st
  | n + 1, st => if h : n < k0_t1_loop.trips then xNext x lane ⟨n, h⟩ (xIter n st) else xIter n st
/-- The scale codes after `n` trips. -/
def xsIter : ℕ → Vec F S256x128 .i32 → Vec F S256x128 .i32
  | 0, xs => xs
  | n + 1, xs => if h : n < k0_t1_loop.trips then xsNext x lane ⟨n, h⟩ (xsIter n xs) else xsIter n xs

theorem xIter_succ (t : Tx) (st : StX F) : xIter x lane (t.val + 1) st = xNext x lane t (xIter x lane t.val st) := by
  conv_lhs => unfold xIter
  rw [dif_pos t.isLt]

theorem xIter_xs (st : StX F) : ∀ n, (xIter x lane n st).xs = xsIter x lane n st.xs
  | 0 => rfl
  | n + 1 => by
    unfold xIter xsIter
    by_cases h : n < k0_t1_loop.trips
    · rw [dif_pos h, dif_pos h, xNext_xs, xIter_xs st n]
    · rw [dif_neg h, dif_neg h, xIter_xs st n]

theorem xIter_xc (st : StX F) (t : Tx) (s : Fin 4) (j : (xR t s).shape.Idx) : ∀ n, t.val < n → (xIter x lane n st).xc ((xR t s).emb j) = shapeCast S200x128 (xCodes (xBlk x t s)) shapeCasts_S200x128_S200x128 j
  | 0, h => absurd h (Nat.not_lt_zero _)
  | n + 1, h => by
    unfold xIter
    by_cases hn : n < k0_t1_loop.trips
    · rw [dif_pos hn]
      by_cases e : t = ⟨n, hn⟩
      · subst e; exact xNext_xc_in x lane _ _ s j
      · rw [xNext_xc_out x lane e]
        refine xIter_xc st t s j n ?_
        have : t.val ≠ n := fun e' => e (Fin.ext e')
        omega
    · rw [dif_neg hn]
      exact xIter_xc st t s j n (by have := t.isLt; omega)

theorem xIter_xd (st : StX F) (t : Tx) (s : Fin 4) (j : (xdR' t s).shape.Idx) : ∀ n, t.val < n → (xIter x lane n st).xd ((xdR' t s).emb j) = shapeCast S1x200x128 (xDeq (xBlk x t s)) shapeCasts_S200x128_S1x200x128 j
  | 0, h => absurd h (Nat.not_lt_zero _)
  | n + 1, h => by
    unfold xIter
    by_cases hn : n < k0_t1_loop.trips
    · rw [dif_pos hn]
      by_cases e : t = ⟨n, hn⟩
      · subst e; exact xNext_xd_in x lane _ _ s j
      · rw [xNext_xd_out x lane e]
        refine xIter_xd st t s j n ?_
        have : t.val ≠ n := fun e' => e (Fin.ext e')
        omega
    · rw [dif_neg hn]
      exact xIter_xd st t s j n (by have := t.isLt; omega)

theorem xIter_pad (st : StX F) (p : S14x208x512.Idx) (hp : 200 ≤ (p 1).val) : ∀ n, (xIter x lane n st).xd p = st.xd p
  | 0 => rfl
  | n + 1 => by
    unfold xIter
    by_cases h : n < k0_t1_loop.trips
    · rw [dif_pos h, xNext_xd_pad x lane _ _ p hp, xIter_pad st p hp n]
    · rw [dif_neg h, xIter_pad st p hp n]

/-! ## Where an index lies -/

def tC (i : S200x7168.Idx) : Tx := ⟨(i 1).val / 512, by have : (i 1).val < 7168 := (i 1).isLt; rw [tx_trips]; omega⟩
def sC (i : S200x7168.Idx) : Fin 4 := ⟨(i 1).val % 512 / 128, by omega⟩
def jC (i : S200x7168.Idx) : S200x128.Idx := fun a => match a with | ⟨0, _⟩ => i 0 | ⟨1, _⟩ => ⟨(i 1).val % 128, Nat.mod_lt _ (by decide)⟩
theorem jC_emb (i : S200x7168.Idx) : (xR (tC i) (sC i)).emb (jC i) = i := by
  funext a
  apply Fin.ext
  match a with
  | ⟨0, _⟩ => exact xR_0 _ _ _
  | ⟨1, _⟩ =>
    refine (xR_1 _ _ _).trans ?_
    show 512 * ((i 1).val / 512) + 128 * ((i 1).val % 512 / 128) + (i 1).val % 128 = (i 1).val
    omega

def tD (p : S14x208x512.Idx) : Tx := ⟨(p 0).val, by have : (p 0).val < 14 := (p 0).isLt; rw [tx_trips]; exact this⟩
def sD (p : S14x208x512.Idx) : Fin 4 := ⟨(p 2).val / 128, by have : (p 2).val < 512 := (p 2).isLt; omega⟩
def jD (p : S14x208x512.Idx) (hp : (p 1).val < 200) : S1x200x128.Idx :=
  fun a => match a with | ⟨0, _⟩ => ⟨0, Nat.one_pos⟩ | ⟨1, _⟩ => ⟨(p 1).val, hp⟩ | ⟨2, _⟩ => ⟨(p 2).val % 128, Nat.mod_lt _ (by decide)⟩
theorem jD_emb (p : S14x208x512.Idx) (hp : (p 1).val < 200) : (xdR' (tD p) (sD p)).emb (jD p hp) = p := by
  funext a
  apply Fin.ext
  match a with
  | ⟨0, _⟩ => exact xdR_0 _ _ _
  | ⟨1, _⟩ => exact xdR_1 _ _ _
  | ⟨2, _⟩ =>
    refine (xdR_2 _ _ _).trans ?_
    show 128 * ((p 2).val / 128) + (p 2).val % 128 = (p 2).val
    omega

/-- The rows of padding. -/
abbrev padR : Rect S14x208x512 := Rect.unit (s := S14x208x512) ![0, 200, 0] S14x8x512.size inb_S14x208x512_S14x8x512_0_200_0
def jP (p : S14x208x512.Idx) (hp : ¬ (p 1).val < 200) : S14x8x512.Idx :=
  fun a => match a with | ⟨0, _⟩ => p 0 | ⟨1, _⟩ => ⟨(p 1).val - 200, by have : (p 1).val < 208 := (p 1).isLt; show (p 1).val - 200 < 8; omega⟩ | ⟨2, _⟩ => p 2
theorem jP_emb (p : S14x208x512.Idx) (hp : ¬ (p 1).val < 200) : padR.emb (jP p hp) = p := by
  funext a
  apply Fin.ext
  match a with
  | ⟨0, _⟩ => show 0 + 1 * (p 0).val = (p 0).val; omega
  | ⟨1, _⟩ => show 200 + 1 * ((p 1).val - 200) = (p 1).val; omega
  | ⟨2, _⟩ => show 0 + 1 * (p 2).val = (p 2).val; omega

/-! ## The results -/

/-- The codes of `x`. -/
def XC : Vec F S200x7168 .fp8e4m3 := fun i => shapeCast S200x128 (xCodes (xBlk x (tC i) (sC i))) shapeCasts_S200x128_S200x128 (jC i)
/-- The numbers they stand for, in planes of 512 columns, padded with `z`. -/
def XD (z : Vec F S14x8x512 .bf16) : Vec F S14x208x512 .bf16 := fun p =>
  if hp : (p 1).val < 200 then shapeCast S1x200x128 (xDeq (xBlk x (tD p) (sD p))) shapeCasts_S200x128_S1x200x128 (jD p hp) else z (jP p hp)

theorem xIter_XC (st : StX F) : (xIter x lane k0_t1_loop.trips st).xc = XC x := by
  funext i
  have h := xIter_xc x lane st (tC i) (sC i) (jC i) k0_t1_loop.trips (tC i).isLt
  rw [jC_emb] at h
  exact h

theorem xIter_XD (st : StX F) (z : Vec F S14x8x512 .bf16) (g : Vec F S14x208x512 .bf16) (hst : st.xd = upd padR z g) :
    (xIter x lane k0_t1_loop.trips st).xd = XD x z := by
  funext p
  unfold XD
  by_cases hp : (p 1).val < 200
  · rw [dif_pos hp]
    have h := xIter_xd x lane st (tD p) (sD p) (jD p hp) k0_t1_loop.trips (tD p).isLt
    rw [jD_emb] at h
    exact h
  · rw [dif_neg hp, xIter_pad x lane st p (by omega), hst]
    conv_lhs => rw [← jP_emb p hp]
    exact upd_emb padR z g (jP p hp)

end Cert.KernelIdeal.Tr

end
-- ==== Proof.KernelIdeal.TripEq.lean ====
/- The printed trip of the second loop is the structured one (`trip`): checked by unfolding both. -/
module

public import proofs.«01_k».proof.Proof.KernelIdeal.Trip

@[expose] public section

noncomputable section

namespace Cert.KernelIdeal.Tr

open Idealize.ShloMosaic Idealize.SL.Sem Idealize.ShloMosaic.TcCoe Idealize.ShloMosaic.Tactic
open Cert.KernelIdeal
open Facts₀ Facts

variable {F : FTy → Type} [FloatOps F]
local notation "Tm" => Fin k0_t2_loop.trips

set_option maxHeartbeats 0 in
set_option maxRecDepth 1000000 in
/-- The printed trip is `trip`. -/
theorem body_eq (arg0 : Memref sig .tc .hbm S200x7168 .bf16) (harg0 : arg0.IsWhole) (arg1 : Memref sig .tc .hbm S7168x3072 .bf16) (harg1 : arg1.IsWhole) (arg2 : Memref sig .tc .hbm S200x3072 .bf16) (harg2 : arg2.IsWhole) (arg3 : Memref sig .tc .hbm S200x7168 .fp8e4m3) (harg3 : arg3.IsWhole) (arg4 : Memref sig .tc .vmem S56x200 .i8) (harg4 : arg4.IsWhole) (arg5 : Memref sig .tc .hbm S7168x3072 .fp8e4m3) (harg5 : arg5.IsWhole) (arg6 : Memref sig .tc .vmem S24x56 .i8) (harg6 : arg6.IsWhole) (arg7 : Memref sig .tc .vmem S200x7168 .bf16) (harg7 : arg7.IsWhole) (arg8 : Memref sig .tc .vmem S200x7168 .fp8e4m3) (harg8 : arg8.IsWhole) (arg9 : Memref sig .tc .vmem S14x208x512 .bf16) (harg9 : arg9.IsWhole) (arg10 : Memref sig .tc .vmem S256x128 .i32) (harg10 : arg10.IsWhole) (arg11 : Memref sig .tc .vmem S4x512x3072 .bf16) (harg11 : arg11.IsWhole) (arg12 : Memref sig .tc .vmem S3x512x3072 .fp8e4m3) (harg12 : arg12.IsWhole) (arg13 : Memref sig .tc .vmem S208x3072 .f32) (harg13 : arg13.IsWhole) (arg14 : Memref sig .tc .vmem S200x3072 .bf16) (harg14 : arg14.IsWhole) (arg15 : Memref sig .tc .vmem S4x216x128 .f32) (harg15 : arg15.IsWhole) (arg16 : Memref sig .tc .vmem S4x24x128 .i32) (harg16 : arg16.IsWhole) (arg17 : Memref sig .tc .vmem S4x24x128 .i32) (harg17 : arg17.IsWhole) (arg18 : Memref sig .tc .vmem S24x128 .i32) (harg18 : arg18.IsWhole) (arg19 : DmaSems sig S_) (arg20 : DmaSems sig S_) (arg21 : DmaSems sig S4) (arg22 : DmaSems sig S3) (arg23 : DmaSems sig S_) (v27 : FVec F S208x3072 .f32) (v42 : IVec S24x128 32) (t : Tm) (u : Unit) :
    Gen.k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 v27 v42 t u
      = trip arg1 harg1 arg5 harg5 arg9 arg11 harg11 arg12 harg12 arg13 arg15 arg16 arg17 arg18 arg21 arg22 v42 t := by
  have hn : k0_t2_loop.trips = 14 := by decide
  obtain ⟨i, hi⟩ := t
  rcases i with _ | _ | _ | _ | _ | _ | _ | _ | _ | _ | _ | _ | _ | _ | i
  on_goal 15 => exact absurd hi (by omega)
  all_goals sl_kernel_rfl

end Cert.KernelIdeal.Tr

end
-- ==== Proof.KernelIdeal.LoopsWp.lean ====
/- The two loops, and the copies started before them and awaited after them. -/
module

public import proofs.«01_k».proof.Proof.KernelIdeal.RingTrip
public import proofs.«01_k».proof.Proof.KernelIdeal.Indep
public import proofs.«01_k».proof.Proof.KernelIdeal.XIndep
public import proofs.«01_k».proof.Proof.KernelIdeal.TripEq
public import Idealize.ShloMosaic.Lib.Scf
public import Idealize.ShloMosaic.Lib.VecWindow

@[expose] public section

set_option maxRecDepth 16384

noncomputable section

namespace Cert.KernelIdeal.Tr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.Own
open Facts₀ Facts

variable {F : FTy → Type} [FloatOps F]
local notation "Tx" => Fin k0_t1_loop.trips
local notation "Tm" => Fin k0_t2_loop.trips
local notation "𝕄" => MT nD τ sig Unit (Elt F) ℕ (Pipeline.UC sig nD τ) ℕ

/-! ## Whole rectangles -/

theorem upd_full {s : Shape} {α : Type} {off : Fin s.rank → ℕ} (inb : ∀ a, off a + s.size a ≤ s.size a) (w g : s.Idx → α) :
    upd (Rect.unit off s.size inb) w g = w := by
  funext x
  have hx : (Rect.unit off s.size inb).emb x = x := Rect.emb_unit_full inb x
  conv_lhs => rw [← hx]
  exact upd_emb (Rect.unit off s.size inb) w g x
theorem read_full {s : Shape} {α : Type} {off : Fin s.rank → ℕ} (inb : ∀ a, off a + s.size a ≤ s.size a) (g : s.Idx → α) :
    (fun i => g ((Rect.unit off s.size inb).toLoadRect.idx i)) = g := by
  funext x
  have hx : (Rect.unit off s.size inb).emb x = x := Rect.emb_unit_full inb x
  exact congrArg g hx

/-! ## The contents -/

/-- Block `b` of `w`. -/
def wbOf (w : Vec F S7168x3072 .bf16) (b : ℕ) : Vec F S512x3072 .bf16 := fun j => w ((rB b).emb j)
/-- The codes of block `b` of `w`. -/
def cbOf (w : Vec F S7168x3072 .bf16) (b : ℕ) : Vec F S512x3072 .fp8e4m3 := CW (wbOf w b)
/-- The lane numbers. -/
abbrev wLane : IVec S24x128 32 := iota .tc S24x128 32 [1] iota_S24x128_d1_w32
/-- The scale codes of `w` after `n` trips. -/
def WS (w : Vec F S7168x3072 .bf16) : ℕ → Vec F S24x128 .i32
  | 0 => Gen.k0_pay628
  | n + 1 => if h : n < k0_t2_loop.trips then wsV (wbOf w n) wLane (Scf.iv 0#32 1#32 (⟨n, h⟩ : Tm)) (WS w n) 4 le_rfl else WS w n
/-- The accumulator after `n` trips. -/
def ACC (X : Vec F S14x208x512 .bf16) (w : Vec F S7168x3072 .bf16) : ℕ → Vec F S208x3072 .f32
  | 0 => Gen.k0_pay626
  | n + 1 => if h : n < k0_t2_loop.trips then accAfter (wbOf w n) (INV (wbOf w n)) (SC (wbOf w n)) (xkOf X ⟨n, h⟩) 12 le_rfl (ACC X w n) else ACC X w n

theorem WS_succ (w : Vec F S7168x3072 .bf16) (t : Tm) : WS w (t.val + 1) = wsV (wbOf w t.val) wLane (Scf.iv 0#32 1#32 t) (WS w t.val) 4 le_rfl := by
  conv_lhs => unfold WS
  rw [dif_pos t.isLt]
theorem ACC_succ (X : Vec F S14x208x512 .bf16) (w : Vec F S7168x3072 .bf16) (t : Tm) :
    ACC X w (t.val + 1) = accAfter (wbOf w t.val) (INV (wbOf w t.val)) (SC (wbOf w t.val)) (xkOf X t) 12 le_rfl (ACC X w t.val) := by
  conv_lhs => unfold ACC
  rw [dif_pos t.isLt]

variable
  (arg0 : Memref sig .tc .hbm S200x7168 .bf16) (harg0 : arg0.IsWhole) (arg1 : Memref sig .tc .hbm S7168x3072 .bf16) (harg1 : arg1.IsWhole)
  (arg2 : Memref sig .tc .hbm S200x3072 .bf16) (harg2 : arg2.IsWhole) (arg3 : Memref sig .tc .hbm S200x7168 .fp8e4m3) (harg3 : arg3.IsWhole)
  (arg4 : Memref sig .tc .vmem S56x200 .i8) (harg4 : arg4.IsWhole) (arg5 : Memref sig .tc .hbm S7168x3072 .fp8e4m3) (harg5 : arg5.IsWhole)
  (arg6 : Memref sig .tc .vmem S24x56 .i8) (harg6 : arg6.IsWhole) (arg7 : Memref sig .tc .vmem S200x7168 .bf16) (harg7 : arg7.IsWhole)
  (arg8 : Memref sig .tc .vmem S200x7168 .fp8e4m3) (harg8 : arg8.IsWhole) (arg9 : Memref sig .tc .vmem S14x208x512 .bf16) (harg9 : arg9.IsWhole)
  (arg10 : Memref sig .tc .vmem S256x128 .i32) (harg10 : arg10.IsWhole) (arg11 : Memref sig .tc .vmem S4x512x3072 .bf16) (harg11 : arg11.IsWhole)
  (arg12 : Memref sig .tc .vmem S3x512x3072 .fp8e4m3) (harg12 : arg12.IsWhole) (arg13 : Memref sig .tc .vmem S208x3072 .f32) (harg13 : arg13.IsWhole)
  (arg14 : Memref sig .tc .vmem S200x3072 .bf16) (harg14 : arg14.IsWhole) (arg15 : Memref sig .tc .vmem S4x216x128 .f32) (harg15 : arg15.IsWhole)
  (arg16 : Memref sig .tc .vmem S4x24x128 .i32) (harg16 : arg16.IsWhole) (arg17 : Memref sig .tc .vmem S4x24x128 .i32) (harg17 : arg17.IsWhole)
  (arg18 : Memref sig .tc .vmem S24x128 .i32) (harg18 : arg18.IsWhole) (arg19 arg20 : DmaSems sig S_) (arg21 : DmaSems sig S4) (arg22 : DmaSems sig S3) (arg23 : DmaSems sig S_)
variable (c : Dev nD)
local notation "own" => mown (Ix := Unit) (Val := Elt F) (Name := ℕ) (U := Pipeline.UC sig nD τ) (Lvl := ℕ) (c.tc : Thread nD τ)
variable {defs : Defs nD τ sig (Elt F) Λ₀} (𝒱 : Variants) (bd : Option 𝒱.V)
local notation "W" => wp frame (wpE (Ix := Unit) (Name := ℕ) (U := Pipeline.UC sig nD τ) (Lvl := ℕ) defs 𝒱 (c.tc : Thread nD τ) bd) Set.univ

/-! ## The copies started before the loops and awaited after them -/

theorem wp_start (wb : ℕ → Vec F S512x3072 .bf16) (b : ℕ) (hb : b < 14) {o1 : Fin 1 → ℕ} {o2 : Fin 3 → ℕ} {o3 : Fin 2 → ℕ}
    (h1 : o1 = ![b % 4]) (h2 : o2 = ![b % 4, 0, 0]) (h3 : o3 = ![512 * (b % 14), 0]) (i1) (i2) (i3) {hsrc} {hdst} {hsem} (Q : PUnit → sProp 𝕄) :
    iprop(own (wB arg1 b) (wb b) ∗ (∃ g, own (wS arg11 b) g) ∗ semVal ((c.tc : Thread nD τ), .dma (semR arg21 b)) 0
        ∗ (rdFly arg1 arg11 arg21 c wb b -∗ Q ⟨⟩))
      ⊢ W (Prog.lift (.enqueueDma (arg1.slice (Rect.unit (s := S7168x3072) o3 S512x3072.size i3) (fun _ => rfl) : Memref sig .tc .hbm S512x3072 .bf16)
          (.here ((arg11.slice (Rect.unit (s := S4x512x3072) o2 S1x512x3072.size i2) (fun _ => rfl)).squeeze S512x3072 squeezes_S1x512x3072_S512x3072))
          (.dma ((arg21.slice (Rect.unit (s := S4) o1 S1.size i1)).squeeze S_ squeezes_S1_S_).sem) hsrc hdst hsem)) Q := by
  subst h1 h2 h3
  rw [show rdFly arg1 arg11 arg21 c wb b = flies (Val := Elt F) (c.tc : Thread nD τ) (semR arg21 b) (wS arg11 b).view.dmaCredit iprop(own (wS arg11 b) (wb b) ∗ own (wB arg1 b) (wb b)) from if_pos hb]
  iintro ⟨HB, ⟨%g, HS⟩, Hv, HQ⟩
  iapply (dma (c.tc : Thread nD τ) 𝒱 bd (src := wB arg1 b) (dst := wS arg11 b) (g := wb b) (gd := g) (by decide +kernel))
  isplitl [HB]; · iexact HB
  isplitl [HS]; · iexact HS
  isplitl [Hv]; · iexact Hv
  iintro Hf
  iapply HQ $$ Hf

theorem wp_finish (cb : ℕ → Vec F S512x3072 .fp8e4m3) (v : ℕ) (hv : 3 ≤ v) {o1 : Fin 1 → ℕ} {o2 : Fin 3 → ℕ} {o3 : Fin 2 → ℕ}
    (h1 : o1 = ![v % 3]) (h3 : o3 = ![512 * ((v - 3) % 14), 0]) (i1) (i2) (i3) {hsrc} {hdst} (Q : PUnit → sProp 𝕄) :
    iprop(wrFly arg5 arg12 arg22 c cb v ∗ owesNone (c.tc : Thread nD τ)
        ∗ (wrDone arg5 c cb v -∗ (∃ g, own (cS arg12 v) g) -∗ semVal ((c.tc : Thread nD τ), .dma (semC arg22 v)) 0 -∗ owesNone (c.tc : Thread nD τ) -∗ Q ⟨⟩))
      ⊢ W (Prog.lift (.waitDma2 ((arg22.slice (Rect.unit (s := S3) o1 S1.size i1)).squeeze S_ squeezes_S1_S_).sem
          ((arg12.slice (Rect.unit (s := S3x512x3072) o2 S1x512x3072.size i2) (fun _ => rfl)).squeeze S512x3072 squeezes_S1x512x3072_S512x3072)
          (arg5.slice (Rect.unit (s := S7168x3072) o3 S512x3072.size i3) (fun _ => rfl) : Memref sig .tc .hbm S512x3072 .fp8e4m3) hsrc hdst)) Q := by
  subst h1 h3
  rw [show wrFly arg5 arg12 arg22 c cb v = flies (Val := Elt F) (c.tc : Thread nD τ) (semC arg22 v) (cB arg5 (v - 3)).view.dmaCredit iprop(own (cB arg5 (v - 3)) (cb (v - 3)) ∗ own (cS arg12 v) (cb (v - 3))) from if_pos hv,
    show wrDone arg5 c cb v = own (cB arg5 (v - 3)) (cb (v - 3)) from if_pos hv]
  iintro ⟨HF, Ho, HQ⟩
  iapply (wt (c.tc : Thread nD τ) 𝒱 bd (dst := cB arg5 (v - 3)) (N := (cB arg5 (v - 3)).view.dmaCredit) rfl)
  isplitl [HF]; · iexact HF
  isplitl [Ho]; · iexact Ho
  iintro ⟨HD, HC⟩ Hv Ho
  iapply HQ $$ HD [HC] Hv Ho
  iexists _
  iexact HC

/-! ## The loops -/

theorem wp_loop1 (v27 : FVec F S208x3072 .f32) (x : Vec F S200x7168 .bf16) (st0 : StX F) (Q : PUnit → sProp 𝕄) :
    iprop(own arg7 x ∗ ownX c arg8 arg9 arg10 st0 ∗ (own arg7 x -∗ ownX c arg8 arg9 arg10 (xIter x xLane k0_t1_loop.trips st0) -∗ Q ⟨⟩))
      ⊢ W (Scf.Loop.for k0_t1_loop k0_t1_ok ⟨⟩ (Gen.k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 v27 xLane)) Q := by
  have hb : ∀ (k : Tx) (acc : Unit), iprop(own arg7 x ∗ ownX c arg8 arg9 arg10 (xIter x xLane k.val st0))
      ⊢ W (Gen.k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 v27 xLane k acc) (fun _ => iprop(own arg7 x ∗ ownX c arg8 arg9 arg10 (xIter x xLane (k.val + 1) st0))) := by
    intro k acc
    rw [x_eq, xIter_succ]
    iintro ⟨Hx, Hs⟩
    iapply (wp_xTrip c 𝒱 bd Set.univ arg7 arg8 harg8 arg9 harg9 arg10 xLane k x (xIter x xLane k.val st0))
    isplitl [Hx]; · iexact Hx
    isplitl [Hs]; · iexact Hs
    iintro Hx Hs
    isplitl [Hx]; · iexact Hx
    iexact Hs
  have hl := Scf.wp_for frame (wpE (Ix := Unit) (Name := ℕ) (U := Pipeline.UC sig nD τ) (Lvl := ℕ) defs 𝒱 (c.tc : Thread nD τ) bd) Set.univ _ _ _ k0_t1_ok ⟨⟩
    (Gen.k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 v27 xLane)
    (fun n _ => iprop(own arg7 x ∗ ownX c arg8 arg9 arg10 (xIter x xLane n st0))) hb (Q := Q)
  iintro ⟨Hx, Hs, HQ⟩
  iapply hl
  isplitl [Hx Hs]
  · isplitl [Hx]; · iexact Hx
    iexact Hs
  iintro %acc ⟨Hx, Hs⟩
  iapply HQ $$ Hx Hs

theorem wp_loop2 (v27 : FVec F S208x3072 .f32) (w : Vec F S7168x3072 .bf16) (X : Vec F S14x208x512 .bf16) (Q : PUnit → sProp 𝕄) :
    iprop(bigSep (Finset.range 18) (RD arg1 arg11 arg21 c (wbOf w) 0) ∗ bigSep (Finset.range 17) (WR arg5 arg12 arg22 c (cbOf w) 0)
        ∗ owesNone (c.tc : Thread nD τ) ∗ own arg9 X ∗ own arg13 (ACC X w 0) ∗ (∃ s : StA F, ownA c arg15 arg16 arg17 arg18 s ∗ ⌜s.ws = WS w 0⌝)
        ∗ (bigSep (Finset.range 18) (RD arg1 arg11 arg21 c (wbOf w) k0_t2_loop.trips) -∗ bigSep (Finset.range 17) (WR arg5 arg12 arg22 c (cbOf w) k0_t2_loop.trips)
          -∗ owesNone (c.tc : Thread nD τ) -∗ own arg9 X -∗ own arg13 (ACC X w k0_t2_loop.trips)
          -∗ (∃ s : StA F, ownA c arg15 arg16 arg17 arg18 s ∗ ⌜s.ws = WS w k0_t2_loop.trips⌝) -∗ Q ⟨⟩))
      ⊢ W (Scf.Loop.for k0_t2_loop k0_t2_ok ⟨⟩ (Gen.k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 v27 wLane)) Q := by
  have hb : ∀ (k : Tm) (acc : Unit), iprop(bigSep (Finset.range 18) (RD arg1 arg11 arg21 c (wbOf w) k.val) ∗ bigSep (Finset.range 17) (WR arg5 arg12 arg22 c (cbOf w) k.val)
        ∗ owesNone (c.tc : Thread nD τ) ∗ own arg9 X ∗ own arg13 (ACC X w k.val) ∗ (∃ s : StA F, ownA c arg15 arg16 arg17 arg18 s ∗ ⌜s.ws = WS w k.val⌝))
      ⊢ W (Gen.k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 v27 wLane k acc)
        (fun _ => iprop(bigSep (Finset.range 18) (RD arg1 arg11 arg21 c (wbOf w) (k.val + 1)) ∗ bigSep (Finset.range 17) (WR arg5 arg12 arg22 c (cbOf w) (k.val + 1))
        ∗ owesNone (c.tc : Thread nD τ) ∗ own arg9 X ∗ own arg13 (ACC X w (k.val + 1)) ∗ (∃ s : StA F, ownA c arg15 arg16 arg17 arg18 s ∗ ⌜s.ws = WS w (k.val + 1)⌝))) := by
    intro k acc
    rw [body_eq]
    have hC : ∀ s cc, cAfter (wbOf w k.val) (stOf wLane k (wbOf w k.val) s).inv 12 le_rfl cc = cbOf w k.val := fun s cc => by rw [st_inv]; exact cAfter_eq _ cc
    have hA : ∀ s, accAfter (wbOf w k.val) (stOf wLane k (wbOf w k.val) s).inv (stOf wLane k (wbOf w k.val) s).scale (xkOf X k) 12 le_rfl (ACC X w k.val) = ACC X w (k.val + 1) :=
      fun s => by rw [st_inv, st_scale, ACC_succ]
    have hS : ∀ s : StA F, s.ws = WS w k.val → (stOf wLane k (wbOf w k.val) s).ws = WS w (k.val + 1) := fun s hs => by rw [st_ws, hs, WS_succ]
    iintro ⟨HR, HW, Ho, HX, Ha, Hs⟩
    iapply (wp_trip arg1 harg1 arg5 harg5 arg9 arg11 harg11 arg12 harg12 arg13 arg15 arg16 arg17 arg18 arg21 arg22 c (wbOf w) (cbOf w) 𝒱 bd wLane k X (ACC X w k.val) (ACC X w (k.val + 1)) (WS w k.val) (WS w (k.val + 1)) hC hA hS)
    isplitl [HR]; · iexact HR
    isplitl [HW]; · iexact HW
    isplitl [Ho]; · iexact Ho
    isplitl [HX]; · iexact HX
    isplitl [Ha]; · iexact Ha
    isplitl [Hs]; · iexact Hs
    iintro HR HW Ho HX Ha Hs
    isplitl [HR]; · iexact HR
    isplitl [HW]; · iexact HW
    isplitl [Ho]; · iexact Ho
    isplitl [HX]; · iexact HX
    isplitl [Ha]; · iexact Ha
    iexact Hs
  have hl := Scf.wp_for frame (wpE (Ix := Unit) (Name := ℕ) (U := Pipeline.UC sig nD τ) (Lvl := ℕ) defs 𝒱 (c.tc : Thread nD τ) bd) Set.univ _ _ _ k0_t2_ok ⟨⟩
    (Gen.k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 v27 wLane)
    (fun n _ => iprop(bigSep (Finset.range 18) (RD arg1 arg11 arg21 c (wbOf w) n) ∗ bigSep (Finset.range 17) (WR arg5 arg12 arg22 c (cbOf w) n)
        ∗ owesNone (c.tc : Thread nD τ) ∗ own arg9 X ∗ own arg13 (ACC X w n) ∗ (∃ s : StA F, ownA c arg15 arg16 arg17 arg18 s ∗ ⌜s.ws = WS w n⌝))) hb (Q := Q)
  iintro ⟨HR, HW, Ho, HX, Ha, Hs, HQ⟩
  iapply hl
  isplitl [HR HW Ho HX Ha Hs]
  · isplitl [HR]; · iexact HR
    isplitl [HW]; · iexact HW
    isplitl [Ho]; · iexact Ho
    isplitl [HX]; · iexact HX
    isplitl [Ha]; · iexact Ha
    iexact Hs
  iintro %acc ⟨HR, HW, Ho, HX, Ha, Hs⟩
  iapply HQ $$ HR HW Ho HX Ha Hs

end Cert.KernelIdeal.Tr

end
-- ==== Proof.KernelIdeal.RingEnds.lean ====
/- The ring of copies before the first trip, after the last, and its buffers as they lie in memory. -/
module

public import proofs.«01_k».proof.Proof.KernelIdeal.LoopsWp
public import Idealize.SL.BI.BigOpNat

@[expose] public section

set_option maxRecDepth 16384

noncomputable section

namespace Cert.KernelIdeal.Tr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.Own
open Facts₀ Facts

variable {F : FTy → Type} [FloatOps F]
local notation "Tx" => Fin k0_t1_loop.trips
local notation "Tm" => Fin k0_t2_loop.trips
local notation "𝕄" => MT nD τ sig Unit (Elt F) ℕ (Pipeline.UC sig nD τ) ℕ

section Star

variable {M : Type*} [URA M]

theorem bs0 (Φ : ℕ → sProp M) : bigSep (Finset.range 0) Φ = iprop(emp) := by rw [Finset.range_zero, bigSep_empty]; rfl
theorem bsTop (n : ℕ) (Φ : ℕ → sProp M) : bigSep (Finset.range (n + 1)) Φ = iprop(Φ n ∗ bigSep (Finset.range n) Φ) := by
  rw [Finset.range_add_one, bigSep_insert Finset.notMem_range_self]; rfl
theorem bsBot : ∀ (n : ℕ) (Φ : ℕ → sProp M), bigSep (Finset.range (n + 1)) Φ = iprop(Φ 0 ∗ bigSep (Finset.range n) (fun k => Φ (k + 1)))
  | 0, Φ => by rw [bsTop, bs0, bs0]
  | n + 1, Φ => by
    rw [bsTop, bsBot n, bsTop n (fun k => Φ (k + 1))]
    have swap : ∀ P Q R : sProp M, iprop(P ∗ Q ∗ R) ⊢ iprop(Q ∗ P ∗ R) := fun P Q R => by
      iintro ⟨A, B, C⟩
      isplitl [B]; · iexact B
      isplitl [A]; · iexact A
      iexact C
    exact equiv_iff.mp ⟨swap _ _ _, swap _ _ _⟩

end Star

section Ends

variable (arg1 : Memref sig .tc .hbm S7168x3072 .bf16) (arg5 : Memref sig .tc .hbm S7168x3072 .fp8e4m3)
  (arg11 : Memref sig .tc .vmem S4x512x3072 .bf16) (arg12 : Memref sig .tc .vmem S3x512x3072 .fp8e4m3)
  (arg21 : DmaSems sig S4) (arg22 : DmaSems sig S3)

variable (c : Dev nD)
local notation "own" => mown (Ix := Unit) (Val := Elt F) (Name := ℕ) (U := Pipeline.UC sig nD τ) (Lvl := ℕ) (c.tc : Thread nD τ)

/-! ## The rectangles partition their buffers -/

theorem rB_disj : ∀ i < 14, ∀ j < 14, i ≠ j → Disjoint (rB i).set (rB j).set := by
  intro i hi j hj h
  refine Rect.unit_disjoint 0 ?_
  show 512 * (i % 14) + 512 ≤ 512 * (j % 14) ∨ 512 * (j % 14) + 512 ≤ 512 * (i % 14)
  omega
theorem rB_cover (x : S7168x3072.Idx) : ∃ i < 14, x ∈ (rB i).set := by
  have h0 : (x 0).val < 7168 := (x 0).isLt
  have h1 : (x 1).val < 3072 := (x 1).isLt
  refine ⟨(x 0).val / 512, by omega, Rect.mem_set_unit.2 ?_⟩
  intro a
  match a with
  | ⟨0, _⟩ => show 512 * ((x 0).val / 512 % 14) ≤ (x 0).val ∧ (x 0).val < 512 * ((x 0).val / 512 % 14) + 512; omega
  | ⟨1, _⟩ => show 0 ≤ (x 1).val ∧ (x 1).val < 0 + 3072; omega

theorem rWs_disj : ∀ i < 4, ∀ j < 4, i ≠ j → Disjoint (rWs i).set (rWs j).set := by
  intro i hi j hj h
  refine Rect.unit_disjoint 0 ?_
  show i % 4 + 1 ≤ j % 4 ∨ j % 4 + 1 ≤ i % 4
  omega
theorem rWs_cover (x : S4x512x3072.Idx) : ∃ i < 4, x ∈ (rWs i).set := by
  have h0 : (x 0).val < 4 := (x 0).isLt
  have h1 : (x 1).val < 512 := (x 1).isLt
  have h2 : (x 2).val < 3072 := (x 2).isLt
  refine ⟨(x 0).val, h0, Rect.mem_set_unit.2 ?_⟩
  intro a
  match a with
  | ⟨0, _⟩ => show (x 0).val % 4 ≤ (x 0).val ∧ (x 0).val < (x 0).val % 4 + 1; omega
  | ⟨1, _⟩ => show 0 ≤ (x 1).val ∧ (x 1).val < 0 + 512; omega
  | ⟨2, _⟩ => show 0 ≤ (x 2).val ∧ (x 2).val < 0 + 3072; omega

theorem rCs_disj : ∀ i < 3, ∀ j < 3, i ≠ j → Disjoint (rCs i).set (rCs j).set := by
  intro i hi j hj h
  refine Rect.unit_disjoint 0 ?_
  show i % 3 + 1 ≤ j % 3 ∨ j % 3 + 1 ≤ i % 3
  omega
theorem rCs_cover (x : S3x512x3072.Idx) : ∃ i < 3, x ∈ (rCs i).set := by
  have h0 : (x 0).val < 3 := (x 0).isLt
  have h1 : (x 1).val < 512 := (x 1).isLt
  have h2 : (x 2).val < 3072 := (x 2).isLt
  refine ⟨(x 0).val, h0, Rect.mem_set_unit.2 ?_⟩
  intro a
  match a with
  | ⟨0, _⟩ => show (x 0).val % 3 ≤ (x 0).val ∧ (x 0).val < (x 0).val % 3 + 1; omega
  | ⟨1, _⟩ => show 0 ≤ (x 1).val ∧ (x 1).val < 0 + 512; omega
  | ⟨2, _⟩ => show 0 ≤ (x 2).val ∧ (x 2).val < 0 + 3072; omega

/-- A memref held whole, and some contents of its buffer. -/
theorem own_buf {sp : Space} {s : Shape} {e : EltTy} (m : Memref sig .tc sp s e) (g : s.Idx → Elt F e) :
    own m g ⊢ ∃ _f : Buf (Elt F) (m.view.loc (c.tc : Thread nD τ)), own m g := by
  unfold mown
  iintro ⟨%f, Hp, %hf⟩
  iexists f, f
  isplitl [Hp]; · iexact Hp
  ipureintro; exact hf

/-! ## The slots -/

theorem ws_split (g : Vec F S4x512x3072 .bf16) :
    own arg11 g ⊢ iprop((∃ g, own (wS arg11 0) g) ∗ (∃ g, own (wS arg11 1) g) ∗ (∃ g, own (wS arg11 2) g) ∗ (∃ g, own (wS arg11 3) g)) := by
  have h := own_split (Val := Elt F) (c.tc : Thread nD τ) arg11 rWs (fun _ _ => rfl) 4 rWs_disj rWs_cover g
  rw [bsTop, bsTop, bsTop, bsTop, bs0] at h
  iintro H
  ihave H' := h $$ H
  icases H' with ⟨H3, H2, H1, H0, -⟩
  isplitl [H0]; · iapply (own_squeeze (c.tc : Thread nD τ) (arg11.slice (rWs 0) (fun _ => rfl)) squeezes_S1x512x3072_S512x3072 _); iexact H0
  isplitl [H1]; · iapply (own_squeeze (c.tc : Thread nD τ) (arg11.slice (rWs 1) (fun _ => rfl)) squeezes_S1x512x3072_S512x3072 _); iexact H1
  isplitl [H2]; · iapply (own_squeeze (c.tc : Thread nD τ) (arg11.slice (rWs 2) (fun _ => rfl)) squeezes_S1x512x3072_S512x3072 _); iexact H2
  iapply (own_squeeze (c.tc : Thread nD τ) (arg11.slice (rWs 3) (fun _ => rfl)) squeezes_S1x512x3072_S512x3072 _); iexact H3

theorem ws_join (f₀ : Buf (Elt F) (arg11.view.loc (c.tc : Thread nD τ))) :
    iprop((∃ g, own (wS arg11 0) g) ∗ (∃ g, own (wS arg11 1) g) ∗ (∃ g, own (wS arg11 2) g) ∗ (∃ g, own (wS arg11 3) g)) ⊢ iprop(∃ g, own arg11 g) := by
  iintro ⟨⟨%g0, H0⟩, ⟨%g1, H1⟩, ⟨%g2, H2⟩, ⟨%g3, H3⟩⟩
  ihave G0 := (own_unsqueeze (c.tc : Thread nD τ) (arg11.slice (rWs 0) (fun _ => rfl)) squeezes_S1x512x3072_S512x3072 g0) $$ H0
  ihave G1 := (own_unsqueeze (c.tc : Thread nD τ) (arg11.slice (rWs 1) (fun _ => rfl)) squeezes_S1x512x3072_S512x3072 g1) $$ H1
  ihave G2 := (own_unsqueeze (c.tc : Thread nD τ) (arg11.slice (rWs 2) (fun _ => rfl)) squeezes_S1x512x3072_S512x3072 g2) $$ H2
  ihave G3 := (own_unsqueeze (c.tc : Thread nD τ) (arg11.slice (rWs 3) (fun _ => rfl)) squeezes_S1x512x3072_S512x3072 g3) $$ H3
  icases G0 with ⟨%h0, G0⟩
  icases G1 with ⟨%h1, G1⟩
  icases G2 with ⟨%h2, G2⟩
  icases G3 with ⟨%h3, G3⟩
  have hj := own_join (Val := Elt F) (c.tc : Thread nD τ) arg11 rWs (fun _ _ => rfl) 4 rWs_disj rWs_cover
    (fun b => if b = 0 then h0 else if b = 1 then h1 else if b = 2 then h2 else h3) f₀
  rw [bsTop, bsTop, bsTop, bsTop, bs0] at hj
  ihave HJ := hj $$ [G0 G1 G2 G3]
  · isplitl [G3]; · iexact G3
    isplitl [G2]; · iexact G2
    isplitl [G1]; · iexact G1
    isplitl [G0]; · iexact G0
    iempintro
  icases HJ with ⟨%g, HJ, -⟩
  iexists g
  iexact HJ

theorem cs_split (g : Vec F S3x512x3072 .fp8e4m3) :
    own arg12 g ⊢ iprop((∃ g, own (cS arg12 0) g) ∗ (∃ g, own (cS arg12 1) g) ∗ (∃ g, own (cS arg12 2) g)) := by
  have h := own_split (Val := Elt F) (c.tc : Thread nD τ) arg12 rCs (fun _ _ => rfl) 3 rCs_disj rCs_cover g
  rw [bsTop, bsTop, bsTop, bs0] at h
  iintro H
  ihave H' := h $$ H
  icases H' with ⟨H2, H1, H0, -⟩
  isplitl [H0]; · iapply (own_squeeze (c.tc : Thread nD τ) (arg12.slice (rCs 0) (fun _ => rfl)) squeezes_S1x512x3072_S512x3072 _); iexact H0
  isplitl [H1]; · iapply (own_squeeze (c.tc : Thread nD τ) (arg12.slice (rCs 1) (fun _ => rfl)) squeezes_S1x512x3072_S512x3072 _); iexact H1
  iapply (own_squeeze (c.tc : Thread nD τ) (arg12.slice (rCs 2) (fun _ => rfl)) squeezes_S1x512x3072_S512x3072 _); iexact H2

theorem cs_join (f₀ : Buf (Elt F) (arg12.view.loc (c.tc : Thread nD τ))) :
    iprop((∃ g, own (cS arg12 0) g) ∗ (∃ g, own (cS arg12 1) g) ∗ (∃ g, own (cS arg12 2) g)) ⊢ iprop(∃ g, own arg12 g) := by
  iintro ⟨⟨%g0, H0⟩, ⟨%g1, H1⟩, ⟨%g2, H2⟩⟩
  ihave G0 := (own_unsqueeze (c.tc : Thread nD τ) (arg12.slice (rCs 0) (fun _ => rfl)) squeezes_S1x512x3072_S512x3072 g0) $$ H0
  ihave G1 := (own_unsqueeze (c.tc : Thread nD τ) (arg12.slice (rCs 1) (fun _ => rfl)) squeezes_S1x512x3072_S512x3072 g1) $$ H1
  ihave G2 := (own_unsqueeze (c.tc : Thread nD τ) (arg12.slice (rCs 2) (fun _ => rfl)) squeezes_S1x512x3072_S512x3072 g2) $$ H2
  icases G0 with ⟨%h0, G0⟩
  icases G1 with ⟨%h1, G1⟩
  icases G2 with ⟨%h2, G2⟩
  have hj := own_join (Val := Elt F) (c.tc : Thread nD τ) arg12 rCs (fun _ _ => rfl) 3 rCs_disj rCs_cover
    (fun b => if b = 0 then h0 else if b = 1 then h1 else h2) f₀
  rw [bsTop, bsTop, bsTop, bs0] at hj
  ihave HJ := hj $$ [G0 G1 G2]
  · isplitl [G2]; · iexact G2
    isplitl [G1]; · iexact G1
    isplitl [G0]; · iexact G0
    iempintro
  icases HJ with ⟨%g, HJ, -⟩
  iexists g
  iexact HJ

/-! ## The reads -/

variable (w : Vec F S7168x3072 .bf16)

theorem rd_begin : own arg1 w ⊢ iprop(own (wB arg1 0) (wbOf w 0) ∗ own (wB arg1 1) (wbOf w 1) ∗ own (wB arg1 2) (wbOf w 2) ∗ own (wB arg1 3) (wbOf w 3)
      ∗ (rdFly arg1 arg11 arg21 c (wbOf w) 0 -∗ rdFly arg1 arg11 arg21 c (wbOf w) 1 -∗ rdFly arg1 arg11 arg21 c (wbOf w) 2 -∗ rdFly arg1 arg11 arg21 c (wbOf w) 3
        -∗ bigSep (Finset.range 18) (RD arg1 arg11 arg21 c (wbOf w) 0))) := by
  have h := own_split (Val := Elt F) (c.tc : Thread nD τ) arg1 rB (fun _ _ => rfl) 14 rB_disj rB_cover w
  rw [bsBot, bsBot, bsBot, bsBot] at h
  have e : ∀ b, b < 4 → RD arg1 arg11 arg21 c (wbOf w) 0 b = rdFly arg1 arg11 arg21 c (wbOf w) b := fun b hb => by
    unfold RD; rw [if_pos ⟨Nat.zero_le _, by omega⟩]
  have e' : ∀ b, 14 ≤ b → RD arg1 arg11 arg21 c (wbOf w) 0 b = iprop(emp) := fun b hb => by
    unfold RD; rw [if_neg (by omega)]; unfold rdHome; rw [if_neg (by omega)]
  have hm : (bigSep (Finset.range 10) fun k => own (wB arg1 (k + 1 + 1 + 1 + 1)) (wbOf w (k + 1 + 1 + 1 + 1)))
      = bigSep (Finset.range 10) fun k => RD arg1 arg11 arg21 c (wbOf w) 0 (k + 1 + 1 + 1 + 1) := bigSep_congr fun k hk => by
    have := Finset.mem_range.1 hk
    unfold RD; rw [if_neg (by omega)]; unfold rdHome; rw [if_pos (by omega)]
  rw [bsBot, bsBot, bsBot, bsBot, bsTop 13, bsTop 12, bsTop 11, bsTop 10, ← hm, e' (13 + 1 + 1 + 1 + 1) (by decide), e' (12 + 1 + 1 + 1 + 1) (by decide), e' (11 + 1 + 1 + 1 + 1) (by decide), e' (10 + 1 + 1 + 1 + 1) (by decide),
    e 0 (by decide), e (0 + 1) (by decide), e (0 + 1 + 1) (by decide), e (0 + 1 + 1 + 1) (by decide)]
  iintro H
  ihave H' := h $$ H
  icases H' with ⟨H0, H1, H2, H3, Hr⟩
  isplitl [H0]; · iexact H0
  isplitl [H1]; · iexact H1
  isplitl [H2]; · iexact H2
  isplitl [H3]; · iexact H3
  iintro G0 G1 G2 G3
  isplitl [G0]; · iexact G0
  isplitl [G1]; · iexact G1
  isplitl [G2]; · iexact G2
  isplitl [G3]; · iexact G3
  isplitl []; · iempintro
  isplitl []; · iempintro
  isplitl []; · iempintro
  isplitl []; · iempintro
  iexact Hr

theorem rd_end (f₁ : Buf (Elt F) (arg1.view.loc (c.tc : Thread nD τ))) (f₀ : Buf (Elt F) (arg11.view.loc (c.tc : Thread nD τ))) :
    bigSep (Finset.range 18) (RD arg1 arg11 arg21 c (wbOf w) 14) ⊢ iprop(own arg1 w ∗ (∃ g, own arg11 g)
      ∗ semVal ((c.tc : Thread nD τ), .dma (semR arg21 0)) 0 ∗ semVal ((c.tc : Thread nD τ), .dma (semR arg21 1)) 0
      ∗ semVal ((c.tc : Thread nD τ), .dma (semR arg21 2)) 0 ∗ semVal ((c.tc : Thread nD τ), .dma (semR arg21 3)) 0) := by
  have e : ∀ b i, 14 ≤ b → b < 18 → b % 4 = i % 4 → RD arg1 arg11 arg21 c (wbOf w) 14 b = iprop((∃ g, own (wS arg11 i) g) ∗ semVal ((c.tc : Thread nD τ), .dma (semR arg21 i)) 0) := fun b i hb hb' hi => by
    unfold RD; rw [if_pos ⟨hb, hb'⟩]; unfold rdFly; rw [if_neg (by omega)]
    rw [show wS arg11 b = wS arg11 i from wS_eq arg11 i (by rw [hi]) _, show semR arg21 b = semR arg21 i from semR_eq arg21 i (by rw [hi]) _]
  have hm : (bigSep (Finset.range 14) (RD arg1 arg11 arg21 c (wbOf w) 14)) = bigSep (Finset.range 14) fun k => own (wB arg1 k) (wbOf w k) := bigSep_congr fun k hk => by
    have := Finset.mem_range.1 hk
    unfold RD; rw [if_neg (by omega)]; unfold rdHome; rw [if_pos (by omega)]
  have hj := own_join (Val := Elt F) (c.tc : Thread nD τ) arg1 rB (fun _ _ => rfl) 14 rB_disj rB_cover (wbOf w) f₁
  have hs := ws_join arg11 c f₀
  rw [bsTop 17, bsTop 16, bsTop 15, bsTop 14, hm, e 17 1 (by decide) (by decide) rfl, e 16 0 (by decide) (by decide) rfl, e 15 3 (by decide) (by decide) rfl, e 14 2 (by decide) (by decide) rfl]
  iintro ⟨⟨S1, V1⟩, ⟨S0, V0⟩, ⟨S3, V3⟩, ⟨S2, V2⟩, H⟩
  ihave HJ := hj $$ H
  icases HJ with ⟨%g, HJ, %hg⟩
  isplitl [HJ]
  · have hgw : g = w := by
      funext x
      obtain ⟨b, hb, hx⟩ := rB_cover x
      rw [← Rect.map_emb_univ, Finset.mem_map] at hx
      obtain ⟨j, -, rfl⟩ := hx
      exact hg b hb j
    iapply (mown_congr (c.tc : Thread nD τ) hgw)
    iexact HJ
  isplitl [S0 S1 S2 S3]
  · iapply hs
    isplitl [S0]; · iexact S0
    isplitl [S1]; · iexact S1
    isplitl [S2]; · iexact S2
    iexact S3
  isplitl [V0]; · iexact V0
  isplitl [V1]; · iexact V1
  isplitl [V2]; · iexact V2
  iexact V3

/-! ## The writes -/

theorem wr_begin (cb : ℕ → Vec F S512x3072 .fp8e4m3) (g : Vec F S7168x3072 .fp8e4m3) :
    iprop(own arg5 g ∗ ((∃ g, own (cS arg12 0) g) ∗ (∃ g, own (cS arg12 1) g) ∗ (∃ g, own (cS arg12 2) g))
      ∗ semVal ((c.tc : Thread nD τ), .dma (semC arg22 0)) 0 ∗ semVal ((c.tc : Thread nD τ), .dma (semC arg22 1)) 0 ∗ semVal ((c.tc : Thread nD τ), .dma (semC arg22 2)) 0)
      ⊢ bigSep (Finset.range 17) (WR arg5 arg12 arg22 c cb 0) := by
  have h := own_split (Val := Elt F) (c.tc : Thread nD τ) arg5 rB (fun _ _ => rfl) 14 rB_disj rB_cover g
  have hk : ∀ k, iprop(own (cB arg5 k) (fun j => g ((rB k).emb j))) ⊢ iprop(∃ g, own (cB arg5 k) g) := fun k => by
    iintro H; iexists _; iexact H
  have h' : (bigSep (Finset.range 14) fun k => own (cB arg5 k) (fun j => g ((rB k).emb j))) ⊢ bigSep (Finset.range 14) fun k => iprop(∃ g, own (cB arg5 k) g) :=
    bigSep_mono fun k _ => hk k
  have e : ∀ v, v < 3 → WR arg5 arg12 arg22 c cb 0 v = iprop((∃ g, own (cS arg12 v) g) ∗ semVal ((c.tc : Thread nD τ), .dma (semC arg22 v)) 0) := fun v hv => by
    unfold WR; rw [if_neg (by omega), if_pos (by omega)]; unfold wrFly; rw [if_neg (by omega)]
  have hm : (bigSep (Finset.range 14) fun k => WR arg5 arg12 arg22 c cb 0 (k + 1 + 1 + 1)) = bigSep (Finset.range 14) fun k => iprop(∃ g, own (cB arg5 k) g) := bigSep_congr fun k hk => by
    unfold WR; rw [if_neg (by omega), if_neg (by omega), show k + 1 + 1 + 1 - 3 = k by omega]
  rw [bsBot, bsBot, bsBot, hm, e 0 (by decide), e (0 + 1) (by decide), e (0 + 1 + 1) (by decide)]
  iintro ⟨H, ⟨S0, S1, S2⟩, V0, V1, V2⟩
  isplitl [S0 V0]
  · isplitl [S0]; · iexact S0
    iexact V0
  isplitl [S1 V1]
  · isplitl [S1]; · iexact S1
    iexact V1
  isplitl [S2 V2]
  · isplitl [S2]; · iexact S2
    iexact V2
  iapply h'
  iapply h
  iexact H

/-- The codes of `w`. -/
def WC : Vec F S7168x3072 .fp8e4m3 := fun i =>
  cbOf w ((i 0).val / 512) (fun a => match a with | ⟨0, _⟩ => ⟨(i 0).val % 512, Nat.mod_lt _ (by decide)⟩ | ⟨1, _⟩ => i 1)

theorem WC_emb (b : ℕ) (hb : b < 14) (j : S512x3072.Idx) : WC w ((rB b).emb j) = cbOf w b j := by
  have h0 : ((rB b).emb j 0).val = 512 * (b % 14) + 1 * (j 0).val := rfl
  have h1 : ((rB b).emb j 1).val = 0 + 1 * (j 1).val := rfl
  have l0 : (j 0).val < 512 := (j 0).isLt
  unfold WC
  rw [show ((rB b).emb j 0).val / 512 = b by rw [h0]; omega]
  congr 1
  funext a
  apply Fin.ext
  match a with
  | ⟨0, _⟩ => show ((rB b).emb j 0).val % 512 = (j 0).val; rw [h0]; omega
  | ⟨1, _⟩ => show ((rB b).emb j 1).val = (j 1).val; rw [h1]; omega

theorem wr_end (f₅ : Buf (Elt F) (arg5.view.loc (c.tc : Thread nD τ))) (f₀ : Buf (Elt F) (arg12.view.loc (c.tc : Thread nD τ))) :
    bigSep (Finset.range 17) (WR arg5 arg12 arg22 c (cbOf w) 14) ⊢ iprop(wrFly arg5 arg12 arg22 c (cbOf w) 14 ∗ wrFly arg5 arg12 arg22 c (cbOf w) 15 ∗ wrFly arg5 arg12 arg22 c (cbOf w) 16
      ∗ (wrDone arg5 c (cbOf w) 14 -∗ wrDone arg5 c (cbOf w) 15 -∗ wrDone arg5 c (cbOf w) 16
        -∗ (∃ g, own (cS arg12 14) g) -∗ (∃ g, own (cS arg12 15) g) -∗ (∃ g, own (cS arg12 16) g)
        -∗ iprop(own arg5 (WC w) ∗ ∃ g, own arg12 g))) := by
  have e : ∀ v, 14 ≤ v → v < 17 → WR arg5 arg12 arg22 c (cbOf w) 14 v = wrFly arg5 arg12 arg22 c (cbOf w) v := fun v hv hv' => by
    unfold WR; rw [if_neg (by omega), if_pos (by omega)]
  have e' : ∀ v, v < 3 → WR arg5 arg12 arg22 c (cbOf w) 14 v = iprop(emp) := fun v hv => by
    unfold WR; rw [if_pos (by omega)]; unfold wrDone; rw [if_neg (by omega)]
  have hm : (bigSep (Finset.range 11) fun k => WR arg5 arg12 arg22 c (cbOf w) 14 (k + 1 + 1 + 1)) = bigSep (Finset.range 11) fun k => own (cB arg5 k) (cbOf w k) := bigSep_congr fun k hk => by
    have := Finset.mem_range.1 hk
    unfold WR; rw [if_pos (by omega)]; unfold wrDone; rw [if_pos (by omega), show k + 1 + 1 + 1 - 3 = k by omega]
  have hd : ∀ v b, v = b + 3 → wrDone arg5 c (cbOf w) v = own (cB arg5 b) (cbOf w b) := fun v b hv => by
    subst hv; unfold wrDone; rw [if_pos (by omega), Nat.add_sub_cancel]
  have hj := own_join (Val := Elt F) (c.tc : Thread nD τ) arg5 rB (fun _ _ => rfl) 14 rB_disj rB_cover (cbOf w) f₅
  rw [bsTop 13, bsTop 12, bsTop 11] at hj
  have hs := cs_join arg12 c f₀
  rw [show cS arg12 0 = cS arg12 15 from cS_eq arg12 15 rfl _, show cS arg12 1 = cS arg12 16 from cS_eq arg12 16 rfl _, show cS arg12 2 = cS arg12 14 from cS_eq arg12 14 rfl _] at hs
  rw [bsTop 16, bsTop 15, bsTop 14, bsBot 13, bsBot 12, bsBot 11, hm, e 16 (by decide) (by decide), e 15 (by decide) (by decide), e 14 (by decide) (by decide),
    e' 0 (by decide), e' (0 + 1) (by decide), e' (0 + 1 + 1) (by decide), hd 14 11 rfl, hd 15 12 rfl, hd 16 13 rfl]
  iintro ⟨F16, F15, F14, -, -, -, H⟩
  isplitl [F14]; · iexact F14
  isplitl [F15]; · iexact F15
  isplitl [F16]; · iexact F16
  iintro D11 D12 D13 S2 S0 S1
  ihave HJ := hj $$ [H D11 D12 D13]
  · isplitl [D13]; · iexact D13
    isplitl [D12]; · iexact D12
    isplitl [D11]; · iexact D11
    iexact H
  icases HJ with ⟨%g, HJ, %hg⟩
  isplitl [HJ]
  · have hgw : g = WC w := by
      funext x
      obtain ⟨b, hb, hx⟩ := rB_cover x
      rw [← Rect.map_emb_univ, Finset.mem_map] at hx
      obtain ⟨j, -, rfl⟩ := hx
      rw [hg b hb j, WC_emb w b hb]
    iapply (mown_congr (c.tc : Thread nD τ) hgw)
    iexact HJ
  iapply hs
  isplitl [S0]; · iexact S0
  isplitl [S1]; · iexact S1
  iexact S2

end Ends

end Cert.KernelIdeal.Tr

end
-- ==== Proof.KernelIdeal.Body.lean ====
/- The kernel's body on the contents of its buffers. -/
module

public import proofs.«01_k».proof.Proof.KernelIdeal.RingEnds

@[expose] public section

set_option maxRecDepth 16384

noncomputable section

namespace Cert.KernelIdeal.Tr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.Own
open Facts₀ Facts

variable {F : FTy → Type} [FloatOps F]
local notation "Tx" => Fin k0_t1_loop.trips
local notation "Tm" => Fin k0_t2_loop.trips
local notation "𝕄" => MT nD τ sig Unit (Elt F) ℕ (Pipeline.UC sig nD τ) ℕ

/-! ## The results -/

/-- The first result. -/
def YV (x : Vec F S200x7168 .bf16) (w : Vec F S7168x3072 .bf16) : Vec F S200x3072 .bf16 :=
  Gen.k0_pay634 (fun i => ACC (XD x (Gen.k0_pay629 (F := F))) w 14 ((Rect.unit (s := S208x3072) ![0, 0] S200x3072.size inb_S208x3072_S200x3072_0_0).toLoadRect.idx i))
/-- The scale codes of `x`, before they are turned. -/
def XSC (x : Vec F S200x7168 .bf16) : Vec F S256x128 .i32 := xsIter x xLane k0_t1_loop.trips Gen.k0_pay627
/-- The scale codes of `x`. -/
def XSV (x : Vec F S200x7168 .bf16) : Vec F S56x200 .i8 := Gen.k0_pay635 (F := F) (XSC x)
/-- The scale codes of `w`. -/
def WSV (w : Vec F S7168x3072 .bf16) : Vec F S24x56 .i8 :=
  Gen.k0_pay1 (F := F) (fun i => WS w 14 ((Rect.unit (s := S24x128) ![0, 0] S24x56.size inb_S24x128_S24x56_0_0).toLoadRect.idx i))

theorem tm_trips : k0_t2_loop.trips = 14 := by decide

variable
  (arg0 : Memref sig .tc .hbm S200x7168 .bf16) (harg0 : arg0.IsWhole) (arg1 : Memref sig .tc .hbm S7168x3072 .bf16) (harg1 : arg1.IsWhole)
  (arg2 : Memref sig .tc .hbm S200x3072 .bf16) (harg2 : arg2.IsWhole) (arg3 : Memref sig .tc .hbm S200x7168 .fp8e4m3) (harg3 : arg3.IsWhole)
  (arg4 : Memref sig .tc .vmem S56x200 .i8) (harg4 : arg4.IsWhole) (arg5 : Memref sig .tc .hbm S7168x3072 .fp8e4m3) (harg5 : arg5.IsWhole)
  (arg6 : Memref sig .tc .vmem S24x56 .i8) (harg6 : arg6.IsWhole) (arg7 : Memref sig .tc .vmem S200x7168 .bf16) (harg7 : arg7.IsWhole)
  (arg8 : Memref sig .tc .vmem S200x7168 .fp8e4m3) (harg8 : arg8.IsWhole) (arg9 : Memref sig .tc .vmem S14x208x512 .bf16) (harg9 : arg9.IsWhole)
  (arg10 : Memref sig .tc .vmem S256x128 .i32) (harg10 : arg10.IsWhole) (arg11 : Memref sig .tc .vmem S4x512x3072 .bf16) (harg11 : arg11.IsWhole)
  (arg12 : Memref sig .tc .vmem S3x512x3072 .fp8e4m3) (harg12 : arg12.IsWhole) (arg13 : Memref sig .tc .vmem S208x3072 .f32) (harg13 : arg13.IsWhole)
  (arg14 : Memref sig .tc .vmem S200x3072 .bf16) (harg14 : arg14.IsWhole) (arg15 : Memref sig .tc .vmem S4x216x128 .f32) (harg15 : arg15.IsWhole)
  (arg16 : Memref sig .tc .vmem S4x24x128 .i32) (harg16 : arg16.IsWhole) (arg17 : Memref sig .tc .vmem S4x24x128 .i32) (harg17 : arg17.IsWhole)
  (arg18 : Memref sig .tc .vmem S24x128 .i32) (harg18 : arg18.IsWhole) (arg19 arg20 : DmaSems sig S_) (arg21 : DmaSems sig S4) (arg22 : DmaSems sig S3) (arg23 : DmaSems sig S_)
variable (c : Dev nD)
local notation "own" => mown (Ix := Unit) (Val := Elt F) (Name := ℕ) (U := Pipeline.UC sig nD τ) (Lvl := ℕ) (c.tc : Thread nD τ)
variable {defs : Defs nD τ sig (Elt F) Λ₀} (𝒱 : Variants) (bd : Option 𝒱.V)
local notation "W" => wp frame (wpE (Ix := Unit) (Name := ℕ) (U := Pipeline.UC sig nD τ) (Lvl := ℕ) defs 𝒱 (c.tc : Thread nD τ) bd) Set.univ

/-! ## Whole loads and stores -/

theorem st_full {sp : CoreSpace} {s : Shape} {e : EltTy} {m : Memref sig .tc sp s e} {off : Fin s.rank → ℕ} {inb : ∀ a, off a + s.size a ≤ s.size a} {v : s.Idx → Elt F e}
    {hx : (m.access (Rect.unit off s.size inb)).Stores Finset.univ}
    {hm : (Finset.univ : Finset (Rect.unit off s.size inb).shape.Idx) = Finset.univ ∨ ∀ a, (Rect.unit off s.size inb).stride a = 1} (Q : PUnit → sProp 𝕄) :
    iprop((∃ g, own m g) ∗ (own m v -∗ Q ⟨⟩)) ⊢ W (Prog.lift (.store m (Rect.unit off s.size inb) v Finset.univ hx hm)) Q := by
  iintro ⟨⟨%g, H⟩, HQ⟩
  iapply (st (c.tc : Thread nD τ) 𝒱 bd Set.univ (g := g))
  isplitl [H]; · iexact H
  iintro H
  iapply HQ
  iapply (mown_congr (c.tc : Thread nD τ) (upd_full inb v g))
  iexact H

/-- A load whose value is not used. -/
theorem ld_any {sp : CoreSpace} {s : Shape} {e : EltTy} {m : Memref sig .tc sp s e} {r : LoadRect s} {hl : m.view.LoadsAt r} {Q : (r.shape.Idx → Elt F e) → sProp 𝕄} :
    iprop((∃ g, own m g) ∗ (∀ v, (∃ g, own m g) -∗ Q v)) ⊢ W (Prog.lift (.load m r hl)) Q := by
  iintro ⟨⟨%g, H⟩, HQ⟩
  iapply (ld (c.tc : Thread nD τ) 𝒱 bd Set.univ (g := g))
  isplitl [H]; · iexact H
  iintro H
  iapply HQ
  iexists g
  iexact H

/-! ## The second loop, to its end -/

theorem wp_loop2' (n : ℕ) (hn : k0_t2_loop.trips = n) (v27 : FVec F S208x3072 .f32) (w : Vec F S7168x3072 .bf16) (X : Vec F S14x208x512 .bf16) (Q : PUnit → sProp 𝕄) :
    iprop(bigSep (Finset.range 18) (RD arg1 arg11 arg21 c (wbOf w) 0) ∗ bigSep (Finset.range 17) (WR arg5 arg12 arg22 c (cbOf w) 0)
        ∗ owesNone (c.tc : Thread nD τ) ∗ own arg9 X ∗ own arg13 (ACC X w 0) ∗ (∃ s : StA F, ownA c arg15 arg16 arg17 arg18 s ∗ ⌜s.ws = WS w 0⌝)
        ∗ (bigSep (Finset.range 18) (RD arg1 arg11 arg21 c (wbOf w) n) -∗ bigSep (Finset.range 17) (WR arg5 arg12 arg22 c (cbOf w) n)
          -∗ owesNone (c.tc : Thread nD τ) -∗ own arg9 X -∗ own arg13 (ACC X w n)
          -∗ (∃ s : StA F, ownA c arg15 arg16 arg17 arg18 s ∗ ⌜s.ws = WS w n⌝) -∗ Q ⟨⟩))
      ⊢ W (Scf.Loop.for k0_t2_loop k0_t2_ok ⟨⟩ (Gen.k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 v27 wLane)) Q := by
  subst hn
  exact wp_loop2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 c 𝒱 bd v27 w X Q

/-! ## The parts of the body -/

theorem wp_148 (x : Vec F S200x7168 .bf16) (w : Vec F S7168x3072 .bf16) (Q : FVec F S208x3072 .f32 → sProp 𝕄) :
    iprop(own arg0 x ∗ (∃ g, own arg7 g) ∗ semVal ((c.tc : Thread nD τ), .dma arg19.sem) 0
        ∗ own (wB arg1 0) (wbOf w 0) ∗ own (wB arg1 1) (wbOf w 1) ∗ own (wB arg1 2) (wbOf w 2) ∗ own (wB arg1 3) (wbOf w 3)
        ∗ (∃ g, own (wS arg11 0) g) ∗ (∃ g, own (wS arg11 1) g) ∗ (∃ g, own (wS arg11 2) g) ∗ (∃ g, own (wS arg11 3) g)
        ∗ semVal ((c.tc : Thread nD τ), .dma (semR arg21 0)) 0 ∗ semVal ((c.tc : Thread nD τ), .dma (semR arg21 1)) 0
        ∗ semVal ((c.tc : Thread nD τ), .dma (semR arg21 2)) 0 ∗ semVal ((c.tc : Thread nD τ), .dma (semR arg21 3)) 0
        ∗ (∃ g, own arg13 g)
        ∗ (flies (Val := Elt F) (c.tc : Thread nD τ) arg19.sem arg7.view.dmaCredit iprop(own arg7 x ∗ own arg0 x)
          -∗ rdFly arg1 arg11 arg21 c (wbOf w) 0 -∗ rdFly arg1 arg11 arg21 c (wbOf w) 1 -∗ rdFly arg1 arg11 arg21 c (wbOf w) 2 -∗ rdFly arg1 arg11 arg21 c (wbOf w) 3
          -∗ (∃ g, own arg13 g) -∗ Q Gen.k0_pay626))
      ⊢ W (k0_part148 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23) Q := by
  rw [Gen.k0_part148_eq_skeleton]
  unfold Gen.k0_part148_skel
  simp only [wp_bind]
  iintro ⟨Hx, ⟨%g7, H7⟩, Hv, B0, B1, B2, B3, S0, S1, S2, S3, V0, V1, V2, V3, H13, HQ⟩
  iapply (dma (c.tc : Thread nD τ) 𝒱 bd (g := x) (gd := g7) (by decide +kernel))
  isplitl [Hx]; · iexact Hx
  isplitl [H7]; · iexact H7
  isplitl [Hv]; · iexact Hv
  iintro Hf
  iapply (wp_start arg1 arg11 arg21 c 𝒱 bd (wbOf w) 0 (by decide) (o1 := k0_off1 0#32) (o2 := k0_off2 0#32) (o3 := ![0, 0]) (by decide +kernel) (by decide +kernel) (by decide +kernel))
  isplitl [B0]; · iexact B0
  isplitl [S0]; · iexact S0
  isplitl [V0]; · iexact V0
  iintro F0
  iapply (wp_start arg1 arg11 arg21 c 𝒱 bd (wbOf w) 1 (by decide) (o1 := k0_off1 1#32) (o2 := k0_off2 1#32) (o3 := ![512, 0]) (by decide +kernel) (by decide +kernel) (by decide +kernel))
  isplitl [B1]; · iexact B1
  isplitl [S1]; · iexact S1
  isplitl [V1]; · iexact V1
  iintro F1
  iapply (wp_start arg1 arg11 arg21 c 𝒱 bd (wbOf w) 2 (by decide) (o1 := k0_off1 2#32) (o2 := k0_off2 2#32) (o3 := ![1024, 0]) (by decide +kernel) (by decide +kernel) (by decide +kernel))
  isplitl [B2]; · iexact B2
  isplitl [S2]; · iexact S2
  isplitl [V2]; · iexact V2
  iintro F2
  iapply (wp_start arg1 arg11 arg21 c 𝒱 bd (wbOf w) 3 (by decide) (o1 := k0_off1 3#32) (o2 := k0_off2 3#32) (o3 := ![1536, 0]) (by decide +kernel) (by decide +kernel) (by decide +kernel))
  isplitl [B3]; · iexact B3
  isplitl [S3]; · iexact S3
  isplitl [V3]; · iexact V3
  iintro F3
  iapply (ld_any c 𝒱 bd)
  isplitl [H13]; · iexact H13
  iintro %v H13
  iapply (rt (c.tc : Thread nD τ) 𝒱 bd Set.univ (a := Gen.k0_pay626))
  iapply HQ $$ Hf F0 F1 F2 F3 H13

theorem wp_149 (x : Vec F S200x7168 .bf16) (w : Vec F S7168x3072 .bf16) (Q : IVec S56x200 8 → sProp 𝕄) :
    iprop(flies (Val := Elt F) (c.tc : Thread nD τ) arg19.sem arg7.view.dmaCredit iprop(own arg7 x ∗ own arg0 x)
        ∗ bigSep (Finset.range 18) (RD arg1 arg11 arg21 c (wbOf w) 0) ∗ bigSep (Finset.range 17) (WR arg5 arg12 arg22 c (cbOf w) 0)
        ∗ owesNone (c.tc : Thread nD τ)
        ∗ (∃ g, own arg13 g) ∗ (∃ g, own arg10 g) ∗ (∃ g, own arg18 g) ∗ (∃ g, own arg9 g) ∗ (∃ g, own arg8 g) ∗ (∃ g, own arg3 g)
        ∗ (∃ g, own arg15 g) ∗ (∃ g, own arg16 g) ∗ (∃ g, own arg17 g) ∗ (∃ g, own arg14 g) ∗ (∃ g, own arg2 g)
        ∗ semVal ((c.tc : Thread nD τ), .dma arg20.sem) 0 ∗ semVal ((c.tc : Thread nD τ), .dma arg23.sem) 0
        ∗ (own arg7 x -∗ own arg0 x -∗ semVal ((c.tc : Thread nD τ), .dma arg19.sem) 0
          -∗ bigSep (Finset.range 18) (RD arg1 arg11 arg21 c (wbOf w) 14) -∗ bigSep (Finset.range 17) (WR arg5 arg12 arg22 c (cbOf w) 14)
          -∗ owesNone (c.tc : Thread nD τ) -∗ (∃ g, own arg13 g) -∗ (∃ g, own arg10 g) -∗ (∃ g, own arg9 g)
          -∗ (∃ s : StA F, ownA c arg15 arg16 arg17 arg18 s ∗ ⌜s.ws = WS w 14⌝)
          -∗ flies (Val := Elt F) (c.tc : Thread nD τ) arg20.sem arg3.view.dmaCredit iprop(own arg3 (XC x) ∗ own arg8 (XC x))
          -∗ flies (Val := Elt F) (c.tc : Thread nD τ) arg23.sem arg2.view.dmaCredit iprop(own arg2 (YV x w) ∗ own arg14 (YV x w))
          -∗ Q (XSV x)))
      ⊢ W (k0_part149 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 Gen.k0_pay626) Q := by
  rw [Gen.k0_part149_eq_skeleton]
  unfold Gen.k0_part149_skel
  simp only [wp_bind]
  iintro ⟨Hf, HR, HW, Ho, H13, H10, H18, ⟨%g9, H9⟩, ⟨%g8, H8⟩, ⟨%g3, H3⟩, ⟨%g15, H15⟩, ⟨%g16, H16⟩, ⟨%g17, H17⟩, H14, ⟨%g2, H2⟩, V20, V23, HQ⟩
  iapply (st_full c 𝒱 bd)
  isplitl [H13]; · iexact H13
  iintro H13
  iapply (ld_any c 𝒱 bd)
  isplitl [H10]; · iexact H10
  iintro %u1 H10
  iapply (st_full c 𝒱 bd)
  isplitl [H10]; · iexact H10
  iintro H10
  iapply (ld_any c 𝒱 bd)
  isplitl [H18]; · iexact H18
  iintro %u2 H18
  iapply (st_full c 𝒱 bd)
  isplitl [H18]; · iexact H18
  iintro H18
  iapply (ld (c.tc : Thread nD τ) 𝒱 bd Set.univ (g := g9))
  isplitl [H9]; · iexact H9
  iintro H9
  iapply (st (c.tc : Thread nD τ) 𝒱 bd Set.univ (g := g9))
  isplitl [H9]; · iexact H9
  iintro H9
  iapply (wt (c.tc : Thread nD τ) 𝒱 bd (N := arg7.view.dmaCredit) rfl)
  isplitl [Hf]; · iexact Hf
  isplitl [Ho]; · iexact Ho
  iintro ⟨H7, H0⟩ V19 Ho
  iapply (wp_loop1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 c 𝒱 bd Gen.k0_pay626 x ⟨g8, upd padR (Gen.k0_pay629 (F := F)) g9, Gen.k0_pay627⟩)
  isplitl [H7]; · iexact H7
  isplitl [H8 H9 H10]
  · unfold ownX
    isplitl [H8]; · iexact H8
    isplitl [H9]; · iexact H9
    iexact H10
  unfold ownX
  iintro H7 ⟨H8, H9, H10⟩
  ihave H8 := (mown_congr (c.tc : Thread nD τ) (xIter_XC x xLane ⟨g8, upd padR (Gen.k0_pay629 (F := F)) g9, Gen.k0_pay627⟩)) $$ H8
  ihave H9 := (mown_congr (c.tc : Thread nD τ) (xIter_XD x xLane ⟨g8, upd padR (Gen.k0_pay629 (F := F)) g9, Gen.k0_pay627⟩ (Gen.k0_pay629 (F := F)) g9 rfl)) $$ H9
  ihave H10 := (mown_congr (c.tc : Thread nD τ) (xIter_xs x xLane ⟨g8, upd padR (Gen.k0_pay629 (F := F)) g9, Gen.k0_pay627⟩ k0_t1_loop.trips)) $$ H10
  iapply (dma (c.tc : Thread nD τ) 𝒱 bd (g := XC x) (gd := g3) (by decide +kernel))
  isplitl [H8]; · iexact H8
  isplitl [H3]; · iexact H3
  isplitl [V20]; · iexact V20
  iintro F20
  iapply (wp_loop2' arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 c 𝒱 bd 14 tm_trips Gen.k0_pay626 w (XD x (Gen.k0_pay629 (F := F))))
  isplitl [HR]; · iexact HR
  isplitl [HW]; · iexact HW
  isplitl [Ho]; · iexact Ho
  isplitl [H9]; · iexact H9
  isplitl [H13]; · iexact H13
  isplitl [H15 H16 H17 H18]
  · iexists (⟨g15, g16, g17, Gen.k0_pay628⟩ : StA F)
    unfold ownA
    isplitl
    · isplitl [H15]; · iexact H15
      isplitl [H16]; · iexact H16
      isplitl [H17]; · iexact H17
      iexact H18
    ipureintro
    rfl
  iintro HR HW Ho H9 H13 HA
  iapply (ld (c.tc : Thread nD τ) 𝒱 bd Set.univ (g := ACC (XD x (Gen.k0_pay629 (F := F))) w 14))
  isplitl [H13]; · iexact H13
  iintro H13
  iapply (ld_any c 𝒱 bd)
  isplitl [H14]; · iexact H14
  iintro %u3 H14
  iapply (st_full c 𝒱 bd)
  isplitl [H14]; · iexact H14
  iintro H14
  iapply (dma (c.tc : Thread nD τ) 𝒱 bd (g := YV x w) (gd := g2) (by decide +kernel))
  isplitl [H14]; · iexact H14
  isplitl [H2]; · iexact H2
  isplitl [V23]; · iexact V23
  iintro F23
  iapply (ld (c.tc : Thread nD τ) 𝒱 bd Set.univ (g := XSC x))
  isplitl [H10]; · iexact H10
  iintro H10
  iapply (rt (c.tc : Thread nD τ) 𝒱 bd Set.univ)
  rw [show (fun i => XSC x ((Rect.unit (s := S256x128) ![0, 0] S256x128.size inb_S256x128_S256x128_0_0).toLoadRect.idx i)) = XSC x from read_full _ _,
    show Gen.k0_pay635 (F := F) (XSC x) = XSV x from rfl]
  iapply HQ $$ H7 H0 V19 HR HW Ho [H13] [H10] [H9] HA F20 F23
  · iexists _; iexact H13
  · iexists _; iexact H10
  · iexists _; iexact H9

/-- THE BODY: from the two arguments at `x` and `w` and every other buffer at any contents, it runs to its end
    without fault, the arguments unchanged, the five results as stated and every semaphore back at zero. -/
theorem wp_body (x : Vec F S200x7168 .bf16) (w : Vec F S7168x3072 .bf16) (Q : PUnit → sProp 𝕄) :
    iprop(own arg0 x ∗ own arg1 w ∗ (∃ g, own arg2 g) ∗ (∃ g, own arg3 g) ∗ (∃ g, own arg4 g) ∗ (∃ g, own arg5 g) ∗ (∃ g, own arg6 g)
        ∗ (∃ g, own arg7 g) ∗ (∃ g, own arg8 g) ∗ (∃ g, own arg9 g) ∗ (∃ g, own arg10 g) ∗ (∃ g, own arg11 g) ∗ (∃ g, own arg12 g)
        ∗ (∃ g, own arg13 g) ∗ (∃ g, own arg14 g) ∗ (∃ g, own arg15 g) ∗ (∃ g, own arg16 g) ∗ (∃ g, own arg17 g) ∗ (∃ g, own arg18 g)
        ∗ semVal ((c.tc : Thread nD τ), .dma arg19.sem) 0 ∗ semVal ((c.tc : Thread nD τ), .dma arg20.sem) 0 ∗ semVal ((c.tc : Thread nD τ), .dma arg23.sem) 0
        ∗ semVal ((c.tc : Thread nD τ), .dma (semR arg21 0)) 0 ∗ semVal ((c.tc : Thread nD τ), .dma (semR arg21 1)) 0
        ∗ semVal ((c.tc : Thread nD τ), .dma (semR arg21 2)) 0 ∗ semVal ((c.tc : Thread nD τ), .dma (semR arg21 3)) 0
        ∗ semVal ((c.tc : Thread nD τ), .dma (semC arg22 0)) 0 ∗ semVal ((c.tc : Thread nD τ), .dma (semC arg22 1)) 0 ∗ semVal ((c.tc : Thread nD τ), .dma (semC arg22 2)) 0
        ∗ owesNone (c.tc : Thread nD τ)
        ∗ (own arg0 x -∗ own arg1 w -∗ own arg2 (YV x w) -∗ own arg3 (XC x) -∗ own arg4 (XSV x) -∗ own arg5 (WC w) -∗ own arg6 (WSV w)
          -∗ (∃ g, own arg7 g) -∗ (∃ g, own arg8 g) -∗ (∃ g, own arg9 g) -∗ (∃ g, own arg10 g) -∗ (∃ g, own arg11 g) -∗ (∃ g, own arg12 g)
          -∗ (∃ g, own arg13 g) -∗ (∃ g, own arg14 g) -∗ (∃ g, own arg15 g) -∗ (∃ g, own arg16 g) -∗ (∃ g, own arg17 g) -∗ (∃ g, own arg18 g)
          -∗ semVal ((c.tc : Thread nD τ), .dma arg19.sem) 0 -∗ semVal ((c.tc : Thread nD τ), .dma arg20.sem) 0 -∗ semVal ((c.tc : Thread nD τ), .dma arg23.sem) 0
          -∗ semVal ((c.tc : Thread nD τ), .dma (semR arg21 0)) 0 -∗ semVal ((c.tc : Thread nD τ), .dma (semR arg21 1)) 0
          -∗ semVal ((c.tc : Thread nD τ), .dma (semR arg21 2)) 0 -∗ semVal ((c.tc : Thread nD τ), .dma (semR arg21 3)) 0
          -∗ semVal ((c.tc : Thread nD τ), .dma (semC arg22 0)) 0 -∗ semVal ((c.tc : Thread nD τ), .dma (semC arg22 1)) 0 -∗ semVal ((c.tc : Thread nD τ), .dma (semC arg22 2)) 0
          -∗ owesNone (c.tc : Thread nD τ) -∗ Q ⟨⟩))
      ⊢ W (cc0_rollout_linear arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23) Q := by
  have s14 : semC arg22 14 = semC arg22 2 := semC_eq arg22 2 (by decide) _
  have s15 : semC arg22 15 = semC arg22 0 := semC_eq arg22 0 (by decide) _
  have s16 : semC arg22 16 = semC arg22 1 := semC_eq arg22 1 (by decide) _
  rw [Gen.cc0_rollout_linear_eq_skeleton]
  unfold Gen.cc0_rollout_linear_skel
  simp only [wp_bind]
  iintro ⟨H0, H1, H2, H3, H4, ⟨%g5, H5⟩, H6, H7, H8, H9, H10, ⟨%g11, H11⟩, ⟨%g12, H12⟩, H13, H14, H15, H16, H17, H18, V19, V20, V23, R0, R1, R2, R3, C0, C1, C2, Ho, HQ⟩
  ihave H1 := (own_buf c arg1 w) $$ H1
  icases H1 with ⟨%f1, H1⟩
  ihave H5 := (own_buf c arg5 g5) $$ H5
  icases H5 with ⟨%f5, H5⟩
  ihave H11 := (own_buf c arg11 g11) $$ H11
  icases H11 with ⟨%f11, H11⟩
  ihave H12 := (own_buf c arg12 g12) $$ H12
  icases H12 with ⟨%f12, H12⟩
  ihave HS := (ws_split arg11 c g11) $$ H11
  icases HS with ⟨S0, S1, S2, S3⟩
  ihave HC := (cs_split arg12 c g12) $$ H12
  ihave HB := (rd_begin arg1 arg11 arg21 c w) $$ H1
  icases HB with ⟨B0, B1, B2, B3, HR⟩
  iapply (wp_148 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 c 𝒱 bd x w)
  isplitl [H0]; · iexact H0
  isplitl [H7]; · iexact H7
  isplitl [V19]; · iexact V19
  isplitl [B0]; · iexact B0
  isplitl [B1]; · iexact B1
  isplitl [B2]; · iexact B2
  isplitl [B3]; · iexact B3
  isplitl [S0]; · iexact S0
  isplitl [S1]; · iexact S1
  isplitl [S2]; · iexact S2
  isplitl [S3]; · iexact S3
  isplitl [R0]; · iexact R0
  isplitl [R1]; · iexact R1
  isplitl [R2]; · iexact R2
  isplitl [R3]; · iexact R3
  isplitl [H13]; · iexact H13
  iintro Hf F0 F1 F2 F3 H13
  iapply (wp_149 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 c 𝒱 bd x w)
  isplitl [Hf]; · iexact Hf
  isplitl [HR F0 F1 F2 F3]; · iapply HR $$ F0 F1 F2 F3
  isplitl [H5 HC C0 C1 C2]
  · iapply (wr_begin arg5 arg12 arg22 c (cbOf w) g5)
    isplitl [H5]; · iexact H5
    isplitl [HC]; · iexact HC
    isplitl [C0]; · iexact C0
    isplitl [C1]; · iexact C1
    iexact C2
  isplitl [Ho]; · iexact Ho
  isplitl [H13]; · iexact H13
  isplitl [H10]; · iexact H10
  isplitl [H18]; · iexact H18
  isplitl [H9]; · iexact H9
  isplitl [H8]; · iexact H8
  isplitl [H3]; · iexact H3
  isplitl [H15]; · iexact H15
  isplitl [H16]; · iexact H16
  isplitl [H17]; · iexact H17
  isplitl [H14]; · iexact H14
  isplitl [H2]; · iexact H2
  isplitl [V20]; · iexact V20
  isplitl [V23]; · iexact V23
  iintro H7 H0 V19 HR HW Ho H13 H10 H9 ⟨%s, HA, %hs⟩ F20 F23
  unfold ownA
  icases HA with ⟨H15, H16, H17, H18⟩
  ihave H18 := (mown_congr (c.tc : Thread nD τ) hs) $$ H18
  ihave HE := (rd_end arg1 arg11 arg21 c w f1 f11) $$ HR
  icases HE with ⟨H1, H11, R0, R1, R2, R3⟩
  ihave HE := (wr_end arg5 arg12 arg22 c w f5 f12) $$ HW
  icases HE with ⟨W0, W1, W2, HE⟩
  iapply (ld_any c 𝒱 bd)
  isplitl [H4]; · iexact H4
  iintro %u1 H4
  iapply (st_full c 𝒱 bd)
  isplitl [H4]; · iexact H4
  iintro H4
  iapply (ld (c.tc : Thread nD τ) 𝒱 bd Set.univ (g := WS w 14))
  isplitl [H18]; · iexact H18
  iintro H18
  iapply (ld_any c 𝒱 bd)
  isplitl [H6]; · iexact H6
  iintro %u2 H6
  iapply (st_full c 𝒱 bd (v := WSV w))
  isplitl [H6]; · iexact H6
  iintro H6
  iapply (wp_finish arg5 arg12 arg22 c 𝒱 bd (cbOf w) 14 (by decide) (o1 := k0_off116 11#32) (o2 := k0_off117 11#32) (o3 := ![5632, 0]) (by decide +kernel) (by decide +kernel))
  isplitl [W0]; · iexact W0
  isplitl [Ho]; · iexact Ho
  iintro D0 X0 C2 Ho
  iapply (wp_finish arg5 arg12 arg22 c 𝒱 bd (cbOf w) 15 (by decide) (o1 := k0_off116 12#32) (o2 := k0_off117 12#32) (o3 := ![6144, 0]) (by decide +kernel) (by decide +kernel))
  isplitl [W1]; · iexact W1
  isplitl [Ho]; · iexact Ho
  iintro D1 X1 C0 Ho
  iapply (wp_finish arg5 arg12 arg22 c 𝒱 bd (cbOf w) 16 (by decide) (o1 := k0_off116 13#32) (o2 := k0_off117 13#32) (o3 := ![6656, 0]) (by decide +kernel) (by decide +kernel))
  isplitl [W2]; · iexact W2
  isplitl [Ho]; · iexact Ho
  iintro D2 X2 C1 Ho
  ihave HE := HE $$ D0 D1 D2 X0 X1 X2
  icases HE with ⟨H5, H12⟩
  iapply (wt (c.tc : Thread nD τ) 𝒱 bd (N := arg3.view.dmaCredit) rfl)
  isplitl [F20]; · iexact F20
  isplitl [Ho]; · iexact Ho
  iintro ⟨H3, H8⟩ V20 Ho
  iapply (wt (c.tc : Thread nD τ) 𝒱 bd (N := arg2.view.dmaCredit) rfl)
  isplitl [F23]; · iexact F23
  isplitl [Ho]; · iexact Ho
  iintro ⟨H2, H14⟩ V23 Ho
  iapply (rt (c.tc : Thread nD τ) 𝒱 bd Set.univ (a := PUnit.unit))
  rw [s14, s15, s16]
  iapply HQ $$ H0 H1 H2 H3 H4 H5 H6 [H7] [H8] H9 H10 H11 H12 H13 [H14] [H15] [H16] [H17] [H18] V19 V20 V23 R0 R1 R2 R3 C0 C1 C2 Ho
  · iexists _; iexact H7
  · iexists _; iexact H8
  · iexists _; iexact H14
  · iexists _; iexact H15
  · iexists _; iexact H16
  · iexists _; iexact H17
  · iexists _; iexact H18

end Cert.KernelIdeal.Tr

end
-- ==== Proof.KernelIdeal.Launch.lean ====
/- The launch: the whole program runs to its end, leaves its arguments unchanged, every semaphore at zero, and its
   results hold what the body's run states. -/
module

public import proofs.«01_k».proof.Proof.KernelIdeal.Body
public import proofs.«01_k».proof.Proof.Gen.KernelIdeal.Frame
public import Idealize.ShloMosaic.Lib.Pipeline.Routed
public import Idealize.ShloMosaic.Lib.Pipeline.Value

@[expose] public section

set_option maxRecDepth 16384

noncomputable section

namespace Cert.KernelIdeal.Tr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.Own
open Facts₀ Facts
open Idealize.ShloMosaic.Pipeline (Dat Cfg Window BodyObligation cellOf)

attribute [local irreducible] core phaseA phaseB stA cAfter accAfter YV XSC XSV WSV XC WC

variable {F : FTy → Type} [FloatOps F]
local notation "𝕄" => MT nD τ sig Unit (Elt F) ℕ (Pipeline.UC sig nD τ) ℕ

variable (m : (ℓ : Loc nD τ sig) → Buf (Elt F) ℓ) (ρ : Dev nD → PrngReg)

abbrev 𝒱₀ : Variants := Variants.none

/-! ## Whole buffers -/

theorem own_of_pt (c : Dev nD) (b : Ref sig .tc) (f : Buf (Elt F) ((c.tc : Thread nD τ).loc b)) :
    (((c.tc : Thread nD τ).loc b) ↦{fullShare} f : sProp 𝕄) ⊢ mown (c.tc : Thread nD τ) (Memref.whole b) f := by
  unfold mown; simp only [Memref.view_whole, View.read_whole, View.set_whole]
  iintro H; iexists f
  isplitl [H]; · iexact H
  ipureintro; trivial

theorem pt_of_own (c : Dev nD) (b : Ref sig .tc) (f : Buf (Elt F) ((c.tc : Thread nD τ).loc b)) :
    (mown (c.tc : Thread nD τ) (Memref.whole b) f : sProp 𝕄) ⊢ ((c.tc : Thread nD τ).loc b) ↦{fullShare} f := by
  unfold mown; simp only [Memref.view_whole, View.read_whole, View.set_whole]
  iintro ⟨%g, H, %h⟩
  subst h
  iexact H

theorem own_of_ptE (c : Dev nD) (b : Ref sig .tc) :
    iprop(∃ f : Buf (Elt F) ((c.tc : Thread nD τ).loc b), ((c.tc : Thread nD τ).loc b) ↦{fullShare} f) ⊢ (iprop(∃ f, mown (c.tc : Thread nD τ) (Memref.whole b) f) : sProp 𝕄) := by
  iintro ⟨%f, H⟩; iexists f; iapply (own_of_pt c b f); iexact H

theorem ptE_of_own (c : Dev nD) (b : Ref sig .tc) :
    (iprop(∃ f, mown (c.tc : Thread nD τ) (Memref.whole b) f) : sProp 𝕄) ⊢ iprop(∃ f : Buf (Elt F) ((c.tc : Thread nD τ).loc b), ((c.tc : Thread nD τ).loc b) ↦{fullShare} f) := by
  iintro ⟨%f, H⟩; iexists f; iapply (pt_of_own c b f); iexact H

theorem own_of_owns (c : Dev nD) {sp : CoreSpace} {s : Shape} {e : EltTy} (b : Memref sig .tc sp s e) (X : s.Idx → Elt F e) :
    (owns (c.tc : Thread nD τ) b fullShare X : sProp 𝕄) ⊢ mown (c.tc : Thread nD τ) b X := by
  unfold owns mown
  iintro ⟨%f, %h, H⟩; iexists f
  isplitl [H]; · iexact H
  ipureintro; exact h

theorem owns_of_own (c : Dev nD) {sp : CoreSpace} {s : Shape} {e : EltTy} (b : Memref sig .tc sp s e) (X : s.Idx → Elt F e) :
    (mown (c.tc : Thread nD τ) b X : sProp 𝕄) ⊢ owns (c.tc : Thread nD τ) b fullShare X := by
  unfold owns mown
  iintro ⟨%f, H, %h⟩; iexists f
  isplitr [H]; · ipureintro; exact h
  iexact H

/-! ## The proof data -/

/-- `x` as the region finds it. -/
def xAt (c : Dev nD) : Vec F S200x7168 .bf16 := Gen.V m c main_v0
/-- `w` as the region finds it. -/
def wAt (c : Dev nD) : Vec F S7168x3072 .bf16 := Gen.V m c main_arg1

/-- The kernel's own semaphores. -/
def osem : Fin 10 → SemLoc sig := fun k =>
  if k = 0 then .dma cc0_scratch12.sem else if k = 1 then .dma cc0_scratch13.sem else if k = 2 then .dma cc0_scratch16.sem
  else if k.val < 7 then .dma (semR cc0_scratch14 (k.val - 3)) else .dma (semC cc0_scratch15 (k.val - 7))

theorem ownSemFacts : Pipeline.OwnSemFacts cfg0.spec osem := by decide +kernel

/-- The buffers left in the main memory that the body reaches by its own copies. -/
def R : Finset (Ref sig .tc) := {main_v0, main_arg1, main_v1_0, main_v1_1, main_v1_3}

/-- What they hold after the region. -/
def Y (c : Dev nD) : (b : Ref sig .tc) → Buf (Elt F) ((c.tc : Thread nD τ).loc b) :=
  Function.update (Function.update (Function.update (Gen.V m c) main_v1_0 (YV (xAt m c) (wAt m c))) main_v1_1 (XC (xAt m c))) main_v1_3 (WC (wAt m c))

theorem Y_v0 (c : Dev nD) : Y m c main_v0 = xAt m c := by
  unfold Y; rw [Function.update_of_ne (by decide), Function.update_of_ne (by decide), Function.update_of_ne (by decide)]; rfl
theorem Y_arg1 (c : Dev nD) : Y m c main_arg1 = wAt m c := by
  unfold Y; rw [Function.update_of_ne (by decide), Function.update_of_ne (by decide), Function.update_of_ne (by decide)]; rfl
theorem Y_v1_0 (c : Dev nD) : Y m c main_v1_0 = YV (xAt m c) (wAt m c) := by
  unfold Y; rw [Function.update_of_ne (by decide), Function.update_of_ne (by decide), Function.update_self]
theorem Y_v1_1 (c : Dev nD) : Y m c main_v1_1 = XC (xAt m c) := by
  unfold Y; rw [Function.update_of_ne (by decide), Function.update_self]
theorem Y_v1_3 (c : Dev nD) : Y m c main_v1_3 = WC (wAt m c) := by
  unfold Y; rw [Function.update_self]

abbrev E (c : Dev nD) (W : (b : Ref sig .tc) → Buf (Elt F) ((c.tc : Thread nD τ).loc b)) : sProp 𝕄 := Pipeline.Ends cfg0.spec osem R c W

def dats (_ : Fin 1) (c : Dev nD) : Dat τ (Elt F) Unit ℕ (Pipeline.UC sig nD τ) ℕ cfg0 c where
  A w := Gen.V m c (Pipeline.arrRef spec0 w)
  after w _ := match w with
    | ⟨0, _⟩ => XSV (xAt m c)
    | ⟨1, _⟩ => WSV (wAt m c)
  Φ t := E c (if t.val = 0 then Gen.V m c else Y m c)
  q _ := fullShare
  owed _ := 0

/-- The end's parts, one by one. -/
theorem E_eq (c : Dev nD) (W : (b : Ref sig .tc) → Buf (Elt F) ((c.tc : Thread nD τ).loc b)) :
    E c W = iprop(((((c.tc : Thread nD τ).loc main_v0) ↦{fullShare} W main_v0) ∗ (((c.tc : Thread nD τ).loc main_arg1) ↦{fullShare} W main_arg1)
        ∗ (((c.tc : Thread nD τ).loc main_v1_0) ↦{fullShare} W main_v1_0) ∗ (((c.tc : Thread nD τ).loc main_v1_1) ↦{fullShare} W main_v1_1)
        ∗ (((c.tc : Thread nD τ).loc main_v1_3) ↦{fullShare} W main_v1_3))
      ∗ (semVal ((c.tc : Thread nD τ), .dma cc0_scratch12.sem) 0 ∗ semVal ((c.tc : Thread nD τ), .dma cc0_scratch13.sem) 0 ∗ semVal ((c.tc : Thread nD τ), .dma cc0_scratch16.sem) 0
        ∗ semVal ((c.tc : Thread nD τ), .dma (semR cc0_scratch14 0)) 0 ∗ semVal ((c.tc : Thread nD τ), .dma (semR cc0_scratch14 1)) 0
        ∗ semVal ((c.tc : Thread nD τ), .dma (semR cc0_scratch14 2)) 0 ∗ semVal ((c.tc : Thread nD τ), .dma (semR cc0_scratch14 3)) 0
        ∗ semVal ((c.tc : Thread nD τ), .dma (semC cc0_scratch15 0)) 0 ∗ semVal ((c.tc : Thread nD τ), .dma (semC cc0_scratch15 1)) 0 ∗ semVal ((c.tc : Thread nD τ), .dma (semC cc0_scratch15 2)) 0)
      ∗ Pipeline.scopedRest (Ix := Unit) (Name := ℕ) (U := Pipeline.UC sig nD τ) (Lvl := ℕ) (Val := Elt F) spec0 c ∗ ∃ r, prngReg c r) := by
  unfold E Pipeline.Ends Pipeline.routed
  rw [bigSep_eq_bigSepL_of_eq [main_v0, main_arg1, main_v1_0, main_v1_1, main_v1_3] (by decide) (by decide),
    Pipeline.ownSems0_eq_of_list c osem [0, 1, 2, 3, 4, 5, 6, 7, 8, 9] (by decide) (by decide)]
  rfl

theorem owes_in (c : Dev nD) (t : Fin (cfg0.N + 1)) : (dats m 0 c).owesAt () t ⊢ (owesNone (c.tc : Thread nD τ) : sProp 𝕄) := by
  unfold Dat.owesAt Pipeline.owesWithin owesNone
  iintro ⟨%W, -, H⟩; iexists W; iexact H

theorem owes_out (c : Dev nD) (t : Fin (cfg0.N + 1)) : (owesNone (c.tc : Thread nD τ) : sProp 𝕄) ⊢ (dats m 0 c).owesAt () t := by
  unfold Dat.owesAt Pipeline.owesWithin owesNone
  iintro ⟨%W, H⟩; iexists W
  isplitr [H]
  · ipureintro; intro a _; exact Or.inl trivial
  iexact H

theorem body_obligation (c : Dev nD) : BodyObligation (dats m 0 c) (defs₀ (F := F)) 𝒱₀ () Set.univ := fun t => by
  obtain rfl := Gen.fin_N0 t
  rw [Gen.bigSep_W0, Gen.bigSep_W0,
    show (dats m 0 c).Φ Gen.t0_0.castSucc = E c (Gen.V m c) from rfl, show (dats m 0 c).Φ Gen.t0_0.succ = E c (Y m c) from rfl,
    E_eq, E_eq, Gen.scopedRest0_eq, Y_v0, Y_arg1, Y_v1_0, Y_v1_1, Y_v1_3]
  change _ ⊢ wp frame (wpE (defs₀ (F := F)) 𝒱₀ c none) Set.univ (Gen.bodyAt0 Gen.t0_0) _
  iintro ⟨⟨⟨H0, H1, H2, H3, H5⟩, ⟨V19, V20, V23, R0, R1, R2, R3, C0, C1, C2⟩, ⟨H7, H8, H9, H10, H11, H12, H13, H14, H15, H16, H17, H18⟩, Hg⟩, Ho,
    ⟨%d4, H4⟩, ⟨%d6, H6⟩⟩
  iapply (wp_body _ _ _ _ _ _ _ _ _ _ _ _ _ _ _ _ _ _ _ _ _ _ _ _ _ _ _ _ _ _ _ _ _ _ _ _ _ _ _ _ _ _ _ c 𝒱₀ none (xAt m c) (wAt m c))
  isplitl [H0]; · iapply (own_of_pt c main_v0 (xAt m c)); iexact H0
  isplitl [H1]; · iapply (own_of_pt c main_arg1 (wAt m c)); iexact H1
  isplitl [H2]; · iexists _; iapply (own_of_pt c main_v1_0 _); iexact H2
  isplitl [H3]; · iexists _; iapply (own_of_pt c main_v1_1 _); iexact H3
  isplitl [H4]; · iexists _; iapply (own_of_owns c _ _); iexact H4
  isplitl [H5]; · iexists _; iapply (own_of_pt c main_v1_3 _); iexact H5
  isplitl [H6]; · iexists _; iapply (own_of_owns c _ _); iexact H6
  isplitl [H7]; · iapply (own_of_ptE c cc0_scratch0); iexact H7
  isplitl [H8]; · iapply (own_of_ptE c cc0_scratch1); iexact H8
  isplitl [H9]; · iapply (own_of_ptE c cc0_scratch2); iexact H9
  isplitl [H10]; · iapply (own_of_ptE c cc0_scratch3); iexact H10
  isplitl [H11]; · iapply (own_of_ptE c cc0_scratch4); iexact H11
  isplitl [H12]; · iapply (own_of_ptE c cc0_scratch5); iexact H12
  isplitl [H13]; · iapply (own_of_ptE c cc0_scratch6); iexact H13
  isplitl [H14]; · iapply (own_of_ptE c cc0_scratch7); iexact H14
  isplitl [H15]; · iapply (own_of_ptE c cc0_scratch8); iexact H15
  isplitl [H16]; · iapply (own_of_ptE c cc0_scratch9); iexact H16
  isplitl [H17]; · iapply (own_of_ptE c cc0_scratch10); iexact H17
  isplitl [H18]; · iapply (own_of_ptE c cc0_scratch11); iexact H18
  isplitl [V19]; · iexact V19
  isplitl [V20]; · iexact V20
  isplitl [V23]; · iexact V23
  isplitl [R0]; · iexact R0
  isplitl [R1]; · iexact R1
  isplitl [R2]; · iexact R2
  isplitl [R3]; · iexact R3
  isplitl [C0]; · iexact C0
  isplitl [C1]; · iexact C1
  isplitl [C2]; · iexact C2
  isplitl [Ho]; · iapply (owes_in m c _); iexact Ho
  iintro H0 H1 H2 H3 H4 H5 H6 H7 H8 H9 H10 H11 H12 H13 H14 H15 H16 H17 H18 V19 V20 V23 R0 R1 R2 R3 C0 C1 C2 Ho
  isplitr [Ho H4 H6]
  · isplitl [H0 H1 H2 H3 H5]
    · isplitl [H0]; · iapply (pt_of_own c main_v0 _); iexact H0
      isplitl [H1]; · iapply (pt_of_own c main_arg1 _); iexact H1
      isplitl [H2]; · iapply (pt_of_own c main_v1_0 _); iexact H2
      isplitl [H3]; · iapply (pt_of_own c main_v1_1 _); iexact H3
      iapply (pt_of_own c main_v1_3 _); iexact H5
    isplitl [V19 V20 V23 R0 R1 R2 R3 C0 C1 C2]
    · isplitl [V19]; · iexact V19
      isplitl [V20]; · iexact V20
      isplitl [V23]; · iexact V23
      isplitl [R0]; · iexact R0
      isplitl [R1]; · iexact R1
      isplitl [R2]; · iexact R2
      isplitl [R3]; · iexact R3
      isplitl [C0]; · iexact C0
      isplitl [C1]; · iexact C1
      iexact C2
    isplitr [Hg]
    · isplitl [H7]; · iapply (ptE_of_own c cc0_scratch0); iexact H7
      isplitl [H8]; · iapply (ptE_of_own c cc0_scratch1); iexact H8
      isplitl [H9]; · iapply (ptE_of_own c cc0_scratch2); iexact H9
      isplitl [H10]; · iapply (ptE_of_own c cc0_scratch3); iexact H10
      isplitl [H11]; · iapply (ptE_of_own c cc0_scratch4); iexact H11
      isplitl [H12]; · iapply (ptE_of_own c cc0_scratch5); iexact H12
      isplitl [H13]; · iapply (ptE_of_own c cc0_scratch6); iexact H13
      isplitl [H14]; · iapply (ptE_of_own c cc0_scratch7); iexact H14
      isplitl [H15]; · iapply (ptE_of_own c cc0_scratch8); iexact H15
      isplitl [H16]; · iapply (ptE_of_own c cc0_scratch9); iexact H16
      isplitl [H17]; · iapply (ptE_of_own c cc0_scratch10); iexact H17
      iapply (ptE_of_own c cc0_scratch11); iexact H18
    iexact Hg
  isplitl [Ho]; · iapply (owes_out m c _); iexact Ho
  isplitl [H4]; · iapply (owns_of_own c (Gen.st0_0 Gen.t0_0) (XSV (xAt m c))); iexact H4
  iapply (owns_of_own c (Gen.st0_1 Gen.t0_0) (WSV (wAt m c))); iexact H6

/-! ## The launch -/

set_option maxHeartbeats 800000 in
theorem hmain : Pipeline.HMain (Ix := Unit) (Name := ℕ) (U := Pipeline.UC sig nD τ) (Lvl := ℕ) cfgs 0 defs₀ 𝒱₀ m (main (F := F)) (Gen.V m) :=
  Pipeline.hmain_prefix cfgs 0 defs₀ 𝒱₀ m main Gen.hostOps0 Gen.hostOps0_sub Gen.hostOps0_fresh Gen.main_chain

theorem R_sub : R ⊆ Pipeline.restRefs sig cfg0.spec := by decide

theorem run : θ_run (defs (F := F)) (onTc (τ := τ) (main (F := F))) (s₀ m ρ)
    (fun r => Pipeline.RoutedPost cfgs (dats m) 0 R (Gen.V m) (Y m) r ∧ r.2.sem = fun _ => 0) :=
  Pipeline.θ_run_frame_routed cfgs (dats m) 0 Gen.launch0 ownSemFacts defs₀ 𝒱₀ m ρ main
    (fun c => (body_obligation m c).loose) (fun c w => Dat.share_full _ (fun _ => rfl) w) (fun _ _ => rfl)
    (Gen.V m) (hmain m) (fun _ _ => rfl) R R_sub (Y m) (fun _ => .rfl) (fun _ => .rfl) (Q' := _) (hQ' := fun _ h => h)

/-- The program runs to its end without fault, its arguments unchanged and every semaphore at zero. -/
theorem quiescent : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((h.1 c).2.2 main_arg0 (by decide)).trans (Gen.V_main_arg0 m c),
     ((h.1 c).2.1 main_arg1 (by decide)).trans ((Y_arg1 m c).trans (Gen.V_main_arg1 m c))⟩, h.2⟩) (run m ρ)

end Cert.KernelIdeal.Tr

end
-- ==== Proof.Quant.Exponent.lean ====
/- The exponent of a block's scale over the extended reals: the binary search over the powers of two finds the same
   exponent as the logarithm's integer part, and the words built of it denote the powers of two. -/
module

public import Idealize.ShloMosaic.Lib.Pointwise

@[expose] public section

set_option maxRecDepth 16384

noncomputable section

namespace Cert.Quant

open Idealize.ShloMosaic

/-! ## Words that are powers of two -/

/-- A word with no sign, no fraction and biased exponent `n` denotes `2 ^ (n - 127)`. -/
theorem ieee_pow (m : ℕ) {w : ℕ} (b : BitVec w) (n : ℕ) (h1 : 1 ≤ n) (h2 : n ≤ 254) (hs : (b.extractLsb' (8 + m) 1 == 1#1) = false)
    (hx : (b.extractLsb' m 8).toNat = n) (hf : (b.extractLsb' 0 m).toNat = 0) :
    Ideal.ieee 8 m b = (((2 : ℝ) ^ ((n : ℤ) - 127) : ℝ) : EReal) := by
  unfold Ideal.ieee
  dsimp only
  rw [hs, hx, hf, if_neg (by norm_num; omega), if_neg (by omega)]
  congr 1
  have : ((n : ℤ) - (2 ^ (8 - 1) - 1) - (m : ℕ)) = (n : ℤ) - 127 - (m : ℤ) := by norm_num
  rw [this, zpow_sub₀ (by norm_num : (2 : ℝ) ≠ 0) ((n : ℤ) - 127) (m : ℤ), zpow_natCast]
  have hm : (2 : ℝ) ^ m ≠ 0 := by positivity
  push_cast
  simp only [Bool.false_eq_true, if_false, add_zero, one_mul]
  field_simp

theorem ieee_zero (m : ℕ) {w : ℕ} (b : BitVec w) (hx : (b.extractLsb' m 8).toNat = 0) (hf : (b.extractLsb' 0 m).toNat = 0) :
    Ideal.ieee 8 m b = 0 := by
  unfold Ideal.ieee
  dsimp only
  rw [hx, hf, if_neg (by norm_num), if_pos rfl]
  simp

theorem ieee_top (m : ℕ) {w : ℕ} (b : BitVec w) (hs : (b.extractLsb' (8 + m) 1 == 1#1) = false)
    (hx : (b.extractLsb' m 8).toNat = 255) (hf : (b.extractLsb' 0 m).toNat = 0) :
    Ideal.ieee 8 m b = ⊤ := by
  unfold Ideal.ieee
  dsimp only
  rw [hs, hx, hf, if_pos (by norm_num), if_pos rfl]
  simp

/-- The f32 word of biased exponent `n`. -/
def w32 (n : ℕ) : BitVec 32 := BitVec.ofNat 32 n <<< 23
/-- The bf16 word of biased exponent `n`. -/
def w16 (n : ℕ) : BitVec 16 := BitVec.ofNat 16 n <<< 7

theorem f32_ex : ∀ n : Fin 256, ((w32 n.val).extractLsb' 23 8).toNat = n.val := by decide +kernel
theorem f32_sg : ∀ n : Fin 256, ((w32 n.val).extractLsb' (8 + 23) 1 == 1#1) = false := by decide +kernel
theorem f32_fr : ∀ n : Fin 256, ((w32 n.val).extractLsb' 0 23).toNat = 0 := by decide +kernel
theorem bf16_ex : ∀ n : Fin 256, ((w16 n.val).extractLsb' 7 8).toNat = n.val := by decide +kernel
theorem bf16_sg : ∀ n : Fin 256, ((w16 n.val).extractLsb' (8 + 7) 1 == 1#1) = false := by decide +kernel
theorem bf16_fr : ∀ n : Fin 256, ((w16 n.val).extractLsb' 0 7).toNat = 0 := by decide +kernel

/-- The f32 word of biased exponent `n` is `2 ^ (n - 127)`. -/
theorem f32_pow (n : ℕ) (h1 : 1 ≤ n) (h2 : n ≤ 254) : Ideal.ofBits .f32 (w32 n) = (((2 : ℝ) ^ ((n : ℤ) - 127) : ℝ) : EReal) :=
  ieee_pow 23 (w32 n) n h1 h2 (f32_sg ⟨n, by omega⟩) (f32_ex ⟨n, by omega⟩) (f32_fr ⟨n, by omega⟩)

/-- The bf16 word of biased exponent `n` is `2 ^ (n - 127)`. -/
theorem bf16_pow (n : ℕ) (h1 : 1 ≤ n) (h2 : n ≤ 254) : Ideal.ofBits .bf16 (w16 n) = (((2 : ℝ) ^ ((n : ℤ) - 127) : ℝ) : EReal) :=
  ieee_pow 7 (w16 n) n h1 h2 (bf16_sg ⟨n, by omega⟩) (bf16_ex ⟨n, by omega⟩) (bf16_fr ⟨n, by omega⟩)

theorem f32_zero : Ideal.ofBits .f32 (w32 0) = 0 := ieee_zero 23 (w32 0) (f32_ex ⟨0, by omega⟩) (f32_fr ⟨0, by omega⟩)
theorem f32_top : Ideal.ofBits .f32 (w32 255) = ⊤ := ieee_top 23 (w32 255) (f32_sg ⟨255, by omega⟩) (f32_ex ⟨255, by omega⟩) (f32_fr ⟨255, by omega⟩)

/-! ## The search -/

/-- One step of a search: bit `b` is kept when the test says so. -/
def bitC (c : BitVec 32 → Bool) (b eb : BitVec 32) : BitVec 32 := if c (eb ||| b) then eb ||| b else eb
/-- The search over eight bits. -/
def srch (c : BitVec 32 → Bool) : BitVec 32 :=
  bitC c 1#32 (bitC c 2#32 (bitC c 4#32 (bitC c 8#32 (bitC c 16#32 (bitC c 32#32 (bitC c 64#32 (bitC c 128#32 0#32)))))))

theorem or_lt {b eb : BitVec 32} (hb : b.toNat < 256) (he : eb.toNat < 256) : (eb ||| b).toNat < 256 := by
  rw [BitVec.toNat_or]; exact Nat.or_lt_two_pow (n := 8) he hb

theorem bitC_lt (c : BitVec 32 → Bool) {b eb : BitVec 32} (hb : b.toNat < 256) (he : eb.toNat < 256) : (bitC c b eb).toNat < 256 := by
  unfold bitC
  split
  · exact or_lt hb he
  · exact he

theorem bitC_congr {c c' : BitVec 32 → Bool} (h : ∀ t, t.toNat < 256 → c t = c' t) {b eb : BitVec 32} (hb : b.toNat < 256) (he : eb.toNat < 256) :
    bitC c b eb = bitC c' b eb := by
  unfold bitC
  rw [h _ (or_lt hb he)]

/-- The search asks only words below 256. -/
theorem srch_congr {c c' : BitVec 32 → Bool} (h : ∀ t, t.toNat < 256 → c t = c' t) : srch c = srch c' := by
  have z : (0#32).toNat < 256 := by decide
  have h7 := bitC_lt c (b := 128#32) (by decide) z
  have h6 := bitC_lt c (b := 64#32) (by decide) h7
  have h5 := bitC_lt c (b := 32#32) (by decide) h6
  have h4 := bitC_lt c (b := 16#32) (by decide) h5
  have h3 := bitC_lt c (b := 8#32) (by decide) h4
  have h2 := bitC_lt c (b := 4#32) (by decide) h3
  have h1 := bitC_lt c (b := 2#32) (by decide) h2
  unfold srch
  rw [bitC_congr h (by decide) h1, bitC_congr h (by decide) h2, bitC_congr h (by decide) h3, bitC_congr h (by decide) h4,
    bitC_congr h (by decide) h5, bitC_congr h (by decide) h6, bitC_congr h (by decide) h7, bitC_congr h (by decide) z]

/-- The search finds the bound of a downward closed test. -/
theorem srch_le : ∀ n : Fin 256, srch (fun t => decide (t.toNat ≤ n.val)) = BitVec.ofNat 32 n.val := by decide +kernel

/-- The search's test: the power of two of the word is at most `q`. -/
def tst (q : EReal) (t : BitVec 32) : Bool := decide (Ideal.ofBits .f32 (t <<< 23 : BitVec 32) ≤ q)

/-- The exponent the search gives, biased by 126. -/
def expoS (q : EReal) : BitVec 32 := if srch (tst q) = 0#32 ∨ srch (tst q) = 255#32 then 126#32 else srch (tst q)

/-- The exponent by the logarithm's integer part; 0 below the least normal number. -/
def eR (q : EReal) : EReal :=
  if q < Ideal.ofBits .f32 0x00800000#32 then 0
  else Ideal.liftRound Int.floor (Ideal.div (Ideal.log q) (Ideal.log (Ideal.ofBits .f32 0x40000000#32))) + 1

theorem c_min : Ideal.ofBits .f32 0x00800000#32 = (((2 : ℝ) ^ (-126 : ℤ) : ℝ) : EReal) := by
  have := f32_pow 1 (by omega) (by omega)
  rw [show w32 1 = 0x00800000#32 by decide] at this
  rw [this]; norm_num

theorem c_two : Ideal.ofBits .f32 0x40000000#32 = ((2 : ℝ) : EReal) := by
  have := f32_pow 128 (by omega) (by omega)
  rw [show w32 128 = 0x40000000#32 by decide] at this
  rw [this]; norm_num

theorem c_one : Ideal.ofBits .f32 0x3F800000#32 = 1 := by
  have := f32_pow 127 (by omega) (by omega)
  rw [show w32 127 = 0x3F800000#32 by decide] at this
  rw [this]; norm_num

/-- The integer part of the base-2 logarithm. -/
def lg (r : ℝ) : ℤ := ⌊Real.log r * (Real.log 2)⁻¹⌋

theorem zpow_le_iff {r : ℝ} (hr : 0 < r) (k : ℤ) : (2 : ℝ) ^ k ≤ r ↔ k ≤ lg r := by
  have h2 : 0 < Real.log 2 := Real.log_pos (by norm_num)
  unfold lg
  rw [Int.le_floor, ← div_eq_mul_inv, le_div_iff₀ h2, ← Real.log_zpow,
    Real.log_le_log_iff (by positivity) hr]

/-- The two exponents agree, and are those of a normal number well inside the range. -/
theorem expo_spec (q : EReal) (h0 : 0 ≤ q) (h1 : q < (((2 : ℝ) ^ (120 : ℤ) : ℝ) : EReal)) :
    ∃ n : ℕ, 1 ≤ n ∧ n ≤ 247 ∧ expoS q = BitVec.ofNat 32 n ∧ eR q = ((((n : ℤ) - 126 : ℤ) : ℝ) : EReal) := by
  induction q using EReal.rec with
  | bot => exact absurd h0 (by simp)
  | top => exact absurd h1 (by simp)
  | coe r =>
    have hr0 : 0 ≤ r := by exact_mod_cast h0
    have hr1 : r < (2 : ℝ) ^ (120 : ℤ) := EReal.coe_lt_coe_iff.mp h1
    by_cases hs : r < (2 : ℝ) ^ (-126 : ℤ)
    · refine ⟨126, by omega, by omega, ?_, ?_⟩
      · have : srch (tst (r : EReal)) = 0#32 := by
          rw [srch_congr (c' := fun t => decide (t.toNat ≤ (⟨0, by omega⟩ : Fin 256).val)) ?_]
          · exact srch_le ⟨0, by omega⟩
          intro t ht
          unfold tst
          congr 1
          have et : (t <<< 23 : BitVec 32) = w32 t.toNat := by unfold w32; simp
          apply propext
          by_cases t0 : t.toNat = 0
          · rw [et, t0, f32_zero]; simp [hr0]
          · by_cases t255 : t.toNat = 255
            · rw [et, t255, f32_top]; simp
            · rw [et, f32_pow _ (by omega) (by omega)]
              rw [EReal.coe_le_coe_iff]
              constructor
              · intro h
                exfalso
                have : (2 : ℝ) ^ (-126 : ℤ) ≤ 2 ^ ((t.toNat : ℤ) - 127) := zpow_le_zpow_right₀ (by norm_num) (by omega)
                linarith
              · intro h; dsimp only at h; omega
        unfold expoS
        rw [this]; simp
      · unfold eR
        rw [c_min, if_pos (EReal.coe_lt_coe_iff.mpr hs)]
        simp
    · have hs' : (2 : ℝ) ^ (-126 : ℤ) ≤ r := not_lt.mp hs
      have hpos : 0 < r := lt_of_lt_of_le (by positivity) hs'
      have k1 : -126 ≤ lg r := (zpow_le_iff hpos _).mp hs'
      have k2 : lg r < 120 := by
        by_contra h
        have := (zpow_le_iff hpos 120).mpr (not_lt.mp h)
        linarith
      obtain ⟨n, hn⟩ : ∃ n : ℕ, (n : ℤ) = lg r + 127 := ⟨(lg r + 127).toNat, by omega⟩
      refine ⟨n, by omega, by omega, ?_, ?_⟩
      · have : srch (tst (r : EReal)) = BitVec.ofNat 32 n := by
          rw [srch_congr (c' := fun t => decide (t.toNat ≤ (⟨n, by omega⟩ : Fin 256).val)) ?_]
          · exact srch_le ⟨n, by omega⟩
          intro t ht
          unfold tst
          congr 1
          have et : (t <<< 23 : BitVec 32) = w32 t.toNat := by unfold w32; simp
          apply propext
          by_cases t0 : t.toNat = 0
          · rw [et, t0, f32_zero]; simp [hr0]
          · by_cases t255 : t.toNat = 255
            · rw [et, t255, f32_top]; simp only [top_le_iff, EReal.coe_ne_top, false_iff]; omega
            · rw [et, f32_pow _ (by omega) (by omega)]
              have key := zpow_le_iff hpos ((t.toNat : ℤ) - 127)
              rw [EReal.coe_le_coe_iff]
              rw [key]
              dsimp only
              omega
        unfold expoS
        rw [this, if_neg]
        intro h
        rcases h with h | h
        · have := congrArg BitVec.toNat h
          simp at this
          omega
        · have := congrArg BitVec.toNat h
          simp at this
          omega
      · unfold eR
        rw [c_min, c_two, if_neg (by rw [EReal.coe_lt_coe_iff]; exact hs)]
        have l1 : Ideal.log (r : EReal) = (Real.log r : EReal) := by
          show (if r ≤ 0 then ⊥ else (Real.log r : EReal)) = _
          rw [if_neg (not_le.mpr hpos)]
        have l2 : Ideal.log ((2 : ℝ) : EReal) = (Real.log 2 : EReal) := by
          show (if (2 : ℝ) ≤ 0 then ⊥ else (Real.log 2 : EReal)) = _
          rw [if_neg (by norm_num)]
        have l3 : (Real.log 2 : EReal) ≠ 0 := by
          have : Real.log 2 ≠ 0 := (Real.log_pos (by norm_num)).ne'
          exact_mod_cast this
        rw [l1, l2]
        unfold Ideal.div
        rw [if_neg l3, ← EReal.coe_inv, ← EReal.coe_mul]
        show (((⌊Real.log r * (Real.log 2)⁻¹⌋ : ℝ) : EReal)) + 1 = _
        rw [show ⌊Real.log r * (Real.log 2)⁻¹⌋ = lg r from rfl]
        have e : ((n : ℤ) - 126 : ℤ) = lg r + 1 := by omega
        rw [e]
        push_cast
        rfl

end Cert.Quant
-- ==== Proof.Quant.Derived.lean ====
/- What follows of the exponent for the scales: the powers of two made from its bits, its code, the range of the
   quotients. -/
module

public import proofs.«01_k».proof.Proof.Quant.Exponent

@[expose] public section

set_option maxRecDepth 16384

noncomputable section

namespace Cert.Quant

open Idealize.ShloMosaic

/-- A word of biased exponent `n` and fraction `f`, with or without the sign. -/
theorem ieee_norm (m : ℕ) {w : ℕ} (b : BitVec w) (n f : ℕ) (s : Bool) (h1 : 1 ≤ n) (h2 : n ≤ 254) (hs : (b.extractLsb' (8 + m) 1 == 1#1) = s)
    (hx : (b.extractLsb' m 8).toNat = n) (hf : (b.extractLsb' 0 m).toNat = f) :
    Ideal.ieee 8 m b = (((if s then (-1 : ℝ) else 1) * ((2 ^ m + f : ℕ) : ℝ) * (2 : ℝ) ^ ((n : ℤ) - 127 - m) : ℝ) : EReal) := by
  unfold Ideal.ieee
  dsimp only
  rw [hs, hx, hf, if_neg (by norm_num; omega), if_neg (by omega)]
  congr 1
theorem c_q : Ideal.ofBits .f32 0x3B124925#32 = (((9586981 : ℝ) * (2 : ℝ) ^ (-32 : ℤ) : ℝ) : EReal) := by
  refine (ieee_norm 23 0x3B124925#32 118 1198373 false (by omega) (by omega) (by decide) (by decide) (by decide)).trans ?_
  norm_num
theorem c_max : Ideal.ofBits .bf16 0x7F7F#16 = (((255 : ℝ) * (2 : ℝ) ^ (120 : ℤ) : ℝ) : EReal) := by
  refine (ieee_norm 7 0x7F7F#16 254 127 false (by omega) (by omega) (by decide) (by decide) (by decide)).trans ?_
  norm_num
theorem c_448 : Ideal.ofBits .bf16 0x43E0#16 = Ideal.ofBits .f32 0x43E00000#32 := by
  refine (ieee_norm 7 0x43E0#16 135 96 false (by omega) (by omega) (by decide) (by decide) (by decide)).trans ?_
  refine Eq.trans ?_ (ieee_norm 23 0x43E00000#32 135 6291456 false (by omega) (by omega) (by decide) (by decide) (by decide)).symm
  norm_num
theorem c_m448 : Ideal.ofBits .bf16 0xC3E0#16 = Ideal.ofBits .f32 0xC3E00000#32 := by
  refine (ieee_norm 7 0xC3E0#16 135 96 true (by omega) (by omega) (by decide) (by decide) (by decide)).trans ?_
  refine Eq.trans ?_ (ieee_norm 23 0xC3E00000#32 135 6291456 true (by omega) (by omega) (by decide) (by decide) (by decide)).symm
  norm_num
theorem c_127 : Ideal.ofBits .f32 0x42FE0000#32 = ((127 : ℝ) : EReal) := by
  refine (ieee_norm 23 0x42FE0000#32 133 8257536 false (by omega) (by omega) (by decide) (by decide) (by decide)).trans ?_
  norm_num
theorem c_bot : Ideal.ofBits .f32 0xFF800000#32 = ⊥ := by
  show Ideal.ieee 8 23 (0xFF800000#32 : BitVec 32) = ⊥
  unfold Ideal.ieee
  dsimp only
  rw [show ((0xFF800000#32 : BitVec 32).extractLsb' 23 8).toNat = 255 by decide, show ((0xFF800000#32 : BitVec 32).extractLsb' 0 23).toNat = 0 by decide,
    show ((0xFF800000#32 : BitVec 32).extractLsb' (8 + 23) 1 == 1#1) = true by decide, if_pos (by norm_num), if_pos rfl]
  simp
theorem c_bot16 : Ideal.ofBits .bf16 0xFF80#16 = ⊥ := by
  show Ideal.ieee 8 7 (0xFF80#16 : BitVec 16) = ⊥
  unfold Ideal.ieee
  dsimp only
  rw [show ((0xFF80#16 : BitVec 16).extractLsb' 7 8).toNat = 255 by decide, show ((0xFF80#16 : BitVec 16).extractLsb' 0 7).toNat = 0 by decide,
    show ((0xFF80#16 : BitVec 16).extractLsb' (8 + 7) 1 == 1#1) = true by decide, if_pos (by norm_num), if_pos rfl]
  simp

/-- A quotient well inside the range. -/
def Ok (q : EReal) : Prop := 0 ≤ q ∧ q < (((2 : ℝ) ^ (120 : ℤ) : ℝ) : EReal)

/-- The quotient of a finite bf16 magnitude is well inside the range. -/
theorem ok_of_le (a : EReal) (h0 : 0 ≤ a) (h1 : a ≤ Ideal.ofBits .bf16 0x7F7F#16) : Ok (a * Ideal.ofBits .f32 0x3B124925#32) := by
  rw [c_max] at h1
  rw [c_q]
  induction a using EReal.rec with
  | bot => exact absurd h0 (by simp)
  | top => exact absurd h1 (not_le.mpr (EReal.coe_lt_top _))
  | coe r =>
    have hr0 : 0 ≤ r := by exact_mod_cast h0
    have hr1 : r ≤ 255 * (2 : ℝ) ^ (120 : ℤ) := EReal.coe_le_coe_iff.mp h1
    rw [← EReal.coe_mul]
    constructor
    · exact_mod_cast mul_nonneg hr0 (by positivity)
    · rw [EReal.coe_lt_coe_iff]
      refine lt_of_le_of_lt (mul_le_mul_of_nonneg_right hr1 (by positivity)) ?_
      norm_num

theorem exp2_int (k : ℤ) : Ideal.exp2 ((((k : ℤ) : ℝ)) : EReal) = (((2 : ℝ) ^ k : ℝ) : EReal) := by
  show ((Real.rpow 2 (k : ℝ) : ℝ) : EReal) = _
  congr 1
  exact Real.rpow_intCast 2 k

theorem sub_w : ∀ n : Fin 248, ((253#32 - BitVec.ofNat 32 n.val) <<< 23 : BitVec 32) = w32 (253 - n.val) := by decide +kernel
theorem add_w : ∀ n : Fin 248, ((BitVec.ofNat 32 n.val + 1#32) <<< 23 : BitVec 32) = w32 (n.val + 1) := by decide +kernel
/-- A half word in both halves. -/
def pw (h : BitVec 32) : BitVec 32 := h ||| h <<< 16
theorem sub_h : ∀ n : Fin 248, ∀ k : Fin 2, (pw ((253#32 - BitVec.ofNat 32 n.val) <<< 7 : BitVec 32)).extractLsb' (16 * k.val) 16 = w16 (253 - n.val) := by decide +kernel
theorem add_h : ∀ n : Fin 248, ∀ k : Fin 2, (pw ((BitVec.ofNat 32 n.val + 1#32) <<< 7 : BitVec 32)).extractLsb' (16 * k.val) 16 = w16 (n.val + 1) := by decide +kernel

theorem e_neg (n : ℕ) : (0 : EReal) - ((((n : ℤ) - 126 : ℤ) : ℝ) : EReal) = ((((126 - n : ℤ)) : ℝ) : EReal) := by
  rw [show (0 : EReal) = ((0 : ℝ) : EReal) from rfl, ← EReal.coe_sub]
  congr 1
  push_cast
  ring

theorem inv32 {q : EReal} (h : Ok q) : Ideal.ofBits .f32 ((253#32 - expoS q) <<< 23 : BitVec 32) = Ideal.exp2 (0 - eR q) := by
  obtain ⟨n, h1, h2, he, hr⟩ := expo_spec q h.1 h.2
  rw [he, hr, sub_w ⟨n, by omega⟩, f32_pow _ (by omega) (by dsimp only; omega), e_neg, exp2_int]
  congr 2
  dsimp only
  omega
theorem sc32 {q : EReal} (h : Ok q) : Ideal.ofBits .f32 ((expoS q + 1#32) <<< 23 : BitVec 32) = Ideal.exp2 (eR q) := by
  obtain ⟨n, h1, h2, he, hr⟩ := expo_spec q h.1 h.2
  rw [he, hr, add_w ⟨n, by omega⟩, f32_pow _ (by omega) (by dsimp only; omega), exp2_int]
  congr 2
  dsimp only
  omega
theorem inv16 {q : EReal} (h : Ok q) (k : ℕ) (hk : k < 2) :
    Ideal.ofBits .bf16 ((pw ((253#32 - expoS q) <<< 7 : BitVec 32)).extractLsb' (16 * k) 16) = Ideal.exp2 (0 - eR q) := by
  obtain ⟨n, h1, h2, he, hr⟩ := expo_spec q h.1 h.2
  rw [he, hr, sub_h ⟨n, by omega⟩ ⟨k, hk⟩, bf16_pow _ (by omega) (by dsimp only; omega), e_neg, exp2_int]
  congr 2
  dsimp only
  omega
theorem sc16 {q : EReal} (h : Ok q) (k : ℕ) (hk : k < 2) :
    Ideal.ofBits .bf16 ((pw ((expoS q + 1#32) <<< 7 : BitVec 32)).extractLsb' (16 * k) 16) = Ideal.exp2 (eR q) := by
  obtain ⟨n, h1, h2, he, hr⟩ := expo_spec q h.1 h.2
  rw [he, hr, add_h ⟨n, by omega⟩ ⟨k, hk⟩, bf16_pow _ (by omega) (by dsimp only; omega), exp2_int]
  congr 2
  dsimp only
  omega
/-- The code of the scale. -/
theorem code {q : EReal} (h : Ok q) : expoS q + 1#32 = Ideal.fptosi 32 (eR q + Ideal.ofBits .f32 0x42FE0000#32) := by
  obtain ⟨n, h1, h2, he, hr⟩ := expo_spec q h.1 h.2
  rw [he, hr, c_127, ← EReal.coe_add]
  rw [show ((((n : ℤ) - 126 : ℤ) : ℝ) + 127 : ℝ) = (((n + 1 : ℕ) : ℤ) : ℝ) by push_cast; ring]
  have key : ∀ k : ℕ, k < 256 → Ideal.fptosi 32 ((((k : ℤ) : ℝ)) : EReal) = BitVec.ofNat 32 k := by
    intro k hk
    show BitVec.ofInt 32 (max (-(2 ^ (32 - 1) : ℕ)) (min (((2 ^ (32 - 1) : ℕ) : ℤ) - 1) (if 0 ≤ (((k : ℤ) : ℝ)) then ⌊((k : ℤ) : ℝ)⌋ else ⌈((k : ℤ) : ℝ)⌉))) = _
    rw [if_pos (by positivity), Int.floor_intCast]
    have : (max (-(2 ^ (32 - 1) : ℕ) : ℤ) (min (((2 ^ (32 - 1) : ℕ) : ℤ) - 1) (k : ℤ))) = (k : ℤ) := by norm_num; omega
    rw [this, BitVec.ofInt_natCast]
  rw [key _ (by omega)]
  apply BitVec.eq_of_toNat_eq
  simp

end Cert.Quant
-- ==== Proof.Quant.Spec.lean ====
/- The quantised product, element by element: the block maxima, the codes, the numbers they stand for, the scale codes. -/
module

public import proofs.«01_k».proof.Proof.Quant.Derived
public import Idealize.ShloMosaic.Lib.Pointwise

@[expose] public section

set_option maxRecDepth 16384

noncomputable section

namespace Cert.Quant

open Idealize.ShloMosaic Idealize.ShloMosaic.Pointwise

/-- The shapes of the two arguments. -/
abbrev SX : Shape := ⟨2, ![200, 7168]⟩
abbrev SW : Shape := ⟨2, ![7168, 3072]⟩

/-- The magnitude. -/
def mag (v : EReal) : EReal := max v (-v)
/-- Over 448. -/
def over (a : EReal) : EReal := a * Ideal.ofBits .f32 0x3B124925#32
/-- Clipped to the range of the codes. -/
def clip (v : EReal) : EReal := min (Ideal.ofBits .f32 0x43E00000#32) (max (Ideal.ofBits .f32 0xC3E00000#32) v)
/-- The least value, from which a maximum starts. -/
abbrev least : EReal := Ideal.ofBits .f32 0xFF800000#32

section X
variable (x : FVec Ideal SX .bf16)
/-- The largest magnitude of block `kb` of row `r`. -/
def xA (r : Fin 200) (kb : Fin 56) : EReal := Finset.univ.fold max least fun k : Fin 128 => mag (x (ix2 r ⟨kb.val * 128 + k.val, by omega⟩))
/-- Its exponent. -/
def xE (r : Fin 200) (kb : Fin 56) : EReal := eR (over (xA x r kb))
/-- The codes of `x`. -/
def xcS (r : Fin 200) (c : Fin 7168) : EReal := clip (x (ix2 r c) * Ideal.exp2 (0 - xE x r ⟨c.val / 128, by omega⟩))
/-- The numbers they stand for. -/
def xdS (r : Fin 200) (c : Fin 7168) : EReal := xcS x r c * Ideal.exp2 (xE x r ⟨c.val / 128, by omega⟩)
/-- The scale codes. -/
def xsS (r : Fin 200) (kb : Fin 56) : BitVec 8 := (Ideal.fptosi 32 (xE x r kb + Ideal.ofBits .f32 0x42FE0000#32)).setWidth 8
end X

section W
variable (w : FVec Ideal SW .bf16)
/-- The largest magnitude of block `(kb, nb)`. -/
def wA (kb : Fin 56) (nb : Fin 24) : EReal := Finset.univ.fold max least fun p : Fin 128 => Finset.univ.fold max least fun q : Fin 128 =>
  mag (w (ix2 ⟨kb.val * 128 + p.val, by omega⟩ ⟨nb.val * 128 + q.val, by omega⟩))
/-- Its exponent. -/
def wE (kb : Fin 56) (nb : Fin 24) : EReal := eR (over (wA w kb nb))
/-- The codes of `w`. -/
def wcS (k : Fin 7168) (c : Fin 3072) : EReal := clip (w (ix2 k c) * Ideal.exp2 (0 - wE w ⟨k.val / 128, by omega⟩ ⟨c.val / 128, by omega⟩))
/-- The numbers they stand for. -/
def wdS (k : Fin 7168) (c : Fin 3072) : EReal := wcS w k c * Ideal.exp2 (wE w ⟨k.val / 128, by omega⟩ ⟨c.val / 128, by omega⟩)
/-- The scale codes. -/
def wsS (kb : Fin 56) (nb : Fin 24) : BitVec 8 := (Ideal.fptosi 32 (wE w kb nb + Ideal.ofBits .f32 0x42FE0000#32)).setWidth 8
end W

/-- The product. -/
def yS (x : FVec Ideal SX .bf16) (w : FVec Ideal SW .bf16) (r : Fin 200) (c : Fin 3072) : EReal :=
  ∑ k : Fin 7168, xdS x r k * wdS w k c

theorem ix2_eta {a b : ℕ} (i : (⟨2, ![a, b]⟩ : Shape).Idx) : (ix2 (i 0) (i 1) : (⟨2, ![a, b]⟩ : Shape).Idx) = i := by
  funext k
  match k with
  | ⟨0, _⟩ => rfl
  | ⟨1, _⟩ => rfl

theorem c_zero : Ideal.ofBits .f32 0x00000000#32 = 0 := by
  have := f32_zero
  rwa [show w32 0 = 0x00000000#32 by decide] at this

/-- Every element is finite: its magnitude at most the largest bf16 number. -/
def Fin16 {s : Shape} (x : FVec Ideal s .bf16) : Prop := ∀ i, mag (x i) ≤ Ideal.ofBits .bf16 0x7F7F#16

theorem mag_nonneg (v : EReal) : 0 ≤ mag v := by
  unfold mag
  rcases le_total 0 v with h | h
  · exact le_max_of_le_left h
  · refine le_max_of_le_right ?_
    rw [← EReal.neg_le_neg_iff]; simpa using h

theorem least_bot : least = ⊥ := c_bot

theorem xok (x : FVec Ideal SX .bf16) (hx : Fin16 x) (r : Fin 200) (kb : Fin 56) : Ok (over (xA x r kb)) := by
  refine ok_of_le _ ?_ ?_
  · refine (mag_nonneg (x (ix2 r ⟨kb.val * 128 + (0 : Fin 128).val, by omega⟩))).trans ?_
    have h : xA x r kb ≤ xA x r kb := le_rfl
    exact ((Finset.fold_max_le _).mp h).2 (0 : Fin 128) (Finset.mem_univ _)
  · refine (Finset.fold_max_le _).mpr ⟨by rw [least_bot]; exact bot_le, fun k _ => hx _⟩

theorem wok (w : FVec Ideal SW .bf16) (hw : Fin16 w) (kb : Fin 56) (nb : Fin 24) : Ok (over (wA w kb nb)) := by
  refine ok_of_le _ ?_ ?_
  · refine (mag_nonneg (w (ix2 ⟨kb.val * 128 + (0 : Fin 128).val, by omega⟩ ⟨nb.val * 128 + (0 : Fin 128).val, by omega⟩))).trans ?_
    have h : wA w kb nb ≤ wA w kb nb := le_rfl
    have h1 := ((Finset.fold_max_le _).mp h).2 (0 : Fin 128) (Finset.mem_univ _)
    exact ((Finset.fold_max_le _).mp h1).2 (0 : Fin 128) (Finset.mem_univ _)
  · refine (Finset.fold_max_le _).mpr ⟨by rw [least_bot]; exact bot_le, fun k _ => ?_⟩
    exact (Finset.fold_max_le _).mpr ⟨by rw [least_bot]; exact bot_le, fun q _ => hw _⟩

end Cert.Quant
-- ==== Proof.Quant.KerX.lean ====
/- What the kernel's first loop computes: the codes of `x`, the numbers they stand for, its scale codes. -/
module

public import proofs.«01_k».proof.Proof.KernelIdeal.XIndep
public import proofs.«01_k».proof.Proof.Quant.Spec

@[expose] public section

set_option maxRecDepth 16384

noncomputable section

namespace Cert.Quant

open Idealize.ShloMosaic Idealize.ShloMosaic.Pointwise
open Cert.KernelIdeal Cert.KernelIdeal.Tr Cert.Own
open Facts₀ Facts

local notation "Tx" => Fin k0_t1_loop.trips

/-! ## The exponent -/

theorem bitStep_at {s : Shape} (q : FVec Ideal s .f32) (b : BitVec 32) (eb : IVec s 32) (i : s.Idx) : bitStep q b eb i = bitC (tst (q i)) b (eb i) := by
  show Scalar.select (BitVec.ofBool (decide (Ideal.ofBits .f32 (IntOp.shli .vector (eb i ||| b) 23#32) ≤ q i))) (eb i ||| b) (eb i) = _
  unfold bitC tst Scalar.select
  have hs : IntOp.shli .vector (eb i ||| b) 23#32 = ((eb i ||| b) <<< 23 : BitVec 32) := rfl
  rw [hs]
  by_cases h : Ideal.ofBits .f32 ((eb i ||| b) <<< 23 : BitVec 32) ≤ q i
  · rw [decide_eq_true h]; rfl
  · rw [decide_eq_false h]; rfl

theorem sel_or (a b : Bool) (u v : BitVec 32) : Scalar.select (IntOp.ori (BitVec.ofBool a) (BitVec.ofBool b)) u v = if a || b then u else v := by
  cases a <;> cases b <;> rfl

theorem srch_at {s : Shape} (q : FVec Ideal s .f32) (i : s.Idx) : bitStep q 1#32 (bitStep q 2#32 (bitStep q 4#32 (bitStep q 8#32 (bitStep q 16#32 (bitStep q 32#32
    (bitStep q 64#32 (bitStep q 128#32 (broadcast s 0#32)))))))) i = srch (tst (q i)) := by
  have z : (broadcast s 0#32 : IVec s 32) i = 0#32 := rfl
  unfold srch
  rw [bitStep_at, bitStep_at, bitStep_at, bitStep_at, bitStep_at, bitStep_at, bitStep_at, bitStep_at, z]

theorem sel_at126 {s : Shape} (e : IVec s 32) (i : s.Idx) :
    (select (ori (cmpi .eq e (broadcast s 0#32)) (cmpi .eq e (broadcast s 255#32))) (broadcast s 126#32) e : IVec s 32) i
      = if e i = 0#32 ∨ e i = 255#32 then 126#32 else e i := by
  show Scalar.select (IntOp.ori (BitVec.ofBool (e i == 0#32)) (BitVec.ofBool (e i == 255#32))) 126#32 (e i) = _
  rw [sel_or]
  simp

theorem expo_at {s : Shape} (q : FVec Ideal s .f32) (i : s.Idx) : expo q i = expoS (q i) := by
  unfold expo expoS
  rw [sel_at126, srch_at]

/-! ## A block -/

theorem xred (v : FVec Ideal S200x128 .f32) (r : Fin 200) :
    multiReduction (F := Ideal) .maximumf [1] S200 v 0xFF800000#32 reduces_S200x128_S200 (.inl rfl) rfl (ix1 r)
      = Finset.univ.fold max (Ideal.ofBits .f32 0xFF800000#32) fun k : Fin 128 => v (ix2 r k) := by
  pointwise
theorem xbr (v : FVec Ideal S200 .f32) (r : Fin 200) (q : Fin 128) :
    broadcastTo S200x128 (shapeCast S200x1 (shapeCast S200x1 v shapeCasts_S200_S200x1) shapeCasts_S200x1_S200x1) broadcasts_S200x1_S200x128 (ix2 r q) = v (ix1 r) := by
  rw [shapeCast_id]
  pointwise

theorem xQuot_at (v : FVec Ideal S200x128 .f32) (r : Fin 200) (q : Fin 128) :
    xQuot v (ix2 r q) = over (Finset.univ.fold max least fun k : Fin 128 => mag (v (ix2 r k))) := by
  unfold xQuot
  exact congrArg over ((xbr _ r q).trans (xred (absf v) r))

theorem xCodes_at (v : FVec Ideal S200x128 .f32) (i : S200x128.Idx) :
    xCodes v i = clip (v i * Ideal.ofBits .f32 ((253#32 - expoS (xQuot v i)) <<< 23 : BitVec 32)) := by
  rw [← expo_at]; rfl
theorem xDeq_at (v : FVec Ideal S200x128 .f32) (i : S200x128.Idx) :
    xDeq v i = xCodes v i * Ideal.ofBits .f32 ((expoS (xQuot v i) + 1#32) <<< 23 : BitVec 32) := by
  rw [← expo_at]; rfl

variable (x : Vec Ideal S200x7168 .bf16)

/-- Block `kb` of the columns, by the trip and the column block of the trip. -/
theorem xBlk_at (t : Tx) (s : Fin 4) (r : Fin 200) (q : Fin 128) (k : Fin 7168) (hk : k.val = (4 * t.val + s.val) * 128 + q.val) :
    xBlk x t s (ix2 r q) = x (ix2 r k) := by
  show x ((xR t s).emb (ix2 r q)) = _
  congr 1
  funext a
  apply Fin.ext
  match a with
  | ⟨0, _⟩ => exact xR_0 _ _ _
  | ⟨1, _⟩ =>
    refine (xR_1 _ _ _).trans ?_
    show 512 * t.val + 128 * s.val + q.val = k.val
    omega

theorem xq (t : Tx) (s : Fin 4) (r : Fin 200) (q : Fin 128) (kb : Fin 56) (hk : kb.val = 4 * t.val + s.val) :
    xQuot (xBlk x t s) (ix2 r q) = over (xA x r kb) := by
  rw [xQuot_at]
  unfold xA
  refine congrArg (fun f => over (Finset.univ.fold max least f)) (funext fun k => ?_)
  rw [xBlk_at x t s r k ⟨kb.val * 128 + k.val, by omega⟩ (by dsimp only; rw [hk])]

/-- The codes of a block. -/
theorem xcode (hx : Fin16 x) (t : Tx) (s : Fin 4) (r : Fin 200) (q : Fin 128) (c : Fin 7168) (hc : c.val = (4 * t.val + s.val) * 128 + q.val) :
    xCodes (xBlk x t s) (ix2 r q) = xcS x r c := by
  rw [xCodes_at, xBlk_at x t s r q c hc, xq x t s r q ⟨c.val / 128, by omega⟩ (by dsimp only; omega), inv32 (xok x hx _ _)]
  rfl
/-- The numbers they stand for. -/
theorem xdeq (hx : Fin16 x) (t : Tx) (s : Fin 4) (r : Fin 200) (q : Fin 128) (c : Fin 7168) (hc : c.val = (4 * t.val + s.val) * 128 + q.val) :
    xDeq (xBlk x t s) (ix2 r q) = xdS x r c := by
  rw [xDeq_at, xcode x hx t s r q c hc, xq x t s r q ⟨c.val / 128, by omega⟩ (by dsimp only; omega), sc32 (xok x hx _ _)]
  rfl

/-- The codes of `x`. -/
theorem XC_at (hx : Fin16 x) (r : Fin 200) (c : Fin 7168) : XC x (ix2 r c) = xcS x r c := by
  unfold XC
  rw [shapeCast_id]
  have hj : jC (ix2 r c) = ix2 r ⟨c.val % 128, Nat.mod_lt _ (by decide)⟩ := by
    funext a
    match a with
    | ⟨0, _⟩ => rfl
    | ⟨1, _⟩ => rfl
  rw [hj]
  refine xcode x hx _ _ r _ c ?_
  show c.val = (4 * (c.val / 512) + c.val % 512 / 128) * 128 + c.val % 128
  omega

/-- The numbers they stand for, in planes of 512 columns. -/
theorem XD_at (hx : Fin16 x) (z : Vec Ideal S14x8x512 .bf16) (t : Fin 14) (r : Fin 208) (hr : r.val < 200) (k : Fin 512) (c : Fin 7168) (hc : c.val = 512 * t.val + k.val) :
    XD x z (ix3 t r k) = xdS x ⟨r.val, hr⟩ c := by
  unfold XD
  rw [dif_pos (show ((ix3 t r k : S14x208x512.Idx) 1).val < 200 from hr)]
  have hj : jD (ix3 t r k) hr = ix3 0 ⟨r.val, hr⟩ ⟨k.val % 128, Nat.mod_lt _ (by decide)⟩ := by
    funext a
    match a with
    | ⟨0, _⟩ => rfl
    | ⟨1, _⟩ => rfl
    | ⟨2, _⟩ => rfl
  have sc : ∀ (v : FVec Ideal S200x128 .bf16) (a : Fin 200) (b : Fin 128), shapeCast S1x200x128 v shapeCasts_S200x128_S1x200x128 (ix3 0 a b) = v (ix2 a b) := by
    intro v a b
    pointwise
  refine (congrArg _ hj).trans ?_
  rw [sc]
  refine xdeq x hx _ _ _ _ c ?_
  show c.val = (4 * t.val + k.val / 128) * 128 + k.val % 128
  omega

end Cert.Quant
-- ==== Proof.Quant.KerXS.lean ====
/- The scale codes of `x` that the kernel's first loop leaves. -/
module

public import proofs.«01_k».proof.Proof.Quant.KerX
public import proofs.«01_k».proof.Proof.KernelIdeal.Body

@[expose] public section

set_option maxRecDepth 16384

noncomputable section

namespace Cert.Quant

open Idealize.ShloMosaic Idealize.ShloMosaic.Pointwise
open Cert.KernelIdeal Cert.KernelIdeal.Tr Cert.Own
open Facts₀ Facts

local notation "Tx" => Fin k0_t1_loop.trips

variable (x : Vec Ideal S200x7168 .bf16)

/-- The word of the scale code of block `kb` of row `r`. -/
def xsW (r : Fin 200) (kb : Fin 56) : BitVec 32 := expoS (over (xA x r kb)) + 1#32

theorem xlane_word : ∀ (t : Tx) (s : Fin 4), Scalar.addi (Scalar.muli (Scf.iv 0#32 1#32 t) 4#32) (BitVec.ofNat 32 s.val) = BitVec.ofNat 32 (4 * t.val + s.val) := by
  decide +kernel

theorem ofNat_inj {a b : ℕ} (ha : a < 128) (hb : b < 128) : (BitVec.ofNat 32 a = BitVec.ofNat 32 b) ↔ a = b := by
  constructor
  · intro h
    have := congrArg BitVec.toNat h
    simp at this
    omega
  · intro h; rw [h]

theorem xs_emb (r : Fin 200) (l : Fin 128) : xsR.emb (ix2 r l) = (ix2 ⟨r.val, by omega⟩ l : S256x128.Idx) := by
  funext a
  apply Fin.ext
  match a with
  | ⟨0, _⟩ => show 0 + 1 * r.val = r.val; omega
  | ⟨1, _⟩ => show 0 + 1 * l.val = l.val; omega

theorem xsStep_at (t : Tx) (s : Fin 4) (xs : Vec Ideal S256x128 .i32) (r : Fin 200) (l : Fin 128) (kb : Fin 56) (hk : kb.val = 4 * t.val + s.val) :
    xsStep x xLane t s xs (ix2 ⟨r.val, by omega⟩ l) = if l.val = kb.val then xsW x r kb else xs (ix2 ⟨r.val, by omega⟩ l) := by
  unfold xsStep
  rw [← xs_emb r l, upd_emb, shapeCast_id]
  unfold xsSel
  show Scalar.select (BitVec.ofBool (BitVec.ofNat 32 (0 * 128 + l.val) == Scalar.addi (Scalar.muli (Scf.iv 0#32 1#32 t) 4#32) (BitVec.ofNat 32 s.val)))
    (xExpo (xBlk x t s) (ix2 r l) + 1#32) (xs (xsR.emb (ix2 r l))) = _
  rw [xlane_word, ← hk, show (0 * 128 + l.val) = l.val by omega]
  unfold xExpo
  rw [expo_at, xq x t s r l kb hk]
  unfold Scalar.select
  by_cases h : l.val = kb.val
  · rw [if_pos h, h, beq_self_eq_true]; rfl
  · rw [if_neg h, beq_eq_false_iff_ne.mpr (fun e => h ((ofNat_inj l.isLt (by omega)).mp e))]; rfl

theorem xsIter_at (z : Vec Ideal S256x128 .i32) (r : Fin 200) : ∀ n, n ≤ 14 → ∀ kb : Fin 56, kb.val < 4 * n →
    xsIter x xLane n z (ix2 ⟨r.val, by omega⟩ ⟨kb.val, by omega⟩) = xsW x r kb
  | 0, _, kb, h => absurd h (by omega)
  | n + 1, hn, kb, h => by
    have ht : n < k0_t1_loop.trips := by rw [tx_trips]; omega
    unfold xsIter
    rw [dif_pos ht]
    unfold xsNext
    rw [xsStep_at x ⟨n, ht⟩ 3 _ r _ ⟨4 * n + 3, by omega⟩ rfl, xsStep_at x ⟨n, ht⟩ 2 _ r _ ⟨4 * n + 2, by omega⟩ rfl,
      xsStep_at x ⟨n, ht⟩ 1 _ r _ ⟨4 * n + 1, by omega⟩ rfl, xsStep_at x ⟨n, ht⟩ 0 _ r _ ⟨4 * n, by omega⟩ rfl]
    dsimp only
    by_cases h3 : kb.val = 4 * n + 3
    · rw [if_pos h3]; congr 1; exact Fin.ext h3.symm
    rw [if_neg h3]
    by_cases h2 : kb.val = 4 * n + 2
    · rw [if_pos h2]; congr 1; exact Fin.ext h2.symm
    rw [if_neg h2]
    by_cases h1 : kb.val = 4 * n + 1
    · rw [if_pos h1]; congr 1; exact Fin.ext h1.symm
    rw [if_neg h1]
    by_cases h0 : kb.val = 4 * n
    · rw [if_pos h0]; congr 1; exact Fin.ext h0.symm
    rw [if_neg h0]
    exact xsIter_at z r n (by omega) kb (by omega)

theorem xs_turn (v : IVec S256x128 32) (kb : Fin 56) (r : Fin 200) :
    extractStridedSlice S56x200 ![0, 0] (transpose S128x256 [1, 0] v transposes_S256x128_p1_0_S128x256) slices_S128x256_o0_0_S56x200 (ix2 kb r)
      = v (ix2 ⟨r.val, by omega⟩ ⟨kb.val, by omega⟩) := by
  pointwise

/-- The scale codes of `x`. -/
theorem XSV_at (hx : Fin16 x) (kb : Fin 56) (r : Fin 200) : XSV x (ix2 kb r) = xsS x r kb := by
  unfold XSV Gen.k0_pay635
  refine (congrArg (fun v : BitVec 32 => v.setWidth 8) ((xs_turn (XSC x) kb r).trans ?_) : _ = (xsW x r kb).setWidth 8).trans ?_
  · unfold XSC
    rw [show k0_t1_loop.trips = 14 from tx_trips]
    exact xsIter_at x _ r 14 le_rfl kb (by omega)
  · unfold xsW xsS xE
    rw [code (xok x hx r kb)]

end Cert.Quant
-- ==== Proof.Quant.KerW.lean ====
/- What a chunk of `w` gives: the exponents of its blocks, the codes, the numbers they stand for. -/
module

public import proofs.«01_k».proof.Proof.KernelIdeal.Body
public import proofs.«01_k».proof.Proof.Quant.KerX
public import Idealize.ShloMosaic.Lib.BitcastPair

@[expose] public section

set_option maxRecDepth 16384

noncomputable section

namespace Cert.Quant

open Idealize.ShloMosaic Idealize.ShloMosaic.Pointwise
open Cert.KernelIdeal Cert.KernelIdeal.Tr Cert.Own
open Facts₀ Facts

/-! ## The operations at an index -/

theorem slabred (v : FVec Ideal S8x16x128 .bf16) (r : Fin 16) (q : Fin 128) :
    multiReduction (F := Ideal) .maximumf [0] S16x128 v 0xFF80#16 reduces_S8x16x128_S16x128 (.inr rfl) rfl (ix2 r q)
      = Finset.univ.fold max (Ideal.ofBits .bf16 0xFF80#16) fun k : Fin 8 => v (ix3 k r q) := by
  pointwise
theorem split8 (v : FVec Ideal S128x128 .bf16) (k : Fin 8) (r : Fin 16) (q : Fin 128) :
    shapeCast S8x16x128 v shapeCasts_S128x128_S8x16x128 (ix3 k r q) = v (ix2 ⟨k.val * 16 + r.val, by omega⟩ q) := by
  pointwise
theorem join8 {φ : FTy} (v : FVec Ideal S8x16x128 φ) (p : Fin 128) (q : Fin 128) :
    shapeCast S128x128 v shapeCasts_S8x16x128_S128x128 (ix2 p q) = v (ix3 ⟨p.val / 16, by omega⟩ ⟨p.val % 16, by omega⟩ q) := by
  pointwise
theorem halves (m : FVec Ideal S16x128 .f32) (s : Fin 8) (q : Fin 128) :
    shapeCast S1x8x128 (maximumf (extractStridedSlice S8x128 ![0, 0] m slices_S16x128_o0_0_S8x128)
      (extractStridedSlice S8x128 ![8, 0] m slices_S16x128_o8_0_S8x128)) shapeCasts_S8x128_S1x8x128 (ix3 0 s q)
      = max (m (ix2 ⟨s.val, by omega⟩ q)) (m (ix2 ⟨8 + s.val, by omega⟩ q)) := by
  pointwise
theorem drop1 (v : FVec Ideal S1x24x128 .f32) (b : Fin 24) (q : Fin 128) :
    shapeCast S24x128 v shapeCasts_S1x24x128_S24x128 (ix2 b q) = v (ix3 0 b q) := by
  pointwise
theorem add1 (v : IVec S24x128 32) (b : Fin 24) (q : Fin 128) :
    shapeCast S1x24x128 v shapeCasts_S24x128_S1x24x128 (ix3 0 b q) = v (ix2 b q) := by
  pointwise
theorem qred (v : FVec Ideal S24x128 .f32) (b : Fin 24) :
    multiReduction (F := Ideal) .maximumf [1] S24 v 0xFF800000#32 reduces_S24x128_S24 (.inl rfl) rfl (ix1 b)
      = Finset.univ.fold max (Ideal.ofBits .f32 0xFF800000#32) fun k : Fin 128 => v (ix2 b k) := by
  pointwise
theorem qbr (v : FVec Ideal S24 .f32) (b : Fin 24) (q : Fin 128) :
    broadcastTo S24x128 (shapeCast S24x1 (shapeCast S24x1 v shapeCasts_S24_S24x1) shapeCasts_S24x1_S24x1) broadcasts_S24x1_S24x128 (ix2 b q) = v (ix1 b) := by
  rw [shapeCast_id]
  pointwise
theorem rep_at (v : FVec Ideal S16x128 .bf16) (k : Fin 8) (r : Fin 16) (q : Fin 128) : rep v (ix3 k r q) = v (ix2 r q) := by
  pointwise [rep]
theorem rowbr (v : IVec S1x1x128 32) (r : Fin 8) (q : Fin 128) :
    broadcastTo S8x128 (shapeCast S1x128 (shapeCast S1x128 v shapeCasts_S1x1x128_S1x128) shapeCasts_S1x128_S1x128) broadcasts_S1x128_S8x128 (ix2 r q)
      = v (ix3 0 0 q) := by
  rw [shapeCast_id]
  pointwise

theorem ext_at {s : Shape} (v : FVec Ideal s .bf16) (i : s.Idx) (h) : (extf .f32 v h : FVec Ideal s .f32) i = v i := rfl
theorem tr8_at {s : Shape} (v : FVec Ideal s .bf16) (i : s.Idx) (h) : (truncf .fp8e4m3 v h : FVec Ideal s .fp8e4m3) i = v i := rfl
theorem ext8_at {s : Shape} (v : FVec Ideal s .fp8e4m3) (i : s.Idx) (h) : (extf .bf16 v h : FVec Ideal s .bf16) i = v i := rfl
theorem mag_at {s : Shape} (v : FVec Ideal s .bf16) (i : s.Idx) : (absf v : FVec Ideal s .bf16) i = mag (v i) := rfl
theorem mul_at {s : Shape} (u v : FVec Ideal s .bf16) (i : s.Idx) : (mulf u v : FVec Ideal s .bf16) i = u i * v i := rfl
theorem clip_at {s : Shape} (v : FVec Ideal s .bf16) (i : s.Idx) :
    (minimumf (broadcast s (Scalar.ofBits (F := Ideal) .bf16 0x43E0#16)) (maximumf (broadcast s (Scalar.ofBits (F := Ideal) .bf16 0xC3E0#16)) v) : FVec Ideal s .bf16) i
      = clip (v i) := by
  show min (Ideal.ofBits .bf16 0x43E0#16) (max (Ideal.ofBits .bf16 0xC3E0#16) (v i)) = _
  rw [c_448, c_m448]; rfl

/-! ## The exponents -/

theorem slabVal_at (v : Vec Ideal S128x128 .bf16) (s : Fin 8) (q : Fin 128) :
    slabVal v (ix3 0 s q) = max (Finset.univ.fold max (Ideal.ofBits .bf16 0xFF80#16) fun k : Fin 8 => mag (v (ix2 ⟨k.val * 16 + s.val, by omega⟩ q)))
      (Finset.univ.fold max (Ideal.ofBits .bf16 0xFF80#16) fun k : Fin 8 => mag (v (ix2 ⟨k.val * 16 + (8 + s.val), by omega⟩ q))) := by
  unfold slabVal
  refine (halves _ s q).trans ?_
  rw [ext_at, ext_at, slabred, slabred]
  simp only [split8, mag_at]

theorem bandRow_at (g : Vec Ideal S512x3072 .bf16) (kb : Fin 4) (s : Fin 8) (b : Fin 24) (q : Fin 128) :
    bandRow g kb s (ix3 0 b q) = slabVal (blk g kb b) (ix3 0 s q) := by
  unfold bandRow
  refine congrArg (slabVal (blk g kb b)) (funext fun a => ?_)
  match a with
  | ⟨0, _⟩ => rfl
  | ⟨1, _⟩ => rfl
  | ⟨2, _⟩ => rfl

theorem max_at {s : Shape} (u v : FVec Ideal s .f32) (i : s.Idx) : (maximumf u v : FVec Ideal s .f32) i = max (u i) (v i) := rfl

theorem bandMax_le (g : Vec Ideal S512x3072 .bf16) (kb : Fin 4) (b : Fin 24) (q : Fin 128) (c : EReal) : ∀ (n : ℕ) (h : n < 8),
    bandMax g kb n h (ix2 b q) ≤ c ↔ ∀ s : Fin 8, s.val ≤ n → slabVal (blk g kb b) (ix3 0 s q) ≤ c
  | 0, h => by
    unfold bandMax
    rw [drop1, bandRow_at]
    constructor
    · intro h1 s hs
      rwa [show s = ⟨0, h⟩ from Fin.ext (by dsimp only; omega)]
    · intro h1; exact h1 ⟨0, h⟩ le_rfl
  | n + 1, h => by
    unfold bandMax
    rw [max_at, max_le_iff, drop1, bandRow_at, bandMax_le g kb b q c n]
    constructor
    · rintro ⟨h1, h2⟩ s hs
      by_cases e : s.val = n + 1
      · rwa [show s = ⟨n + 1, h⟩ from Fin.ext e]
      · exact h1 s (by omega)
    · intro h1
      exact ⟨fun s hs => h1 s (by omega), h1 ⟨n + 1, h⟩ le_rfl⟩

theorem quot_at (m : FVec Ideal S24x128 .f32) (b : Fin 24) (l : Fin 128) : quot m (ix2 b l) = over (Finset.univ.fold max least fun k : Fin 128 => m (ix2 b k)) := by
  unfold quot
  exact congrArg over ((qbr _ b l).trans (qred m b))

/-- The lane maximum of the bands is the maximum of the block. -/
theorem band_max (g : Vec Ideal S512x3072 .bf16) (kb : Fin 4) (b : Fin 24) :
    (Finset.univ.fold max least fun k : Fin 128 => bandMax g kb 7 (by decide) (ix2 b k))
      = Finset.univ.fold max least fun p : Fin 128 => Finset.univ.fold max least fun q : Fin 128 => mag (blk g kb b (ix2 p q)) := by
  refine eq_of_forall_ge_iff fun c => ?_
  rw [Finset.fold_max_le, Finset.fold_max_le]
  refine and_congr_right fun _ => ?_
  have hb : least ≤ c := by rw [least_bot]; exact bot_le
  have hb16 : Ideal.ofBits .bf16 0xFF80#16 ≤ c := by rw [c_bot16]; exact bot_le
  constructor
  · intro h p _
    refine (Finset.fold_max_le _).mpr ⟨hb, fun q _ => ?_⟩
    have h1 := (bandMax_le g kb b q c 7 (by decide)).mp (h q (Finset.mem_univ _)) ⟨p.val % 8, Nat.mod_lt _ (by decide)⟩ (by dsimp only; omega)
    rw [slabVal_at, max_le_iff, Finset.fold_max_le, Finset.fold_max_le] at h1
    by_cases e : p.val % 16 < 8
    · have := h1.1.2 (⟨p.val / 16, by omega⟩ : Fin 8) (Finset.mem_univ _)
      dsimp only at this
      rwa [show (⟨p.val / 16 * 16 + p.val % 8, by omega⟩ : Fin 128) = p from Fin.ext (by dsimp only; omega)] at this
    · have := h1.2.2 (⟨p.val / 16, by omega⟩ : Fin 8) (Finset.mem_univ _)
      dsimp only at this
      rwa [show (⟨p.val / 16 * 16 + (8 + p.val % 8), by omega⟩ : Fin 128) = p from Fin.ext (by dsimp only; omega)] at this
  · intro h q _
    refine (bandMax_le g kb b q c 7 (by decide)).mpr fun s _ => ?_
    rw [slabVal_at, max_le_iff, Finset.fold_max_le, Finset.fold_max_le]
    exact ⟨⟨hb16, fun k _ => ((Finset.fold_max_le _).mp (h _ (Finset.mem_univ _))).2 q (Finset.mem_univ _)⟩,
      ⟨hb16, fun k _ => ((Finset.fold_max_le _).mp (h _ (Finset.mem_univ _))).2 q (Finset.mem_univ _)⟩⟩

variable (w : Vec Ideal S7168x3072 .bf16)

/-- A block of a chunk, in `w`. -/
theorem wblk_at (t : ℕ) (ht : t < 14) (kb : Fin 4) (b : Fin 24) (p q : Fin 128) (k : Fin 7168) (c : Fin 3072)
    (hk : k.val = (4 * t + kb.val) * 128 + p.val) (hc : c.val = b.val * 128 + q.val) :
    blk (wbOf w t) kb b (ix2 p q) = w (ix2 k c) := by
  unfold blk wbOf
  refine congrArg w (funext fun a => Fin.ext ?_)
  match a with
  | ⟨0, _⟩ =>
    show 512 * (t % 14) + 1 * (128 * kb.val + 1 * p.val) = k.val
    omega
  | ⟨1, _⟩ =>
    show 0 + 1 * (128 * b.val + 1 * q.val) = c.val
    omega

/-- The exponents of a chunk's blocks. -/
theorem eV_at (t : ℕ) (ht : t < 14) (kb : Fin 4) (b : Fin 24) (l : Fin 128) (kc : Fin 56) (hk : kc.val = 4 * t + kb.val) :
    eV (wbOf w t) kb (ix2 b l) = expoS (over (wA w kc b)) := by
  unfold eV
  rw [expo_at, quot_at, band_max]
  unfold wA
  refine congrArg (fun f => expoS (over (Finset.univ.fold max least f))) (funext fun p => ?_)
  refine congrArg (fun f => Finset.univ.fold max least f) (funext fun q => ?_)
  rw [wblk_at w t ht kb b p q ⟨kc.val * 128 + p.val, by omega⟩ ⟨b.val * 128 + q.val, by omega⟩ (by dsimp only; rw [hk]) rfl]

/-! ## The scales -/

theorem inv_at (e : IVec S24x128 32) (i : S24x128.Idx) : invWord e i = pw ((253#32 - e i) <<< 7 : BitVec 32) := rfl
theorem scale_at (e : IVec S24x128 32) (i : S24x128.Idx) : scaleWord e i = pw ((e i + 1#32) <<< 7 : BitVec 32) := rfl

theorem inRow_at (kb : Fin 4) (b : Fin 24) (q : Fin 128) : inRow (ix3 kb b q) = ix3 0 b q := by
  funext a
  match a with
  | ⟨0, _⟩ => rfl
  | ⟨1, _⟩ => rfl
  | ⟨2, _⟩ => rfl
theorem INV_at (g : Vec Ideal S512x3072 .bf16) (kb : Fin 4) (b : Fin 24) (q : Fin 128) :
    INV g (ix3 kb b q) = pw ((253#32 - eV g kb (ix2 b q)) <<< 7 : BitVec 32) := by
  unfold INV
  rw [inRow_at]
  exact (add1 _ b q).trans (inv_at _ _)
theorem SC_at (g : Vec Ideal S512x3072 .bf16) (kb : Fin 4) (b : Fin 24) (q : Fin 128) :
    SC g (ix3 kb b q) = pw ((eV g kb (ix2 b q) + 1#32) <<< 7 : BitVec 32) := by
  unfold SC
  rw [inRow_at]
  exact (add1 _ b q).trans (scale_at _ _)

theorem row_at (r : Fin 16) (q : Fin 128) : S16x128.row (ix2 r q) = r.val := rfl

theorem rowF_at (v : IVec S1x1x128 32) (r : Fin 16) (q : Fin 128) :
    rowF (F := Ideal) v (ix2 r q) = Ideal.ofBits .bf16 ((v (ix3 0 0 q)).extractLsb' (16 * (r.val % 2)) 16) := by
  unfold rowF
  show Ideal.ofBits .bf16 (bitcast S16x128 16 _ bitcasts_S8x128_w32_S16x128_w16 (ix2 r q)) = _
  rw [bitcast_32_16]
  refine congrArg (fun u : BitVec 32 => Ideal.ofBits .bf16 (u.extractLsb' (16 * (r.val % 2)) 16)) ?_
  refine Eq.trans (congrArg _ ?_) (rowbr v ⟨r.val / 2, by omega⟩ q)
  funext a
  apply Fin.ext
  match a with
  | ⟨0, _⟩ => exact Shape.Bitcasts.srcIdx_row _ _ _ _ _ rfl
  | ⟨1, _⟩ => exact Shape.Bitcasts.srcIdx_other _ _ _ _ _ (show ¬ (1 + 2 = 2) by decide)

theorem rowOf_at (u : Vec Ideal S4x24x128 .i32) (kb : Fin 4) (b : Fin 24) (r : Fin 16) (q : Fin 128) :
    rowOf (F := Ideal) u kb b (ix2 r q) = Ideal.ofBits .bf16 ((u (ix3 kb b q)).extractLsb' (16 * (r.val % 2)) 16) := by
  unfold rowOf
  rw [rowF_at]
  have h : (rowR kb b).toLoadRect.idx (ix3 0 0 q) = ix3 kb b q := by
    funext a
    apply Fin.ext
    match a with
    | ⟨0, _⟩ => show kb.val + 1 * 0 = kb.val; omega
    | ⟨1, _⟩ => show b.val + 1 * 0 = b.val; omega
    | ⟨2, _⟩ => show 0 + 1 * q.val = q.val; omega
  exact congrArg (fun i => Ideal.ofBits .bf16 ((u i).extractLsb' (16 * (r.val % 2)) 16)) h

/-! ## The codes -/

theorem in8 (p : Fin 128) (h : p.val / 16 * 16 + p.val % 16 < 128) : (⟨p.val / 16 * 16 + p.val % 16, h⟩ : Fin 128) = p := Fin.ext (Nat.div_add_mod' _ _)

theorem codes_at (v : Vec Ideal S128x128 .bf16) (inv : FVec Ideal S16x128 .bf16) (p q : Fin 128) :
    codes v inv (ix2 p q) = clip (v (ix2 p q) * inv (ix2 ⟨p.val % 16, Nat.mod_lt _ (by decide)⟩ q)) := by
  unfold codes
  rw [tr8_at, join8, clip_at, mul_at, split8, rep_at, in8]
theorem deq_at (v : FVec Ideal S128x128 .fp8e4m3) (sc : FVec Ideal S16x128 .bf16) (p q : Fin 128) :
    deq v sc (ix2 p q) = v (ix2 p q) * sc (ix2 ⟨p.val % 16, Nat.mod_lt _ (by decide)⟩ q) := by
  unfold deq
  rw [join8, mul_at, split8, rep_at, in8, ext8_at]

variable (hw : Fin16 w)
include hw

/-- The codes of a block. -/
theorem tcodes_at (t : ℕ) (ht : t < 14) (kb : Fin 4) (b : Fin 24) (p q : Fin 128) (k : Fin 7168) (c : Fin 3072)
    (hk : k.val = (4 * t + kb.val) * 128 + p.val) (hc : c.val = b.val * 128 + q.val) :
    tcodes (wbOf w t) (INV (wbOf w t)) b kb (ix2 p q) = wcS w k c := by
  unfold tcodes
  rw [codes_at, rowOf_at, INV_at, eV_at w t ht kb b q ⟨k.val / 128, by omega⟩ (by dsimp only; omega), inv16 (wok w hw _ _) _ (Nat.mod_lt _ (by decide)), wblk_at w t ht kb b p q k c hk hc]
  unfold wcS wE
  rw [show (⟨c.val / 128, by omega⟩ : Fin 24) = b from Fin.ext (by dsimp only; omega)]
/-- The numbers they stand for. -/
theorem tdeq_at (t : ℕ) (ht : t < 14) (kb : Fin 4) (b : Fin 24) (p q : Fin 128) (k : Fin 7168) (c : Fin 3072)
    (hk : k.val = (4 * t + kb.val) * 128 + p.val) (hc : c.val = b.val * 128 + q.val) :
    tdeq (wbOf w t) (INV (wbOf w t)) (SC (wbOf w t)) b kb (ix2 p q) = wdS w k c := by
  unfold tdeq
  rw [deq_at, tcodes_at w hw t ht kb b p q k c hk hc, rowOf_at, SC_at, eV_at w t ht kb b q ⟨k.val / 128, by omega⟩ (by dsimp only; omega), sc16 (wok w hw _ _) _ (Nat.mod_lt _ (by decide))]
  unfold wdS wE
  rw [show (⟨c.val / 128, by omega⟩ : Fin 24) = b from Fin.ext (by dsimp only; omega)]

/-- The codes of `w`. -/
theorem WC_at (k : Fin 7168) (c : Fin 3072) : WC w (ix2 k c) = wcS w k c := by
  unfold WC cbOf CW
  have hin : ∀ i : S512x3072.Idx, inB i = ix2 ⟨(i 0).val % 128, Nat.mod_lt _ (by decide)⟩ ⟨(i 1).val % 128, Nat.mod_lt _ (by decide)⟩ := by
    intro i
    funext a
    match a with
    | ⟨0, _⟩ => rfl
    | ⟨1, _⟩ => rfl
  rw [hin]
  refine tcodes_at w hw _ ?_ _ _ _ _ k c ?_ ?_
  · show k.val / 512 < 14
    omega
  · show k.val = (4 * (k.val / 512) + k.val % 512 / 128) * 128 + k.val % 512 % 128
    omega
  · show c.val = c.val / 128 * 128 + c.val % 128
    omega

end Cert.Quant
-- ==== Proof.Quant.KerWS.lean ====
/- The scale codes of `w` that the kernel's second loop leaves. -/
module

public import proofs.«01_k».proof.Proof.Quant.KerXS
public import proofs.«01_k».proof.Proof.Quant.KerW

@[expose] public section

set_option maxRecDepth 16384

noncomputable section

namespace Cert.Quant

open Idealize.ShloMosaic Idealize.ShloMosaic.Pointwise
open Cert.KernelIdeal Cert.KernelIdeal.Tr Cert.Own
open Facts₀ Facts

local notation "Tm" => Fin k0_t2_loop.trips

variable (w : Vec Ideal S7168x3072 .bf16)

/-- The word of the scale code of block `(kb, nb)`. -/
def wsW (kb : Fin 56) (nb : Fin 24) : BitVec 32 := expoS (over (wA w kb nb)) + 1#32

theorem wlane_word : ∀ (t : Tm) (s : Fin 4), Scalar.addi (Scalar.muli (Scf.iv 0#32 1#32 t) 4#32) (BitVec.ofNat 32 s.val) = BitVec.ofNat 32 (4 * t.val + s.val) := by
  decide +kernel

theorem wsSel_at (t : Tm) (s : Fin 4) (old : IVec S24x128 32) (nb : Fin 24) (l : Fin 128) (kb : Fin 56) (hk : kb.val = 4 * t.val + s.val) :
    wsSel wLane (Scf.iv 0#32 1#32 t) s (eV (wbOf w t.val) s) old (ix2 nb l) = if l.val = kb.val then wsW w kb nb else old (ix2 nb l) := by
  have ht : t.val < 14 := lt_of_lt_of_eq t.isLt tm_trips
  unfold wsSel
  show Scalar.select (BitVec.ofBool (BitVec.ofNat 32 (0 * 128 + l.val) == Scalar.addi (Scalar.muli (Scf.iv 0#32 1#32 t) 4#32) (BitVec.ofNat 32 s.val)))
    (eV (wbOf w t.val) s (ix2 nb l) + 1#32) (old (ix2 nb l)) = _
  rw [wlane_word, ← hk, show (0 * 128 + l.val) = l.val by omega, eV_at w t.val ht s nb l kb hk]
  unfold Scalar.select
  by_cases h : l.val = kb.val
  · rw [if_pos h, h, beq_self_eq_true]; rfl
  · rw [if_neg h, beq_eq_false_iff_ne.mpr (fun e => h ((ofNat_inj l.isLt (by omega)).mp e))]; rfl

theorem wsV_succ (t : Tm) (z : Vec Ideal S24x128 .i32) (n : ℕ) (h : n + 1 ≤ 4) (nb : Fin 24) (l : Fin 128) (kb : Fin 56) (hk : kb.val = 4 * t.val + n) :
    wsV (wbOf w t.val) wLane (Scf.iv 0#32 1#32 t) z (n + 1) h (ix2 nb l)
      = if l.val = kb.val then wsW w kb nb else wsV (wbOf w t.val) wLane (Scf.iv 0#32 1#32 t) z n (Nat.le_of_succ_le h) (ix2 nb l) := by
  conv_lhs => unfold wsV
  rw [wsR_emb, shapeCast_id]
  refine (wsSel_at w t ⟨n, h⟩ _ nb l kb hk).trans ?_
  exact congrArg (fun f : S24x128.Idx → BitVec 32 => if l.val = kb.val then wsW w kb nb else f (ix2 nb l)) (read_full (s := S24x128) (α := BitVec 32) inb_S24x128_S24x128_0_0 (wsV (wbOf w t.val) wLane (Scf.iv 0#32 1#32 t) z n (Nat.le_of_succ_le h)))

theorem WS_at (nb : Fin 24) : ∀ n, n ≤ 14 → ∀ kb : Fin 56, kb.val < 4 * n → WS w n (ix2 nb ⟨kb.val, by omega⟩) = wsW w kb nb
  | 0, _, kb, h => absurd h (by omega)
  | n + 1, hn, kb, h => by
    have ht : n < k0_t2_loop.trips := by rw [tm_trips]; omega
    rw [WS_succ w ⟨n, ht⟩,
      wsV_succ w ⟨n, ht⟩ _ 3 _ nb _ ⟨4 * n + 3, by omega⟩ rfl, wsV_succ w ⟨n, ht⟩ _ 2 _ nb _ ⟨4 * n + 2, by omega⟩ rfl,
      wsV_succ w ⟨n, ht⟩ _ 1 _ nb _ ⟨4 * n + 1, by omega⟩ rfl, wsV_succ w ⟨n, ht⟩ _ 0 _ nb _ ⟨4 * n, by omega⟩ rfl]
    dsimp only
    by_cases h3 : kb.val = 4 * n + 3
    · rw [if_pos h3]; congr 1; exact Fin.ext h3.symm
    rw [if_neg h3]
    by_cases h2 : kb.val = 4 * n + 2
    · rw [if_pos h2]; congr 1; exact Fin.ext h2.symm
    rw [if_neg h2]
    by_cases h1 : kb.val = 4 * n + 1
    · rw [if_pos h1]; congr 1; exact Fin.ext h1.symm
    rw [if_neg h1]
    by_cases h0 : kb.val = 4 * n
    · rw [if_pos h0]; congr 1; exact Fin.ext h0.symm
    rw [if_neg h0]
    unfold wsV
    exact WS_at nb n (by omega) kb (by omega)

/-- The scale codes of `w`. -/
theorem WSV_at (hw : Fin16 w) (nb : Fin 24) (kb : Fin 56) : WSV w (ix2 nb kb) = wsS w kb nb := by
  unfold WSV Gen.k0_pay1
  refine (congrArg (fun v : BitVec 32 => v.setWidth 8) (?_ : _ = wsW w kb nb)).trans ?_
  · refine Eq.trans (congrArg (WS w 14) (funext fun a => Fin.ext ?_)) (WS_at w nb 14 le_rfl kb (by omega))
    match a with
    | ⟨0, _⟩ => show 0 + 1 * nb.val = nb.val; omega
    | ⟨1, _⟩ => show 0 + 1 * kb.val = kb.val; omega
  · unfold wsW wsS wE
    rw [code (wok w hw kb nb)]

end Cert.Quant
-- ==== Proof.Quant.KerY.lean ====
/- The product that the kernel's second loop accumulates. -/
module

public import proofs.«01_k».proof.Proof.Quant.KerW
public import Idealize.ShloMosaic.Lib.Pipeline.ValueKit.Acc

@[expose] public section

set_option maxRecDepth 16384

noncomputable section

namespace Cert.Quant

open Idealize.ShloMosaic Idealize.ShloMosaic.Pointwise
open Cert.KernelIdeal Cert.KernelIdeal.Tr Cert.Own
open Facts₀ Facts

local notation "Tm" => Fin k0_t2_loop.trips

theorem col4_at (d0 d1 d2 d3 : FVec Ideal S128x128 .bf16) (k : Fin 512) (q : Fin 128) :
    col4 d0 d1 d2 d3 (ix2 k q) = if h : k.val < 128 then d0 (ix2 ⟨k.val, h⟩ q) else if h : k.val - 128 < 128 then d1 (ix2 ⟨k.val - 128, h⟩ q)
      else if h : k.val - 128 - 128 < 128 then d2 (ix2 ⟨k.val - 128 - 128, h⟩ q) else d3 (ix2 ⟨k.val - 128 - 128 - 128, by omega⟩ q) := by
  pointwise [col4]
theorem row2_at (d0 d1 : FVec Ideal S512x128 .bf16) (k : Fin 512) (q : Fin 256) :
    row2 d0 d1 (ix2 k q) = if h : q.val < 128 then d0 (ix2 k ⟨q.val, h⟩) else d1 (ix2 k ⟨q.val - 128, by omega⟩) := by
  pointwise [row2]
theorem acc_at (xk : FVec Ideal S208x512 .bf16) (wd : FVec Ideal S512x256 .bf16) (old : FVec Ideal S208x256 .f32) (r : Fin 208) (c : Fin 256) :
    accVal xk wd old (ix2 r c) = old (ix2 r c) + ∑ k, xk (ix2 r k) * wd (ix2 k c) := by
  unfold accVal
  rw [shapeCast_id]
  pointwise
theorem xkc_at (v : FVec Ideal S1x208x512 .bf16) (r : Fin 208) (k : Fin 512) : shapeCast S208x512 v shapeCasts_S1x208x512_S208x512 (ix2 r k) = v (ix3 0 r k) := by
  pointwise
theorem out_at (v : FVec Ideal S200x3072 .f32) (i : S200x3072.Idx) : (Gen.k0_pay634 (F := Ideal) v i : EReal) = v i := by
  unfold Gen.k0_pay634
  rw [shapeCast_id]
  rfl
theorem zero_at (i : S208x3072.Idx) : (Gen.k0_pay626 (F := Ideal) i : EReal) = 0 := by
  unfold Gen.k0_pay626
  rw [shapeCast_id]
  exact c_zero

theorem xoff14 : ∀ t : Tm, k0_off14 t = ![t.val, 0, 0] := by decide +kernel

theorem xkOf_at (X : Vec Ideal S14x208x512 .bf16) (t : Tm) (t' : Fin 14) (ht : t'.val = t.val) (r : Fin 208) (k : Fin 512) : xkOf X t (ix2 r k) = X (ix3 t' r k) := by
  unfold xkOf
  refine (xkc_at _ r k).trans (congrArg X (funext fun a => Fin.ext ?_))
  match a with
  | ⟨0, _⟩ =>
    show k0_off14 t 0 + 1 * 0 = t'.val
    rw [xoff14 t, ht]; rfl
  | ⟨1, _⟩ =>
    show k0_off14 t 1 + 1 * r.val = r.val
    rw [xoff14 t]
    show 0 + 1 * r.val = r.val
    omega
  | ⟨2, _⟩ =>
    show k0_off14 t 2 + 1 * k.val = k.val
    rw [xoff14 t]
    show 0 + 1 * k.val = k.val
    omega

variable (w : Vec Ideal S7168x3072 .bf16) (hw : Fin16 w)
include hw

/-- A column of blocks. -/
theorem tcol_at (t : ℕ) (ht : t < 14) (b : Fin 24) (k : Fin 512) (q : Fin 128) (kk : Fin 7168) (c : Fin 3072) (hk : kk.val = 512 * t + k.val) (hc : c.val = b.val * 128 + q.val) :
    tcol (wbOf w t) (INV (wbOf w t)) (SC (wbOf w t)) b (ix2 k q) = wdS w kk c := by
  unfold tcol
  rw [col4_at]
  split
  · exact tdeq_at w hw t ht 0 b _ q kk c (by show kk.val = (4 * t + 0) * 128 + k.val; omega) hc
  split
  · exact tdeq_at w hw t ht 1 b _ q kk c (by show kk.val = (4 * t + 1) * 128 + (k.val - 128); omega) hc
  split
  · exact tdeq_at w hw t ht 2 b _ q kk c (by show kk.val = (4 * t + 2) * 128 + (k.val - 128 - 128); omega) hc
  · exact tdeq_at w hw t ht 3 b _ q kk c (by show kk.val = (4 * t + 3) * 128 + (k.val - 128 - 128 - 128); omega) hc

/-- Two of them. -/
theorem pair_at (t : ℕ) (ht : t < 14) (j : Fin 12) (k : Fin 512) (q : Fin 256) (kk : Fin 7168) (c : Fin 3072) (hk : kk.val = 512 * t + k.val) (hc : c.val = 256 * j.val + q.val) :
    row2 (tcol (wbOf w t) (INV (wbOf w t)) (SC (wbOf w t)) (lo j)) (tcol (wbOf w t) (INV (wbOf w t)) (SC (wbOf w t)) (hi j)) (ix2 k q) = wdS w kk c := by
  rw [row2_at]
  split
  · exact tcol_at w hw t ht (lo j) k _ kk c hk (by show c.val = 2 * j.val * 128 + q.val; omega)
  · exact tcol_at w hw t ht (hi j) k _ kk c hk (by show c.val = (2 * j.val + 1) * 128 + (q.val - 128); omega)

/-- A trip's product, at an element. -/
def part (xk : FVec Ideal S208x512 .bf16) (t : ℕ) (ht : t < 14) (r : Fin 208) (c : Fin 3072) : EReal :=
  ∑ k : Fin 512, xk (ix2 r k) * wdS w ⟨512 * t + k.val, by omega⟩ c

theorem accAfter_at (xk : FVec Ideal S208x512 .bf16) (t : ℕ) (ht : t < 14) (a : Vec Ideal S208x3072 .f32) (r : Fin 208) (c : Fin 3072) : ∀ (n : ℕ) (h : n ≤ 12),
    accAfter (wbOf w t) (INV (wbOf w t)) (SC (wbOf w t)) xk n h a (ix2 r c) = if c.val < 256 * n then a (ix2 r c) + part w xk t ht r c else a (ix2 r c)
  | 0, _ => by
    rw [if_neg (by omega)]
    unfold accAfter
    rfl
  | n + 1, h => by
    unfold accAfter
    dsimp only
    by_cases hc : 256 * n ≤ c.val ∧ c.val < 256 * (n + 1)
    · have he : (accR ⟨n, h⟩).emb (ix2 r ⟨c.val - 256 * n, by omega⟩) = ix2 r c := by
        funext x
        apply Fin.ext
        match x with
        | ⟨0, _⟩ => show 0 + 1 * r.val = r.val; omega
        | ⟨1, _⟩ => show 256 * n + 1 * (c.val - 256 * n) = c.val; omega
      rw [if_pos hc.2]
      conv_lhs => rw [← he]
      rw [upd_emb, acc_at]
      refine congrArg₂ (· + ·) ?_ ?_
      · refine (congrArg _ he).trans ?_
        rw [accAfter_at xk t ht a r c n, if_neg (by omega)]
      · unfold part
        refine Finset.sum_congr rfl fun k _ => ?_
        rw [pair_at w hw t ht ⟨n, h⟩ k _ ⟨512 * t + k.val, by omega⟩ c rfl (by dsimp only; omega)]
    · rw [upd_off, accAfter_at xk t ht a r c n]
      · by_cases h1 : c.val < 256 * n
        · rw [if_pos h1, if_pos (by omega)]
        · rw [if_neg h1, if_neg (by omega)]
      · intro j e
        have e1 := congrArg (fun x : S208x3072.Idx => (x 1).val) e
        have e2 : ((accR ⟨n, h⟩).emb j 1).val = 256 * n + 1 * (j 1).val := rfl
        have e3 : (j 1).val < 256 := (j 1).isLt
        have e4 : ((ix2 r c : S208x3072.Idx) 1).val = c.val := rfl
        dsimp only at e1
        rw [e2, e4] at e1
        omega

variable (x : Vec Ideal S200x7168 .bf16) (hx : Fin16 x)
include hx

/-- The trip's part of the product's sum. -/
def term (r : Fin 200) (c : Fin 3072) (t : ℕ) : EReal :=
  if h : t < 14 then ∑ k : Fin 512, xdS x r ⟨512 * t + k.val, by omega⟩ * wdS w ⟨512 * t + k.val, by omega⟩ c else 0

theorem ACC_at (z : Vec Ideal S14x8x512 .bf16) (r : Fin 200) (c : Fin 3072) : ∀ n, n ≤ 14 →
    ACC (XD x z) w n (ix2 ⟨r.val, by omega⟩ c) = ∑ t ∈ Finset.range n, term w x r c t
  | 0, _ => by
    rw [Finset.range_zero, Finset.sum_empty]
    exact zero_at _
  | n + 1, hn => by
    have ht : n < k0_t2_loop.trips := by rw [tm_trips]; omega
    rw [ACC_succ (XD x z) w ⟨n, ht⟩, accAfter_at w hw _ n (by omega), if_pos (by omega), ACC_at z r c n (by omega), Finset.sum_range_succ]
    refine congrArg (_ + ·) ?_
    unfold part term
    rw [dif_pos (show n < 14 by omega)]
    refine Finset.sum_congr rfl fun k _ => ?_
    rw [xkOf_at (XD x z) ⟨n, ht⟩ ⟨n, by omega⟩ rfl, XD_at x hx z ⟨n, by omega⟩ ⟨r.val, by omega⟩ r.isLt k ⟨512 * n + k.val, by omega⟩ rfl]

theorem terms (r : Fin 200) (c : Fin 3072) : ∑ t ∈ Finset.range 14, term w x r c t = yS x w r c := by
  let G : ℕ → EReal := fun k => if h : k < 7168 then xdS x r ⟨k, h⟩ * wdS w ⟨k, h⟩ c else 0
  have h1 : yS x w r c = ∑ k ∈ Finset.range (14 * 512), G k := by
    unfold yS
    rw [← Fin.sum_univ_eq_sum_range]
    refine Finset.sum_congr rfl fun k _ => ?_
    show _ = dite (k.val < 7168) (fun h => xdS x r ⟨k.val, h⟩ * wdS w ⟨k.val, h⟩ c) (fun _ => 0)
    rw [dif_pos k.isLt]
  rw [h1, Finset.sum_range_mul_split]
  refine Finset.sum_congr rfl fun t ht => ?_
  have ht' := Finset.mem_range.mp ht
  unfold term
  rw [dif_pos ht', ← Fin.sum_univ_eq_sum_range]
  refine Finset.sum_congr rfl fun k _ => ?_
  show _ = G (t * 512 + k.val)
  rw [show t * 512 + k.val = 512 * t + k.val by omega]
  show _ = dite (512 * t + k.val < 7168) (fun h => xdS x r ⟨512 * t + k.val, h⟩ * wdS w ⟨512 * t + k.val, h⟩ c) (fun _ => 0)
  rw [dif_pos (show 512 * t + k.val < 7168 by omega)]

/-- The product. -/
theorem YV_at (r : Fin 200) (c : Fin 3072) : YV x w (ix2 r c) = yS x w r c := by
  unfold YV
  refine (out_at _ _).trans ?_
  refine Eq.trans (congrArg _ ?_) ((ACC_at w hw x hx _ r c 14 le_rfl).trans (terms w hw x hx r c))
  funext a
  apply Fin.ext
  match a with
  | ⟨0, _⟩ => show 0 + 1 * r.val = r.val; omega
  | ⟨1, _⟩ => show 0 + 1 * c.val = c.val; omega

end Cert.Quant
-- ==== Proof.Quant.KerValue.lean ====
/- What the kernel's run leaves in its result arrays. -/
module

public import proofs.«01_k».proof.Proof.KernelIdeal.Launch
public import proofs.«01_k».proof.Proof.Quant.KerXS
public import proofs.«01_k».proof.Proof.Quant.KerWS
public import proofs.«01_k».proof.Proof.Quant.KerY
public import Idealize.ShloMosaic.Lib.Pipeline.ValueKit

@[expose] public section

set_option maxRecDepth 16384

noncomputable section

namespace Cert.Quant

open Idealize.ShloMosaic Idealize.ShloMosaic.Pointwise Idealize.ShloMosaic.TcCoe Idealize.SL.Sem
open Cert.KernelIdeal
open Idealize.ShloMosaic.Pipeline (Dat)

variable (m : (ℓ : Loc nD τ sig) → Buf (Elt Ideal) ℓ) (ρ : Dev nD → PrngReg)

local notation "kX" => Tr.xAt (F := Ideal) m
local notation "kW" => Tr.wAt (F := Ideal) m

theorem kin0 (c : Dev nD) : (Tr.dats m 0 c).arrAt 0 cfg0.N = Tr.XSV (kX c) := by
  refine (Tr.dats m 0 c).arrAt_eq_of_after_last 0 Gen.t0_0 (by decide +kernel) _ fun j => ?_
  blk_simp
  rfl
theorem kin1 (c : Dev nD) : (Tr.dats m 0 c).arrAt 1 cfg0.N = Tr.WSV (kW c) := by
  refine (Tr.dats m 0 c).arrAt_eq_of_after_last 1 Gen.t0_0 (by decide +kernel) _ fun j => ?_
  blk_simp
  rfl

/-- The kernel's run, its results named. -/
theorem ker_run (hx : ∀ c, Fin16 (kX c)) (hw : ∀ c, Fin16 (kW c)) : θ_run (defs (F := Ideal)) (onTc (τ := τ) (main (F := Ideal))) ⟨m, fun _ => 0, ρ⟩ fun r => ∀ c : Dev nD,
      r.2.mem ((c : Thread nD τ).loc main_v1_0) = (fun i => yS (kX c) (kW c) (i 0) (i 1) : S200x3072.Idx → EReal)
      ∧ r.2.mem ((c : Thread nD τ).loc main_v1_1) = (fun i => xcS (kX c) (i 0) (i 1) : S200x7168.Idx → EReal)
      ∧ r.2.mem ((c : Thread nD τ).loc main_v1_2) = (fun i => xsS (kX c) (i 1) (i 0) : S56x200.Idx → BitVec 8)
      ∧ r.2.mem ((c : Thread nD τ).loc main_v1_3) = (fun i => wcS (kW c) (i 0) (i 1) : S7168x3072.Idx → EReal)
      ∧ r.2.mem ((c : Thread nD τ).loc main_v1_4) = (fun i => wsS (kW c) (i 1) (i 0) : S24x56.Idx → BitVec 8)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨
      ((h.1 c).2.1 main_v1_0 (by decide)).trans ((Tr.Y_v1_0 m c).trans (funext fun i => (congrArg _ (ix2_eta i).symm).trans (YV_at (kW c) (hw c) (kX c) (hx c) (i 0) (i 1)))),
      ((h.1 c).2.1 main_v1_1 (by decide)).trans ((Tr.Y_v1_1 m c).trans (funext fun i => (congrArg _ (ix2_eta i).symm).trans (XC_at (kX c) (hx c) (i 0) (i 1)))),
      ((h.1 c).1 0).trans ((kin0 m c).trans (funext fun i => (congrArg _ (ix2_eta i).symm).trans (XSV_at (kX c) (hx c) (i 0) (i 1)))),
      ((h.1 c).2.1 main_v1_3 (by decide)).trans ((Tr.Y_v1_3 m c).trans (funext fun i => (congrArg _ (ix2_eta i).symm).trans (WC_at (kW c) (hw c) (i 0) (i 1)))),
      ((h.1 c).1 1).trans ((kin1 m c).trans (funext fun i => (congrArg _ (ix2_eta i).symm).trans (WSV_at (kW c) (hw c) (i 0) (i 1)))),
      ((h.1 c).2.2 main_arg0 (by decide)).trans (Gen.V_main_arg0 m c),
      ((h.1 c).2.1 main_arg1 (by decide)).trans ((Tr.Y_arg1 m c).trans (Gen.V_main_arg1 m c))⟩) (Tr.run m ρ)

/-- The region finds `x` with the axis of extent one dropped. -/
theorem kX_eq (c : Dev nD) : kX c = shapeCast S200x7168 (m ((c : Thread nD τ).loc main_arg0) : FVec Ideal S200x1x7168 .bf16) Gen.facts.shapeCasts_S200x1x7168_S200x7168 := by
  show StableHlo.after Gen.hostOps0 (fun b => m (c, b)) main_v0 = _
  after_results
  rfl

theorem kW_eq (c : Dev nD) : kW c = m ((c : Thread nD τ).loc main_arg1) := Gen.V_main_arg1 m c

end Cert.Quant
-- ==== Proof.Quant.RefOps.lean ====
/- The reference's operations, read at an index. -/
module

public import proofs.«01_k».proof.Proof.Gen.ReferenceIdeal.Skeleton
public import proofs.«01_k».proof.Proof.Quant.Spec

@[expose] public section

set_option maxRecDepth 16384

noncomputable section

namespace Cert.Quant

open Idealize.ShloMosaic Idealize.ShloMosaic.Pointwise
open Cert.ReferenceIdeal Cert.ReferenceIdeal.Gen

/-! ## The operations at an index -/

theorem sel_at {s : Shape} (v : FVec Ideal s .f32) (i : s.Idx) :
    (select (cmpf .olt v (broadcast s (Scalar.ofBits (F := Ideal) .f32 0x00800000#32))) (broadcast s (Scalar.ofBits (F := Ideal) .f32 0x00000000#32))
      (addf (floor (divf (log v) (log (broadcast s (Scalar.ofBits (F := Ideal) .f32 0x40000000#32))))) (broadcast s (Scalar.ofBits (F := Ideal) .f32 0x3F800000#32))) : FVec Ideal s .f32) i
      = eR (v i) := by
  unfold eR
  show Scalar.select (BitVec.ofBool (decide (v i < Ideal.ofBits .f32 0x00800000#32))) (Ideal.ofBits .f32 0x00000000#32)
    (Ideal.liftRound Int.floor (Ideal.div (Ideal.log (v i)) (Ideal.log (Ideal.ofBits .f32 0x40000000#32))) + Ideal.ofBits .f32 0x3F800000#32) = _
  rw [c_zero, c_one]
  unfold Scalar.select
  by_cases h : v i < Ideal.ofBits .f32 0x00800000#32
  · rw [if_pos h, decide_eq_true h]; rfl
  · rw [if_neg h, decide_eq_false h]; rfl
theorem ov_at {s : Shape} (v : FVec Ideal s .f32) (i : s.Idx) : (mulf v (broadcast s (Scalar.ofBits (F := Ideal) .f32 0x3B124925#32)) : FVec Ideal s .f32) i = over (v i) := rfl
theorem ex0_at {s : Shape} (v : FVec Ideal s .f32) (i : s.Idx) (h) : (truncf .bf16 (exp2 v) h : FVec Ideal s .bf16) i = Ideal.exp2 (v i) := rfl
theorem cd_at {s : Shape} (a v : FVec Ideal s .f32) (i : s.Idx) (h) :
    (truncf .fp8e4m3 (minimumf (broadcast s (Scalar.ofBits (F := Ideal) .f32 0x43E00000#32)) (maximumf (broadcast s (Scalar.ofBits (F := Ideal) .f32 0xC3E00000#32)) (mulf a v))) h : FVec Ideal s .fp8e4m3) i
      = clip (a i * v i) := rfl
theorem ex_at {s : Shape} (v : FVec Ideal s .f32) (i : s.Idx) :
    (exp2 (subf (broadcast s (Scalar.ofBits (F := Ideal) .f32 0x00000000#32)) v) : FVec Ideal s .f32) i = Ideal.exp2 (0 - v i) := by
  show Ideal.exp2 (Ideal.ofBits .f32 0x00000000#32 - v i) = _
  rw [c_zero]
theorem ts_at {s : Shape} (v : FVec Ideal s .f32) (i : s.Idx) (h) : (trunci 8 (fptosi 32 v) h : IVec s 8) i = (Ideal.fptosi 32 (v i)).setWidth 8 := rfl
theorem ad_at {s : Shape} (v : FVec Ideal s .f32) (b : BitVec 32) (i : s.Idx) : (addf v (broadcast s (Scalar.ofBits (F := Ideal) .f32 b)) : FVec Ideal s .f32) i = v i + Ideal.ofBits .f32 b := rfl
theorem red3 (v : FVec Ideal S200x56x128 .f32) (r : Fin 200) (kb : Fin 56) :
    multiReduction (F := Ideal) .maximumf [2] S200x56 v 0xFF800000#32 reduces_S200x56x128_S200x56 (.inl rfl) rfl (ix2 r kb)
      = Finset.univ.fold max (Ideal.ofBits .f32 0xFF800000#32) fun k : Fin 128 => v (ix3 r kb k) := by
  pointwise
theorem red11 (v : FVec Ideal S56x128x24x128 .f32) (kb : Fin 56) (p : Fin 128) (nb : Fin 24) :
    multiReduction (F := Ideal) .maximumf [3] S56x128x24 v 0xFF800000#32 reduces_S56x128x24x128_S56x128x24 (.inl rfl) rfl (ix3 kb p nb)
      = Finset.univ.fold max (Ideal.ofBits .f32 0xFF800000#32) fun k : Fin 128 => v (ix4 kb p nb k) := by
  pointwise
theorem red11' (v : FVec Ideal S56x128x24 .f32) (kb : Fin 56) (nb : Fin 24) :
    multiReduction (F := Ideal) .maximumf [1] S56x24 v 0xFF800000#32 reduces_S56x128x24_S56x24 (.inl rfl) rfl (ix2 kb nb)
      = Finset.univ.fold max (Ideal.ofBits .f32 0xFF800000#32) fun k : Fin 128 => v (ix3 kb k nb) := by
  pointwise
theorem br1 (v : FVec Ideal S56x24 .bf16) (kb : Fin 56) (p : Fin 128) (nb : Fin 24) (q : Fin 128) :
    broadcastTo S56x128x24x128 (shapeCast S56x1x24x1 v shapeCasts_S56x24_S56x1x24x1) broadcasts_S56x1x24x1_S56x128x24x128 (ix4 kb p nb q) = v (ix2 kb nb) := by
  pointwise
theorem sc1 (v : FVec Ideal S56x128x24x128 .bf16) (r : Fin 7168) (c : Fin 3072) :
    shapeCast S7168x3072 v shapeCasts_S56x128x24x128_S7168x3072 (ix2 r c) = v (ix4 ⟨r.val / 128, by omega⟩ ⟨r.val % 128, by omega⟩ ⟨c.val / 128, by omega⟩ ⟨c.val % 128, by omega⟩) := by
  pointwise
theorem br4 (v : FVec Ideal S200x56 .f32) (r : Fin 200) (kb : Fin 56) (q : Fin 128) :
    broadcastTo S200x56x128 (shapeCast S200x56x1 v shapeCasts_S200x56_S200x56x1) broadcasts_S200x56x1_S200x56x128 (ix3 r kb q) = v (ix2 r kb) := by
  pointwise
theorem br9 (v : FVec Ideal S200x56 .bf16) (r : Fin 200) (kb : Fin 56) (q : Fin 128) :
    broadcastTo S200x56x128 (shapeCast S200x56x1 v shapeCasts_S200x56_S200x56x1) broadcasts_S200x56x1_S200x56x128 (ix3 r kb q) = v (ix2 r kb) := by
  pointwise
theorem br12 (v : FVec Ideal S56x24 .f32) (kb : Fin 56) (p : Fin 128) (nb : Fin 24) (q : Fin 128) :
    broadcastTo S56x128x24x128 (shapeCast S56x1x24x1 v shapeCasts_S56x24_S56x1x24x1) broadcasts_S56x1x24x1_S56x128x24x128 (ix4 kb p nb q) = v (ix2 kb nb) := by
  pointwise
theorem sc5 {α : Type} (v : S200x56x128.Idx → α) (r : Fin 200) (c : Fin 7168) :
    shapeCast S200x7168 v shapeCasts_S200x56x128_S200x7168 (ix2 r c) = v (ix3 r ⟨c.val / 128, by omega⟩ ⟨c.val % 128, by omega⟩) := by
  pointwise
theorem sc13 (v : FVec Ideal S56x128x24x128 .fp8e4m3) (r : Fin 7168) (c : Fin 3072) :
    shapeCast S7168x3072 v shapeCasts_S56x128x24x128_S7168x3072 (ix2 r c) = v (ix4 ⟨r.val / 128, by omega⟩ ⟨r.val % 128, by omega⟩ ⟨c.val / 128, by omega⟩ ⟨c.val % 128, by omega⟩) := by
  pointwise
theorem tr6 (v : FVec Ideal S200x56 .f32) (r : Fin 56) (c : Fin 200) :
    transpose S56x200 [1, 0] v transposes_S200x56_p1_0_S56x200 (ix2 r c) = v (ix2 c r) := by
  pointwise
theorem tr14 (v : FVec Ideal S56x24 .f32) (r : Fin 24) (c : Fin 56) :
    transpose S24x56 [1, 0] v transposes_S56x24_p1_0_S24x56 (ix2 r c) = v (ix2 c r) := by
  pointwise
theorem mat1 (a : FVec Ideal S200x7168 .bf16) (b : FVec Ideal S7168x3072 .bf16) (r : Fin 200) (c : Fin 3072) :
    matmul dot_S200x7168_S7168x3072_S200x3072_1_0_0_1_n_n none a b (constant S200x3072 .f32 0x00000000#32) (ix2 r c)
      = 0 + ∑ k : Fin 7168, a (ix2 r k) * b (ix2 k c) := by
  pointwise

end Cert.Quant
-- ==== Proof.Quant.RefMath.lean ====
/- What the reference's payloads are, element by element: the quantised product of Spec. -/
module

public import proofs.«01_k».proof.Proof.Gen.ReferenceIdeal.Skeleton
public import proofs.«01_k».proof.Proof.Quant.RefOps

@[expose] public section

set_option maxRecDepth 16384

noncomputable section

namespace Cert.Quant

open Idealize.ShloMosaic Idealize.ShloMosaic.Pointwise
open Cert.ReferenceIdeal Cert.ReferenceIdeal.Gen

/-! ## The payloads -/

theorem ref2 (x : FVec Ideal S200x7168 .bf16) (r : Fin 200) (kb : Fin 56) (q : Fin 128) :
    k0_pay2 (F := Ideal) x (ix3 r kb q) = x (ix2 r ⟨kb.val * 128 + q.val, by omega⟩) := by
  unfold k0_pay2
  rw [shapeCast_id]
  pointwise
theorem ref10 (x : FVec Ideal S7168x3072 .bf16) (kb : Fin 56) (p : Fin 128) (nb : Fin 24) (q : Fin 128) :
    k0_pay10 (F := Ideal) x (ix4 kb p nb q) = x (ix2 ⟨kb.val * 128 + p.val, by omega⟩ ⟨nb.val * 128 + q.val, by omega⟩) := by
  pointwise [k0_pay10]

theorem mx3 (x : FVec Ideal S200x7168 .bf16) (r : Fin 200) (kb : Fin 56) :
    multiReduction (F := Ideal) .maximumf [2] S200x56 (absf (k0_pay2 x)) 0xFF800000#32 reduces_S200x56x128_S200x56 (.inl rfl) rfl (ix2 r kb) = xA x r kb := by
  refine (red3 (absf (k0_pay2 x)) r kb).trans ?_
  unfold xA
  refine congrArg (fun f => Finset.univ.fold max least f) (funext fun k => ?_)
  exact congrArg mag (ref2 x r kb k)
theorem mx11 (w : FVec Ideal S7168x3072 .bf16) (kb : Fin 56) (nb : Fin 24) :
    multiReduction (F := Ideal) .maximumf [1] S56x24 (multiReduction (F := Ideal) .maximumf [3] S56x128x24 (absf (k0_pay10 w)) 0xFF800000#32 reduces_S56x128x24x128_S56x128x24 (.inl rfl) rfl)
      0xFF800000#32 reduces_S56x128x24_S56x24 (.inl rfl) rfl (ix2 kb nb) = wA w kb nb := by
  refine (red11' _ kb nb).trans ?_
  unfold wA
  refine congrArg (fun f => Finset.univ.fold max least f) (funext fun p => ?_)
  refine (red11 (absf (k0_pay10 w)) kb p nb).trans ?_
  refine congrArg (fun f => Finset.univ.fold max least f) (funext fun q => ?_)
  exact congrArg mag (ref10 w kb p nb q)
/-- The exponents of `x`'s blocks. -/
theorem ref3 (x : FVec Ideal S200x7168 .bf16) (r : Fin 200) (kb : Fin 56) : k0_pay3 (F := Ideal) x (ix2 r kb) = xE x r kb := by
  unfold k0_pay3 xE
  rw [sel_at, ov_at, mx3]
/-- The exponents of `w`'s blocks. -/
theorem ref11 (w : FVec Ideal S7168x3072 .bf16) (kb : Fin 56) (nb : Fin 24) : k0_pay11 (F := Ideal) w (ix2 kb nb) = wE w kb nb := by
  unfold k0_pay11 wE
  rw [sel_at, ov_at, mx11]

theorem ref4 (x : FVec Ideal S200x7168 .bf16) (r : Fin 200) (kb : Fin 56) (q : Fin 128) :
    k0_pay4 (F := Ideal) x (ix3 r kb q) = clip (x (ix2 r ⟨kb.val * 128 + q.val, by omega⟩) * Ideal.exp2 (0 - xE x r kb)) := by
  unfold k0_pay4
  rw [cd_at, ref2, br4, ex_at, ref3]
theorem ref12 (w : FVec Ideal S7168x3072 .bf16) (kb : Fin 56) (p : Fin 128) (nb : Fin 24) (q : Fin 128) :
    k0_pay12 (F := Ideal) w (ix4 kb p nb q) = clip (w (ix2 ⟨kb.val * 128 + p.val, by omega⟩ ⟨nb.val * 128 + q.val, by omega⟩) * Ideal.exp2 (0 - wE w kb nb)) := by
  unfold k0_pay12
  rw [cd_at, ref10, br12, ex_at, ref11]

theorem divmod (n : ℕ) (c : Fin n) (h : c.val / 128 * 128 + c.val % 128 < n) : (⟨c.val / 128 * 128 + c.val % 128, h⟩ : Fin n) = c :=
  Fin.ext (Nat.div_add_mod' _ _)

/-- The codes of `x`. -/
theorem ref5 (x : FVec Ideal S200x7168 .bf16) (r : Fin 200) (c : Fin 7168) : k0_pay5 (F := Ideal) x (ix2 r c) = xcS x r c := by
  unfold k0_pay5
  rw [sc5, ref4]
  unfold xcS
  rw [divmod]
/-- The codes of `w`. -/
theorem ref13 (w : FVec Ideal S7168x3072 .bf16) (k : Fin 7168) (c : Fin 3072) : k0_pay13 (F := Ideal) w (ix2 k c) = wcS w k c := by
  unfold k0_pay13
  rw [sc13, ref12]
  unfold wcS
  rw [divmod, divmod]
/-- The scale codes of `x`. -/
theorem ref6 (x : FVec Ideal S200x7168 .bf16) (kb : Fin 56) (r : Fin 200) : k0_pay6 (F := Ideal) x (ix2 kb r) = xsS x r kb := by
  unfold k0_pay6
  rw [ts_at, tr6, ad_at, ref3]
  rfl
/-- The scale codes of `w`. -/
theorem ref14 (w : FVec Ideal S7168x3072 .bf16) (nb : Fin 24) (kb : Fin 56) : k0_pay14 (F := Ideal) w (ix2 nb kb) = wsS w kb nb := by
  unfold k0_pay14
  rw [ts_at, tr14, ad_at, ref11]
  rfl
theorem ref9 (x : FVec Ideal S200x7168 .bf16) (r : Fin 200) (c : Fin 7168) : k0_pay9 (F := Ideal) (k0_pay7 x) (k0_pay8 x) (ix2 r c) = xdS x r c := by
  unfold k0_pay9 k0_pay8 k0_pay7
  rw [sc5]
  refine congrArg₂ (· * ·) ((ref4 x r _ _).trans ?_) ((br9 _ r _ _).trans ?_)
  · unfold xcS; rw [divmod]
  · rw [ex0_at, ref3]
/-- The product. -/
theorem ref1 (x : FVec Ideal S200x7168 .bf16) (w : FVec Ideal S7168x3072 .bf16) (r : Fin 200) (c : Fin 3072) :
    k0_pay1 (F := Ideal) (k0_pay9 (k0_pay7 x) (k0_pay8 x)) (k0_pay11 w) (k0_pay12 w) (ix2 r c) = yS x w r c := by
  unfold k0_pay1
  refine (mat1 _ _ r c).trans ?_
  rw [zero_add]
  refine Finset.sum_congr rfl fun k _ => ?_
  refine congrArg₂ (· * ·) (ref9 x r k) ((sc1 _ k c).trans ?_)
  refine congrArg₂ (· * ·) ((ref12 w _ _ _ _).trans ?_) ((br1 _ _ _ _ _).trans ?_)
  · unfold wcS; rw [divmod, divmod]
  · rw [ex0_at, ref11]

end Cert.Quant
-- ==== Proof.Quant.RefValue.lean ====
/- What the reference's run leaves in its result arrays. -/
module

public import proofs.«01_k».proof.Proof.Gen.ReferenceIdeal.Frame
public import proofs.«01_k».proof.Proof.Quant.RefMath
public import Idealize.ShloMosaic.Lib.Pipeline.ValueKit

@[expose] public section

set_option maxRecDepth 16384

noncomputable section

namespace Cert.Quant

open Idealize.ShloMosaic Idealize.ShloMosaic.Pointwise Idealize.ShloMosaic.TcCoe Idealize.SL.Sem
open Cert.ReferenceIdeal Cert.ReferenceIdeal.Gen
open Idealize.ShloMosaic.Pipeline (Dat)

variable (m : (ℓ : Loc nD τ sig) → Buf (Elt Ideal) ℓ) (ρ : Dev nD → PrngReg)

/-- `x` as the region finds it. -/
abbrev rX (c : Dev nD) : FVec Ideal S200x7168 .bf16 := V m c main_v0
/-- `w` as the region finds it. -/
abbrev rW (c : Dev nD) : FVec Ideal S7168x3072 .bf16 := V m c main_arg1

theorem widx : ∀ t : Fin cfg0.N, win0_0.index t = ![0, 0] ∧ win0_1.index t = ![0, 0] :=
  (by decide +kernel : ∀ t : Fin grid0.N, _)
theorem iblk0 (c : Dev nD) : iblk m c 0 t0_0 = rX m c := by
  blk_ext! [iblk, widx t0_0]
theorem iblk1 (c : Dev nD) : iblk m c 1 t0_0 = rW m c := by
  blk_ext! [iblk, widx t0_0]

theorem fin2 (c : Dev nD) : (dats m 0 c).arrAt 2 cfg0.N = fun i => yS (rX m c) (rW m c) (i 0) (i 1) := by
  refine (dats m 0 c).arrAt_eq_of_after_last 2 t0_0 (by decide +kernel) _ fun j => ?_
  blk_simp
  rw [after0_2, iblk0, iblk1]
  unfold out0_2
  frame_out
  exact ref1 _ _ _ _

theorem fin3 (c : Dev nD) : (dats m 0 c).arrAt 3 cfg0.N = fun i => xcS (rX m c) (i 0) (i 1) := by
  refine (dats m 0 c).arrAt_eq_of_after_last 3 t0_0 (by decide +kernel) _ fun j => ?_
  blk_simp
  rw [after0_3, iblk0, iblk1]
  unfold out0_3
  frame_out
  exact ref5 _ _ _

theorem fin4 (c : Dev nD) : (dats m 0 c).arrAt 4 cfg0.N = fun i => xsS (rX m c) (i 1) (i 0) := by
  refine (dats m 0 c).arrAt_eq_of_after_last 4 t0_0 (by decide +kernel) _ fun j => ?_
  blk_simp
  rw [after0_4, iblk0, iblk1]
  unfold out0_4
  frame_out
  exact (congrArg (k0_pay6 (F := Ideal) (rX m c)) (ix2_eta j).symm).trans (ref6 (rX m c) (j 0) (j 1))

theorem fin5 (c : Dev nD) : (dats m 0 c).arrAt 5 cfg0.N = fun i => wcS (rW m c) (i 0) (i 1) := by
  refine (dats m 0 c).arrAt_eq_of_after_last 5 t0_0 (by decide +kernel) _ fun j => ?_
  blk_simp
  rw [after0_5, iblk0, iblk1]
  unfold out0_5
  frame_out
  exact ref13 _ _ _

theorem fin6 (c : Dev nD) : (dats m 0 c).arrAt 6 cfg0.N = fun i => wsS (rW m c) (i 1) (i 0) := by
  refine (dats m 0 c).arrAt_eq_of_after_last 6 t0_0 (by decide +kernel) _ fun j => ?_
  blk_simp
  rw [after0_6, iblk0, iblk1]
  unfold out0_6
  frame_out
  exact (congrArg (k0_pay14 (F := Ideal) (rW m c)) (ix2_eta j).symm).trans (ref14 (rW m c) (j 0) (j 1))

/-- The reference's run, its results named. -/
theorem ref_run : θ_run defs (onTc (τ := τ) (main (F := Ideal))) ⟨m, fun _ => 0, ρ⟩ fun r => ∀ c : Dev nD,
      r.2.mem ((c : Thread nD τ).loc main_v1_0) = (fun i => yS (rX m c) (rW m c) (i 0) (i 1) : S200x3072.Idx → EReal)
      ∧ r.2.mem ((c : Thread nD τ).loc main_v1_1) = (fun i => xcS (rX m c) (i 0) (i 1) : S200x7168.Idx → EReal)
      ∧ r.2.mem ((c : Thread nD τ).loc main_v1_2) = (fun i => xsS (rX m c) (i 1) (i 0) : S56x200.Idx → BitVec 8)
      ∧ r.2.mem ((c : Thread nD τ).loc main_v1_3) = (fun i => wcS (rW m c) (i 0) (i 1) : S7168x3072.Idx → EReal)
      ∧ r.2.mem ((c : Thread nD τ).loc main_v1_4) = (fun i => wsS (rW m c) (i 1) (i 0) : S24x56.Idx → BitVec 8)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (fin2 m c), ((h c).1 3).trans (fin3 m c), ((h c).1 4).trans (fin4 m c),
      ((h c).1 5).trans (fin5 m c), ((h c).1 6).trans (fin6 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

/-- The region finds `x` with the axis of extent one dropped. -/
theorem rX_eq (c : Dev nD) : rX m c = shapeCast S200x7168 (m ((c : Thread nD τ).loc main_arg0) : FVec Ideal S200x1x7168 .bf16) shapeCasts_S200x1x7168_S200x7168 := by
  show StableHlo.after hostOps0 (fun b => m (c, b)) main_v0 = _
  after_results
  rfl

theorem rW_eq (c : Dev nD) : rW m c = m ((c : Thread nD τ).loc main_arg1) := V_main_arg1 m c

end Cert.Quant
-- ==== Proof.Quant.Pre.lean ====
/- What the precondition says of the arguments. -/
module

public import proofs.«01_k».proof.Pre_finite
public import proofs.«01_k».proof.Proof.Quant.Spec
public import Idealize.ShloMosaic.Lib.ReduceAll

@[expose] public section

noncomputable section

namespace Cert.Quant

open Idealize.ShloMosaic
open Cert.Pre_finite

theorem preFacts : Cert.Pre_finite.Facts where
  bcast_S_S200x1x7168 := by decide
  reducesTo_S200x1x7168_S_d0_1_2 := by decide
  h_S_ := by decide
  bcast_S_S7168x3072 := by decide
  reducesTo_S7168x3072_S_d0_1 := by decide

instance : Subsingleton S_.Idx := ⟨fun a b => funext fun i => i.elim0⟩

theorem le_of_bit {s : Shape} (v : FVec Ideal s .bf16) (b : S_.BroadcastsInDim s (![] : Fin 0 → Fin s.rank)) (i : s.Idx)
    (h : cmpf .ole (Host.absf v) (broadcastInDim s ![] b (constant (F := Ideal) S_ .bf16 0x7F7F#16)) i = 1#1) : mag (v i) ≤ Ideal.ofBits .bf16 0x7F7F#16 := by
  have h' : BitVec.ofBool (decide (mag (v i) ≤ Ideal.ofBits .bf16 0x7F7F#16)) = 1#1 := h
  by_contra hn
  rw [decide_eq_false hn] at h'
  exact absurd h' (by decide)

theorem pre_fin [Cert.Pre_finite.Facts] (a : FVec Ideal S200x1x7168 .bf16) (w : FVec Ideal S7168x3072 .bf16) (h : Cert.Pre_finite.fn (F := Ideal) a w = fun _ => 1#1) :
    Fin16 a ∧ Fin16 w := by
  have h0 := congrFun h (fun i => i.elim0)
  unfold Cert.Pre_finite.fn at h0
  dsimp only at h0
  have key : ∀ a b : BitVec 1, IntOp.andi a b = 1#1 → a = 1#1 ∧ b = 1#1 := by decide
  obtain ⟨h1, h2⟩ := key _ _ h0
  exact ⟨fun i => le_of_bit a _ i (Host.reduce_andi_all _ _ _ _ _ h1 i), fun i => le_of_bit w _ i (Host.reduce_andi_all _ _ _ _ _ h2 i)⟩

end Cert.Quant
-- ==== Proof.lean ====
module

public import proofs.«01_k».proof.Proof.Gen.ReferenceIdeal.Frame
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Kernel.Launch
public import proofs.«01_k».proof.Proof.KernelIdeal.Launch
public import proofs.«01_k».proof.Proof.Quant.KerValue
public import proofs.«01_k».proof.Proof.Quant.RefValue
public import proofs.«01_k».proof.Proof.Quant.Pre
public import Idealize.ShloMosaic.Adequacy
public import Idealize.ShloMosaic.Init

@[expose] public section

noncomputable section

namespace Cert.Proof

open Idealize.ShloMosaic Idealize.SL.Sem

/-- The kernel and the reference compute the same five arrays over the extended reals, of finite arguments. -/
theorem algebraic : Cert.algebraic_KernelIdeal_ReferenceIdeal_pre_finite (hKernelIdeal := Cert.KernelIdeal.Gen.facts) (hReferenceIdeal := Cert.ReferenceIdeal.Gen.facts)
    (hPre_finite := Cert.Quant.preFacts) := by
  intro m g m' g' hp ha
  have hf := fun c => @Cert.Quant.pre_fin Cert.Quant.preFacts _ _ (hp c)
  have hx : ∀ c, Cert.Quant.Fin16 (Cert.KernelIdeal.Tr.xAt (F := Ideal) m c) := by
    intro c i
    rw [Cert.Quant.kX_eq m c]
    exact (hf c).1 _
  have hw : ∀ c, Cert.Quant.Fin16 (Cert.KernelIdeal.Tr.wAt (F := Ideal) m c) := by
    intro c i
    rw [Cert.Quant.kW_eq m c]
    exact (hf c).2 _
  have ex : ∀ c, Cert.Quant.rX m' c = Cert.KernelIdeal.Tr.xAt (F := Ideal) m c := by
    intro c
    rw [Cert.Quant.kX_eq m c, Cert.Quant.rX_eq m' c, (ha c).1]
  have ew : ∀ c, Cert.Quant.rW m' c = Cert.KernelIdeal.Tr.wAt (F := Ideal) m c := by
    intro c
    rw [Cert.Quant.kW_eq m c, Cert.Quant.rW_eq m' c, (ha c).2]
  refine ⟨_, _, _, _, _, Cert.Quant.ker_run m g hx hw, ?_⟩
  refine (θ_run _ _ _).mono (fun r h c => ?_) (Cert.Quant.ref_run m' g')
  have h' := h c
  rw [ex c, ew c] at h'
  exact h'

/-- Every program runs to its end with its arguments unchanged and every semaphore at zero; the ideal kernel is the
    kernel's own text read over the extended reals; and it computes what the reference computes. -/
theorem claim : Cert.Claim :=
  ⟨Cert.Kernel.Gen.facts, Cert.KernelIdeal.Gen.facts, Cert.ReferenceIdeal.Gen.facts, Cert.Quant.preFacts,
    fun m ρ _ => Cert.Kernel.Tr.quiescent m ρ,
    fun m ρ _ => Cert.KernelIdeal.Tr.quiescent m ρ,
    fun m ρ _ => Cert.KernelIdeal.Tr.quiescent m ρ,
    fun m ρ _ => Cert.ReferenceIdeal.Gen.frame m ρ,
    fun m ρ _ => Cert.ReferenceIdeal.Gen.frame m ρ,
    trivial,
    algebraic⟩

end Cert.Proof

end
